-- ==== Defs.lean ====
def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite2 [hPre_finite2 : Cert.Pre_finite2.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).1 = (fun _ => 1#1)
    ∧ (Cert.Pre_finite2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.1 = (fun _ => 1#1)
    ∧ (Cert.Pre_finite2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.1 = (fun _ => 1#1)
    ∧ (Cert.Pre_finite2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.1 = (fun _ => 1#1)
    ∧ (Cert.Pre_finite2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.2.1 = (fun _ => 1#1)
    ∧ (Cert.Pre_finite2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite2 [hPre_finite2 : Cert.Pre_finite2.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite2.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).1 = (fun _ => 1#1)
    ∧ (Cert.Pre_finite2.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.1 = (fun _ => 1#1)
    ∧ (Cert.Pre_finite2.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.1 = (fun _ => 1#1)
    ∧ (Cert.Pre_finite2.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.1 = (fun _ => 1#1)
    ∧ (Cert.Pre_finite2.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.1 = (fun _ => 1#1)
    ∧ (Cert.Pre_finite2.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.2 = (fun _ => 1#1)

def Pre_Token (m : (ℓ : Loc Cert.Token.nD Cert.Token.τ Cert.Token.sig) → Buf (Elt Bits) ℓ) : Prop :=
  True

def Pre_TokenIdeal (m : (ℓ : Loc Cert.TokenIdeal.nD Cert.TokenIdeal.τ Cert.TokenIdeal.sig) → Buf (Elt Ideal) ℓ) : Prop :=
  True

def Pre_TokenIdeal_finite3 [hPre_finite3 : Cert.Pre_finite3.Facts] (m : (ℓ : Loc Cert.TokenIdeal.nD Cert.TokenIdeal.τ Cert.TokenIdeal.sig) → Buf (Elt Ideal) ℓ) : Prop :=
  ∀ c : Dev Cert.TokenIdeal.nD,
    (Cert.Pre_finite3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).1 = (fun _ => 1#1)
    ∧ (Cert.Pre_finite3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.1 = (fun _ => 1#1)
    ∧ (Cert.Pre_finite3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.1 = (fun _ => 1#1)
    ∧ (Cert.Pre_finite3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.1 = (fun _ => 1#1)
    ∧ (Cert.Pre_finite3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.1 = (fun _ => 1#1)
    ∧ (Cert.Pre_finite3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2 = (fun _ => 1#1)

def Pre_TokenRefIdeal (m : (ℓ : Loc Cert.TokenRefIdeal.nD Cert.TokenRefIdeal.τ Cert.TokenRefIdeal.sig) → Buf (Elt Ideal) ℓ) : Prop :=
  True

def Pre_TokenRefIdeal_finite3 [hPre_finite3 : Cert.Pre_finite3.Facts] (m : (ℓ : Loc Cert.TokenRefIdeal.nD Cert.TokenRefIdeal.τ Cert.TokenRefIdeal.sig) → Buf (Elt Ideal) ℓ) : Prop :=
  ∀ c : Dev Cert.TokenRefIdeal.nD,
    (Cert.Pre_finite3.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5)) (m ((c.tc : Thread Cert.TokenRefIdeal.nD Cert.TokenRefIdeal.τ).loc Cert.TokenRefIdeal.main_arg6)) (m ((c.tc : Thread Cert.TokenRefIdeal.nD Cert.TokenRefIdeal.τ).loc Cert.TokenRefIdeal.main_arg7)) (m ((c.tc : Thread Cert.TokenRefIdeal.nD Cert.TokenRefIdeal.τ).loc Cert.TokenRefIdeal.main_arg8)) (m ((c.tc : Thread Cert.TokenRefIdeal.nD Cert.TokenRefIdeal.τ).loc Cert.TokenRefIdeal.main_arg9)) (m ((c.tc : Thread Cert.TokenRefIdeal.nD Cert.TokenRefIdeal.τ).loc Cert.TokenRefIdeal.main_arg10)) (m ((c.tc : Thread Cert.TokenRefIdeal.nD Cert.TokenRefIdeal.τ).loc Cert.TokenRefIdeal.main_arg11)) (m ((c.tc : Thread Cert.TokenRefIdeal.nD Cert.TokenRefIdeal.τ).loc Cert.TokenRefIdeal.main_arg12)) (m ((c.tc : Thread Cert.TokenRefIdeal.nD Cert.TokenRefIdeal.τ).loc Cert.TokenRefIdeal.main_arg13))).1 = (fun _ => 1#1)
    ∧ (Cert.Pre_finite3.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5)) (m ((c.tc : Thread Cert.TokenRefIdeal.nD Cert.TokenRefIdeal.τ).loc Cert.TokenRefIdeal.main_arg6)) (m ((c.tc : Thread Cert.TokenRefIdeal.nD Cert.TokenRefIdeal.τ).loc Cert.TokenRefIdeal.main_arg7)) (m ((c.tc : Thread Cert.TokenRefIdeal.nD Cert.TokenRefIdeal.τ).loc Cert.TokenRefIdeal.main_arg8)) (m ((c.tc : Thread Cert.TokenRefIdeal.nD Cert.TokenRefIdeal.τ).loc Cert.TokenRefIdeal.main_arg9)) (m ((c.tc : Thread Cert.TokenRefIdeal.nD Cert.TokenRefIdeal.τ).loc Cert.TokenRefIdeal.main_arg10)) (m ((c.tc : Thread Cert.TokenRefIdeal.nD Cert.TokenRefIdeal.τ).loc Cert.TokenRefIdeal.main_arg11)) (m ((c.tc : Thread Cert.TokenRefIdeal.nD Cert.TokenRefIdeal.τ).loc Cert.TokenRefIdeal.main_arg12)) (m ((c.tc : Thread Cert.TokenRefIdeal.nD Cert.TokenRefIdeal.τ).loc Cert.TokenRefIdeal.main_arg13))).2.1 = (fun _ => 1#1)
    ∧ (Cert.Pre_finite3.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5)) (m ((c.tc : Thread Cert.TokenRefIdeal.nD Cert.TokenRefIdeal.τ).loc Cert.TokenRefIdeal.main_arg6)) (m ((c.tc : Thread Cert.TokenRefIdeal.nD Cert.TokenRefIdeal.τ).loc Cert.TokenRefIdeal.main_arg7)) (m ((c.tc : Thread Cert.TokenRefIdeal.nD Cert.TokenRefIdeal.τ).loc Cert.TokenRefIdeal.main_arg8)) (m ((c.tc : Thread Cert.TokenRefIdeal.nD Cert.TokenRefIdeal.τ).loc Cert.TokenRefIdeal.main_arg9)) (m ((c.tc : Thread Cert.TokenRefIdeal.nD Cert.TokenRefIdeal.τ).loc Cert.TokenRefIdeal.main_arg10)) (m ((c.tc : Thread Cert.TokenRefIdeal.nD Cert.TokenRefIdeal.τ).loc Cert.TokenRefIdeal.main_arg11)) (m ((c.tc : Thread Cert.TokenRefIdeal.nD Cert.TokenRefIdeal.τ).loc Cert.TokenRefIdeal.main_arg12)) (m ((c.tc : Thread Cert.TokenRefIdeal.nD Cert.TokenRefIdeal.τ).loc Cert.TokenRefIdeal.main_arg13))).2.2.1 = (fun _ => 1#1)
    ∧ (Cert.Pre_finite3.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5)) (m ((c.tc : Thread Cert.TokenRefIdeal.nD Cert.TokenRefIdeal.τ).loc Cert.TokenRefIdeal.main_arg6)) (m ((c.tc : Thread Cert.TokenRefIdeal.nD Cert.TokenRefIdeal.τ).loc Cert.TokenRefIdeal.main_arg7)) (m ((c.tc : Thread Cert.TokenRefIdeal.nD Cert.TokenRefIdeal.τ).loc Cert.TokenRefIdeal.main_arg8)) (m ((c.tc : Thread Cert.TokenRefIdeal.nD Cert.TokenRefIdeal.τ).loc Cert.TokenRefIdeal.main_arg9)) (m ((c.tc : Thread Cert.TokenRefIdeal.nD Cert.TokenRefIdeal.τ).loc Cert.TokenRefIdeal.main_arg10)) (m ((c.tc : Thread Cert.TokenRefIdeal.nD Cert.TokenRefIdeal.τ).loc Cert.TokenRefIdeal.main_arg11)) (m ((c.tc : Thread Cert.TokenRefIdeal.nD Cert.TokenRefIdeal.τ).loc Cert.TokenRefIdeal.main_arg12)) (m ((c.tc : Thread Cert.TokenRefIdeal.nD Cert.TokenRefIdeal.τ).loc Cert.TokenRefIdeal.main_arg13))).2.2.2.1 = (fun _ => 1#1)
    ∧ (Cert.Pre_finite3.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5)) (m ((c.tc : Thread Cert.TokenRefIdeal.nD Cert.TokenRefIdeal.τ).loc Cert.TokenRefIdeal.main_arg6)) (m ((c.tc : Thread Cert.TokenRefIdeal.nD Cert.TokenRefIdeal.τ).loc Cert.TokenRefIdeal.main_arg7)) (m ((c.tc : Thread Cert.TokenRefIdeal.nD Cert.TokenRefIdeal.τ).loc Cert.TokenRefIdeal.main_arg8)) (m ((c.tc : Thread Cert.TokenRefIdeal.nD Cert.TokenRefIdeal.τ).loc Cert.TokenRefIdeal.main_arg9)) (m ((c.tc : Thread Cert.TokenRefIdeal.nD Cert.TokenRefIdeal.τ).loc Cert.TokenRefIdeal.main_arg10)) (m ((c.tc : Thread Cert.TokenRefIdeal.nD Cert.TokenRefIdeal.τ).loc Cert.TokenRefIdeal.main_arg11)) (m ((c.tc : Thread Cert.TokenRefIdeal.nD Cert.TokenRefIdeal.τ).loc Cert.TokenRefIdeal.main_arg12)) (m ((c.tc : Thread Cert.TokenRefIdeal.nD Cert.TokenRefIdeal.τ).loc Cert.TokenRefIdeal.main_arg13))).2.2.2.2.1 = (fun _ => 1#1)
    ∧ (Cert.Pre_finite3.fn (F := Ideal) (m ((c.tc : Thread Cert.TokenRefIdeal.nD Cert.TokenRefIdeal.τ).loc Cert.TokenRefIdeal.main_arg0)) (m ((c.tc : Thread Cert.TokenRefIdeal.nD Cert.TokenRefIdeal.τ).loc Cert.TokenRefIdeal.main_arg1)) (m ((c.tc : Thread Cert.TokenRefIdeal.nD Cert.TokenRefIdeal.τ).loc Cert.TokenRefIdeal.main_arg2)) (m ((c.tc : Thread Cert.TokenRefIdeal.nD Cert.TokenRefIdeal.τ).loc Cert.TokenRefIdeal.main_arg3)) (m ((c.tc : Thread Cert.TokenRefIdeal.nD Cert.TokenRefIdeal.τ).loc Cert.TokenRefIdeal.main_arg4)) (m ((c.tc : Thread Cert.TokenRefIdeal.nD Cert.TokenRefIdeal.τ).loc Cert.TokenRefIdeal.main_arg5)) (m ((c.tc : Thread Cert.TokenRefIdeal.nD Cert.TokenRefIdeal.τ).loc Cert.TokenRefIdeal.main_arg6)) (m ((c.tc : Thread Cert.TokenRefIdeal.nD Cert.TokenRefIdeal.τ).loc Cert.TokenRefIdeal.main_arg7)) (m ((c.tc : Thread Cert.TokenRefIdeal.nD Cert.TokenRefIdeal.τ).loc Cert.TokenRefIdeal.main_arg8)) (m ((c.tc : Thread Cert.TokenRefIdeal.nD Cert.TokenRefIdeal.τ).loc Cert.TokenRefIdeal.main_arg9)) (m ((c.tc : Thread Cert.TokenRefIdeal.nD Cert.TokenRefIdeal.τ).loc Cert.TokenRefIdeal.main_arg10)) (m ((c.tc : Thread Cert.TokenRefIdeal.nD Cert.TokenRefIdeal.τ).loc Cert.TokenRefIdeal.main_arg11)) (m ((c.tc : Thread Cert.TokenRefIdeal.nD Cert.TokenRefIdeal.τ).loc Cert.TokenRefIdeal.main_arg12)) (m ((c.tc : Thread Cert.TokenRefIdeal.nD Cert.TokenRefIdeal.τ).loc Cert.TokenRefIdeal.main_arg13))).2.2.2.2.2 = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2)
      ∧ r.2.mem ((c.tc : Thread Cert.ProjInRefIdeal.nD Cert.ProjInRefIdeal.τ).loc Cert.ProjInRefIdeal.main_arg3) = m ((c.tc : Thread Cert.ProjInRefIdeal.nD Cert.ProjInRefIdeal.τ).loc Cert.ProjInRefIdeal.main_arg3)
      ∧ r.2.mem ((c.tc : Thread Cert.ProjInRefIdeal.nD Cert.ProjInRefIdeal.τ).loc Cert.ProjInRefIdeal.main_arg4) = m ((c.tc : Thread Cert.ProjInRefIdeal.nD Cert.ProjInRefIdeal.τ).loc Cert.ProjInRefIdeal.main_arg4)
      ∧ r.2.mem ((c.tc : Thread Cert.ProjInRefIdeal.nD Cert.ProjInRefIdeal.τ).loc Cert.ProjInRefIdeal.main_arg5) = m ((c.tc : Thread Cert.ProjInRefIdeal.nD Cert.ProjInRefIdeal.τ).loc Cert.ProjInRefIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpIdeal_pre_finite2 [hGmlpIdeal : Cert.GmlpIdeal.Facts] [hPre_finite2 : Cert.Pre_finite2.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite2 m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_finite2 [hGmlpRefIdeal : Cert.GmlpRefIdeal.Facts] [hPre_finite2 : Cert.Pre_finite2.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite2 m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_Token [hToken : Cert.Token.Facts] : Prop :=
  ∀ (m : (ℓ : Loc Cert.Token.nD Cert.Token.τ Cert.Token.sig) → Buf (Elt Bits) ℓ) (g : Dev Cert.Token.nD → PrngReg), Pre_Token m →
    θ_run (Cert.Token.defs (F := Bits)) (onTc (τ := Cert.Token.τ) (Cert.Token.main (F := Bits))) ⟨m, fun _ => 0, g⟩ (fun r => (∀ c : Dev Cert.Token.nD,
      r.2.mem ((c.tc : Thread Cert.Token.nD Cert.Token.τ).loc Cert.Token.main_arg0) = m ((c.tc : Thread Cert.Token.nD Cert.Token.τ).loc Cert.Token.main_arg0)
      ∧ r.2.mem ((c.tc : Thread Cert.Token.nD Cert.Token.τ).loc Cert.Token.main_arg1) = m ((c.tc : Thread Cert.Token.nD Cert.Token.τ).loc Cert.Token.main_arg1)
      ∧ r.2.mem ((c.tc : Thread Cert.Token.nD Cert.Token.τ).loc Cert.Token.main_arg2) = m ((c.tc : Thread Cert.Token.nD Cert.Token.τ).loc Cert.Token.main_arg2)
      ∧ r.2.mem ((c.tc : Thread Cert.Token.nD Cert.Token.τ).loc Cert.Token.main_arg3) = m ((c.tc : Thread Cert.Token.nD Cert.Token.τ).loc Cert.Token.main_arg3)
      ∧ r.2.mem ((c.tc : Thread Cert.Token.nD Cert.Token.τ).loc Cert.Token.main_arg4) = m ((c.tc : Thread Cert.Token.nD Cert.Token.τ).loc Cert.Token.main_arg4)
      ∧ r.2.mem ((c.tc : Thread Cert.Token.nD Cert.Token.τ).loc Cert.Token.main_arg5) = m ((c.tc : Thread Cert.Token.nD Cert.Token.τ).loc Cert.Token.main_arg5)
      ∧ r.2.mem ((c.tc : Thread Cert.Token.nD Cert.Token.τ).loc Cert.Token.main_arg6) = m ((c.tc : Thread Cert.Token.nD Cert.Token.τ).loc Cert.Token.main_arg6)
      ∧ r.2.mem ((c.tc : Thread Cert.Token.nD Cert.Token.τ).loc Cert.Token.main_arg7) = m ((c.tc : Thread Cert.Token.nD Cert.Token.τ).loc Cert.Token.main_arg7)
      ∧ r.2.mem ((c.tc : Thread Cert.Token.nD Cert.Token.τ).loc Cert.Token.main_arg8) = m ((c.tc : Thread Cert.Token.nD Cert.Token.τ).loc Cert.Token.main_arg8)
      ∧ r.2.mem ((c.tc : Thread Cert.Token.nD Cert.Token.τ).loc Cert.Token.main_arg9) = m ((c.tc : Thread Cert.Token.nD Cert.Token.τ).loc Cert.Token.main_arg9)
      ∧ r.2.mem ((c.tc : Thread Cert.Token.nD Cert.Token.τ).loc Cert.Token.main_arg10) = m ((c.tc : Thread Cert.Token.nD Cert.Token.τ).loc Cert.Token.main_arg10)
      ∧ r.2.mem ((c.tc : Thread Cert.Token.nD Cert.Token.τ).loc Cert.Token.main_arg11) = m ((c.tc : Thread Cert.Token.nD Cert.Token.τ).loc Cert.Token.main_arg11)
      ∧ r.2.mem ((c.tc : Thread Cert.Token.nD Cert.Token.τ).loc Cert.Token.main_arg12) = m ((c.tc : Thread Cert.Token.nD Cert.Token.τ).loc Cert.Token.main_arg12)
      ∧ r.2.mem ((c.tc : Thread Cert.Token.nD Cert.Token.τ).loc Cert.Token.main_arg13) = m ((c.tc : Thread Cert.Token.nD Cert.Token.τ).loc Cert.Token.main_arg13))
      ∧ r.2.sem = fun _ => 0)

def quiescent_TokenIdeal [hTokenIdeal : Cert.TokenIdeal.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
      ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
      ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
      ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
      ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
      ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13))
      ∧ r.2.sem = fun _ => 0)

def quiescent_TokenIdeal_pre_finite3 [hTokenIdeal : Cert.TokenIdeal.Facts] [hPre_finite3 : Cert.Pre_finite3.Facts] : Prop :=
  ∀ (m : (ℓ : Loc Cert.TokenIdeal.nD Cert.TokenIdeal.τ Cert.TokenIdeal.sig) → Buf (Elt Ideal) ℓ) (g : Dev Cert.TokenIdeal.nD → PrngReg), Pre_TokenIdeal_finite3 m →
    θ_run (Cert.TokenIdeal.defs (F := Ideal)) (onTc (τ := Cert.TokenIdeal.τ) (Cert.TokenIdeal.main (F := Ideal))) ⟨m, fun _ => 0, g⟩ (fun r => (∀ c : Dev Cert.TokenIdeal.nD,
      r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
      ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
      ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
      ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
      ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
      ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
      ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
      ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
      ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
      ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
      ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
      ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
      ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
      ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13))
      ∧ r.2.sem = fun _ => 0)

def quiescent_TokenRefIdeal [hTokenRefIdeal : Cert.TokenRefIdeal.Facts] : Prop :=
  ∀ (m : (ℓ : Loc Cert.TokenRefIdeal.nD Cert.TokenRefIdeal.τ Cert.TokenRefIdeal.sig) → Buf (Elt Ideal) ℓ) (g : Dev Cert.TokenRefIdeal.nD → PrngReg), Pre_TokenRefIdeal m →
    θ_run (Cert.TokenRefIdeal.defs (F := Ideal)) (onTc (τ := Cert.TokenRefIdeal.τ) (Cert.TokenRefIdeal.main (F := Ideal))) ⟨m, fun _ => 0, g⟩ (fun r => (∀ c : Dev Cert.TokenRefIdeal.nD,
      r.2.mem ((c.tc : Thread Cert.TokenRefIdeal.nD Cert.TokenRefIdeal.τ).loc Cert.TokenRefIdeal.main_arg0) = m ((c.tc : Thread Cert.TokenRefIdeal.nD Cert.TokenRefIdeal.τ).loc Cert.TokenRefIdeal.main_arg0)
      ∧ r.2.mem ((c.tc : Thread Cert.TokenRefIdeal.nD Cert.TokenRefIdeal.τ).loc Cert.TokenRefIdeal.main_arg1) = m ((c.tc : Thread Cert.TokenRefIdeal.nD Cert.TokenRefIdeal.τ).loc Cert.TokenRefIdeal.main_arg1)
      ∧ r.2.mem ((c.tc : Thread Cert.TokenRefIdeal.nD Cert.TokenRefIdeal.τ).loc Cert.TokenRefIdeal.main_arg2) = m ((c.tc : Thread Cert.TokenRefIdeal.nD Cert.TokenRefIdeal.τ).loc Cert.TokenRefIdeal.main_arg2)
      ∧ r.2.mem ((c.tc : Thread Cert.TokenRefIdeal.nD Cert.TokenRefIdeal.τ).loc Cert.TokenRefIdeal.main_arg3) = m ((c.tc : Thread Cert.TokenRefIdeal.nD Cert.TokenRefIdeal.τ).loc Cert.TokenRefIdeal.main_arg3)
      ∧ r.2.mem ((c.tc : Thread Cert.TokenRefIdeal.nD Cert.TokenRefIdeal.τ).loc Cert.TokenRefIdeal.main_arg4) = m ((c.tc : Thread Cert.TokenRefIdeal.nD Cert.TokenRefIdeal.τ).loc Cert.TokenRefIdeal.main_arg4)
      ∧ r.2.mem ((c.tc : Thread Cert.TokenRefIdeal.nD Cert.TokenRefIdeal.τ).loc Cert.TokenRefIdeal.main_arg5) = m ((c.tc : Thread Cert.TokenRefIdeal.nD Cert.TokenRefIdeal.τ).loc Cert.TokenRefIdeal.main_arg5)
      ∧ r.2.mem ((c.tc : Thread Cert.TokenRefIdeal.nD Cert.TokenRefIdeal.τ).loc Cert.TokenRefIdeal.main_arg6) = m ((c.tc : Thread Cert.TokenRefIdeal.nD Cert.TokenRefIdeal.τ).loc Cert.TokenRefIdeal.main_arg6)
      ∧ r.2.mem ((c.tc : Thread Cert.TokenRefIdeal.nD Cert.TokenRefIdeal.τ).loc Cert.TokenRefIdeal.main_arg7) = m ((c.tc : Thread Cert.TokenRefIdeal.nD Cert.TokenRefIdeal.τ).loc Cert.TokenRefIdeal.main_arg7)
      ∧ r.2.mem ((c.tc : Thread Cert.TokenRefIdeal.nD Cert.TokenRefIdeal.τ).loc Cert.TokenRefIdeal.main_arg8) = m ((c.tc : Thread Cert.TokenRefIdeal.nD Cert.TokenRefIdeal.τ).loc Cert.TokenRefIdeal.main_arg8)
      ∧ r.2.mem ((c.tc : Thread Cert.TokenRefIdeal.nD Cert.TokenRefIdeal.τ).loc Cert.TokenRefIdeal.main_arg9) = m ((c.tc : Thread Cert.TokenRefIdeal.nD Cert.TokenRefIdeal.τ).loc Cert.TokenRefIdeal.main_arg9)
      ∧ r.2.mem ((c.tc : Thread Cert.TokenRefIdeal.nD Cert.TokenRefIdeal.τ).loc Cert.TokenRefIdeal.main_arg10) = m ((c.tc : Thread Cert.TokenRefIdeal.nD Cert.TokenRefIdeal.τ).loc Cert.TokenRefIdeal.main_arg10)
      ∧ r.2.mem ((c.tc : Thread Cert.TokenRefIdeal.nD Cert.TokenRefIdeal.τ).loc Cert.TokenRefIdeal.main_arg11) = m ((c.tc : Thread Cert.TokenRefIdeal.nD Cert.TokenRefIdeal.τ).loc Cert.TokenRefIdeal.main_arg11)
      ∧ r.2.mem ((c.tc : Thread Cert.TokenRefIdeal.nD Cert.TokenRefIdeal.τ).loc Cert.TokenRefIdeal.main_arg12) = m ((c.tc : Thread Cert.TokenRefIdeal.nD Cert.TokenRefIdeal.τ).loc Cert.TokenRefIdeal.main_arg12)
      ∧ r.2.mem ((c.tc : Thread Cert.TokenRefIdeal.nD Cert.TokenRefIdeal.τ).loc Cert.TokenRefIdeal.main_arg13) = m ((c.tc : Thread Cert.TokenRefIdeal.nD Cert.TokenRefIdeal.τ).loc Cert.TokenRefIdeal.main_arg13))
      ∧ r.2.sem = fun _ => 0)

def quiescent_TokenRefIdeal_pre_finite3 [hTokenRefIdeal : Cert.TokenRefIdeal.Facts] [hPre_finite3 : Cert.Pre_finite3.Facts] : Prop :=
  ∀ (m : (ℓ : Loc Cert.TokenRefIdeal.nD Cert.TokenRefIdeal.τ Cert.TokenRefIdeal.sig) → Buf (Elt Ideal) ℓ) (g : Dev Cert.TokenRefIdeal.nD → PrngReg), Pre_TokenRefIdeal_finite3 m →
    θ_run (Cert.TokenRefIdeal.defs (F := Ideal)) (onTc (τ := Cert.TokenRefIdeal.τ) (Cert.TokenRefIdeal.main (F := Ideal))) ⟨m, fun _ => 0, g⟩ (fun r => (∀ c : Dev Cert.TokenRefIdeal.nD,
      r.2.mem ((c.tc : Thread Cert.TokenRefIdeal.nD Cert.TokenRefIdeal.τ).loc Cert.TokenRefIdeal.main_arg0) = m ((c.tc : Thread Cert.TokenRefIdeal.nD Cert.TokenRefIdeal.τ).loc Cert.TokenRefIdeal.main_arg0)
      ∧ r.2.mem ((c.tc : Thread Cert.TokenRefIdeal.nD Cert.TokenRefIdeal.τ).loc Cert.TokenRefIdeal.main_arg1) = m ((c.tc : Thread Cert.TokenRefIdeal.nD Cert.TokenRefIdeal.τ).loc Cert.TokenRefIdeal.main_arg1)
      ∧ r.2.mem ((c.tc : Thread Cert.TokenRefIdeal.nD Cert.TokenRefIdeal.τ).loc Cert.TokenRefIdeal.main_arg2) = m ((c.tc : Thread Cert.TokenRefIdeal.nD Cert.TokenRefIdeal.τ).loc Cert.TokenRefIdeal.main_arg2)
      ∧ r.2.mem ((c.tc : Thread Cert.TokenRefIdeal.nD Cert.TokenRefIdeal.τ).loc Cert.TokenRefIdeal.main_arg3) = m ((c.tc : Thread Cert.TokenRefIdeal.nD Cert.TokenRefIdeal.τ).loc Cert.TokenRefIdeal.main_arg3)
      ∧ r.2.mem ((c.tc : Thread Cert.TokenRefIdeal.nD Cert.TokenRefIdeal.τ).loc Cert.TokenRefIdeal.main_arg4) = m ((c.tc : Thread Cert.TokenRefIdeal.nD Cert.TokenRefIdeal.τ).loc Cert.TokenRefIdeal.main_arg4)
      ∧ r.2.mem ((c.tc : Thread Cert.TokenRefIdeal.nD Cert.TokenRefIdeal.τ).loc Cert.TokenRefIdeal.main_arg5) = m ((c.tc : Thread Cert.TokenRefIdeal.nD Cert.TokenRefIdeal.τ).loc Cert.TokenRefIdeal.main_arg5)
      ∧ r.2.mem ((c.tc : Thread Cert.TokenRefIdeal.nD Cert.TokenRefIdeal.τ).loc Cert.TokenRefIdeal.main_arg6) = m ((c.tc : Thread Cert.TokenRefIdeal.nD Cert.TokenRefIdeal.τ).loc Cert.TokenRefIdeal.main_arg6)
      ∧ r.2.mem ((c.tc : Thread Cert.TokenRefIdeal.nD Cert.TokenRefIdeal.τ).loc Cert.TokenRefIdeal.main_arg7) = m ((c.tc : Thread Cert.TokenRefIdeal.nD Cert.TokenRefIdeal.τ).loc Cert.TokenRefIdeal.main_arg7)
      ∧ r.2.mem ((c.tc : Thread Cert.TokenRefIdeal.nD Cert.TokenRefIdeal.τ).loc Cert.TokenRefIdeal.main_arg8) = m ((c.tc : Thread Cert.TokenRefIdeal.nD Cert.TokenRefIdeal.τ).loc Cert.TokenRefIdeal.main_arg8)
      ∧ r.2.mem ((c.tc : Thread Cert.TokenRefIdeal.nD Cert.TokenRefIdeal.τ).loc Cert.TokenRefIdeal.main_arg9) = m ((c.tc : Thread Cert.TokenRefIdeal.nD Cert.TokenRefIdeal.τ).loc Cert.TokenRefIdeal.main_arg9)
      ∧ r.2.mem ((c.tc : Thread Cert.TokenRefIdeal.nD Cert.TokenRefIdeal.τ).loc Cert.TokenRefIdeal.main_arg10) = m ((c.tc : Thread Cert.TokenRefIdeal.nD Cert.TokenRefIdeal.τ).loc Cert.TokenRefIdeal.main_arg10)
      ∧ r.2.mem ((c.tc : Thread Cert.TokenRefIdeal.nD Cert.TokenRefIdeal.τ).loc Cert.TokenRefIdeal.main_arg11) = m ((c.tc : Thread Cert.TokenRefIdeal.nD Cert.TokenRefIdeal.τ).loc Cert.TokenRefIdeal.main_arg11)
      ∧ r.2.mem ((c.tc : Thread Cert.TokenRefIdeal.nD Cert.TokenRefIdeal.τ).loc Cert.TokenRefIdeal.main_arg12) = m ((c.tc : Thread Cert.TokenRefIdeal.nD Cert.TokenRefIdeal.τ).loc Cert.TokenRefIdeal.main_arg12)
      ∧ r.2.mem ((c.tc : Thread Cert.TokenRefIdeal.nD Cert.TokenRefIdeal.τ).loc Cert.TokenRefIdeal.main_arg13) = m ((c.tc : Thread Cert.TokenRefIdeal.nD Cert.TokenRefIdeal.τ).loc Cert.TokenRefIdeal.main_arg13))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6)
      ∧ r.2.mem ((c.tc : Thread Cert.Hgrn.nD Cert.Hgrn.τ).loc Cert.Hgrn.main_arg7) = m ((c.tc : Thread Cert.Hgrn.nD Cert.Hgrn.τ).loc Cert.Hgrn.main_arg7))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
      ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)
      ∧ m' ((c.tc : Thread Cert.ProjInRefIdeal.nD Cert.ProjInRefIdeal.τ).loc Cert.ProjInRefIdeal.main_arg3) = m ((c.tc : Thread Cert.ProjInIdeal.nD Cert.ProjInIdeal.τ).loc Cert.ProjInIdeal.main_arg3)
      ∧ m' ((c.tc : Thread Cert.ProjInRefIdeal.nD Cert.ProjInRefIdeal.τ).loc Cert.ProjInRefIdeal.main_arg4) = m ((c.tc : Thread Cert.ProjInIdeal.nD Cert.ProjInIdeal.τ).loc Cert.ProjInIdeal.main_arg4)
      ∧ m' ((c.tc : Thread Cert.ProjInRefIdeal.nD Cert.ProjInRefIdeal.τ).loc Cert.ProjInRefIdeal.main_arg5) = m ((c.tc : Thread Cert.ProjInIdeal.nD Cert.ProjInIdeal.τ).loc Cert.ProjInIdeal.main_arg5)) →
    ∃ (v0 : (c : Dev Cert.ProjInIdeal.nD) → Buf (Elt Ideal) ((c.tc : Thread Cert.ProjInIdeal.nD Cert.ProjInIdeal.τ).loc Cert.ProjInIdeal.main_v10_0)) (v1 : (c : Dev Cert.ProjInIdeal.nD) → Buf (Elt Ideal) ((c.tc : Thread Cert.ProjInIdeal.nD Cert.ProjInIdeal.τ).loc Cert.ProjInIdeal.main_v10_1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v10_0) = v0 c
          ∧ r.2.mem ((c.tc : Thread Cert.ProjInIdeal.nD Cert.ProjInIdeal.τ).loc Cert.ProjInIdeal.main_v10_1) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v64) = v0 c
          ∧ r.2.mem ((c.tc : Thread Cert.ProjInRefIdeal.nD Cert.ProjInRefIdeal.τ).loc Cert.ProjInRefIdeal.main_v70) = v1 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2)
          ∧ r.2.mem ((c.tc : Thread Cert.ProjInRefIdeal.nD Cert.ProjInRefIdeal.τ).loc Cert.ProjInRefIdeal.main_arg3) = m' ((c.tc : Thread Cert.ProjInRefIdeal.nD Cert.ProjInRefIdeal.τ).loc Cert.ProjInRefIdeal.main_arg3)
          ∧ r.2.mem ((c.tc : Thread Cert.ProjInRefIdeal.nD Cert.ProjInRefIdeal.τ).loc Cert.ProjInRefIdeal.main_arg4) = m' ((c.tc : Thread Cert.ProjInRefIdeal.nD Cert.ProjInRefIdeal.τ).loc Cert.ProjInRefIdeal.main_arg4)
          ∧ r.2.mem ((c.tc : Thread Cert.ProjInRefIdeal.nD Cert.ProjInRefIdeal.τ).loc Cert.ProjInRefIdeal.main_arg5) = m' ((c.tc : Thread Cert.ProjInRefIdeal.nD Cert.ProjInRefIdeal.τ).loc Cert.ProjInRefIdeal.main_arg5))

def preserves_Gmlp_GmlpIdeal : Prop :=
  IdealRules.named_const.Statement Cert.GmlpIdeal.κ "sqrt_half" .f32 0x3F3504F3#32 (((Real.sqrt 2)⁻¹ : ℝ) : EReal)
  ∧ IdealRules.named_const.Statement Cert.GmlpIdeal.κ "normal" .f32 0x3ECC422A#32 (((9465531 / 16777216) * (Real.sqrt 2)⁻¹ : ℝ) : EReal)

def algebraic_GmlpIdeal_GmlpRefIdeal_on_written2_pre_finite2 [hGmlpIdeal : Cert.GmlpIdeal.Facts] [hGmlpRefIdeal : Cert.GmlpRefIdeal.Facts] [hPre_finite2 : Cert.Pre_finite2.Facts] [hOn_written2 : Cert.On_written2.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite2 m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v13_0)) (v1 : (c : Dev Cert.GmlpIdeal.nD) → Buf (Elt Ideal) ((c.tc : Thread Cert.GmlpIdeal.nD Cert.GmlpIdeal.τ).loc Cert.GmlpIdeal.main_v13_1)) (v2 : (c : Dev Cert.GmlpIdeal.nD) → Buf (Elt Ideal) ((c.tc : Thread Cert.GmlpIdeal.nD Cert.GmlpIdeal.τ).loc Cert.GmlpIdeal.main_v13_2)) (v3 : (c : Dev Cert.GmlpIdeal.nD) → Buf (Elt Ideal) ((c.tc : Thread Cert.GmlpIdeal.nD Cert.GmlpIdeal.τ).loc Cert.GmlpIdeal.main_v13_3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          (∀ i : (⟨2, ![8192, 3072]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).1 i = 1#1 → r.2.mem ((c.tc : Thread Cert.GmlpIdeal.nD Cert.GmlpIdeal.τ).loc Cert.GmlpIdeal.main_v13_0) i = v0 c i)
          ∧ (∀ i : (⟨2, ![512, 128]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.1 i = 1#1 → r.2.mem ((c.tc : Thread Cert.GmlpIdeal.nD Cert.GmlpIdeal.τ).loc Cert.GmlpIdeal.main_v13_1) i = v1 c i)
          ∧ (∀ i : (⟨2, ![8, 128]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.1 i = 1#1 → r.2.mem ((c.tc : Thread Cert.GmlpIdeal.nD Cert.GmlpIdeal.τ).loc Cert.GmlpIdeal.main_v13_2) i = v2 c i)
          ∧ (∀ i : (⟨2, ![8, 512]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2 i = 1#1 → r.2.mem ((c.tc : Thread Cert.GmlpIdeal.nD Cert.GmlpIdeal.τ).loc Cert.GmlpIdeal.main_v13_3) i = v3 c i)
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          (∀ i : (⟨2, ![8192, 3072]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).1 i = 1#1 → r.2.mem ((c.tc : Thread Cert.GmlpRefIdeal.nD Cert.GmlpRefIdeal.τ).loc Cert.GmlpRefIdeal.main_v150) i = v0 c i)
          ∧ (∀ i : (⟨2, ![512, 128]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.1 i = 1#1 → r.2.mem ((c.tc : Thread Cert.GmlpRefIdeal.nD Cert.GmlpRefIdeal.τ).loc Cert.GmlpRefIdeal.main_v151) i = v1 c i)
          ∧ (∀ i : (⟨2, ![8, 128]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.1 i = 1#1 → r.2.mem ((c.tc : Thread Cert.GmlpRefIdeal.nD Cert.GmlpRefIdeal.τ).loc Cert.GmlpRefIdeal.main_v153) i = v2 c i)
          ∧ (∀ i : (⟨2, ![8, 512]⟩ : Shape).Idx, (Cert.On_written2.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2 i = 1#1 → r.2.mem ((c.tc : Thread Cert.GmlpRefIdeal.nD Cert.GmlpRefIdeal.τ).loc Cert.GmlpRefIdeal.main_v157) i = v3 c i)
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_Token_TokenIdeal : Prop :=
  IdealRules.named_const.Statement Cert.TokenIdeal.κ "sqrt_half" .f32 0x3F3504F3#32 (((Real.sqrt 2)⁻¹ : ℝ) : EReal)

def algebraic_TokenIdeal_TokenRefIdeal_on_written3_pre_finite3 [hTokenIdeal : Cert.TokenIdeal.Facts] [hTokenRefIdeal : Cert.TokenRefIdeal.Facts] [hPre_finite3 : Cert.Pre_finite3.Facts] [hOn_written3 : Cert.On_written3.Facts] : Prop :=
  ∀ (m : (ℓ : Loc Cert.TokenIdeal.nD Cert.TokenIdeal.τ Cert.TokenIdeal.sig) → Buf (Elt Ideal) ℓ) (g : Dev Cert.TokenIdeal.nD → PrngReg)
    (m' : (ℓ : Loc Cert.TokenRefIdeal.nD Cert.TokenRefIdeal.τ Cert.TokenRefIdeal.sig) → Buf (Elt Ideal) ℓ) (g' : Dev Cert.TokenRefIdeal.nD → PrngReg), Pre_TokenIdeal_finite3 m →
    (∀ c : Dev Cert.TokenIdeal.nD,
      m' ((c.tc : Thread Cert.TokenRefIdeal.nD Cert.TokenRefIdeal.τ).loc Cert.TokenRefIdeal.main_arg0) = m ((c.tc : Thread Cert.TokenIdeal.nD Cert.TokenIdeal.τ).loc Cert.TokenIdeal.main_arg0)
      ∧ m' ((c.tc : Thread Cert.TokenRefIdeal.nD Cert.TokenRefIdeal.τ).loc Cert.TokenRefIdeal.main_arg1) = m ((c.tc : Thread Cert.TokenIdeal.nD Cert.TokenIdeal.τ).loc Cert.TokenIdeal.main_arg1)
      ∧ m' ((c.tc : Thread Cert.TokenRefIdeal.nD Cert.TokenRefIdeal.τ).loc Cert.TokenRefIdeal.main_arg2) = m ((c.tc : Thread Cert.TokenIdeal.nD Cert.TokenIdeal.τ).loc Cert.TokenIdeal.main_arg2)
      ∧ m' ((c.tc : Thread Cert.TokenRefIdeal.nD Cert.TokenRefIdeal.τ).loc Cert.TokenRefIdeal.main_arg3) = m ((c.tc : Thread Cert.TokenIdeal.nD Cert.TokenIdeal.τ).loc Cert.TokenIdeal.main_arg3)
      ∧ m' ((c.tc : Thread Cert.TokenRefIdeal.nD Cert.TokenRefIdeal.τ).loc Cert.TokenRefIdeal.main_arg4) = m ((c.tc : Thread Cert.TokenIdeal.nD Cert.TokenIdeal.τ).loc Cert.TokenIdeal.main_arg4)
      ∧ m' ((c.tc : Thread Cert.TokenRefIdeal.nD Cert.TokenRefIdeal.τ).loc Cert.TokenRefIdeal.main_arg5) = m ((c.tc : Thread Cert.TokenIdeal.nD Cert.TokenIdeal.τ).loc Cert.TokenIdeal.main_arg5)
      ∧ m' ((c.tc : Thread Cert.TokenRefIdeal.nD Cert.TokenRefIdeal.τ).loc Cert.TokenRefIdeal.main_arg6) = m ((c.tc : Thread Cert.TokenIdeal.nD Cert.TokenIdeal.τ).loc Cert.TokenIdeal.main_arg6)
      ∧ m' ((c.tc : Thread Cert.TokenRefIdeal.nD Cert.TokenRefIdeal.τ).loc Cert.TokenRefIdeal.main_arg7) = m ((c.tc : Thread Cert.TokenIdeal.nD Cert.TokenIdeal.τ).loc Cert.TokenIdeal.main_arg7)
      ∧ m' ((c.tc : Thread Cert.TokenRefIdeal.nD Cert.TokenRefIdeal.τ).loc Cert.TokenRefIdeal.main_arg8) = m ((c.tc : Thread Cert.TokenIdeal.nD Cert.TokenIdeal.τ).loc Cert.TokenIdeal.main_arg8)
      ∧ m' ((c.tc : Thread Cert.TokenRefIdeal.nD Cert.TokenRefIdeal.τ).loc Cert.TokenRefIdeal.main_arg9) = m ((c.tc : Thread Cert.TokenIdeal.nD Cert.TokenIdeal.τ).loc Cert.TokenIdeal.main_arg9)
      ∧ m' ((c.tc : Thread Cert.TokenRefIdeal.nD Cert.TokenRefIdeal.τ).loc Cert.TokenRefIdeal.main_arg10) = m ((c.tc : Thread Cert.TokenIdeal.nD Cert.TokenIdeal.τ).loc Cert.TokenIdeal.main_arg10)
      ∧ m' ((c.tc : Thread Cert.TokenRefIdeal.nD Cert.TokenRefIdeal.τ).loc Cert.TokenRefIdeal.main_arg11) = m ((c.tc : Thread Cert.TokenIdeal.nD Cert.TokenIdeal.τ).loc Cert.TokenIdeal.main_arg11)
      ∧ m' ((c.tc : Thread Cert.TokenRefIdeal.nD Cert.TokenRefIdeal.τ).loc Cert.TokenRefIdeal.main_arg12) = m ((c.tc : Thread Cert.TokenIdeal.nD Cert.TokenIdeal.τ).loc Cert.TokenIdeal.main_arg12)
      ∧ m' ((c.tc : Thread Cert.TokenRefIdeal.nD Cert.TokenRefIdeal.τ).loc Cert.TokenRefIdeal.main_arg13) = m ((c.tc : Thread Cert.TokenIdeal.nD Cert.TokenIdeal.τ).loc Cert.TokenIdeal.main_arg13)) →
    ∃ (v0 : (c : Dev Cert.TokenIdeal.nD) → Buf (Elt Ideal) ((c.tc : Thread Cert.TokenIdeal.nD Cert.TokenIdeal.τ).loc Cert.TokenIdeal.main_v25_0)) (v1 : (c : Dev Cert.TokenIdeal.nD) → Buf (Elt Ideal) ((c.tc : Thread Cert.TokenIdeal.nD Cert.TokenIdeal.τ).loc Cert.TokenIdeal.main_v25_1)) (v2 : (c : Dev Cert.TokenIdeal.nD) → Buf (Elt Ideal) ((c.tc : Thread Cert.TokenIdeal.nD Cert.TokenIdeal.τ).loc Cert.TokenIdeal.main_v25_2)) (v3 : (c : Dev Cert.TokenIdeal.nD) → Buf (Elt Ideal) ((c.tc : Thread Cert.TokenIdeal.nD Cert.TokenIdeal.τ).loc Cert.TokenIdeal.main_v25_3)) (v4 : (c : Dev Cert.TokenIdeal.nD) → Buf (Elt Ideal) ((c.tc : Thread Cert.TokenIdeal.nD Cert.TokenIdeal.τ).loc Cert.TokenIdeal.main_v25_4)) (v5 : (c : Dev Cert.TokenIdeal.nD) → Buf (Elt Ideal) ((c.tc : Thread Cert.TokenIdeal.nD Cert.TokenIdeal.τ).loc Cert.TokenIdeal.main_v25_5)) (v6 : (c : Dev Cert.TokenIdeal.nD) → Buf (Elt Ideal) ((c.tc : Thread Cert.TokenIdeal.nD Cert.TokenIdeal.τ).loc Cert.TokenIdeal.main_v25_6)) (v7 : (c : Dev Cert.TokenIdeal.nD) → Buf (Elt Ideal) ((c.tc : Thread Cert.TokenIdeal.nD Cert.TokenIdeal.τ).loc Cert.TokenIdeal.main_v25_7)) (v8 : (c : Dev Cert.TokenIdeal.nD) → Buf (Elt Ideal) ((c.tc : Thread Cert.TokenIdeal.nD Cert.TokenIdeal.τ).loc Cert.TokenIdeal.main_v25_8)),
      θ_run (Cert.TokenIdeal.defs (F := Ideal)) (onTc (τ := Cert.TokenIdeal.τ) (Cert.TokenIdeal.main (F := Ideal))) ⟨m, fun _ => 0, g⟩ (fun r => ∀ c : Dev Cert.TokenIdeal.nD,
          (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).1 i = 1#1 → r.2.mem ((c.tc : Thread Cert.TokenIdeal.nD Cert.TokenIdeal.τ).loc Cert.TokenIdeal.main_v25_0) i = v0 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.1 i = 1#1 → r.2.mem ((c.tc : Thread Cert.TokenIdeal.nD Cert.TokenIdeal.τ).loc Cert.TokenIdeal.main_v25_1) i = v1 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.1 i = 1#1 → r.2.mem ((c.tc : Thread Cert.TokenIdeal.nD Cert.TokenIdeal.τ).loc Cert.TokenIdeal.main_v25_2) i = v2 c i)
          ∧ (∀ i : (⟨2, ![8192, 2816]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.1 i = 1#1 → r.2.mem ((c.tc : Thread Cert.TokenIdeal.nD Cert.TokenIdeal.τ).loc Cert.TokenIdeal.main_v25_3) i = v3 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.1 i = 1#1 → r.2.mem ((c.tc : Thread Cert.TokenIdeal.nD Cert.TokenIdeal.τ).loc Cert.TokenIdeal.main_v25_4) i = v4 c i)
          ∧ (∀ i : (⟨2, ![8192, 5632]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.1 i = 1#1 → r.2.mem ((c.tc : Thread Cert.TokenIdeal.nD Cert.TokenIdeal.τ).loc Cert.TokenIdeal.main_v25_5) i = v5 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.2.1 i = 1#1 → r.2.mem ((c.tc : Thread Cert.TokenIdeal.nD Cert.TokenIdeal.τ).loc Cert.TokenIdeal.main_v25_6) i = v6 c i)
          ∧ (∀ i : (⟨2, ![8, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.2.2.1 i = 1#1 → r.2.mem ((c.tc : Thread Cert.TokenIdeal.nD Cert.TokenIdeal.τ).loc Cert.TokenIdeal.main_v25_7) i = v7 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.2.2.2 i = 1#1 → r.2.mem ((c.tc : Thread Cert.TokenIdeal.nD Cert.TokenIdeal.τ).loc Cert.TokenIdeal.main_v25_8) i = v8 c i)
          ∧ r.2.mem ((c.tc : Thread Cert.TokenIdeal.nD Cert.TokenIdeal.τ).loc Cert.TokenIdeal.main_arg0) = m ((c.tc : Thread Cert.TokenIdeal.nD Cert.TokenIdeal.τ).loc Cert.TokenIdeal.main_arg0)
          ∧ r.2.mem ((c.tc : Thread Cert.TokenIdeal.nD Cert.TokenIdeal.τ).loc Cert.TokenIdeal.main_arg1) = m ((c.tc : Thread Cert.TokenIdeal.nD Cert.TokenIdeal.τ).loc Cert.TokenIdeal.main_arg1)
          ∧ r.2.mem ((c.tc : Thread Cert.TokenIdeal.nD Cert.TokenIdeal.τ).loc Cert.TokenIdeal.main_arg2) = m ((c.tc : Thread Cert.TokenIdeal.nD Cert.TokenIdeal.τ).loc Cert.TokenIdeal.main_arg2)
          ∧ r.2.mem ((c.tc : Thread Cert.TokenIdeal.nD Cert.TokenIdeal.τ).loc Cert.TokenIdeal.main_arg3) = m ((c.tc : Thread Cert.TokenIdeal.nD Cert.TokenIdeal.τ).loc Cert.TokenIdeal.main_arg3)
          ∧ r.2.mem ((c.tc : Thread Cert.TokenIdeal.nD Cert.TokenIdeal.τ).loc Cert.TokenIdeal.main_arg4) = m ((c.tc : Thread Cert.TokenIdeal.nD Cert.TokenIdeal.τ).loc Cert.TokenIdeal.main_arg4)
          ∧ r.2.mem ((c.tc : Thread Cert.TokenIdeal.nD Cert.TokenIdeal.τ).loc Cert.TokenIdeal.main_arg5) = m ((c.tc : Thread Cert.TokenIdeal.nD Cert.TokenIdeal.τ).loc Cert.TokenIdeal.main_arg5)
          ∧ r.2.mem ((c.tc : Thread Cert.TokenIdeal.nD Cert.TokenIdeal.τ).loc Cert.TokenIdeal.main_arg6) = m ((c.tc : Thread Cert.TokenIdeal.nD Cert.TokenIdeal.τ).loc Cert.TokenIdeal.main_arg6)
          ∧ r.2.mem ((c.tc : Thread Cert.TokenIdeal.nD Cert.TokenIdeal.τ).loc Cert.TokenIdeal.main_arg7) = m ((c.tc : Thread Cert.TokenIdeal.nD Cert.TokenIdeal.τ).loc Cert.TokenIdeal.main_arg7)
          ∧ r.2.mem ((c.tc : Thread Cert.TokenIdeal.nD Cert.TokenIdeal.τ).loc Cert.TokenIdeal.main_arg8) = m ((c.tc : Thread Cert.TokenIdeal.nD Cert.TokenIdeal.τ).loc Cert.TokenIdeal.main_arg8)
          ∧ r.2.mem ((c.tc : Thread Cert.TokenIdeal.nD Cert.TokenIdeal.τ).loc Cert.TokenIdeal.main_arg9) = m ((c.tc : Thread Cert.TokenIdeal.nD Cert.TokenIdeal.τ).loc Cert.TokenIdeal.main_arg9)
          ∧ r.2.mem ((c.tc : Thread Cert.TokenIdeal.nD Cert.TokenIdeal.τ).loc Cert.TokenIdeal.main_arg10) = m ((c.tc : Thread Cert.TokenIdeal.nD Cert.TokenIdeal.τ).loc Cert.TokenIdeal.main_arg10)
          ∧ r.2.mem ((c.tc : Thread Cert.TokenIdeal.nD Cert.TokenIdeal.τ).loc Cert.TokenIdeal.main_arg11) = m ((c.tc : Thread Cert.TokenIdeal.nD Cert.TokenIdeal.τ).loc Cert.TokenIdeal.main_arg11)
          ∧ r.2.mem ((c.tc : Thread Cert.TokenIdeal.nD Cert.TokenIdeal.τ).loc Cert.TokenIdeal.main_arg12) = m ((c.tc : Thread Cert.TokenIdeal.nD Cert.TokenIdeal.τ).loc Cert.TokenIdeal.main_arg12)
          ∧ r.2.mem ((c.tc : Thread Cert.TokenIdeal.nD Cert.TokenIdeal.τ).loc Cert.TokenIdeal.main_arg13) = m ((c.tc : Thread Cert.TokenIdeal.nD Cert.TokenIdeal.τ).loc Cert.TokenIdeal.main_arg13))
      ∧ θ_run (Cert.TokenRefIdeal.defs (F := Ideal)) (onTc (τ := Cert.TokenRefIdeal.τ) (Cert.TokenRefIdeal.main (F := Ideal))) ⟨m', fun _ => 0, g'⟩ (fun r => ∀ c : Dev Cert.TokenRefIdeal.nD,
          (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).1 i = 1#1 → r.2.mem ((c.tc : Thread Cert.TokenRefIdeal.nD Cert.TokenRefIdeal.τ).loc Cert.TokenRefIdeal.main_v246) i = v0 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.1 i = 1#1 → r.2.mem ((c.tc : Thread Cert.TokenRefIdeal.nD Cert.TokenRefIdeal.τ).loc Cert.TokenRefIdeal.main_v239) i = v1 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.1 i = 1#1 → r.2.mem ((c.tc : Thread Cert.TokenRefIdeal.nD Cert.TokenRefIdeal.τ).loc Cert.TokenRefIdeal.main_v257) i = v2 c i)
          ∧ (∀ i : (⟨2, ![8192, 2816]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.1 i = 1#1 → r.2.mem ((c.tc : Thread Cert.TokenRefIdeal.nD Cert.TokenRefIdeal.τ).loc Cert.TokenRefIdeal.main_v258) i = v3 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.1 i = 1#1 → r.2.mem ((c.tc : Thread Cert.TokenRefIdeal.nD Cert.TokenRefIdeal.τ).loc Cert.TokenRefIdeal.main_v259) i = v4 c i)
          ∧ (∀ i : (⟨2, ![8192, 5632]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.1 i = 1#1 → r.2.mem ((c.tc : Thread Cert.TokenRefIdeal.nD Cert.TokenRefIdeal.τ).loc Cert.TokenRefIdeal.main_v260) i = v5 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.2.1 i = 1#1 → r.2.mem ((c.tc : Thread Cert.TokenRefIdeal.nD Cert.TokenRefIdeal.τ).loc Cert.TokenRefIdeal.main_v261) i = v6 c i)
          ∧ (∀ i : (⟨2, ![8, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.2.2.1 i = 1#1 → r.2.mem ((c.tc : Thread Cert.TokenRefIdeal.nD Cert.TokenRefIdeal.τ).loc Cert.TokenRefIdeal.main_v256) i = v7 c i)
          ∧ (∀ i : (⟨2, ![8192, 1024]⟩ : Shape).Idx, (Cert.On_written3.fn (F := Ideal) (m ((c.tc : Thread Cert.TokenIdeal.nD Cert.TokenIdeal.τ).loc Cert.TokenIdeal.main_arg0)) (m ((c.tc : Thread Cert.TokenIdeal.nD Cert.TokenIdeal.τ).loc Cert.TokenIdeal.main_arg1)) (m ((c.tc : Thread Cert.TokenIdeal.nD Cert.TokenIdeal.τ).loc Cert.TokenIdeal.main_arg2)) (m ((c.tc : Thread Cert.TokenIdeal.nD Cert.TokenIdeal.τ).loc Cert.TokenIdeal.main_arg3)) (m ((c.tc : Thread Cert.TokenIdeal.nD Cert.TokenIdeal.τ).loc Cert.TokenIdeal.main_arg4)) (m ((c.tc : Thread Cert.TokenIdeal.nD Cert.TokenIdeal.τ).loc Cert.TokenIdeal.main_arg5)) (m ((c.tc : Thread Cert.TokenIdeal.nD Cert.TokenIdeal.τ).loc Cert.TokenIdeal.main_arg6)) (m ((c.tc : Thread Cert.TokenIdeal.nD Cert.TokenIdeal.τ).loc Cert.TokenIdeal.main_arg7)) (m ((c.tc : Thread Cert.TokenIdeal.nD Cert.TokenIdeal.τ).loc Cert.TokenIdeal.main_arg8)) (m ((c.tc : Thread Cert.TokenIdeal.nD Cert.TokenIdeal.τ).loc Cert.TokenIdeal.main_arg9)) (m ((c.tc : Thread Cert.TokenIdeal.nD Cert.TokenIdeal.τ).loc Cert.TokenIdeal.main_arg10)) (m ((c.tc : Thread Cert.TokenIdeal.nD Cert.TokenIdeal.τ).loc Cert.TokenIdeal.main_arg11)) (m ((c.tc : Thread Cert.TokenIdeal.nD Cert.TokenIdeal.τ).loc Cert.TokenIdeal.main_arg12)) (m ((c.tc : Thread Cert.TokenIdeal.nD Cert.TokenIdeal.τ).loc Cert.TokenIdeal.main_arg13))).2.2.2.2.2.2.2.2 i = 1#1 → r.2.mem ((c.tc : Thread Cert.TokenRefIdeal.nD Cert.TokenRefIdeal.τ).loc Cert.TokenRefIdeal.main_v262) i = v8 c i)
          ∧ r.2.mem ((c.tc : Thread Cert.TokenRefIdeal.nD Cert.TokenRefIdeal.τ).loc Cert.TokenRefIdeal.main_arg0) = m' ((c.tc : Thread Cert.TokenRefIdeal.nD Cert.TokenRefIdeal.τ).loc Cert.TokenRefIdeal.main_arg0)
          ∧ r.2.mem ((c.tc : Thread Cert.TokenRefIdeal.nD Cert.TokenRefIdeal.τ).loc Cert.TokenRefIdeal.main_arg1) = m' ((c.tc : Thread Cert.TokenRefIdeal.nD Cert.TokenRefIdeal.τ).loc Cert.TokenRefIdeal.main_arg1)
          ∧ r.2.mem ((c.tc : Thread Cert.TokenRefIdeal.nD Cert.TokenRefIdeal.τ).loc Cert.TokenRefIdeal.main_arg2) = m' ((c.tc : Thread Cert.TokenRefIdeal.nD Cert.TokenRefIdeal.τ).loc Cert.TokenRefIdeal.main_arg2)
          ∧ r.2.mem ((c.tc : Thread Cert.TokenRefIdeal.nD Cert.TokenRefIdeal.τ).loc Cert.TokenRefIdeal.main_arg3) = m' ((c.tc : Thread Cert.TokenRefIdeal.nD Cert.TokenRefIdeal.τ).loc Cert.TokenRefIdeal.main_arg3)
          ∧ r.2.mem ((c.tc : Thread Cert.TokenRefIdeal.nD Cert.TokenRefIdeal.τ).loc Cert.TokenRefIdeal.main_arg4) = m' ((c.tc : Thread Cert.TokenRefIdeal.nD Cert.TokenRefIdeal.τ).loc Cert.TokenRefIdeal.main_arg4)
          ∧ r.2.mem ((c.tc : Thread Cert.TokenRefIdeal.nD Cert.TokenRefIdeal.τ).loc Cert.TokenRefIdeal.main_arg5) = m' ((c.tc : Thread Cert.TokenRefIdeal.nD Cert.TokenRefIdeal.τ).loc Cert.TokenRefIdeal.main_arg5)
          ∧ r.2.mem ((c.tc : Thread Cert.TokenRefIdeal.nD Cert.TokenRefIdeal.τ).loc Cert.TokenRefIdeal.main_arg6) = m' ((c.tc : Thread Cert.TokenRefIdeal.nD Cert.TokenRefIdeal.τ).loc Cert.TokenRefIdeal.main_arg6)
          ∧ r.2.mem ((c.tc : Thread Cert.TokenRefIdeal.nD Cert.TokenRefIdeal.τ).loc Cert.TokenRefIdeal.main_arg7) = m' ((c.tc : Thread Cert.TokenRefIdeal.nD Cert.TokenRefIdeal.τ).loc Cert.TokenRefIdeal.main_arg7)
          ∧ r.2.mem ((c.tc : Thread Cert.TokenRefIdeal.nD Cert.TokenRefIdeal.τ).loc Cert.TokenRefIdeal.main_arg8) = m' ((c.tc : Thread Cert.TokenRefIdeal.nD Cert.TokenRefIdeal.τ).loc Cert.TokenRefIdeal.main_arg8)
          ∧ r.2.mem ((c.tc : Thread Cert.TokenRefIdeal.nD Cert.TokenRefIdeal.τ).loc Cert.TokenRefIdeal.main_arg9) = m' ((c.tc : Thread Cert.TokenRefIdeal.nD Cert.TokenRefIdeal.τ).loc Cert.TokenRefIdeal.main_arg9)
          ∧ r.2.mem ((c.tc : Thread Cert.TokenRefIdeal.nD Cert.TokenRefIdeal.τ).loc Cert.TokenRefIdeal.main_arg10) = m' ((c.tc : Thread Cert.TokenRefIdeal.nD Cert.TokenRefIdeal.τ).loc Cert.TokenRefIdeal.main_arg10)
          ∧ r.2.mem ((c.tc : Thread Cert.TokenRefIdeal.nD Cert.TokenRefIdeal.τ).loc Cert.TokenRefIdeal.main_arg11) = m' ((c.tc : Thread Cert.TokenRefIdeal.nD Cert.TokenRefIdeal.τ).loc Cert.TokenRefIdeal.main_arg11)
          ∧ r.2.mem ((c.tc : Thread Cert.TokenRefIdeal.nD Cert.TokenRefIdeal.τ).loc Cert.TokenRefIdeal.main_arg12) = m' ((c.tc : Thread Cert.TokenRefIdeal.nD Cert.TokenRefIdeal.τ).loc Cert.TokenRefIdeal.main_arg12)
          ∧ r.2.mem ((c.tc : Thread Cert.TokenRefIdeal.nD Cert.TokenRefIdeal.τ).loc Cert.TokenRefIdeal.main_arg13) = m' ((c.tc : Thread Cert.TokenRefIdeal.nD Cert.TokenRefIdeal.τ).loc Cert.TokenRefIdeal.main_arg13))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v4)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v4) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v7) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Hgrn_HgrnIdeal : Prop :=
  True

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v6) = v0 c
          ∧ r.2.mem ((c.tc : Thread Cert.AdamRefIdeal.nD Cert.AdamRefIdeal.τ).loc Cert.AdamRefIdeal.main_v33) = v1 c
          ∧ r.2.mem ((c.tc : Thread Cert.AdamRefIdeal.nD Cert.AdamRefIdeal.τ).loc Cert.AdamRefIdeal.main_v14) = v2 c
          ∧ r.2.mem ((c.tc : Thread Cert.AdamRefIdeal.nD Cert.AdamRefIdeal.τ).loc Cert.AdamRefIdeal.main_v20) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v29) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v4_0)) (v1 : (c : Dev Cert.AdaIdeal.nD) → Buf (Elt Ideal) ((c.tc : Thread Cert.AdaIdeal.nD Cert.AdaIdeal.τ).loc Cert.AdaIdeal.main_v4_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4_0) = v0 c
          ∧ r.2.mem ((c.tc : Thread Cert.AdaIdeal.nD Cert.AdaIdeal.τ).loc Cert.AdaIdeal.main_v4_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v0) = v0 c
          ∧ r.2.mem ((c.tc : Thread Cert.AdaRefIdeal.nD Cert.AdaRefIdeal.τ).loc Cert.AdaRefIdeal.main_v2) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def Claim : Prop :=
  ∃ (hProjIn : Cert.ProjIn.Facts) (hProjInIdeal : Cert.ProjInIdeal.Facts) (hProjInRefIdeal : Cert.ProjInRefIdeal.Facts) (hGmlp : Cert.Gmlp.Facts) (hGmlpIdeal : Cert.GmlpIdeal.Facts) (hGmlpRefIdeal : Cert.GmlpRefIdeal.Facts) (hToken : Cert.Token.Facts) (hTokenIdeal : Cert.TokenIdeal.Facts) (hTokenRefIdeal : Cert.TokenRefIdeal.Facts) (hWgrad : Cert.Wgrad.Facts) (hWgradIdeal : Cert.WgradIdeal.Facts) (hWgradRefIdeal : Cert.WgradRefIdeal.Facts) (hHgrn : Cert.Hgrn.Facts) (hHgrnIdeal : Cert.HgrnIdeal.Facts) (hAdam : Cert.Adam.Facts) (hAdamIdeal : Cert.AdamIdeal.Facts) (hAdamRefIdeal : Cert.AdamRefIdeal.Facts) (hProj : Cert.Proj.Facts) (hProjIdeal : Cert.ProjIdeal.Facts) (hProjRefIdeal : Cert.ProjRefIdeal.Facts) (hAda : Cert.Ada.Facts) (hAdaIdeal : Cert.AdaIdeal.Facts) (hAdaRefIdeal : Cert.AdaRefIdeal.Facts) (hPre_finite2 : Cert.Pre_finite2.Facts) (hPre_finite3 : Cert.Pre_finite3.Facts) (hOn_written2 : Cert.On_written2.Facts) (hOn_written3 : Cert.On_written3.Facts),
    quiescent_ProjIn (hProjIn := hProjIn)
    ∧ quiescent_ProjInIdeal (hProjInIdeal := hProjInIdeal)
    ∧ quiescent_ProjInRefIdeal (hProjInRefIdeal := hProjInRefIdeal)
    ∧ quiescent_Gmlp (hGmlp := hGmlp)
    ∧ quiescent_GmlpIdeal (hGmlpIdeal := hGmlpIdeal)
    ∧ quiescent_GmlpIdeal_pre_finite2 (hGmlpIdeal := hGmlpIdeal) (hPre_finite2 := hPre_finite2)
    ∧ quiescent_GmlpRefIdeal (hGmlpRefIdeal := hGmlpRefIdeal)
    ∧ quiescent_GmlpRefIdeal_pre_finite2 (hGmlpRefIdeal := hGmlpRefIdeal) (hPre_finite2 := hPre_finite2)
    ∧ quiescent_Token (hToken := hToken)
    ∧ quiescent_TokenIdeal (hTokenIdeal := hTokenIdeal)
    ∧ quiescent_TokenIdeal_pre_finite3 (hTokenIdeal := hTokenIdeal) (hPre_finite3 := hPre_finite3)
    ∧ quiescent_TokenRefIdeal (hTokenRefIdeal := hTokenRefIdeal)
    ∧ quiescent_TokenRefIdeal_pre_finite3 (hTokenRefIdeal := hTokenRefIdeal) (hPre_finite3 := hPre_finite3)
    ∧ quiescent_Wgrad (hWgrad := hWgrad)
    ∧ quiescent_WgradIdeal (hWgradIdeal := hWgradIdeal)
    ∧ quiescent_WgradRefIdeal (hWgradRefIdeal := hWgradRefIdeal)
    ∧ quiescent_Hgrn (hHgrn := hHgrn)
    ∧ quiescent_HgrnIdeal (hHgrnIdeal := hHgrnIdeal)
    ∧ quiescent_Adam (hAdam := hAdam)
    ∧ quiescent_AdamIdeal (hAdamIdeal := hAdamIdeal)
    ∧ quiescent_AdamRefIdeal (hAdamRefIdeal := hAdamRefIdeal)
    ∧ quiescent_Proj (hProj := hProj)
    ∧ quiescent_ProjIdeal (hProjIdeal := hProjIdeal)
    ∧ quiescent_ProjRefIdeal (hProjRefIdeal := hProjRefIdeal)
    ∧ quiescent_Ada (hAda := hAda)
    ∧ quiescent_AdaIdeal (hAdaIdeal := hAdaIdeal)
    ∧ quiescent_AdaRefIdeal (hAdaRefIdeal := hAdaRefIdeal)
    ∧ preserves_ProjIn_ProjInIdeal
    ∧ algebraic_ProjInIdeal_ProjInRefIdeal (hProjInIdeal := hProjInIdeal) (hProjInRefIdeal := hProjInRefIdeal)
    ∧ preserves_Gmlp_GmlpIdeal
    ∧ algebraic_GmlpIdeal_GmlpRefIdeal_on_written2_pre_finite2 (hGmlpIdeal := hGmlpIdeal) (hGmlpRefIdeal := hGmlpRefIdeal) (hPre_finite2 := hPre_finite2) (hOn_written2 := hOn_written2)
    ∧ preserves_Token_TokenIdeal
    ∧ algebraic_TokenIdeal_TokenRefIdeal_on_written3_pre_finite3 (hTokenIdeal := hTokenIdeal) (hTokenRefIdeal := hTokenRefIdeal) (hPre_finite3 := hPre_finite3) (hOn_written3 := hOn_written3)
    ∧ preserves_Wgrad_WgradIdeal
    ∧ algebraic_WgradIdeal_WgradRefIdeal (hWgradIdeal := hWgradIdeal) (hWgradRefIdeal := hWgradRefIdeal)
    ∧ preserves_Hgrn_HgrnIdeal
    ∧ preserves_Adam_AdamIdeal
    ∧ algebraic_AdamIdeal_AdamRefIdeal (hAdamIdeal := hAdamIdeal) (hAdamRefIdeal := hAdamRefIdeal)
    ∧ preserves_Proj_ProjIdeal
    ∧ algebraic_ProjIdeal_ProjRefIdeal (hProjIdeal := hProjIdeal) (hProjRefIdeal := hProjRefIdeal)
    ∧ preserves_Ada_AdaIdeal
    ∧ algebraic_AdaIdeal_AdaRefIdeal (hAdaIdeal := hAdaIdeal) (hAdaRefIdeal := hAdaRefIdeal)
-- ==== On_written2.lean ====
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S1x8192x1024 : Shape := ⟨3, ![1, 8192, 1024]⟩
abbrev S8192x3072 : Shape := ⟨2, ![8192, 3072]⟩
abbrev S_ : Shape := ⟨0, ![]⟩
abbrev S512x128 : Shape := ⟨2, ![512, 128]⟩
abbrev S8x128 : Shape := ⟨2, ![8, 128]⟩
abbrev S8x512 : Shape := ⟨2, ![8, 512]⟩

class Facts : Prop where
  bcast_S_S8192x3072 : S_.BroadcastsInDim S8192x3072 (![] : Fin 0 → Fin S8192x3072.rank)
  bcast_S_S512x128 : S_.BroadcastsInDim S512x128 (![] : Fin 0 → Fin S512x128.rank)
  bcast_S_S8x128 : S_.BroadcastsInDim S8x128 (![] : Fin 0 → Fin S8x128.rank)
  bcast_S_S8x512 : S_.BroadcastsInDim S8x512 (![] : Fin 0 → Fin S8x512.rank)

variable [Facts]

def fn {F : FTy → Type} [FloatOps F] (main_arg0 : FVec F S1x8192x3072 .f32) (main_arg1 : FVec F S1x4x128x128 .f32) (main_arg2 : FVec F S1x4x128 .f32) (main_arg3 : FVec F S1x512 .f32) (main_arg4 : FVec F S1x512 .f32) (main_arg5 : FVec F S1x8192x1024 .f32) : IVec S8192x3072 1 × IVec S512x128 1 × IVec S8x128 1 × IVec S8x512 1 :=
  let main_v0 : IVec S8192x3072 32 := iotaInDim S8192x3072 32 1
  let main_c : IVec S_ 32 := constantI S_ 32 2048#32
  let main_v1 : IVec S8192x3072 32 := broadcastInDim S8192x3072 ![] bcast_S_S8192x3072 main_c
  let main_v2 : IVec S8192x3072 1 := cmpi .sge main_v0 main_v1
  let main_v3 : IVec S512x128 32 := iotaInDim S512x128 32 1
  let main_c_0 : IVec S_ 32 := constantI S_ 32 0#32
  let main_v4 : IVec S512x128 32 := broadcastInDim S512x128 ![] bcast_S_S512x128 main_c_0
  let main_v5 : IVec S512x128 1 := cmpi .sge main_v3 main_v4
  let main_v6 : IVec S8x128 32 := iotaInDim S8x128 32 1
  let main_c_1 : IVec S_ 32 := constantI S_ 32 0#32
  let main_v7 : IVec S8x128 32 := broadcastInDim S8x128 ![] bcast_S_S8x128 main_c_1
  let main_v8 : IVec S8x128 1 := cmpi .sge main_v6 main_v7
  let main_v9 : IVec S8x512 32 := iotaInDim S8x512 32 1
  let main_c_2 : IVec S_ 32 := constantI S_ 32 0#32
  let main_v10 : IVec S8x512 32 := broadcastInDim S8x512 ![] bcast_S_S8x512 main_c_2
  let main_v11 : IVec S8x512 1 := cmpi .sge main_v9 main_v10
  (main_v2, main_v5, main_v8, main_v11)
-- ==== On_written3.lean ====
abbrev S1x8192x1024 : Shape := ⟨3, ![1, 8192, 1024]⟩
abbrev S1x8192x512 : Shape := ⟨3, ![1, 8192, 512]⟩
abbrev S1x6144 : Shape := ⟨2, ![1, 6144]⟩
abbrev S1x1024 : Shape := ⟨2, ![1, 1024]⟩
abbrev S1024 : Shape := ⟨1, ![1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S8192x1024 : Shape := ⟨2, ![8192, 1024]⟩
abbrev S_ : Shape := ⟨0, ![]⟩
abbrev S8192x2816 : Shape := ⟨2, ![8192, 2816]⟩
abbrev S8192x5632 : Shape := ⟨2, ![8192, 5632]⟩
abbrev S8x1024 : Shape := ⟨2, ![8, 1024]⟩

class Facts : Prop where
  bcast_S_S8192x1024 : S_.BroadcastsInDim S8192x1024 (![] : Fin 0 → Fin S8192x1024.rank)
  bcast_S_S8192x2816 : S_.BroadcastsInDim S8192x2816 (![] : Fin 0 → Fin S8192x2816.rank)
  bcast_S_S8192x5632 : S_.BroadcastsInDim S8192x5632 (![] : Fin 0 → Fin S8192x5632.rank)
  bcast_S_S8x1024 : S_.BroadcastsInDim S8x1024 (![] : Fin 0 → Fin S8x1024.rank)

variable [Facts]

def fn_part1 {F : FTy → Type} [FloatOps F] (main_v2 : IVec S8192x1024 1) (main_v5 : IVec S8192x1024 1) (main_v8 : IVec S8192x1024 1) (main_v11 : IVec S8192x2816 1) (main_v14 : IVec S8192x1024 1) (main_v17 : IVec S8192x5632 1) : IVec S8192x1024 1 × IVec S8192x1024 1 × IVec S8192x1024 1 × IVec S8192x2816 1 × IVec S8192x1024 1 × IVec S8192x5632 1 × IVec S8192x1024 1 × IVec S8x1024 1 × IVec S8192x1024 1 :=
  let main_v18 : IVec S8192x1024 32 := iotaInDim S8192x1024 32 1
  let main_c_5 : IVec S_ 32 := constantI S_ 32 0#32
  let main_v19 : IVec S8192x1024 32 := broadcastInDim S8192x1024 ![] bcast_S_S8192x1024 main_c_5
  let main_v20 : IVec S8192x1024 1 := cmpi .sge main_v18 main_v19
  let main_v21 : IVec S8x1024 32 := iotaInDim S8x1024 32 1
  let main_c_6 : IVec S_ 32 := constantI S_ 32 0#32
  let main_v22 : IVec S8x1024 32 := broadcastInDim S8x1024 ![] bcast_S_S8x1024 main_c_6
  let main_v23 : IVec S8x1024 1 := cmpi .sge main_v21 main_v22
  let main_v24 : IVec S8192x1024 32 := iotaInDim S8192x1024 32 1
  let main_c_7 : IVec S_ 32 := constantI S_ 32 512#32
  let main_v25 : IVec S8192x1024 32 := broadcastInDim S8192x1024 ![] bcast_S_S8192x1024 main_c_7
  let main_v26 : IVec S8192x1024 1 := cmpi .slt main_v24 main_v25
  (main_v2, main_v5, main_v8, main_v11, main_v14, main_v17, main_v20, main_v23, main_v26)

def fn {F : FTy → Type} [FloatOps F] (main_arg0 : FVec F S1x8192x1024 .f32) (main_arg1 : FVec F S1x8192x512 .f32) (main_arg2 : FVec F S1x8192x1024 .f32) (main_arg3 : FVec F S1x6144 .f32) (main_arg4 : FVec F S1x1024 .f32) (main_arg5 : FVec F S1024 .f32) (main_arg6 : FVec F S1x1024x1024 .f32) (main_arg7 : FVec F S1x1024x5632 .f32) (main_arg8 : FVec F S1x2816x1024 .f32) (main_arg9 : FVec F S1x8192x3072 .f32) (main_arg10 : FVec F S1x4x128x128 .f32) (main_arg11 : FVec F S1x4x128 .f32) (main_arg12 : FVec F S1x512 .f32) (main_arg13 : FVec F S1x512 .f32) : IVec S8192x1024 1 × IVec S8192x1024 1 × IVec S8192x1024 1 × IVec S8192x2816 1 × IVec S8192x1024 1 × IVec S8192x5632 1 × IVec S8192x1024 1 × IVec S8x1024 1 × IVec S8192x1024 1 :=
  let main_v0 : IVec S8192x1024 32 := iotaInDim S8192x1024 32 1
  let main_c : IVec S_ 32 := constantI S_ 32 0#32
  let main_v1 : IVec S8192x1024 32 := broadcastInDim S8192x1024 ![] bcast_S_S8192x1024 main_c
  let main_v2 : IVec S8192x1024 1 := cmpi .sge main_v0 main_v1
  let main_v3 : IVec S8192x1024 32 := iotaInDim S8192x1024 32 1
  let main_c_0 : IVec S_ 32 := constantI S_ 32 0#32
  let main_v4 : IVec S8192x1024 32 := broadcastInDim S8192x1024 ![] bcast_S_S8192x1024 main_c_0
  let main_v5 : IVec S8192x1024 1 := cmpi .sge main_v3 main_v4
  let main_v6 : IVec S8192x1024 32 := iotaInDim S8192x1024 32 1
  let main_c_1 : IVec S_ 32 := constantI S_ 32 0#32
  let main_v7 : IVec S8192x1024 32 := broadcastInDim S8192x1024 ![] bcast_S_S8192x1024 main_c_1
  let main_v8 : IVec S8192x1024 1 := cmpi .sge main_v6 main_v7
  let main_v9 : IVec S8192x2816 32 := iotaInDim S8192x2816 32 1
  let main_c_2 : IVec S_ 32 := constantI S_ 32 0#32
  let main_v10 : IVec S8192x2816 32 := broadcastInDim S8192x2816 ![] bcast_S_S8192x2816 main_c_2
  let main_v11 : IVec S8192x2816 1 := cmpi .sge main_v9 main_v10
  let main_v12 : IVec S8192x1024 32 := iotaInDim S8192x1024 32 1
  let main_c_3 : IVec S_ 32 := constantI S_ 32 0#32
  let main_v13 : IVec S8192x1024 32 := broadcastInDim S8192x1024 ![] bcast_S_S8192x1024 main_c_3
  let main_v14 : IVec S8192x1024 1 := cmpi .sge main_v12 main_v13
  let main_v15 : IVec S8192x5632 32 := iotaInDim S8192x5632 32 1
  let main_c_4 : IVec S_ 32 := constantI S_ 32 0#32
  let main_v16 : IVec S8192x5632 32 := broadcastInDim S8192x5632 ![] bcast_S_S8192x5632 main_c_4
  let main_v17 : IVec S8192x5632 1 := cmpi .sge main_v15 main_v16
  fn_part1 (F := F) main_v2 main_v5 main_v8 main_v11 main_v14 main_v17
-- ==== Pre_finite2.lean ====
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S1x8192x1024 : Shape := ⟨3, ![1, 8192, 1024]⟩
abbrev S_ : Shape := ⟨0, ![]⟩

class Facts : Prop where
  bcast_S_S1x8192x3072 : S_.BroadcastsInDim S1x8192x3072 (![] : Fin 0 → Fin S1x8192x3072.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x512 : S_.BroadcastsInDim S1x512 (![] : Fin 0 → Fin S1x512.rank)
  bcast_S_S1x8192x1024 : S_.BroadcastsInDim S1x8192x1024 (![] : Fin 0 → Fin S1x8192x1024.rank)

variable [Facts]

def fn {F : FTy → Type} [FloatOps F] (main_arg0 : FVec F S1x8192x3072 .f32) (main_arg1 : FVec F S1x4x128x128 .f32) (main_arg2 : FVec F S1x4x128 .f32) (main_arg3 : FVec F S1x512 .f32) (main_arg4 : FVec F S1x512 .f32) (main_arg5 : FVec F S1x8192x1024 .f32) : IVec S1x8192x3072 1 × IVec S1x4x128x128 1 × IVec S1x4x128 1 × IVec S1x512 1 × IVec S1x512 1 × IVec S1x8192x1024 1 :=
  let main_v0 : FVec F S1x8192x3072 .f32 := Host.absf main_arg0
  let main_cst : FVec F S_ .f32 := constant S_ .f32 0x7F800000#32
  let main_v1 : FVec F S1x8192x3072 .f32 := broadcastInDim S1x8192x3072 ![] bcast_S_S1x8192x3072 main_cst
  let main_v2 : IVec S1x8192x3072 1 := cmpf .olt main_v0 main_v1
  let main_v3 : FVec F S1x4x128x128 .f32 := Host.absf main_arg1
  let main_cst_0 : FVec F S_ .f32 := constant S_ .f32 0x7F800000#32
  let main_v4 : FVec F S1x4x128x128 .f32 := broadcastInDim S1x4x128x128 ![] bcast_S_S1x4x128x128 main_cst_0
  let main_v5 : IVec S1x4x128x128 1 := cmpf .olt main_v3 main_v4
  let main_v6 : FVec F S1x4x128 .f32 := Host.absf main_arg2
  let main_cst_1 : FVec F S_ .f32 := constant S_ .f32 0x7F800000#32
  let main_v7 : FVec F S1x4x128 .f32 := broadcastInDim S1x4x128 ![] bcast_S_S1x4x128 main_cst_1
  let main_v8 : IVec S1x4x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x8192x1024 .f32 := Host.absf main_arg5
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_finite3.lean ====
abbrev S1x8192x1024 : Shape := ⟨3, ![1, 8192, 1024]⟩
abbrev S1x8192x512 : Shape := ⟨3, ![1, 8192, 512]⟩
abbrev S1x6144 : Shape := ⟨2, ![1, 6144]⟩
abbrev S1x1024 : Shape := ⟨2, ![1, 1024]⟩
abbrev S1024 : Shape := ⟨1, ![1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S_ : Shape := ⟨0, ![]⟩

class Facts : Prop where
  bcast_S_S1x8192x1024 : S_.BroadcastsInDim S1x8192x1024 (![] : Fin 0 → Fin S1x8192x1024.rank)
  bcast_S_S1x6144 : S_.BroadcastsInDim S1x6144 (![] : Fin 0 → Fin S1x6144.rank)
  bcast_S_S1x1024 : S_.BroadcastsInDim S1x1024 (![] : Fin 0 → Fin S1x1024.rank)
  bcast_S_S1024 : S_.BroadcastsInDim S1024 (![] : Fin 0 → Fin S1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S1x8192x1024 .f32) (main_arg1 : FVec F S1x8192x512 .f32) (main_arg2 : FVec F S1x8192x1024 .f32) (main_arg3 : FVec F S1x6144 .f32) (main_arg4 : FVec F S1x1024 .f32) (main_arg5 : FVec F S1024 .f32) (main_arg6 : FVec F S1x1024x1024 .f32) (main_arg7 : FVec F S1x1024x5632 .f32) (main_arg8 : FVec F S1x2816x1024 .f32) (main_arg9 : FVec F S1x8192x3072 .f32) (main_arg10 : FVec F S1x4x128x128 .f32) (main_arg11 : FVec F S1x4x128 .f32) (main_arg12 : FVec F S1x512 .f32) (main_arg13 : FVec F S1x512 .f32) : IVec S1x8192x1024 1 × IVec S1x6144 1 × IVec S1x1024 1 × IVec S1024 1 × IVec S1x1024x5632 1 × IVec S1x2816x1024 1 :=
  let main_v0 : FVec F S1x8192x1024 .f32 := Host.absf main_arg2
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x6144 .f32 := Host.absf main_arg3
  let main_cst_0 : FVec F S_ .f32 := constant S_ .f32 0x7F800000#32
  let main_v4 : FVec F S1x6144 .f32 := broadcastInDim S1x6144 ![] bcast_S_S1x6144 main_cst_0
  let main_v5 : IVec S1x6144 1 := cmpf .olt main_v3 main_v4
  let main_v6 : FVec F S1x1024 .f32 := Host.absf main_arg4
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x5632 .f32 := Host.absf main_arg7
  let main_cst_3 : FVec F S_ .f32 := constant S_ .f32 0x7F800000#32
  let main_v13 : FVec F S1x1024x5632 .f32 := broadcastInDim S1x1024x5632 ![] bcast_S_S1x1024x5632 main_cst_3
  let main_v14 : IVec S1x1024x5632 1 := cmpf .olt main_v12 main_v13
  let main_v15 : FVec F S1x2816x1024 .f32 := Host.absf main_arg8
  let main_cst_4 : FVec F S_ .f32 := constant S_ .f32 0x7F800000#32
  let main_v16 : FVec F S1x2816x1024 .f32 := broadcastInDim S1x2816x1024 ![] bcast_S_S1x2816x1024 main_cst_4
  let main_v17 : IVec S1x2816x1024 1 := cmpf .olt main_v15 main_v16
  (main_v2, main_v5, main_v8, main_v11, main_v14, main_v17)
-- ==== ProjIn.lean ====
abbrev S1x8192x1024 : Shape := ⟨3, ![1, 8192, 1024]⟩
abbrev S1x6144 : Shape := ⟨2, ![1, 6144]⟩
abbrev S1x1024 : Shape := ⟨2, ![1, 1024]⟩
abbrev S1x1024x3072 : Shape := ⟨3, ![1, 1024, 3072]⟩
abbrev S1x8192x3072 : Shape := ⟨3, ![1, 8192, 3072]⟩
abbrev S1x8192x2048 : Shape := ⟨3, ![1, 8192, 2048]⟩
abbrev S8192x2048 : Shape := ⟨2, ![8192, 2048]⟩
abbrev S8192x1024 : Shape := ⟨2, ![8192, 1024]⟩
abbrev S8192x3072 : Shape := ⟨2, ![8192, 3072]⟩
abbrev S1024x3072 : Shape := ⟨2, ![1024, 3072]⟩
abbrev S8x1024 : Shape := ⟨2, ![8, 1024]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 18
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x3072, .f32⟩
  | .hbm, ⟨4, _⟩ => ⟨S1x8192x1024, .f32⟩
  | .hbm, ⟨5, _⟩ => ⟨S1x8192x3072, .f32⟩
  | .hbm, ⟨6, _⟩ => ⟨S1x8192x2048, .f32⟩
  | .hbm, ⟨7, _⟩ => ⟨S8192x2048, .f32⟩
  | .hbm, ⟨8, _⟩ => ⟨S1x8192x1024, .f32⟩
  | .hbm, ⟨9, _⟩ => ⟨S8192x1024, .f32⟩
  | .hbm, ⟨10, _⟩ => ⟨S8192x3072, .f32⟩
  | .hbm, ⟨11, _⟩ => ⟨S8192x3072, .bf16⟩
  | .hbm, ⟨12, _⟩ => ⟨S8192x1024, .f32⟩
  | .hbm, ⟨13, _⟩ => ⟨S8192x1024, .f32⟩
  | .hbm, ⟨14, _⟩ => ⟨S1024x3072, .f32⟩
  | .hbm, ⟨15, _⟩ => ⟨S1024x3072, .bf16⟩
  | .hbm, ⟨16, _⟩ => ⟨S8192x1024, .f32⟩
  | .hbm, ⟨17, _⟩ => ⟨S8x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x3072, .bf16⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjInRefIdeal.lean ====
abbrev S1x8192x1024 : Shape := ⟨3, ![1, 8192, 1024]⟩
abbrev S1x6144 : Shape := ⟨2, ![1, 6144]⟩
abbrev S1x1024 : Shape := ⟨2, ![1, 1024]⟩
abbrev S1x1024x3072 : Shape := ⟨3, ![1, 1024, 3072]⟩
abbrev S1x8192x3072 : Shape := ⟨3, ![1, 8192, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x6144, .f32⟩
  | .hbm, ⟨2, _⟩ => ⟨S1x1024, .f32⟩
  | .hbm, ⟨3, _⟩ => ⟨S1x1024x3072, .f32⟩
  | .hbm, ⟨4, _⟩ => ⟨S1x8192x1024, .f32⟩
  | .hbm, ⟨5, _⟩ => ⟨S1x8192x3072, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1024x3072, .f32⟩
  | .hbm, ⟨42, _⟩ => ⟨S8192x3072, .f32⟩
  | .hbm, ⟨43, _⟩ => ⟨S8192x1024, .f32⟩
  | .hbm, ⟨44, _⟩ => ⟨S8192x3072, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S3x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Gmlp.lean ====
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S1x8192x1024 : Shape := ⟨3, ![1, 8192, 1024]⟩
abbrev S128x128 : Shape := ⟨2, ![128, 128]⟩
abbrev S_ : Shape := ⟨0, ![]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S8192x3072 : Shape := ⟨2, ![8192, 3072]⟩
abbrev S8192x1024 : Shape := ⟨2, ![8192, 1024]⟩
abbrev S512x128 : Shape := ⟨2, ![512, 128]⟩
abbrev S8x128 : Shape := ⟨2, ![8, 128]⟩
abbrev S8x512 : Shape := ⟨2, ![8, 512]⟩
abbrev S1024x512 : Shape := ⟨2, ![1024, 512]⟩
abbrev S1024x1024 : Shape := ⟨2, ![1024, 1024]⟩
abbrev S128x512 : Shape := ⟨2, ![128, 512]⟩
abbrev S128 : Shape := ⟨1, ![128]⟩
abbrev S128x1 : Shape := ⟨2, ![128, 1]⟩
abbrev S512 : Shape := ⟨1, ![512]⟩

abbrev nBuf : Space → Nat
  | .hbm => 61
  | .vmem => 16
  | .smem => 0
  | _ => 0

abbrev bufTy : (tb : Table) → Fin (tcTables nBuf tb) → BufTy
  | .hbm, ⟨0, _⟩ => ⟨S1x8192x3072, .f32⟩
  | .hbm, ⟨1, _⟩ => ⟨S1x4x128x128, .f32⟩
  | .hbm, ⟨2, _⟩ => ⟨S1x4x128, .f32⟩
  | .hbm, ⟨3, _⟩ => ⟨S1x512, .f32⟩
  | .hbm, ⟨4, _⟩ => ⟨S1x512, .f32⟩
  | .hbm, ⟨5, _⟩ => ⟨S1x8192x1024, .f32⟩
  | .hbm, ⟨6, _⟩ => ⟨S128x128, .i32⟩
  | .hbm, ⟨7, _⟩ => ⟨S_, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i1⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S128x128, .i1⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S_, .i32⟩
  | .hbm, ⟨32, _⟩ => ⟨S128x128, .i32⟩
  | .hbm, ⟨33, _⟩ => ⟨S128x128, .i1⟩
  | .hbm, ⟨34, _⟩ => ⟨S128x128, .i32⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i1⟩
  | .hbm, ⟨39, _⟩ => ⟨S128x128, .i1⟩
  | .hbm, ⟨40, _⟩ => ⟨S_, .i32⟩
  | .hbm, ⟨41, _⟩ => ⟨S128x128, .i32⟩
  | .hbm, ⟨42, _⟩ => ⟨S128x128, .i32⟩
  | .hbm, ⟨43, _⟩ => ⟨S128x128, .i32⟩
  | .hbm, ⟨44, _⟩ => ⟨S128x128, .i1⟩
  | .hbm, ⟨45, _⟩ => ⟨S1x128x128, .i1⟩
  | .hbm, ⟨46, _⟩ => ⟨S4x128x128, .f32⟩
  | .hbm, ⟨47, _⟩ => ⟨S_, .f32⟩
  | .hbm, ⟨48, _⟩ => ⟨S_, .f32⟩
  | .hbm, ⟨49, _⟩ => ⟨S4x128x128, .i1⟩
  | .hbm, ⟨50, _⟩ => ⟨S4x128x128, .f32⟩
  | .hbm, ⟨51, _⟩ => ⟨S4x128x128, .f32⟩
  | .hbm, ⟨52, _⟩ => ⟨S4x128x128, .bf16⟩
  | .hbm, ⟨53, _⟩ => ⟨S4x128, .f32⟩
  | .hbm, ⟨54, _⟩ => ⟨S128x4, .f32⟩
  | .hbm, ⟨55, _⟩ => ⟨S8192x3072, .f32⟩
  | .hbm, ⟨56, _⟩ => ⟨S8192x1024, .f32⟩
  | .hbm, ⟨57, _⟩ => ⟨S8192x3072, .bf16⟩
  | .hbm, ⟨58, _⟩ => ⟨S512x128, .f32⟩
  | .hbm, ⟨59, _⟩ => ⟨S8x128, .f32⟩
  | .hbm, ⟨60, _⟩ => ⟨S8x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S4x128x128, .bf16⟩
  | .local _ .vmem, ⟨7, _⟩ => ⟨S128x4, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1024x1024, .bf16⟩
  | .local _ .vmem, ⟨12, _⟩ => ⟨S512x128, .f32⟩
  | .local _ .vmem, ⟨13, _⟩ => ⟨S8x128, .f32⟩
  | .local _ .vmem, ⟨14, _⟩ => ⟨S8x512, .f32⟩
  | .local _ .vmem, ⟨15, _⟩ => ⟨S128x512, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13_0 : Ref sig .tc := ⟨.hbm, 57, rfl⟩
abbrev main_v13_1 : Ref sig .tc := ⟨.hbm, 58, rfl⟩
abbrev main_v13_2 : Ref sig .tc := ⟨.hbm, 59, rfl⟩
abbrev main_v13_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1629 : BitVec 1 := Scalar.cmpi .eq arg0 c7_i32
  let v1630 : BitVec 32 := Scalar.extui v1629
  let c0_i32_905 : BitVec 32 := 0#32
  let v1631 : BitVec 1 := Scalar.cmpi .ne v1630 c0_i32_905
  v1631

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpIdeal.lean ====
variable {F : FTy → Type} [FloatOps F] [Named F]
def κ : String → Option EReal := fun
  | "normal" => some (((9465531 / 16777216) * (Real.sqrt 2)⁻¹ : ℝ) : EReal)
  | "sqrt_half" => some (((Real.sqrt 2)⁻¹ : ℝ) : EReal)
  | _ => none
-- ==== GmlpRefIdeal.lean ====
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S1x8192x1024 : Shape := ⟨3, ![1, 8192, 1024]⟩
abbrev S1x8192x512 : Shape := ⟨3, ![1, 8192, 512]⟩
abbrev S4x128x128 : Shape := ⟨3, ![4, 128, 128]⟩
abbrev S4x128 : Shape := ⟨2, ![4, 128]⟩
abbrev S512 : Shape := ⟨1, ![512]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x4x128 : Shape := ⟨5, ![1, 64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S8192 : Shape := ⟨1, ![8192]⟩
abbrev S8192x2048 : Shape := ⟨2, ![8192, 2048]⟩
abbrev S8192x512 : Shape := ⟨2, ![8192, 512]⟩
abbrev S8192x3072 : Shape := ⟨2, ![8192, 3072]⟩
abbrev S512x128 : Shape := ⟨2, ![512, 128]⟩
abbrev S8x128 : Shape := ⟨2, ![8, 128]⟩
abbrev S6x512 : Shape := ⟨2, ![6, 512]⟩
abbrev S8x512 : Shape := ⟨2, ![8, 512]⟩

abbrev nBuf : Space → Nat
  | .hbm => 220
  | .vmem => 0
  | .smem => 0
  | _ => 0

abbrev hbmTy0_0 (i : Nat) : BufTy := match i % 128 with
  | 0 => ⟨S1x8192x3072, .f32⟩
  | 1 => ⟨S1x4x128x128, .f32⟩
  | 2 => ⟨S1x4x128, .f32⟩
  | 3 => ⟨S1x512, .f32⟩
  | 4 => ⟨S1x512, .f32⟩
  | 5 => ⟨S1x8192x1024, .f32⟩
  | 6 => ⟨S1x8192x512, .f32⟩
  | 7 => ⟨S1x8192x512, .f32⟩
  | 8 => ⟨S4x128x128, .f32⟩
  | 9 => ⟨S4x128, .f32⟩
  | 10 => ⟨S512, .f32⟩
  | 11 => ⟨S512, .f32⟩
  | 12 => ⟨S_, .f32⟩
  | 13 => ⟨S1x8192x512, .f32⟩
  | 14 => ⟨S1x8192x512, .f32⟩
  | 15 => ⟨S1x8192x512, .f32⟩
  | 16 => ⟨S_, .f32⟩
  | 17 => ⟨S_, .f32⟩
  | 18 => ⟨S1x8192x512, .f32⟩
  | 19 => ⟨S1x8192x512, .f32⟩
  | 20 => ⟨S1x8192x512, .f32⟩
  | 21 => ⟨S1x8192x512, .f32⟩
  | 22 => ⟨S1x8192x512, .f32⟩
  | 23 => ⟨S1x8192x512, .f32⟩
  | 24 => ⟨S1x8192x512, .f32⟩
  | 25 => ⟨S_, .f32⟩
  | 26 => ⟨S1x8192x512, .f32⟩
  | 27 => ⟨S1x8192x512, .f32⟩
  | 28 => ⟨S1x8192x512, .f32⟩
  | 29 => ⟨S_, .f32⟩
  | 30 => ⟨S_, .f32⟩
  | 31 => ⟨S1x8192x512, .f32⟩
  | 32 => ⟨S1x8192x512, .f32⟩
  | 33 => ⟨S1x8192x512, .f32⟩
  | 34 => ⟨S1x8192x512, .f32⟩
  | 35 => ⟨S1x8192x512, .f32⟩
  | 36 => ⟨S1x8192x512, .f32⟩
  | 37 => ⟨S1x8192x512, .f32⟩
  | 38 => ⟨S_, .f32⟩
  | 39 => ⟨S1x8192, .f32⟩
  | 40 => ⟨S1x8192x1, .f32⟩
  | 41 => ⟨S_, .f32⟩
  | 42 => ⟨S1x8192x1, .f32⟩
  | 43 => ⟨S1x8192x1, .f32⟩
  | 44 => ⟨S1x8192x512, .f32⟩
  | 45 => ⟨S1x8192x512, .f32⟩
  | 46 => ⟨S1x8192x512, .f32⟩
  | 47 => ⟨S_, .f32⟩
  | 48 => ⟨S1x8192x512, .f32⟩
  | 49 => ⟨S1x8192x512, .f32⟩
  | 50 => ⟨S_, .f32⟩
  | 51 => ⟨S1x8192, .f32⟩
  | 52 => ⟨S1x8192x1, .f32⟩
  | 53 => ⟨S_, .f32⟩
  | 54 => ⟨S1x8192x1, .f32⟩
  | 55 => ⟨S1x8192x1, .f32⟩
  | 56 => ⟨S1x8192x512, .f32⟩
  | 57 => ⟨S1x8192x512, .f32⟩
  | 58 => ⟨S_, .f32⟩
  | 59 => ⟨S1x8192x1, .f32⟩
  | 60 => ⟨S1x8192x1, .f32⟩
  | 61 => ⟨S1x8192x1, .f32⟩
  | 62 => ⟨S1x8192x1, .f32⟩
  | 63 => ⟨S_, .f32⟩
  | 64 => ⟨S1x8192x1, .f32⟩
  | 65 => ⟨S1x8192x1, .f32⟩
  | 66 => ⟨S1x8192x512, .f32⟩
  | 67 => ⟨S1x8192x512, .f32⟩
  | 68 => ⟨S1x1x512, .f32⟩
  | 69 => ⟨S1x8192x512, .f32⟩
  | 70 => ⟨S1x8192x512, .f32⟩
  | 71 => ⟨S1x1x512, .f32⟩
  | 72 => ⟨S1x8192x512, .f32⟩
  | 73 => ⟨S1x8192x512, .f32⟩
  | 74 => ⟨S1x64x128x4x128, .f32⟩
  | 75 => ⟨S128, .i32⟩
  | 76 => ⟨S_, .i32⟩
  | 77 => ⟨S_, .i32⟩
  | 78 => ⟨S128, .i32⟩
  | 79 => ⟨S128, .i32⟩
  | 80 => ⟨S128, .i32⟩
  | 81 => ⟨S_, .i32⟩
  | 82 => ⟨S128, .i32⟩
  | 83 => ⟨S128, .i1⟩
  | 84 => ⟨S128, .i32⟩
  | 85 => ⟨S128, .i32⟩
  | 86 => ⟨S_, .i32⟩
  | 87 => ⟨S128, .i32⟩
  | 88 => ⟨S128, .i1⟩
  | 89 => ⟨S128, .i1⟩
  | 90 => ⟨S_, .i32⟩
  | 91 => ⟨S128, .i32⟩
  | 92 => ⟨S128, .i32⟩
  | 93 => ⟨S128, .i32⟩
  | 94 => ⟨S128x1, .i32⟩
  | 95 => ⟨S1x128, .i32⟩
  | 96 => ⟨S128x128, .i32⟩
  | 97 => ⟨S128x128, .i32⟩
  | 98 => ⟨S128x128, .i1⟩
  | 99 => ⟨S1x128x128, .i1⟩
  | 100 => ⟨S_, .i32⟩
  | 101 => ⟨S_, .f32⟩
  | 102 => ⟨S4x128x128, .i1⟩
  | 103 => ⟨S4x128x128, .f32⟩
  | 104 => ⟨S4x128x128, .f32⟩
  | 105 => ⟨S_, .f32⟩
  | 106 => ⟨S4x128x128, .f32⟩
  | 107 => ⟨S4x1x64x128x128, .f32⟩
  | 108 => ⟨S1x64x128x4x128, .f32⟩
  | 109 => ⟨S128x4, .f32⟩
  | 110 => ⟨S1x1x128x4x1, .f32⟩
  | 111 => ⟨S1x64x128x4x128, .f32⟩
  | 112 => ⟨S1x64x128x4x128, .f32⟩
  | 113 => ⟨S1x8192x512, .f32⟩
  | 114 => ⟨S1x8192x512, .f32⟩
  | 115 => ⟨S1x8192x512, .f32⟩
  | 116 => ⟨S1x8192x512, .f32⟩
  | 117 => ⟨S1x8192x512, .f32⟩
  | 118 => ⟨S1x64x128x4x128, .f32⟩
  | 119 => ⟨S_, .f32⟩
  | 120 => ⟨S1x128x4, .f32⟩
  | 121 => ⟨S1x1x128x4x1, .f32⟩
  | 122 => ⟨S_, .f32⟩
  | 123 => ⟨S128x4, .f32⟩
  | 124 => ⟨S4x128, .f32⟩
  | 125 => ⟨S4x1x64x128x128, .f32⟩
  | 126 => ⟨S4x128x128, .f32⟩
  | 127 => ⟨S4x1x64x128x128, .f32⟩
  | _ => ⟨S1x8192x3072, .f32⟩

abbrev hbmTy0_1 (i : Nat) : BufTy := match i % 128 with
  | 0 => ⟨S1x64x128x4x128, .f32⟩
  | 1 => ⟨S_, .f32⟩
  | 2 => ⟨S4x128x128, .f32⟩
  | 3 => ⟨S4x128x128, .f32⟩
  | 4 => ⟨S1x8192x512, .f32⟩
  | 5 => ⟨S_, .f32⟩
  | 6 => ⟨S1x512, .f32⟩
  | 7 => ⟨S1x1x512, .f32⟩
  | 8 => ⟨S_, .f32⟩
  | 9 => ⟨S512, .f32⟩
  | 10 => ⟨S1x8192x512, .f32⟩
  | 11 => ⟨S_, .f32⟩
  | 12 => ⟨S1x512, .f32⟩
  | 13 => ⟨S1x1x512, .f32⟩
  | 14 => ⟨S1x8192x512, .f32⟩
  | 15 => ⟨S1x8192x512, .f32⟩
  | 16 => ⟨S_, .f32⟩
  | 17 => ⟨S512, .f32⟩
  | 18 => ⟨S1x8192x512, .f32⟩
  | 19 => ⟨S_, .f32⟩
  | 20 => ⟨S1x8192, .f32⟩
  | 21 => ⟨S1x8192x1, .f32⟩
  | 22 => ⟨S1x8192x512, .f32⟩
  | 23 => ⟨S1x8192x512, .f32⟩
  | 24 => ⟨S1x8192x1, .f32⟩
  | 25 => ⟨S1x8192x512, .f32⟩
  | 26 => ⟨S_, .f32⟩
  | 27 => ⟨S1x8192, .f32⟩
  | 28 => ⟨S1x8192x1, .f32⟩
  | 29 => ⟨S_, .f32⟩
  | 30 => ⟨S1x8192x1, .f32⟩
  | 31 => ⟨S1x8192x1, .f32⟩
  | 32 => ⟨S_, .f32⟩
  | 33 => ⟨S8192, .f32⟩
  | 34 => ⟨S1x8192, .f32⟩
  | 35 => ⟨S1x8192x512, .f32⟩
  | 36 => ⟨S1x8192x512, .f32⟩
  | 37 => ⟨S1x8192x512, .f32⟩
  | 38 => ⟨S_, .f32⟩
  | 39 => ⟨S1x8192, .f32⟩
  | 40 => ⟨S1x8192x1, .f32⟩
  | 41 => ⟨S1x8192x512, .f32⟩
  | 42 => ⟨S1x8192x1, .f32⟩
  | 43 => ⟨S_, .f32⟩
  | 44 => ⟨S1x8192x1, .f32⟩
  | 45 => ⟨S1x8192x1, .f32⟩
  | 46 => ⟨S_, .f32⟩
  | 47 => ⟨S8192, .f32⟩
  | 48 => ⟨S1x8192, .f32⟩
  | 49 => ⟨S1x8192x512, .f32⟩
  | 50 => ⟨S1x8192x512, .f32⟩
  | 51 => ⟨S1x8192x512, .f32⟩
  | 52 => ⟨S1x8192x512, .f32⟩
  | 53 => ⟨S_, .f32⟩
  | 54 => ⟨S1x8192x512, .f32⟩
  | 55 => ⟨S1x8192x512, .f32⟩
  | 56 => ⟨S1x8192x512, .f32⟩
  | 57 => ⟨S1x8192x512, .f32⟩
  | 58 => ⟨S1x8192x512, .f32⟩
  | 59 => ⟨S1x8192x512, .f32⟩
  | 60 => ⟨S_, .f32⟩
  | 61 => ⟨S1x8192x512, .f32⟩
  | 62 => ⟨S1x8192x512, .f32⟩
  | 63 => ⟨S1x8192x512, .f32⟩
  | 64 => ⟨S1x8192x512, .f32⟩
  | 65 => ⟨S1x8192x512, .f32⟩
  | 66 => ⟨S_, .f32⟩
  | 67 => ⟨S1x8192x512, .f32⟩
  | 68 => ⟨S1x8192x512, .f32⟩
  | 69 => ⟨S1x8192x512, .f32⟩
  | 70 => ⟨S1x8192x512, .f32⟩
  | 71 => ⟨S1x8192x512, .f32⟩
  | 72 => ⟨S1x8192x512, .f32⟩
  | 73 => ⟨S_, .f32⟩
  | 74 => ⟨S1x8192x512, .f32⟩
  | 75 => ⟨S1x8192x512, .f32⟩
  | 76 => ⟨S1x8192x512, .f32⟩
  | 77 => ⟨S_, .f32⟩
  | 78 => ⟨S8192x2048, .f32⟩
  | 79 => ⟨S8192x512, .f32⟩
  | 80 => ⟨S8192x512, .f32⟩
  | 81 => ⟨S8192x3072, .f32⟩
  | 82 => ⟨S8192x3072, .bf16⟩
  | 83 => ⟨S512x128, .f32⟩
  | 84 => ⟨S_, .f32⟩
  | 85 => ⟨S4x128, .f32⟩
  | 86 => ⟨S8x128, .f32⟩
  | 87 => ⟨S1x512, .f32⟩
  | 88 => ⟨S1x512, .f32⟩
  | 89 => ⟨S_, .f32⟩
  | 90 => ⟨S6x512, .f32⟩
  | 91 => ⟨S8x512, .f32⟩
  | _ => ⟨S1x8192x3072, .f32⟩

abbrev hbmTy (i : Nat) : BufTy := match i / 128 with
  | 0 => hbmTy0_0 i
  | 1 => hbmTy0_1 i
  | _ => ⟨S1x8192x3072, .f32⟩

abbrev bufTy : (tb : Table) → Fin (tcTables nBuf tb) → BufTy
  | .hbm, ⟨i, _⟩ => hbmTy i
  | _, _ => ⟨S1x8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_c : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_call0_c_0 : Ref sig .tc := ⟨.hbm, 90, rfl⟩
abbrev main_call0_v12 : Ref sig .tc := ⟨.hbm, 91, rfl⟩
abbrev main_call0_v13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_10 : Ref sig .tc := ⟨.hbm, 100, rfl⟩
abbrev main_call1_v0 : Ref sig .tc := ⟨.hbm, 101, rfl⟩
abbrev main_v66_1 : Ref sig .tc := ⟨.hbm, 102, rfl⟩
abbrev main_call1_v2 : Ref sig .tc := ⟨.hbm, 103, rfl⟩
abbrev main_v66_0 : Ref sig .tc := ⟨.hbm, 104, rfl⟩
abbrev main_call1_cst : Ref sig .tc := ⟨.hbm, 105, rfl⟩
abbrev main_v66_2 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_11 : Ref sig .tc := ⟨.hbm, 119, rfl⟩
abbrev main_v79 : Ref sig .tc := ⟨.hbm, 120, rfl⟩
abbrev main_v80 : Ref sig .tc := ⟨.hbm, 121, rfl⟩
abbrev main_cst_12 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call2_cst : Ref sig .tc := ⟨.hbm, 129, rfl⟩
abbrev main_call2_v0 : Ref sig .tc := ⟨.hbm, 130, rfl⟩
abbrev main_v87 : Ref sig .tc := ⟨.hbm, 131, rfl⟩
abbrev main_v88 : Ref sig .tc := ⟨.hbm, 132, rfl⟩
abbrev main_cst_13 : Ref sig .tc := ⟨.hbm, 133, rfl⟩
abbrev main_v89 : Ref sig .tc := ⟨.hbm, 134, rfl⟩
abbrev main_v90 : Ref sig .tc := ⟨.hbm, 135, rfl⟩
abbrev main_cst_14 : Ref sig .tc := ⟨.hbm, 136, rfl⟩
abbrev main_v91 : Ref sig .tc := ⟨.hbm, 137, rfl⟩
abbrev main_v92 : Ref sig .tc := ⟨.hbm, 138, rfl⟩
abbrev main_cst_15 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_16 : Ref sig .tc := ⟨.hbm, 144, rfl⟩
abbrev main_v97 : Ref sig .tc := ⟨.hbm, 145, rfl⟩
abbrev main_v98 : Ref sig .tc := ⟨.hbm, 146, rfl⟩
abbrev main_cst_17 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_18 : Ref sig .tc := ⟨.hbm, 154, rfl⟩
abbrev main_v105 : Ref sig .tc := ⟨.hbm, 155, rfl⟩
abbrev main_v106 : Ref sig .tc := ⟨.hbm, 156, rfl⟩
abbrev main_cst_19 : Ref sig .tc := ⟨.hbm, 157, rfl⟩
abbrev main_v107 : Ref sig .tc := ⟨.hbm, 158, rfl⟩
abbrev main_v108 : Ref sig .tc := ⟨.hbm, 159, rfl⟩
abbrev main_cst_20 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_21 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_22 : Ref sig .tc := ⟨.hbm, 171, rfl⟩
abbrev main_v118 : Ref sig .tc := ⟨.hbm, 172, rfl⟩
abbrev main_v119 : Ref sig .tc := ⟨.hbm, 173, rfl⟩
abbrev main_cst_23 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_24 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_25 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_26 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_27 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_28 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_29 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_30 : Ref sig .tc := ⟨.hbm, 217, rfl⟩
abbrev main_v156 : Ref sig .tc := ⟨.hbm, 218, rfl⟩
abbrev main_v157 : Ref sig .tc := ⟨.hbm, 219, rfl⟩

abbrev nD : Nat := 1
abbrev τ : Topo := Topo.v7x

variable {F : FTy → Type} [FloatOps F]
-- ==== Token.lean ====
abbrev S1x8192x1024 : Shape := ⟨3, ![1, 8192, 1024]⟩
abbrev S1x8192x512 : Shape := ⟨3, ![1, 8192, 512]⟩
abbrev S1x6144 : Shape := ⟨2, ![1, 6144]⟩
abbrev S1x1024 : Shape := ⟨2, ![1, 1024]⟩
abbrev S1024 : Shape := ⟨1, ![1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S128x128 : Shape := ⟨2, ![128, 128]⟩
abbrev S_ : Shape := ⟨0, ![]⟩
abbrev S1x128x128 : Shape := ⟨3, ![1, 128, 128]⟩
abbrev S4x128x128 : Shape := ⟨3, ![4, 128, 128]⟩
abbrev S4x128 : Shape := ⟨2, ![4, 128]⟩
abbrev S128x4 : Shape := ⟨2, ![128, 4]⟩
abbrev S8192x512 : Shape := ⟨2, ![8192, 512]⟩
abbrev S8192x1024 : Shape := ⟨2, ![8192, 1024]⟩
abbrev S1024x1024 : Shape := ⟨2, ![1024, 1024]⟩
abbrev S1024x5632 : Shape := ⟨2, ![1024, 5632]⟩
abbrev S2816x1024 : Shape := ⟨2, ![2816, 1024]⟩
abbrev S8192x3072 : Shape := ⟨2, ![8192, 3072]⟩
abbrev S8192x2816 : Shape := ⟨2, ![8192, 2816]⟩
abbrev S8192x5632 : Shape := ⟨2, ![8192, 5632]⟩
abbrev S8x1024 : Shape := ⟨2, ![8, 1024]⟩
abbrev S256x1024 : Shape := ⟨2, ![256, 1024]⟩
abbrev S256x512 : Shape := ⟨2, ![256, 512]⟩
abbrev S256x2816 : Shape := ⟨2, ![256, 2816]⟩
abbrev S256x5632 : Shape := ⟨2, ![256, 5632]⟩
abbrev S128x512 : Shape := ⟨2, ![128, 512]⟩
abbrev S128 : Shape := ⟨1, ![128]⟩
abbrev S128x1 : Shape := ⟨2, ![128, 1]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 87
  | .vmem => 40
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x1024, .f32⟩
  | .hbm, ⟨3, _⟩ => ⟨S1x6144, .f32⟩
  | .hbm, ⟨4, _⟩ => ⟨S1x1024, .f32⟩
  | .hbm, ⟨5, _⟩ => ⟨S1024, .f32⟩
  | .hbm, ⟨6, _⟩ => ⟨S1x1024x1024, .f32⟩
  | .hbm, ⟨7, _⟩ => ⟨S1x1024x5632, .f32⟩
  | .hbm, ⟨8, _⟩ => ⟨S1x2816x1024, .f32⟩
  | .hbm, ⟨9, _⟩ => ⟨S1x8192x3072, .f32⟩
  | .hbm, ⟨10, _⟩ => ⟨S1x4x128x128, .f32⟩
  | .hbm, ⟨11, _⟩ => ⟨S1x4x128, .f32⟩
  | .hbm, ⟨12, _⟩ => ⟨S1x512, .f32⟩
  | .hbm, ⟨13, _⟩ => ⟨S1x512, .f32⟩
  | .hbm, ⟨14, _⟩ => ⟨S128x128, .i32⟩
  | .hbm, ⟨15, _⟩ => ⟨S_, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S128x128, .i1⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S_, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i1⟩
  | .hbm, ⟨42, _⟩ => ⟨S128x128, .i32⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i1⟩
  | .hbm, ⟨47, _⟩ => ⟨S128x128, .i1⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S1x128x128, .i1⟩
  | .hbm, ⟨54, _⟩ => ⟨S4x128x128, .f32⟩
  | .hbm, ⟨55, _⟩ => ⟨S_, .f32⟩
  | .hbm, ⟨56, _⟩ => ⟨S_, .f32⟩
  | .hbm, ⟨57, _⟩ => ⟨S4x128x128, .i1⟩
  | .hbm, ⟨58, _⟩ => ⟨S4x128x128, .f32⟩
  | .hbm, ⟨59, _⟩ => ⟨S4x128x128, .f32⟩
  | .hbm, ⟨60, _⟩ => ⟨S4x128x128, .bf16⟩
  | .hbm, ⟨61, _⟩ => ⟨S4x128, .f32⟩
  | .hbm, ⟨62, _⟩ => ⟨S128x4, .f32⟩
  | .hbm, ⟨63, _⟩ => ⟨S_, .bf16⟩
  | .hbm, ⟨64, _⟩ => ⟨S8192x512, .bf16⟩
  | .hbm, ⟨65, _⟩ => ⟨S8192x512, .f32⟩
  | .hbm, ⟨66, _⟩ => ⟨S8192x512, .bf16⟩
  | .hbm, ⟨67, _⟩ => ⟨S8192x1024, .bf16⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S1024x1024, .f32⟩
  | .hbm, ⟨72, _⟩ => ⟨S1024x1024, .bf16⟩
  | .hbm, ⟨73, _⟩ => ⟨S1024x5632, .f32⟩
  | .hbm, ⟨74, _⟩ => ⟨S1024x5632, .bf16⟩
  | .hbm, ⟨75, _⟩ => ⟨S2816x1024, .f32⟩
  | .hbm, ⟨76, _⟩ => ⟨S2816x1024, .bf16⟩
  | .hbm, ⟨77, _⟩ => ⟨S8192x3072, .f32⟩
  | .hbm, ⟨78, _⟩ => ⟨S8192x1024, .f32⟩
  | .hbm, ⟨79, _⟩ => ⟨S8192x1024, .f32⟩
  | .hbm, ⟨80, _⟩ => ⟨S8192x1024, .bf16⟩
  | .hbm, ⟨81, _⟩ => ⟨S8192x2816, .bf16⟩
  | .hbm, ⟨82, _⟩ => ⟨S8192x1024, .bf16⟩
  | .hbm, ⟨83, _⟩ => ⟨S8192x5632, .bf16⟩
  | .hbm, ⟨84, _⟩ => ⟨S8192x1024, .bf16⟩
  | .hbm, ⟨85, _⟩ => ⟨S8x1024, .f32⟩
  | .hbm, ⟨86, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x5632, .bf16⟩
  | .local _ .vmem, ⟨14, _⟩ => ⟨S2816x1024, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S4x128x128, .bf16⟩
  | .local _ .vmem, ⟨20, _⟩ => ⟨S128x4, .f32⟩
  | .local _ .vmem, ⟨21, _⟩ => ⟨S1x512, .f32⟩
  | .local _ .vmem, ⟨22, _⟩ => ⟨S1x512, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S256x2816, .bf16⟩
  | .local _ .vmem, ⟨30, _⟩ => ⟨S256x2816, .bf16⟩
  | .local _ .vmem, ⟨31, _⟩ => ⟨S256x1024, .bf16⟩
  | .local _ .vmem, ⟨32, _⟩ => ⟨S256x1024, .bf16⟩
  | .local _ .vmem, ⟨33, _⟩ => ⟨S256x5632, .bf16⟩
  | .local _ .vmem, ⟨34, _⟩ => ⟨S256x5632, .bf16⟩
  | .local _ .vmem, ⟨35, _⟩ => ⟨S256x1024, .bf16⟩
  | .local _ .vmem, ⟨36, _⟩ => ⟨S256x1024, .bf16⟩
  | .local _ .vmem, ⟨37, _⟩ => ⟨S8x1024, .f32⟩
  | .local _ .vmem, ⟨38, _⟩ => ⟨S256x512, .bf16⟩
  | .local _ .vmem, ⟨39, _⟩ => ⟨S256x512, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_1 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25_0 : Ref sig .tc := ⟨.hbm, 78, rfl⟩
abbrev main_v25_1 : Ref sig .tc := ⟨.hbm, 79, rfl⟩
abbrev main_v25_2 : Ref sig .tc := ⟨.hbm, 80, rfl⟩
abbrev main_v25_3 : Ref sig .tc := ⟨.hbm, 81, rfl⟩
abbrev main_v25_4 : Ref sig .tc := ⟨.hbm, 82, rfl⟩
abbrev main_v25_5 : Ref sig .tc := ⟨.hbm, 83, rfl⟩
abbrev main_v25_6 : Ref sig .tc := ⟨.hbm, 84, rfl⟩
abbrev main_v25_7 : Ref sig .tc := ⟨.hbm, 85, rfl⟩
abbrev main_v25_8 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg26_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem26_0 : DmaSem sig := 38
abbrev cc0_sem26_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x5632 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S8x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S256x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== TokenIdeal.lean ====
variable {F : FTy → Type} [FloatOps F] [Named F]
def κ : String → Option EReal := fun
  | "normal" => some (((9465531 / 16777216) * (Real.sqrt 2)⁻¹ : ℝ) : EReal)
  | "sqrt_half" => some (((Real.sqrt 2)⁻¹ : ℝ) : EReal)
  | _ => none
-- ==== TokenRefIdeal.lean ====
abbrev S1x8192x1024 : Shape := ⟨3, ![1, 8192, 1024]⟩
abbrev S1x8192x512 : Shape := ⟨3, ![1, 8192, 512]⟩
abbrev S1x6144 : Shape := ⟨2, ![1, 6144]⟩
abbrev S1x1024 : Shape := ⟨2, ![1, 1024]⟩
abbrev S1024 : Shape := ⟨1, ![1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x8192x3072 : Shape := ⟨3, ![1, 8192, 3072]⟩
abbrev S1x4x128x128 : Shape := ⟨4, ![1, 4, 128, 128]⟩
abbrev S1x4x128 : Shape := ⟨3, ![1, 4, 128]⟩
abbrev S1x512 : Shape := ⟨2, ![1, 512]⟩
abbrev S4x128x128 : Shape := ⟨3, ![4, 128, 128]⟩
abbrev S4x128 : Shape := ⟨2, ![4, 128]⟩
abbrev S512 : Shape := ⟨1, ![512]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x4x128 : Shape := ⟨5, ![1, 64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x64x128x128 : Shape := ⟨5, ![4, 1, 64, 128, 128]⟩
abbrev S128x4 : Shape := ⟨2, ![128, 4]⟩
abbrev S1x1x128x4x1 : Shape := ⟨5, ![1, 1, 128, 4, 1]⟩
abbrev S8192x512 : Shape := ⟨2, ![8192, 512]⟩
abbrev S8192x1024 : Shape := ⟨2, ![8192, 1024]⟩
abbrev S8192x5632 : Shape := ⟨2, ![8192, 5632]⟩
abbrev S1024x1024 : Shape := ⟨2, ![1024, 1024]⟩
abbrev S8192 : Shape := ⟨1, ![8192]⟩
abbrev S8192x1 : Shape := ⟨2, ![8192, 1]⟩
abbrev S1024x5632 : Shape := ⟨2, ![1024, 5632]⟩
abbrev S8192x2816 : Shape := ⟨2, ![8192, 2816]⟩
abbrev S2816x1024 : Shape := ⟨2, ![2816, 1024]⟩
abbrev S8x1024 : Shape := ⟨2, ![8, 1024]⟩

abbrev nBuf : Space → Nat
  | .hbm => 352
  | .vmem => 0
  | .smem => 0
  | _ => 0

abbrev hbmTy0_0 (i : Nat) : BufTy := match i % 128 with
  | 0 => ⟨S1x8192x1024, .f32⟩
  | 1 => ⟨S1x8192x512, .f32⟩
  | 2 => ⟨S1x8192x1024, .f32⟩
  | 3 => ⟨S1x6144, .f32⟩
  | 4 => ⟨S1x1024, .f32⟩
  | 5 => ⟨S1024, .f32⟩
  | 6 => ⟨S1x1024x1024, .f32⟩
  | 7 => ⟨S1x1024x5632, .f32⟩
  | 8 => ⟨S1x2816x1024, .f32⟩
  | 9 => ⟨S1x8192x3072, .f32⟩
  | 10 => ⟨S1x4x128x128, .f32⟩
  | 11 => ⟨S1x4x128, .f32⟩
  | 12 => ⟨S1x512, .f32⟩
  | 13 => ⟨S1x512, .f32⟩
  | 14 => ⟨S1x8192x512, .f32⟩
  | 15 => ⟨S1x8192x512, .f32⟩
  | 16 => ⟨S4x128x128, .f32⟩
  | 17 => ⟨S4x128, .f32⟩
  | 18 => ⟨S512, .f32⟩
  | 19 => ⟨S512, .f32⟩
  | 20 => ⟨S_, .f32⟩
  | 21 => ⟨S1x8192x512, .f32⟩
  | 22 => ⟨S1x8192x512, .f32⟩
  | 23 => ⟨S1x8192x512, .f32⟩
  | 24 => ⟨S_, .f32⟩
  | 25 => ⟨S_, .f32⟩
  | 26 => ⟨S1x8192x512, .f32⟩
  | 27 => ⟨S1x8192x512, .f32⟩
  | 28 => ⟨S1x8192x512, .f32⟩
  | 29 => ⟨S1x8192x512, .f32⟩
  | 30 => ⟨S_, .f32⟩
  | 31 => ⟨S1x8192x512, .f32⟩
  | 32 => ⟨S1x8192x512, .f32⟩
  | 33 => ⟨S1x8192x512, .f32⟩
  | 34 => ⟨S_, .f32⟩
  | 35 => ⟨S_, .f32⟩
  | 36 => ⟨S1x8192x512, .f32⟩
  | 37 => ⟨S1x8192x512, .f32⟩
  | 38 => ⟨S1x8192x512, .f32⟩
  | 39 => ⟨S1x8192x512, .f32⟩
  | 40 => ⟨S_, .f32⟩
  | 41 => ⟨S1x8192, .f32⟩
  | 42 => ⟨S1x8192x1, .f32⟩
  | 43 => ⟨S_, .f32⟩
  | 44 => ⟨S1x8192x1, .f32⟩
  | 45 => ⟨S1x8192x1, .f32⟩
  | 46 => ⟨S1x8192x512, .f32⟩
  | 47 => ⟨S1x8192x512, .f32⟩
  | 48 => ⟨S1x8192x512, .f32⟩
  | 49 => ⟨S_, .f32⟩
  | 50 => ⟨S1x8192, .f32⟩
  | 51 => ⟨S1x8192x1, .f32⟩
  | 52 => ⟨S_, .f32⟩
  | 53 => ⟨S1x8192x1, .f32⟩
  | 54 => ⟨S1x8192x1, .f32⟩
  | 55 => ⟨S1x8192x512, .f32⟩
  | 56 => ⟨S1x8192x512, .f32⟩
  | 57 => ⟨S_, .f32⟩
  | 58 => ⟨S1x8192x1, .f32⟩
  | 59 => ⟨S1x8192x1, .f32⟩
  | 60 => ⟨S1x8192x1, .f32⟩
  | 61 => ⟨S1x8192x512, .f32⟩
  | 62 => ⟨S1x8192x512, .f32⟩
  | 63 => ⟨S1x1x512, .f32⟩
  | 64 => ⟨S1x8192x512, .f32⟩
  | 65 => ⟨S1x8192x512, .f32⟩
  | 66 => ⟨S1x1x512, .f32⟩
  | 67 => ⟨S1x8192x512, .f32⟩
  | 68 => ⟨S1x8192x512, .f32⟩
  | 69 => ⟨S1x64x128x4x128, .f32⟩
  | 70 => ⟨S128, .i32⟩
  | 71 => ⟨S_, .i32⟩
  | 72 => ⟨S_, .i32⟩
  | 73 => ⟨S128, .i32⟩
  | 74 => ⟨S128, .i32⟩
  | 75 => ⟨S128, .i32⟩
  | 76 => ⟨S_, .i32⟩
  | 77 => ⟨S128, .i32⟩
  | 78 => ⟨S128, .i1⟩
  | 79 => ⟨S128, .i32⟩
  | 80 => ⟨S128, .i32⟩
  | 81 => ⟨S_, .i32⟩
  | 82 => ⟨S128, .i32⟩
  | 83 => ⟨S128, .i1⟩
  | 84 => ⟨S128, .i1⟩
  | 85 => ⟨S_, .i32⟩
  | 86 => ⟨S128, .i32⟩
  | 87 => ⟨S128, .i32⟩
  | 88 => ⟨S128, .i32⟩
  | 89 => ⟨S128x1, .i32⟩
  | 90 => ⟨S1x128, .i32⟩
  | 91 => ⟨S128x128, .i32⟩
  | 92 => ⟨S128x128, .i32⟩
  | 93 => ⟨S128x128, .i1⟩
  | 94 => ⟨S1x128x128, .i1⟩
  | 95 => ⟨S_, .i32⟩
  | 96 => ⟨S_, .f32⟩
  | 97 => ⟨S4x128x128, .i1⟩
  | 98 => ⟨S4x128x128, .f32⟩
  | 99 => ⟨S4x128x128, .f32⟩
  | 100 => ⟨S4x1x64x128x128, .f32⟩
  | 101 => ⟨S1x64x128x4x128, .f32⟩
  | 102 => ⟨S128x4, .f32⟩
  | 103 => ⟨S1x1x128x4x1, .f32⟩
  | 104 => ⟨S1x64x128x4x128, .f32⟩
  | 105 => ⟨S1x64x128x4x128, .f32⟩
  | 106 => ⟨S1x8192x512, .f32⟩
  | 107 => ⟨S1x8192x512, .f32⟩
  | 108 => ⟨S8192x512, .f32⟩
  | 109 => ⟨S8192x512, .f32⟩
  | 110 => ⟨S8192x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S8192x1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S_, .f32⟩
  | 124 => ⟨S8192x1024, .f32⟩
  | 125 => ⟨S_, .f32⟩
  | 126 => ⟨S8192x5632, .f32⟩
  | 127 => ⟨S_, .f32⟩
  | _ => ⟨S1x8192x1024, .f32⟩

abbrev hbmTy0_1 (i : Nat) : BufTy := match i % 128 with
  | 0 => ⟨S8192x1024, .f32⟩
  | 1 => ⟨S1024x1024, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S1024x5632, .f32⟩
  | 38 => ⟨S8192x5632, .f32⟩
  | 39 => ⟨S8192x5632, .f32⟩
  | 40 => ⟨S8192x2816, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S2816x1024, .f32⟩
  | 57 => ⟨S8192x1024, .f32⟩
  | 58 => ⟨S8192x1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S1024, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S_, .f32⟩
  | 98 => ⟨S1024, .f32⟩
  | 99 => ⟨S_, .f32⟩
  | 100 => ⟨S8192x1024, .f32⟩
  | 101 => ⟨S_, .f32⟩
  | 102 => ⟨S8192x2816, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S8192x1024, .f32⟩
  | 110 => ⟨S8192x1024, .f32⟩
  | 111 => ⟨S8192x1024, .f32⟩
  | 112 => ⟨S_, .f32⟩
  | 113 => ⟨S1024, .f32⟩
  | 114 => ⟨S1x1024, .f32⟩
  | 115 => ⟨S8192x1024, .f32⟩
  | 116 => ⟨S8192x1024, .f32⟩
  | 117 => ⟨S_, .f32⟩
  | 118 => ⟨S1024, .f32⟩
  | 119 => ⟨S8192x1024, .f32⟩
  | 120 => ⟨S_, .f32⟩
  | 121 => ⟨S8192, .f32⟩
  | 122 => ⟨S8192x1, .f32⟩
  | 123 => ⟨S8192x1024, .f32⟩
  | 124 => ⟨S8192x1024, .f32⟩
  | 125 => ⟨S8192x1, .f32⟩
  | 126 => ⟨S_, .f32⟩
  | 127 => ⟨S8192x1, .f32⟩
  | _ => ⟨S1x8192x1024, .f32⟩

abbrev hbmTy0_2 (i : Nat) : BufTy := match i % 128 with
  | 0 => ⟨S8192x1, .f32⟩
  | 1 => ⟨S_, .f32⟩
  | 2 => ⟨S8192, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S8192x2816, .f32⟩
  | 17 => ⟨S8192x2816, .f32⟩
  | 18 => ⟨S8192x2816, .f32⟩
  | 19 => ⟨S8192x2816, .f32⟩
  | 20 => ⟨S_, .f32⟩
  | 21 => ⟨S8192x5632, .f32⟩
  | 22 => ⟨S8192x2816, .f32⟩
  | 23 => ⟨S8192x2816, .f32⟩
  | 24 => ⟨S8192x2816, .f32⟩
  | 25 => ⟨S8192x2816, .f32⟩
  | 26 => ⟨S_, .f32⟩
  | 27 => ⟨S8192x5632, .f32⟩
  | 28 => ⟨S8192x5632, .f32⟩
  | 29 => ⟨S8192x1024, .f32⟩
  | 30 => ⟨S8192x1024, .f32⟩
  | 31 => ⟨S_, .f32⟩
  | 32 => ⟨S1024, .f32⟩
  | 33 => ⟨S1x1024, .f32⟩
  | 34 => ⟨S_, .f32⟩
  | 35 => ⟨S1024, .f32⟩
  | 36 => ⟨S8192x1024, .f32⟩
  | 37 => ⟨S_, .f32⟩
  | 38 => ⟨S1024, .f32⟩
  | 39 => ⟨S1x1024, .f32⟩
  | 40 => ⟨S8192x1024, .f32⟩
  | 41 => ⟨S8192x1024, .f32⟩
  | 42 => ⟨S_, .f32⟩
  | 43 => ⟨S1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S_, .f32⟩
  | 51 => ⟨S1024, .f32⟩
  | 52 => ⟨S8192x1024, .f32⟩
  | 53 => ⟨S_, .f32⟩
  | 54 => ⟨S8192, .f32⟩
  | 55 => ⟨S8192x1, .f32⟩
  | 56 => ⟨S8192x1024, .f32⟩
  | 57 => ⟨S8192x1024, .f32⟩
  | 58 => ⟨S8192x1024, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S8192x1024, .f32⟩
  | 79 => ⟨S_, .f32⟩
  | 80 => ⟨S1024, .f32⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S8x1024, .f32⟩
  | 90 => ⟨S8192x1024, .bf16⟩
  | 91 => ⟨S8192x2816, .bf16⟩
  | 92 => ⟨S8192x1024, .bf16⟩
  | 93 => ⟨S8192x5632, .bf16⟩
  | 94 => ⟨S8192x1024, .bf16⟩
  | 95 => ⟨S8192x1024, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_8 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_9 : Ref sig .tc := ⟨.hbm, 123, rfl⟩
abbrev main_v79 : Ref sig .tc := ⟨.hbm, 124, rfl⟩
abbrev main_cst_10 : Ref sig .tc := ⟨.hbm, 125, rfl⟩
abbrev main_v80 : Ref sig .tc := ⟨.hbm, 126, rfl⟩
abbrev main_cst_11 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_12 : Ref sig .tc := ⟨.hbm, 137, rfl⟩
abbrev main_v90 : Ref sig .tc := ⟨.hbm, 138, rfl⟩
abbrev main_v91 : Ref sig .tc := ⟨.hbm, 139, rfl⟩
abbrev main_cst_13 : Ref sig .tc := ⟨.hbm, 140, rfl⟩
abbrev main_v92 : Ref sig .tc := ⟨.hbm, 141, rfl⟩
abbrev main_v93 : Ref sig .tc := ⟨.hbm, 142, rfl⟩
abbrev main_cst_14 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_15 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_16 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_17 : Ref sig .tc := ⟨.hbm, 171, rfl⟩
abbrev main_v119 : Ref sig .tc := ⟨.hbm, 172, rfl⟩
abbrev main_v120 : Ref sig .tc := ⟨.hbm, 173, rfl⟩
abbrev main_cst_18 : Ref sig .tc := ⟨.hbm, 174, rfl⟩
abbrev main_v121 : Ref sig .tc := ⟨.hbm, 175, rfl⟩
abbrev main_v122 : Ref sig .tc := ⟨.hbm, 176, rfl⟩
abbrev main_cst_19 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_cst_20 : Ref sig .tc := ⟨.hbm, 192, rfl⟩
abbrev main_v137 : Ref sig .tc := ⟨.hbm, 193, rfl⟩
abbrev main_v138 : Ref sig .tc := ⟨.hbm, 194, rfl⟩
abbrev main_cst_21 : Ref sig .tc := ⟨.hbm, 195, rfl⟩
abbrev main_v139 : Ref sig .tc := ⟨.hbm, 196, rfl⟩
abbrev main_v140 : Ref sig .tc := ⟨.hbm, 197, rfl⟩
abbrev main_cst_22 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_23 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_24 : Ref sig .tc := ⟨.hbm, 214, rfl⟩
abbrev main_v155 : Ref sig .tc := ⟨.hbm, 215, rfl⟩
abbrev main_v156 : Ref sig .tc := ⟨.hbm, 216, rfl⟩
abbrev main_cst_25 : Ref sig .tc := ⟨.hbm, 217, rfl⟩
abbrev main_v157 : Ref sig .tc := ⟨.hbm, 218, rfl⟩
abbrev main_cst_26 : Ref sig .tc := ⟨.hbm, 219, rfl⟩
abbrev main_v158 : Ref sig .tc := ⟨.hbm, 220, rfl⟩
abbrev main_v159 : Ref sig .tc := ⟨.hbm, 221, rfl⟩
abbrev main_cst_27 : Ref sig .tc := ⟨.hbm, 222, rfl⟩
abbrev main_v160 : Ref sig .tc := ⟨.hbm, 223, rfl⟩
abbrev main_v161 : Ref sig .tc := ⟨.hbm, 224, rfl⟩
abbrev main_cst_28 : Ref sig .tc := ⟨.hbm, 225, rfl⟩
abbrev main_v162 : Ref sig .tc := ⟨.hbm, 226, rfl⟩
abbrev main_cst_29 : Ref sig .tc := ⟨.hbm, 227, rfl⟩
abbrev main_v163 : Ref sig .tc := ⟨.hbm, 228, rfl⟩
abbrev main_cst_30 : Ref sig .tc := ⟨.hbm, 229, rfl⟩
abbrev main_v164 : Ref sig .tc := ⟨.hbm, 230, rfl⟩
abbrev main_cst_31 : Ref sig .tc := ⟨.hbm, 231, rfl⟩
abbrev main_v165 : Ref sig .tc := ⟨.hbm, 232, rfl⟩
abbrev main_v166 : Ref sig .tc := ⟨.hbm, 233, rfl⟩
abbrev main_cst_32 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_cst_33 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_cst_34 : Ref sig .tc := ⟨.hbm, 245, rfl⟩
abbrev main_v176 : Ref sig .tc := ⟨.hbm, 246, rfl⟩
abbrev main_v177 : Ref sig .tc := ⟨.hbm, 247, rfl⟩
abbrev main_cst_35 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_cst_36 : Ref sig .tc := ⟨.hbm, 254, rfl⟩
abbrev main_v183 : Ref sig .tc := ⟨.hbm, 255, rfl⟩
abbrev main_v184 : Ref sig .tc := ⟨.hbm, 256, rfl⟩
abbrev main_cst_37 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_cst_38 : Ref sig .tc := ⟨.hbm, 267, rfl⟩
abbrev main_v194 : Ref sig .tc := ⟨.hbm, 268, rfl⟩
abbrev main_v195 : Ref sig .tc := ⟨.hbm, 269, rfl⟩
abbrev main_cst_39 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_40 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_cst_41 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_cst_42 : Ref sig .tc := ⟨.hbm, 287, rfl⟩
abbrev main_v210 : Ref sig .tc := ⟨.hbm, 288, rfl⟩
abbrev main_v211 : Ref sig .tc := ⟨.hbm, 289, rfl⟩
abbrev main_cst_43 : Ref sig .tc := ⟨.hbm, 290, rfl⟩
abbrev main_v212 : Ref sig .tc := ⟨.hbm, 291, rfl⟩
abbrev main_v213 : Ref sig .tc := ⟨.hbm, 292, rfl⟩
abbrev main_cst_44 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_cst_45 : Ref sig .tc := ⟨.hbm, 298, rfl⟩
abbrev main_v218 : Ref sig .tc := ⟨.hbm, 299, rfl⟩
abbrev main_v219 : Ref sig .tc := ⟨.hbm, 300, rfl⟩
abbrev main_cst_46 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_cst_47 : Ref sig .tc := ⟨.hbm, 306, rfl⟩
abbrev main_v224 : Ref sig .tc := ⟨.hbm, 307, rfl⟩
abbrev main_v225 : Ref sig .tc := ⟨.hbm, 308, rfl⟩
abbrev main_cst_48 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_cst_49 : Ref sig .tc := ⟨.hbm, 316, rfl⟩
abbrev main_v232 : Ref sig .tc := ⟨.hbm, 317, rfl⟩
abbrev main_v233 : Ref sig .tc := ⟨.hbm, 318, rfl⟩
abbrev main_cst_50 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_cst_51 : Ref sig .tc := ⟨.hbm, 329, rfl⟩
abbrev main_v243 : Ref sig .tc := ⟨.hbm, 330, rfl⟩
abbrev main_v244 : Ref sig .tc := ⟨.hbm, 331, rfl⟩
abbrev main_cst_52 : Ref sig .tc := ⟨.hbm, 332, rfl⟩
abbrev main_v245 : Ref sig .tc := ⟨.hbm, 333, rfl⟩
abbrev main_v246 : Ref sig .tc := ⟨.hbm, 334, rfl⟩
abbrev main_cst_53 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩

abbrev nD : Nat := 1
abbrev τ : Topo := Topo.v7x

variable {F : FTy → Type} [FloatOps F]
-- ==== Wgrad.lean ====
abbrev S1x8192x1024 : Shape := ⟨3, ![1, 8192, 1024]⟩
abbrev S1x8192x5632 : Shape := ⟨3, ![1, 8192, 5632]⟩
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S8192x1024, .f32⟩
  | .hbm, ⟨3, _⟩ => ⟨S8192x1024, .bf16⟩
  | .hbm, ⟨4, _⟩ => ⟨S8192x5632, .f32⟩
  | .hbm, ⟨5, _⟩ => ⟨S8192x5632, .bf16⟩
  | .hbm, ⟨6, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S1x8192x1024 : Shape := ⟨3, ![1, 8192, 1024]⟩
abbrev S1x8192x5632 : Shape := ⟨3, ![1, 8192, 5632]⟩
abbrev S_ : Shape := ⟨0, ![]⟩
abbrev S1024x5632 : Shape := ⟨2, ![1024, 5632]⟩
abbrev S8192x1024 : Shape := ⟨2, ![8192, 1024]⟩
abbrev S8192x5632 : Shape := ⟨2, ![8192, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x5632, .f32⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Hgrn.lean ====
abbrev S1x8192x3072 : Shape := ⟨3, ![1, 8192, 3072]⟩
abbrev S8192x512 : Shape := ⟨2, ![8192, 512]⟩
abbrev S128x4x64x64 : Shape := ⟨4, ![128, 4, 64, 64]⟩
abbrev S128x4x128x128 : Shape := ⟨4, ![128, 4, 128, 128]⟩
abbrev S2x512 : Shape := ⟨2, ![2, 512]⟩
abbrev S1x128 : Shape := ⟨2, ![1, 128]⟩
abbrev S1x8192x1024 : Shape := ⟨3, ![1, 8192, 1024]⟩
abbrev S8192x3072 : Shape := ⟨2, ![8192, 3072]⟩
abbrev S512x64 : Shape := ⟨2, ![512, 64]⟩
abbrev S64x512 : Shape := ⟨2, ![64, 512]⟩
abbrev S6x64x64 : Shape := ⟨3, ![6, 64, 64]⟩
abbrev S8192x1024 : Shape := ⟨2, ![8192, 1024]⟩
abbrev S8x512 : Shape := ⟨2, ![8, 512]⟩
abbrev S8x128 : Shape := ⟨2, ![8, 128]⟩
abbrev S512x512 : Shape := ⟨2, ![512, 512]⟩
abbrev S8x4x64x64 : Shape := ⟨4, ![8, 4, 64, 64]⟩
abbrev S8x4x128x128 : Shape := ⟨4, ![8, 4, 128, 128]⟩
abbrev S512x2048 : Shape := ⟨2, ![512, 2048]⟩
abbrev S4x128x128 : Shape := ⟨3, ![4, 128, 128]⟩
abbrev S8x512x512 : Shape := ⟨3, ![8, 512, 512]⟩
abbrev S1x512 : Shape := ⟨2, ![1, 512]⟩
abbrev S64x1 : Shape := ⟨2, ![64, 1]⟩
abbrev S64x64 : Shape := ⟨2, ![64, 64]⟩
abbrev S1x64x512 : Shape := ⟨3, ![1, 64, 512]⟩
abbrev S1x1x512 : Shape := ⟨3, ![1, 1, 512]⟩
abbrev S2x32x512 : Shape := ⟨3, ![2, 32, 512]⟩
abbrev S2x1x512 : Shape := ⟨3, ![2, 1, 512]⟩
abbrev S4x16x512 : Shape := ⟨3, ![4, 16, 512]⟩
abbrev S4x1x512 : Shape := ⟨3, ![4, 1, 512]⟩
abbrev S8x8x512 : Shape := ⟨3, ![8, 8, 512]⟩
abbrev S8x1x512 : Shape := ⟨3, ![8, 1, 512]⟩
abbrev S64x128 : Shape := ⟨2, ![64, 128]⟩
abbrev S64 : Shape := ⟨1, ![64]⟩
abbrev S128 : Shape := ⟨1, ![128]⟩
abbrev S1x1x128x128 : Shape := ⟨4, ![1, 1, 128, 128]⟩
abbrev S128x128 : Shape := ⟨2, ![128, 128]⟩
abbrev S1x64x64 : Shape := ⟨3, ![1, 64, 64]⟩
abbrev S1x64x128 : Shape := ⟨3, ![1, 64, 128]⟩
abbrev S1x1x64x64 : Shape := ⟨4, ![1, 1, 64, 64]⟩
abbrev S1x128x128 : Shape := ⟨3, ![1, 128, 128]⟩
abbrev S1x512x512 : Shape := ⟨3, ![1, 512, 512]⟩
abbrev S512 : Shape := ⟨1, ![512]⟩

abbrev nBuf : Space → Nat
  | .hbm => 16
  | .vmem => 27
  | .smem => 0
  | _ => 0

abbrev bufTy : (tb : Table) → Fin (tcTables nBuf tb) → BufTy
  | .hbm, ⟨0, _⟩ => ⟨S1x8192x3072, .f32⟩
  | .hbm, ⟨1, _⟩ => ⟨S8192x512, .f32⟩
  | .hbm, ⟨2, _⟩ => ⟨S128x4x64x64, .f32⟩
  | .hbm, ⟨3, _⟩ => ⟨S128x4x128x128, .f32⟩
  | .hbm, ⟨4, _⟩ => ⟨S2x512, .f32⟩
  | .hbm, ⟨5, _⟩ => ⟨S1x128, .f32⟩
  | .hbm, ⟨6, _⟩ => ⟨S1x8192x1024, .f32⟩
  | .hbm, ⟨7, _⟩ => ⟨S8192x3072, .bf16⟩
  | .hbm, ⟨8, _⟩ => ⟨S512x64, .bf16⟩
  | .hbm, ⟨9, _⟩ => ⟨S64x512, .bf16⟩
  | .hbm, ⟨10, _⟩ => ⟨S6x64x64, .f32⟩
  | .hbm, ⟨11, _⟩ => ⟨S8192x3072, .f32⟩
  | .hbm, ⟨12, _⟩ => ⟨S8192x1024, .f32⟩
  | .hbm, ⟨13, _⟩ => ⟨S8192x3072, .bf16⟩
  | .hbm, ⟨14, _⟩ => ⟨S8x512, .f32⟩
  | .hbm, ⟨15, _⟩ => ⟨S8x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x4x64x64, .f32⟩
  | .local _ .vmem, ⟨11, _⟩ => ⟨S8x4x64x64, .f32⟩
  | .local _ .vmem, ⟨12, _⟩ => ⟨S8x4x128x128, .f32⟩
  | .local _ .vmem, ⟨13, _⟩ => ⟨S8x4x128x128, .f32⟩
  | .local _ .vmem, ⟨14, _⟩ => ⟨S512x512, .f32⟩
  | .local _ .vmem, ⟨15, _⟩ => ⟨S512x512, .f32⟩
  | .local _ .vmem, ⟨16, _⟩ => ⟨S2x512, .f32⟩
  | .local _ .vmem, ⟨17, _⟩ => ⟨S1x128, .f32⟩
  | .local _ .vmem, ⟨18, _⟩ => ⟨S512x64, .bf16⟩
  | .local _ .vmem, ⟨19, _⟩ => ⟨S64x512, .bf16⟩
  | .local _ .vmem, ⟨20, _⟩ => ⟨S6x64x64, .f32⟩
  | .local _ .vmem, ⟨21, _⟩ => ⟨S512x2048, .bf16⟩
  | .local _ .vmem, ⟨22, _⟩ => ⟨S512x2048, .bf16⟩
  | .local _ .vmem, ⟨23, _⟩ => ⟨S8x512, .f32⟩
  | .local _ .vmem, ⟨24, _⟩ => ⟨S8x128, .f32⟩
  | .local _ .vmem, ⟨25, _⟩ => ⟨S4x128x128, .f32⟩
  | .local _ .vmem, ⟨26, _⟩ => ⟨S8x512x512, .f32⟩
  | _, _ => ⟨S1x8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Adam.lean ====
abbrev S1x1024x1408 : Shape := ⟨3, ![1, 1024, 1408]⟩
abbrev S512x1408 : Shape := ⟨2, ![512, 1408]⟩
abbrev S1 : Shape := ⟨1, ![1]⟩
abbrev S1024x1408 : Shape := ⟨2, ![1024, 1408]⟩
abbrev S256x1408 : Shape := ⟨2, ![256, 1408]⟩

abbrev nBuf : Space → Nat
  | .hbm => 12
  | .vmem => 18
  | .smem => 1
  | _ => 0

abbrev bufTy : (tb : Table) → Fin (tcTables nBuf tb) → BufTy
  | .hbm, ⟨0, _⟩ => ⟨S1x1024x1408, .f32⟩
  | .hbm, ⟨1, _⟩ => ⟨S512x1408, .f32⟩
  | .hbm, ⟨2, _⟩ => ⟨S512x1408, .f32⟩
  | .hbm, ⟨3, _⟩ => ⟨S1x1024x1408, .f32⟩
  | .hbm, ⟨4, _⟩ => ⟨S1x1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S1, .i32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRefIdeal.lean ====
abbrev S1x1024x1408 : Shape := ⟨3, ![1, 1024, 1408]⟩
abbrev S512x1408 : Shape := ⟨2, ![512, 1408]⟩
abbrev S1 : Shape := ⟨1, ![1]⟩
abbrev S_ : Shape := ⟨0, ![]⟩
abbrev S1024x1408 : Shape := ⟨2, ![1024, 1408]⟩

abbrev nBuf : Space → Nat
  | .hbm => 51
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S512x1408, .f32⟩
  | .hbm, ⟨2, _⟩ => ⟨S512x1408, .f32⟩
  | .hbm, ⟨3, _⟩ => ⟨S1x1024x1408, .f32⟩
  | .hbm, ⟨4, _⟩ => ⟨S1x1024x1408, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1408, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | .hbm, ⟨39, _⟩ => ⟨S1024x1408, .f32⟩
  | .hbm, ⟨40, _⟩ => ⟨S_, .f32⟩
  | .hbm, ⟨41, _⟩ => ⟨S1024x1408, .f32⟩
  | .hbm, ⟨42, _⟩ => ⟨S1024x1408, .f32⟩
  | .hbm, ⟨43, _⟩ => ⟨S1024x1408, .f32⟩
  | .hbm, ⟨44, _⟩ => ⟨S_, .f32⟩
  | .hbm, ⟨45, _⟩ => ⟨S1024x1408, .f32⟩
  | .hbm, ⟨46, _⟩ => ⟨S1024x1408, .f32⟩
  | .hbm, ⟨47, _⟩ => ⟨S1024x1408, .f32⟩
  | .hbm, ⟨48, _⟩ => ⟨S_, .f32⟩
  | .hbm, ⟨49, _⟩ => ⟨S1024x1408, .f32⟩
  | .hbm, ⟨50, _⟩ => ⟨S1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proj.lean ====
abbrev S1x8192x1024 : Shape := ⟨3, ![1, 8192, 1024]⟩
abbrev S1x1024 : Shape := ⟨2, ![1, 1024]⟩
abbrev S1x6144 : Shape := ⟨2, ![1, 6144]⟩
abbrev S1x1024x3072 : Shape := ⟨3, ![1, 1024, 3072]⟩
abbrev S2x512 : Shape := ⟨2, ![2, 512]⟩
abbrev S1x128 : Shape := ⟨2, ![1, 128]⟩
abbrev S512x64 : Shape := ⟨2, ![512, 64]⟩
abbrev S6x64x64 : Shape := ⟨3, ![6, 64, 64]⟩
abbrev S8192x1024 : Shape := ⟨2, ![8192, 1024]⟩
abbrev S1024x3072 : Shape := ⟨2, ![1024, 3072]⟩
abbrev S8192x3072 : Shape := ⟨2, ![8192, 3072]⟩
abbrev S8192x512 : Shape := ⟨2, ![8192, 512]⟩
abbrev S128x4x64x64 : Shape := ⟨4, ![128, 4, 64, 64]⟩
abbrev S128x4x128x128 : Shape := ⟨4, ![128, 4, 128, 128]⟩
abbrev S512x1024 : Shape := ⟨2, ![512, 1024]⟩
abbrev S512x3072 : Shape := ⟨2, ![512, 3072]⟩
abbrev S512x512 : Shape := ⟨2, ![512, 512]⟩
abbrev S8x4x64x64 : Shape := ⟨4, ![8, 4, 64, 64]⟩
abbrev S8x4x128x128 : Shape := ⟨4, ![8, 4, 128, 128]⟩
abbrev S4x128x128 : Shape := ⟨3, ![4, 128, 128]⟩
abbrev S512 : Shape := ⟨1, ![512]⟩
abbrev S512x1 : Shape := ⟨2, ![512, 1]⟩
abbrev S1x512 : Shape := ⟨2, ![1, 512]⟩
abbrev S64x1 : Shape := ⟨2, ![64, 1]⟩
abbrev S64x64 : Shape := ⟨2, ![64, 64]⟩
abbrev S1x64x64 : Shape := ⟨3, ![1, 64, 64]⟩
abbrev S64x512 : Shape := ⟨2, ![64, 512]⟩
abbrev S1x64x512 : Shape := ⟨3, ![1, 64, 512]⟩
abbrev S1x1x512 : Shape := ⟨3, ![1, 1, 512]⟩
abbrev S2x32x512 : Shape := ⟨3, ![2, 32, 512]⟩
abbrev S2x1x512 : Shape := ⟨3, ![2, 1, 512]⟩
abbrev S4x16x512 : Shape := ⟨3, ![4, 16, 512]⟩
abbrev S4x1x512 : Shape := ⟨3, ![4, 1, 512]⟩
abbrev S8x8x512 : Shape := ⟨3, ![8, 8, 512]⟩
abbrev S8x1x512 : Shape := ⟨3, ![8, 1, 512]⟩
abbrev S64x128 : Shape := ⟨2, ![64, 128]⟩
abbrev S64 : Shape := ⟨1, ![64]⟩
abbrev S1x1x64x64 : Shape := ⟨4, ![1, 1, 64, 64]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 17
  | .vmem => 23
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x6144, .f32⟩
  | .hbm, ⟨3, _⟩ => ⟨S1x1024x3072, .f32⟩
  | .hbm, ⟨4, _⟩ => ⟨S2x512, .f32⟩
  | .hbm, ⟨5, _⟩ => ⟨S1x128, .f32⟩
  | .hbm, ⟨6, _⟩ => ⟨S512x64, .bf16⟩
  | .hbm, ⟨7, _⟩ => ⟨S6x64x64, .f32⟩
  | .hbm, ⟨8, _⟩ => ⟨S8192x1024, .f32⟩
  | .hbm, ⟨9, _⟩ => ⟨S1024x3072, .f32⟩
  | .hbm, ⟨10, _⟩ => ⟨S1024x3072, .bf16⟩
  | .hbm, ⟨11, _⟩ => ⟨S8192x1024, .bf16⟩
  | .hbm, ⟨12, _⟩ => ⟨S8192x3072, .f32⟩
  | .hbm, ⟨13, _⟩ => ⟨S8192x1024, .bf16⟩
  | .hbm, ⟨14, _⟩ => ⟨S8192x512, .f32⟩
  | .hbm, ⟨15, _⟩ => ⟨S128x4x64x64, .f32⟩
  | .hbm, ⟨16, _⟩ => ⟨S128x4x128x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S2x512, .f32⟩
  | .local _ .vmem, ⟨7, _⟩ => ⟨S1x128, .f32⟩
  | .local _ .vmem, ⟨8, _⟩ => ⟨S512x64, .bf16⟩
  | .local _ .vmem, ⟨9, _⟩ => ⟨S6x64x64, .f32⟩
  | .local _ .vmem, ⟨10, _⟩ => ⟨S512x1024, .bf16⟩
  | .local _ .vmem, ⟨11, _⟩ => ⟨S512x1024, .bf16⟩
  | .local _ .vmem, ⟨12, _⟩ => ⟨S512x3072, .f32⟩
  | .local _ .vmem, ⟨13, _⟩ => ⟨S512x3072, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S8x4x64x64, .f32⟩
  | .local _ .vmem, ⟨19, _⟩ => ⟨S8x4x64x64, .f32⟩
  | .local _ .vmem, ⟨20, _⟩ => ⟨S8x4x128x128, .f32⟩
  | .local _ .vmem, ⟨21, _⟩ => ⟨S8x4x128x128, .f32⟩
  | .local _ .vmem, ⟨22, _⟩ => ⟨S4x128x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S1x8192x1024 : Shape := ⟨3, ![1, 8192, 1024]⟩
abbrev S1x1024 : Shape := ⟨2, ![1, 1024]⟩
abbrev S1x6144 : Shape := ⟨2, ![1, 6144]⟩
abbrev S1x1024x3072 : Shape := ⟨3, ![1, 1024, 3072]⟩
abbrev S2x512 : Shape := ⟨2, ![2, 512]⟩
abbrev S1x128 : Shape := ⟨2, ![1, 128]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3072 : Shape := ⟨2, ![1024, 3072]⟩
abbrev S8192x3072 : Shape := ⟨2, ![8192, 3072]⟩

abbrev nBuf : Space → Nat
  | .hbm => 40
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x6144, .f32⟩
  | .hbm, ⟨3, _⟩ => ⟨S1x1024x3072, .f32⟩
  | .hbm, ⟨4, _⟩ => ⟨S2x512, .f32⟩
  | .hbm, ⟨5, _⟩ => ⟨S1x128, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S1024x3072, .f32⟩
  | .hbm, ⟨39, _⟩ => ⟨S8192x3072, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Ada.lean ====
abbrev S8x1024 : Shape := ⟨2, ![8, 1024]⟩
abbrev S1x1024x1536 : Shape := ⟨3, ![1, 1024, 1536]⟩
abbrev S8x1x1024 : Shape := ⟨3, ![8, 1, 1024]⟩
abbrev S8x8x1024 : Shape := ⟨3, ![8, 8, 1024]⟩
abbrev S64x1024 : Shape := ⟨2, ![64, 1024]⟩
abbrev S1024x1536 : Shape := ⟨2, ![1024, 1536]⟩
abbrev S8x1536 : Shape := ⟨2, ![8, 1536]⟩
abbrev S8x64 : Shape := ⟨2, ![8, 64]⟩

abbrev nBuf : Space → Nat
  | .hbm => 8
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1x1024x1536, .f32⟩
  | .hbm, ⟨2, _⟩ => ⟨S8x1x1024, .f32⟩
  | .hbm, ⟨3, _⟩ => ⟨S8x8x1024, .f32⟩
  | .hbm, ⟨4, _⟩ => ⟨S64x1024, .f32⟩
  | .hbm, ⟨5, _⟩ => ⟨S1024x1536, .f32⟩
  | .hbm, ⟨6, _⟩ => ⟨S8x1024, .f32⟩
  | .hbm, ⟨7, _⟩ => ⟨S8x1536, .f32⟩
  | .local _ .vmem, ⟨0, _⟩ => ⟨S64x1024, .f32⟩
  | .local _ .vmem, ⟨1, _⟩ => ⟨S1024x1536, .f32⟩
  | .local _ .vmem, ⟨2, _⟩ => ⟨S8x1024, .f32⟩
  | .local _ .vmem, ⟨3, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaRefIdeal.lean ====
abbrev S8x1024 : Shape := ⟨2, ![8, 1024]⟩
abbrev S1x1024x1536 : Shape := ⟨3, ![1, 1024, 1536]⟩
abbrev S_ : Shape := ⟨0, ![]⟩
abbrev S1024x1536 : Shape := ⟨2, ![1024, 1536]⟩
abbrev S8x1536 : Shape := ⟨2, ![8, 1536]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x1536, .f32⟩
  | .hbm, ⟨12, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Proof.Common.Ereal.lean ====
module

public import Idealize.ShloMosaic.PureOps.Ideal
public import Mathlib.Data.EReal.Operations
public import Mathlib.Algebra.BigOperators.Fin
public import Idealize.ShloMosaic.Lib.Pointwise

/-! Sums and products of extended reals, and the gradient of a root mean square's norm. -/

@[expose] public section

noncomputable section

namespace Cert.Proof.Ereal

open Idealize.ShloMosaic

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem mul_self_nonneg (x : EReal) : 0 ≤ x * x := by
  induction x using EReal.rec with
  | bot => simp
  | top => simp
  | coe r => exact_mod_cast _root_.mul_self_nonneg r

theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe r => exact_mod_cast (two_mul r).symm

/-- A nonnegative real factor goes into a sum, whatever the terms. -/
theorem mul_sum {ι : Type} [Fintype ι] {r : ℝ} (hr : 0 ≤ r) (f : ι → EReal) :
    (r : EReal) * ∑ k, f k = ∑ k, (r : EReal) * f k := by
  classical
  induction (Finset.univ : Finset ι) using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem sum_nonneg {ι : Type} [Fintype ι] (f : ι → EReal) (h : ∀ k, 0 ≤ f k) : 0 ≤ ∑ k, f k :=
  Finset.sum_nonneg fun k _ => h k

/-- The mean of the squares plus a positive real is a positive real, or infinite. -/
theorem meanSq {ι : Type} [Fintype ι] (x : ι → EReal) {e : ℝ} (he : 0 < e) :
    (∃ v : ℝ, 0 < v ∧ Ideal.div (∑ k, x k * x k) ((1024 : ℝ) : EReal) + e = v)
      ∨ Ideal.div (∑ k, x k * x k) ((1024 : ℝ) : EReal) + e = ⊤ := by
  rw [Ideal.div_coe (by norm_num)]
  have h := sum_nonneg (fun k => x k * x k) fun k => mul_self_nonneg (x k)
  revert h
  generalize (∑ k, x k * x k) = s
  induction s using EReal.rec with
  | bot => intro h; exact absurd h (by simp)
  | top => intro _; right; rw [EReal.top_mul_coe_of_pos (by norm_num)]; rfl
  | coe s =>
    intro h
    have h : 0 ≤ s := by exact_mod_cast h
    exact .inl ⟨s * (1 / 1024) + e, by positivity, by push_cast; rfl⟩

/-- The gradient through `x · rsqrt v`, the factor spread over the two terms or taken apart. -/
theorem norm_grad {ι : Type} [Fintype ι] (x g : ι → EReal) (v d : EReal) (j : ι)
    (hv : (∃ w : ℝ, 0 < w ∧ v = w) ∨ v = ⊤) :
    d + Ideal.rsqrt v * (g j - x j * Ideal.rsqrt v
        * Ideal.div (∑ k, x k * Ideal.rsqrt v * g k) ((1024 : ℝ) : EReal))
      = d + g j * Ideal.rsqrt v
        + x j * Ideal.div ((∑ k, x k * g k) * (((-(1 / 2) : ℝ) : EReal) * Ideal.div (Ideal.rsqrt v) v)) ((1024 : ℝ) : EReal)
        + Ideal.div ((∑ k, x k * g k) * (((-(1 / 2) : ℝ) : EReal) * Ideal.div (Ideal.rsqrt v) v)) ((1024 : ℝ) : EReal) * x j := by
  rcases hv with ⟨w, hw, rfl⟩ | rfl
  · have hr : Ideal.rsqrt (w : EReal) = ((Real.sqrt w)⁻¹ : ℝ) := by
      rw [Ideal.rsqrt_coe, if_neg (not_lt.2 hw.le), if_neg hw.ne']
    rw [hr, Ideal.div_coe (by norm_num), Ideal.div_coe (by norm_num), Ideal.div_coe hw.ne']
    have hs : 0 < (Real.sqrt w)⁻¹ := inv_pos.2 (Real.sqrt_pos.2 hw)
    have h3 : (Real.sqrt w)⁻¹ * (1 / w) = (Real.sqrt w)⁻¹ * (Real.sqrt w)⁻¹ * (Real.sqrt w)⁻¹ := by
      rw [one_div, mul_assoc, ← mul_inv (Real.sqrt w) (Real.sqrt w), Real.mul_self_sqrt hw.le]
    generalize (Real.sqrt w)⁻¹ = r at hs h3
    have hP : (∑ k, x k * (r : EReal) * g k) = r * ∑ k, x k * g k := by
      rw [mul_sum hs.le]
      exact Finset.sum_congr rfl fun k _ => by rw [mul_comm (x k), mul_assoc]
    rw [hP]
    generalize (∑ k, x k * g k) = P
    rw [sub_eq_add_neg, EReal.left_distrib_of_nonneg_of_ne_top (by exact_mod_cast hs.le) (EReal.coe_ne_top r),
      mul_comm (P * _ * _) (x j), add_assoc (d + _), add_self, ← add_assoc, mul_comm (r : EReal) (g j)]
    congr 1
    rw [← EReal.coe_mul, h3, ← EReal.coe_mul]
    have e1 : (r : EReal) * -(x j * r * (r * P * ((1 / 1024 : ℝ) : EReal))) = ((-(r * r * r * (1 / 1024)) : ℝ) : EReal) * (x j * P) := by
      push_cast
      rw [EReal.neg_mul, mul_neg]
      congr 1
      ac_rfl
    have e2 : ((2 : ℝ) : EReal) * (x j * (P * ((-(1 / 2) * (r * r * r) : ℝ) : EReal) * ((1 / 1024 : ℝ) : EReal)))
        = ((2 * (-(1 / 2) * (r * r * r)) * (1 / 1024) : ℝ) : EReal) * (x j * P) := by
      rw [EReal.coe_mul (2 * _) (1 / 1024), EReal.coe_mul 2]
      ac_rfl
    rw [e1, e2]
    congr 2
    ring
  · have h0 : Ideal.div 0 (⊤ : EReal) = 0 := by simp [Ideal.div]
    rw [Ideal.rsqrt_top, h0]
    simp [Ideal.div_coe]

end Cert.Proof.Ereal

end
-- ==== Proof.Common.Rows.lean ====
module

public import Idealize.ShloMosaic.Lib.Pointwise
public import Idealize.ShloMosaic.Lib.Pipeline.Value
public import Idealize.ShloMosaic.Lib.WritesUnit

/-! A buffer of `m` rows into which a body stores one whole row at a time, read at an index. -/

@[expose] public section

noncomputable section

namespace Cert.Proof.Rows

open Idealize.ShloMosaic Idealize.SL.Sem Idealize.ShloMosaic.Pointwise

variable {sig : RefSig} {κ : Kind} {sp : Space} {m n : ℕ} {e : EltTy} {Val : EltTy → Type}

/-- Index `(0, j)` of a one-row box. -/
abbrev first (j : Fin n) : (⟨2, ![1, n]⟩ : Shape).Idx := ix2 (0 : Fin 1) j

/-- The newest piece is row `o`: an index of that row reads its payload, another the older pieces. -/
theorem read_writes_row (v : View sig κ sp ⟨2, ![m, n]⟩ e) (f : v.ty.Contents Val) (o : ℕ)
    (inb : ∀ a : Fin 2, (![o, 0] : Fin 2 → ℕ) a + (![1, n] : Fin 2 → ℕ) a ≤ (![m, n] : Fin 2 → ℕ) a)
    (w : (⟨2, ![1, n]⟩ : Shape).Idx → Val e) (L : List (View.Piece Val (⟨2, ![m, n]⟩ : Shape) e))
    (y : (⟨2, ![m, n]⟩ : Shape).Idx) :
    v.read Val (v.writes Val f (⟨Rect.unit (s := ⟨2, ![m, n]⟩) ![o, 0] ![1, n] inb, w⟩ :: L)) y
      = if (y 0).val = o then w (first (y 1)) else v.read Val (v.writes Val f L) y := by
  split_ifs with h
  · exact View.read_writes_cons_rows_of_mem v f inb w L y (first (y 1)) rfl (by rw [h]; rfl) rfl
  · exact View.read_writes_cons_rows_of_not_mem v f inb w L y rfl rfl (by
      show (y 0).val < o ∨ o + 1 ≤ (y 0).val
      omega)

/-- The same of the canonical contents the pieces leave. -/
theorem canon_row [∀ e, Nonempty (Val e)] (o : ℕ)
    (inb : ∀ a : Fin 2, (![o, 0] : Fin 2 → ℕ) a + (![1, n] : Fin 2 → ℕ) a ≤ (![m, n] : Fin 2 → ℕ) a)
    (w : (⟨2, ![1, n]⟩ : Shape).Idx → Val e) (L : List (View.Piece Val (⟨2, ![m, n]⟩ : Shape) e))
    (y : (⟨2, ![m, n]⟩ : Shape).Idx) :
    View.canon (⟨Rect.unit (s := ⟨2, ![m, n]⟩) ![o, 0] ![1, n] inb, w⟩ :: L) y
      = if (y 0).val = o then w (first (y 1)) else View.canon L y := by
  split_ifs with h
  · have hy : (Rect.unit (s := ⟨2, ![m, n]⟩) ![o, 0] ![1, n] inb).emb (first (y 1)) = y := funext fun a => Fin.ext (by
      match a with
      | ⟨0, _⟩ => show o + 1 * 0 = (y 0).val; omega
      | ⟨1, _⟩ => show 0 + 1 * (y 1).val = (y 1).val; omega)
    conv_lhs => rw [← hy]
    exact View.canon_cons_emb (Rect.unit (s := ⟨2, ![m, n]⟩) ![o, 0] ![1, n] inb) w L _
  · refine View.canon_cons_of_not_mem _ L fun hm => h ?_
    have h0 := (Rect.mem_set_unit (inb := inb).mp hm) 0
    have h1 : o ≤ (y 0).val ∧ (y 0).val < o + 1 := h0
    omega

/-- A row loaded back reads the pieces at that row. -/
theorem readCov_row [∀ e, Nonempty (Val e)] (v : View sig κ sp ⟨2, ![m, n]⟩ e) (o : ℕ) (ho : o < m)
    (inb : ∀ a : Fin 2, (![o, 0] : Fin 2 → ℕ) a + (![1, n] : Fin 2 → ℕ) a ≤ (![m, n] : Fin 2 → ℕ) a)
    (L : List (View.Piece Val (⟨2, ![m, n]⟩ : Shape) e)) :
    v.readCov L (Rect.unit (s := ⟨2, ![m, n]⟩) ![o, 0] ![1, n] inb).toLoadRect
      = fun j : (⟨2, ![1, n]⟩ : Shape).Idx => View.canon L (ix2 (⟨o, ho⟩ : Fin m) (j 1)) := by
  rw [View.readCov_eq_canon']
  funext j
  refine congrArg (View.canon L) (funext fun a => Fin.ext ?_)
  match a with
  | ⟨0, _⟩ =>
    have h := (j 0).isLt
    have h' : (j 0).val < 1 := h
    show o + 1 * (j 0).val = o
    omega
  | ⟨1, _⟩ => show 0 + 1 * (j 1).val = (j 1).val; omega

/-- A row of what the buffer held at entry. -/
theorem ld_row {Val : EltTy → Type} (X : (⟨2, ![m, n]⟩ : Shape).Idx → Val e) (o : ℕ) (ho : o < m)
    (inb : ∀ a : Fin 2, (![o, 0] : Fin 2 → ℕ) a + (![1, n] : Fin 2 → ℕ) a ≤ (![m, n] : Fin 2 → ℕ) a) :
    View.ld X (Rect.unit (s := ⟨2, ![m, n]⟩) ![o, 0] ![1, n] inb)
      = fun j : (⟨2, ![1, n]⟩ : Shape).Idx => X (ix2 (⟨o, ho⟩ : Fin m) (j 1)) := by
  funext j
  refine congrArg X (funext fun a => Fin.ext ?_)
  match a with
  | ⟨0, _⟩ =>
    have h := (j 0).isLt
    have h' : (j 0).val < 1 := h
    show o + 1 * (j 0).val = o
    omega
  | ⟨1, _⟩ => show 0 + 1 * (j 1).val = (j 1).val; omega

end Cert.Proof.Rows

end
-- ==== Proof.ProjIn.Body.lean ====
module

public import proofs.«01_k».proof.Proof.Gen.ProjInIdeal.Value
public import proofs.«01_k».proof.Proof.Common.Rows

@[expose] public section

noncomputable section

namespace Cert.Proof.ProjIn

open Cert.ProjInIdeal Cert.ProjInIdeal.Gen Idealize.ShloMosaic Idealize.ShloMosaic.TcCoe Idealize.SL.Sem Idealize.ShloMosaic.Pointwise Cert.Proof.Rows

theorem hz : (![0, 0] : Fin 2 → Nat) = fun _ => 0 := funext fun a => by fin_cases a <;> rfl

section
variable (c : Dev nD) (i : grid0.Coords) (arg1 : Memref sig .tc .vmem S1024x3072 .bf16) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x1024 .f32) (harg7 : arg7.IsWhole) (arg8 : Memref sig .tc .vmem S8x1024 .f32) (harg8 : arg8.IsWhole)
    (x0 : Vec Ideal S1024x3072 .bf16) (x1 : Vec Ideal S1024x1024 .f32) (x2 : Vec Ideal S1024x1024 .f32) (x3 : Vec Ideal S1x1024 .f32) (x4 : Vec Ideal S1x1024 .f32) (x5 : Vec Ideal S1024x3072 .bf16)

def dh (x0 x5 : Vec Ideal S1024x3072 .bf16) : FVec Ideal S1024x1024 .f32 :=
  k0_pay2 (View.ld x0 (Rect.unit ![0, 0] ![1024, 2048] inb_S1024x3072_S1024x2048_0_0))
    (View.ld x5 (Rect.unit ![0, 1024] ![1024, 2048] inb_S1024x3072_S1024x2048_0_1024))
    (View.ld x0 (Rect.unit ![0, 2048] ![1024, 1024] inb_S1024x3072_S1024x1024_0_2048))
    (View.ld x5 (Rect.unit ![0, 0] ![1024, 1024] inb_S1024x3072_S1024x1024_0_0))

theorem dh_def (x0 x5 : Vec Ideal S1024x3072 .bf16) : dh x0 x5 = k0_pay2 (View.ld x0 (Rect.unit ![0, 0] ![1024, 2048] inb_S1024x3072_S1024x2048_0_0))
    (View.ld x5 (Rect.unit ![0, 1024] ![1024, 2048] inb_S1024x3072_S1024x2048_0_1024))
    (View.ld x0 (Rect.unit ![0, 2048] ![1024, 1024] inb_S1024x3072_S1024x1024_0_2048))
    (View.ld x5 (Rect.unit ![0, 0] ![1024, 1024] inb_S1024x3072_S1024x1024_0_0)) := rfl

/-- What a grid point adds to row `i`, column `j` of the accumulator. -/
def part (x0 : Vec Ideal S1024x3072 .bf16) (x1 : Vec Ideal S1024x1024 .f32) (x3 x4 : Vec Ideal S1x1024 .f32)
    (x5 : Vec Ideal S1024x3072 .bf16) (i : ℕ) (j : Fin 1024) : EReal :=
  if i = 2 then ∑ r : Fin 1024, dh x0 x5 (ix2 r j) * (1 + x4 (ix2 0 j)) * k0_pay5 x1 (ix2 r j)
  else if i = 1 then ∑ r : Fin 1024, dh x0 x5 (ix2 r j) * k0_pay6 x1 x3 (ix2 r j)
  else if i = 0 then ∑ r : Fin 1024, dh x0 x5 (ix2 r j)
  else 0

theorem pay7_apply (a b c d) (w) (j) : k0_pay7 (F := Ideal) a b c d w j = w j + ∑ r : Fin 1024, k0_pay2 a b c d (ix2 r (j 1)) := by
  pointwise [k0_pay7]

theorem pay8_apply (a b) (w) (j) : k0_pay8 (F := Ideal) a b w j = w j + ∑ r : Fin 1024, a (ix2 r (j 1)) * b (ix2 r (j 1)) := by
  pointwise [k0_pay8]

theorem pay10_apply (a b x) (w) (j) : k0_pay10 (F := Ideal) a b x w j = w j + ∑ r : Fin 1024, a (ix2 r (j 1)) * (1 + x (ix2 0 (j 1))) * b (ix2 r (j 1)) := by
  pointwise [k0_pay10, k0_pay9]

theorem pay1_apply (j) : k0_pay1 (F := Ideal) j = 0 := by
  pointwise [k0_pay1]

theorem out_B_7 (hc0 : ¬cond0_0 i) (xo7 : Vec Ideal S8x1024 .f32) (y : S8x1024.Idx) :
    out0_B_7 c i arg1 harg1 arg2 harg2 arg3 harg3 arg4 harg4 arg5 harg5 arg6 harg6 arg7 harg7 arg8 harg8 hc0 x0 x1 x2 x3 x4 x5 xo7 y
      = xo7 y + part x0 x1 x3 x4 x5 (y 0).val (y 1) := by
  obtain ⟨r, j, rfl⟩ : ∃ (r : Fin 8) (j : Fin 1024), y = ix2 r j := ⟨y 0, y 1, eq_ix2 y⟩
  unfold out0_B_7 kernelRun0_B
  dsimp only
  sl_unfold_words
  simp only [View.readAt_eq_ld, harg1.read_unread, harg2.read_unread, harg3.read_unread, harg4.read_unread, harg5.read_unread, harg6.read_unread, harg8.read_unread,
    View.ld_unit_zero (S := S1024x1024) hz, View.ld_unit_zero (S := S1x1024) hz]
  rw [read_writes_row, read_writes_row, read_writes_row]
  simp only [View.writes_nil, harg8.read_unread, pay7_apply, pay8_apply, pay10_apply, ← dh_def, part]
  rw [ld_row xo7 2 (by decide), ld_row xo7 1 (by decide), ld_row xo7 0 (by decide)]
  have hr : r.val < 8 := r.isLt
  split_ifs with h2 h1 h0
  · rw [show r = 2 from Fin.ext h2]; rfl
  · rw [show r = 1 from Fin.ext h1]; rfl
  · rw [show r = 0 from Fin.ext h0]; rfl
  · exact (add_zero _).symm

theorem out_A_7 (hc0 : cond0_0 i) (y : S8x1024.Idx) :
    out0_A_7 c i arg1 harg1 arg2 harg2 arg3 harg3 arg4 harg4 arg5 harg5 arg6 harg6 arg7 harg7 arg8 harg8 hc0 x0 x1 x2 x3 x4 x5 y
      = part x0 x1 x3 x4 x5 (y 0).val (y 1) := by
  obtain ⟨r, j, rfl⟩ : ∃ (r : Fin 8) (j : Fin 1024), y = ix2 r j := ⟨y 0, y 1, eq_ix2 y⟩
  unfold out0_A_7 kernelRun0_A
  dsimp only
  sl_unfold_words
  simp only [View.readAt_eq_ld, harg1.read_unread, harg2.read_unread, harg3.read_unread, harg4.read_unread, harg5.read_unread, harg6.read_unread, harg8.read_unread,
    View.ld_unit_zero (S := S1024x1024) hz, View.ld_unit_zero (S := S1x1024) hz, View.read_writes_junk_eq_canon]
  simp only [canon_row, pay7_apply, pay8_apply, pay10_apply, ← dh_def, part,
    View.canon_unit_zero (S := S8x1024) hz, pay1_apply]
  split_ifs with h2 h1 h0
  · rw [readCov_row (m := 8) (n := 1024) _ 2 (by decide)]
    simp [canon_row, View.canon_unit_zero (S := S8x1024) hz, pay1_apply]
  · rw [readCov_row (m := 8) (n := 1024) _ 1 (by decide)]
    simp [canon_row, View.canon_unit_zero (S := S8x1024) hz, pay1_apply]
  · rw [readCov_row (m := 8) (n := 1024) _ 0 (by decide)]
    simp [canon_row, View.canon_unit_zero (S := S8x1024) hz, pay1_apply]
  · rfl

theorem out_B_6 (hc0 : ¬cond0_0 i) (xo7 : Vec Ideal S8x1024 .f32) :
    out0_B_6 c i arg1 harg1 arg2 harg2 arg3 harg3 arg4 harg4 arg5 harg5 arg6 harg6 arg7 harg7 arg8 harg8 hc0 x0 x1 x2 x3 x4 x5 xo7 = k0_pay11 (dh x0 x5) (k0_pay4 x1) (k0_pay5 x1) x4 x2 x3 := by
  unfold out0_B_6 kernelRun0_B
  dsimp only
  sl_unfold_words
  rw [View.read_writes_junk_eq_canon, View.canon_unit_zero (S := S1024x1024) hz]
  simp only [View.readAt_eq_ld, harg1.read_unread, harg2.read_unread, harg3.read_unread, harg4.read_unread, harg5.read_unread, harg6.read_unread, harg8.read_unread,
    View.ld_unit_zero (S := S1024x1024) hz, View.ld_unit_zero (S := S1x1024) hz, dh]

theorem out_A_6 (hc0 : cond0_0 i) :
    out0_A_6 c i arg1 harg1 arg2 harg2 arg3 harg3 arg4 harg4 arg5 harg5 arg6 harg6 arg7 harg7 arg8 harg8 hc0 x0 x1 x2 x3 x4 x5 = k0_pay11 (dh x0 x5) (k0_pay4 x1) (k0_pay5 x1) x4 x2 x3 := by
  unfold out0_A_6 kernelRun0_A
  dsimp only
  sl_unfold_words
  rw [View.read_writes_junk_eq_canon, View.canon_unit_zero (S := S1024x1024) hz]
  simp only [View.readAt_eq_ld, harg1.read_unread, harg2.read_unread, harg3.read_unread, harg4.read_unread, harg5.read_unread, harg6.read_unread, harg8.read_unread,
    View.ld_unit_zero (S := S1024x1024) hz, View.ld_unit_zero (S := S1x1024) hz, dh]

end
end Cert.Proof.ProjIn

end
-- ==== Proof.ProjIn.Kernel.lean ====
module

public import proofs.«01_k».proof.Proof.ProjIn.Body

/-! The arrays the kernel's run leaves, at an index, from the arguments. -/

@[expose] public section

noncomputable section

namespace Cert.Proof.ProjIn

open Cert.ProjInIdeal Cert.ProjInIdeal.Gen Idealize.ShloMosaic Idealize.ShloMosaic.TcCoe Idealize.SL.Sem Idealize.ShloMosaic.Pointwise

variable (m : (ℓ : Loc nD τ sig) → Buf (Elt Ideal) ℓ) (c : Dev nD)

/-- Row `r` of block `t`. -/
def row (t : Fin 8) (r : Fin 1024) : Fin 8192 := ⟨1024 * t.val + r.val, by omega⟩

def pt (t : Fin 8) : Fin cfg0.N := ⟨t.val, t.isLt⟩

/-- The arguments, read as the extended reals they hold. -/
def argX (R : Fin 8192) (k : Fin 1024) : EReal := m ((c : Thread nD τ).loc main_arg0) (ix3 0 R k)
def argSc (k : Fin 1024) : EReal := m ((c : Thread nD τ).loc main_arg1) (ix2 0 (⟨1024 + k.val, by omega⟩ : Fin 6144))
def argNw (k : Fin 1024) : EReal := m ((c : Thread nD τ).loc main_arg2) (ix2 0 k)
def argW (j : Fin 1024) (k : Fin 3072) : EReal := m ((c : Thread nD τ).loc main_arg3) (ix3 0 j k)
def argCx (R : Fin 8192) (k : Fin 1024) : EReal := m ((c : Thread nD τ).loc main_arg4) (ix3 0 R k)
def argCp (R : Fin 8192) (k : Fin 3072) : EReal := m ((c : Thread nD τ).loc main_arg5) (ix3 0 R k)

theorem V5_apply (y : S8192x3072.Idx) : V m c main_v5 y
    = if h : (y 1).val < 2048 then argCp m c (y 0) ⟨1024 + (y 1).val, by omega⟩
      else argCp m c (y 0) ⟨(y 1).val - 2048, by have h1 : (y 1).val < 3072 := (y 1).isLt; omega⟩ := by
  show StableHlo.after hostOps0 _ (Proc.devRef .tc main_v5) y = _
  after_results
  pointwise []
  rfl

theorem V6_apply (y : S8192x1024.Idx) : V m c main_v6 y = argX m c (y 0) (y 1) := by
  show StableHlo.after hostOps0 _ (Proc.devRef .tc main_v6) y = _
  after_results
  pointwise []
  rfl

theorem V7_apply (y : S8192x1024.Idx) : V m c main_v7 y = argCx m c (y 0) (y 1) := by
  show StableHlo.after hostOps0 _ (Proc.devRef .tc main_v7) y = _
  after_results
  pointwise []
  rfl

theorem V9_apply (y : S1024x3072.Idx) : V m c main_v9 y = argW m c (y 0) (y 1) := by
  show StableHlo.after hostOps0 _ (Proc.devRef .tc main_v9) y = _
  after_results
  pointwise []
  rfl

theorem index_rows : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 1) ∧ (win0_5.index t 0 = 0 ∧ win0_5.index t 1 = 0)
    ∧ (win0_6.index t 0 = t.val ∧ win0_6.index t 1 = 0) ∧ (win0_7.index t 0 = 0 ∧ win0_7.index t 1 = 0) := by decide +kernel

theorem emb0 (t : Fin 8) (r : Fin 1024) (k : Fin 3072) : ((cfg0.win 0).blk (pt t)).view.emb (ix2 r k) = (ix2 (row t r) k : S8192x3072.Idx) :=
  funext fun a => Fin.ext (by
    match a with
    | ⟨0, _⟩ => show win0_0.index (pt t) 0 * 1024 + 1 * r.val = 1024 * t.val + r.val; rw [(index_rows (pt t)).1.1]; show t.val * 1024 + 1 * r.val = _; omega
    | ⟨1, _⟩ => show win0_0.index (pt t) 1 * 3072 + 1 * k.val = k.val; rw [(index_rows (pt t)).1.2]; omega)

theorem emb1 (t : Fin 8) (r : Fin 1024) (k : Fin 1024) : ((cfg0.win 1).blk (pt t)).view.emb (ix2 r k) = (ix2 (row t r) k : S8192x1024.Idx) :=
  funext fun a => Fin.ext (by
    match a with
    | ⟨0, _⟩ => show win0_1.index (pt t) 0 * 1024 + 1 * r.val = 1024 * t.val + r.val; rw [(index_rows (pt t)).2.1.1]; show t.val * 1024 + 1 * r.val = _; omega
    | ⟨1, _⟩ => show win0_1.index (pt t) 1 * 1024 + 1 * k.val = k.val; rw [(index_rows (pt t)).2.1.2]; omega)

theorem emb2 (t : Fin 8) (r : Fin 1024) (k : Fin 1024) : ((cfg0.win 2).blk (pt t)).view.emb (ix2 r k) = (ix2 (row t r) k : S8192x1024.Idx) :=
  funext fun a => Fin.ext (by
    match a with
    | ⟨0, _⟩ => show win0_2.index (pt t) 0 * 1024 + 1 * r.val = 1024 * t.val + r.val; rw [(index_rows (pt t)).2.2.1.1]; show t.val * 1024 + 1 * r.val = _; omega
    | ⟨1, _⟩ => show win0_2.index (pt t) 1 * 1024 + 1 * k.val = k.val; rw [(index_rows (pt t)).2.2.1.2]; omega)

theorem emb3 (t : Fin 8) (k : Fin 1024) : ((cfg0.win 3).blk (pt t)).view.emb (ix2 (0 : Fin 1) k) = (ix2 (0 : Fin 1) k : S1x1024.Idx) :=
  funext fun a => Fin.ext (by
    match a with
    | ⟨0, _⟩ => show win0_3.index (pt t) 0 * 1 + 1 * 0 = 0; rw [(index_rows (pt t)).2.2.2.1.1]
    | ⟨1, _⟩ => show win0_3.index (pt t) 1 * 1024 + 1 * k.val = k.val; rw [(index_rows (pt t)).2.2.2.1.2]; omega)

theorem emb4 (t : Fin 8) (k : Fin 1024) : ((cfg0.win 4).blk (pt t)).view.emb (ix2 (0 : Fin 1) k) = (ix2 (0 : Fin 1) (⟨1024 + k.val, by omega⟩ : Fin 6144) : S1x6144.Idx) :=
  funext fun a => Fin.ext (by
    match a with
    | ⟨0, _⟩ => show win0_4.index (pt t) 0 * 1 + 1 * 0 = 0; rw [(index_rows (pt t)).2.2.2.2.1.1]
    | ⟨1, _⟩ => show win0_4.index (pt t) 1 * 1024 + 1 * k.val = 1024 + k.val; rw [(index_rows (pt t)).2.2.2.2.1.2]; omega)

theorem emb5 (t : Fin 8) (r : Fin 1024) (k : Fin 3072) : ((cfg0.win 5).blk (pt t)).view.emb (ix2 r k) = (ix2 r k : S1024x3072.Idx) :=
  funext fun a => Fin.ext (by
    match a with
    | ⟨0, _⟩ => show win0_5.index (pt t) 0 * 1024 + 1 * r.val = r.val; rw [(index_rows (pt t)).2.2.2.2.2.1.1]; omega
    | ⟨1, _⟩ => show win0_5.index (pt t) 1 * 3072 + 1 * k.val = k.val; rw [(index_rows (pt t)).2.2.2.2.2.1.2]; omega)

theorem emb6 (t : Fin 8) (r : Fin 1024) (k : Fin 1024) : ((cfg0.win 6).blk (pt t)).view.emb (ix2 r k) = (ix2 (row t r) k : S8192x1024.Idx) :=
  funext fun a => Fin.ext (by
    match a with
    | ⟨0, _⟩ => show win0_6.index (pt t) 0 * 1024 + 1 * r.val = 1024 * t.val + r.val; rw [(index_rows (pt t)).2.2.2.2.2.2.1.1]; show t.val * 1024 + 1 * r.val = _; omega
    | ⟨1, _⟩ => show win0_6.index (pt t) 1 * 1024 + 1 * k.val = k.val; rw [(index_rows (pt t)).2.2.2.2.2.2.1.2]; omega)

theorem emb7 (t : Fin 8) (r : Fin 8) (k : Fin 1024) : ((cfg0.win 7).blk (pt t)).view.emb (ix2 r k) = (ix2 r k : S8x1024.Idx) :=
  funext fun a => Fin.ext (by
    match a with
    | ⟨0, _⟩ => show win0_7.index (pt t) 0 * 8 + 1 * r.val = r.val; rw [(index_rows (pt t)).2.2.2.2.2.2.2.1]; omega
    | ⟨1, _⟩ => show win0_7.index (pt t) 1 * 1024 + 1 * k.val = k.val; rw [(index_rows (pt t)).2.2.2.2.2.2.2.2]; omega)

theorem blk0 (t : Fin 8) (r : Fin 1024) (k : Fin 3072) : iblk m c 0 (pt t) (ix2 r k)
    = if h : k.val < 2048 then argCp m c (row t r) ⟨1024 + k.val, by omega⟩ else argCp m c (row t r) ⟨k.val - 2048, by omega⟩ := by
  rw [show iblk m c 0 (pt t) (ix2 r k) = V m c main_v5 (((cfg0.win 0).blk (pt t)).view.emb (ix2 r k)) from rfl, emb0, V5_apply]; rfl
theorem blk1 (t : Fin 8) (r : Fin 1024) (k : Fin 1024) : iblk m c 1 (pt t) (ix2 r k) = argX m c (row t r) k := by
  rw [show iblk m c 1 (pt t) (ix2 r k) = V m c main_v6 (((cfg0.win 1).blk (pt t)).view.emb (ix2 r k)) from rfl, emb1, V6_apply]; rfl
theorem blk2 (t : Fin 8) (r : Fin 1024) (k : Fin 1024) : iblk m c 2 (pt t) (ix2 r k) = argCx m c (row t r) k := by
  rw [show iblk m c 2 (pt t) (ix2 r k) = V m c main_v7 (((cfg0.win 2).blk (pt t)).view.emb (ix2 r k)) from rfl, emb2, V7_apply]; rfl
theorem blk3 (t : Fin 8) (k : Fin 1024) : iblk m c 3 (pt t) (ix2 (0 : Fin 1) k) = argNw m c k := by
  rw [show iblk m c 3 (pt t) (ix2 (0 : Fin 1) k) = V m c main_arg2 (((cfg0.win 3).blk (pt t)).view.emb (ix2 (0 : Fin 1) k)) from rfl, emb3, V_main_arg2]; rfl
theorem blk4 (t : Fin 8) (k : Fin 1024) : iblk m c 4 (pt t) (ix2 (0 : Fin 1) k) = argSc m c k := by
  rw [show iblk m c 4 (pt t) (ix2 (0 : Fin 1) k) = V m c main_arg1 (((cfg0.win 4).blk (pt t)).view.emb (ix2 (0 : Fin 1) k)) from rfl, emb4, V_main_arg1]; rfl
theorem blk5 (t : Fin 8) (j : Fin 1024) (k : Fin 3072) : iblk m c 5 (pt t) (ix2 j k) = argW m c j k := by
  rw [show iblk m c 5 (pt t) (ix2 j k) = V m c main_v9 (((cfg0.win 5).blk (pt t)).view.emb (ix2 j k)) from rfl, emb5, V9_apply]; rfl

/-! The block's terms, by the row of the whole array. -/

def DH (R : Fin 8192) (j : Fin 1024) : EReal :=
  (∑ k : Fin 2048, argCp m c R ⟨1024 + k.val, by omega⟩ * argW m c j ⟨1024 + k.val, by omega⟩)
    + ∑ k : Fin 1024, argCp m c R ⟨k.val, by omega⟩ * argW m c j ⟨k.val, by omega⟩

def RS (R : Fin 8192) : EReal :=
  Ideal.rsqrt (Ideal.div (∑ k : Fin 1024, argX m c R k * argX m c R k) (Ideal.ofBits .f32 0x44800000#32) + Ideal.ofBits .f32 0x358637BD#32)

/-- The derivative at the normalised row, scaled by the norm's weight. -/
def G (R : Fin 8192) (j : Fin 1024) : EReal := DH m c R j * (1 + argSc m c j) * argNw m c j

def GX (R : Fin 8192) (j : Fin 1024) : EReal :=
  argCx m c R j + RS m c R * (G m c R j - argX m c R j * RS m c R
    * Ideal.div (∑ k : Fin 1024, argX m c R k * RS m c R * G m c R k) (Ideal.ofBits .f32 0x44800000#32))

/-- What row `R` adds to row `i`, column `j` of the accumulator. -/
def term (i : ℕ) (j : Fin 1024) (R : Fin 8192) : EReal :=
  if i = 2 then DH m c R j * (1 + argSc m c j) * (argX m c R j * RS m c R)
  else if i = 1 then DH m c R j * (argX m c R j * RS m c R * argNw m c j)
  else if i = 0 then DH m c R j
  else 0

theorem dh_apply (x0 x5 : Vec Ideal S1024x3072 .bf16) (r j : Fin 1024) : dh x0 x5 (ix2 r j)
    = (∑ k : Fin 2048, x0 (ix2 r (⟨k.val, by omega⟩ : Fin 3072)) * x5 (ix2 j (⟨1024 + k.val, by omega⟩ : Fin 3072)))
      + ∑ k : Fin 1024, x0 (ix2 r (⟨2048 + k.val, by omega⟩ : Fin 3072)) * x5 (ix2 j (⟨k.val, by omega⟩ : Fin 3072)) := by
  unfold dh
  pointwise [k0_pay2]

theorem dh_blk (t : Fin 8) (r j : Fin 1024) : dh (iblk m c 0 (pt t)) (iblk m c 5 (pt t)) (ix2 r j) = DH m c (row t r) j := by
  rw [dh_apply]
  unfold DH
  refine congrArg₂ (· + ·) (Finset.sum_congr rfl fun k _ => congrArg₂ (· * ·) ?_ (blk5 m c t j _)) (Finset.sum_congr rfl fun k _ => congrArg₂ (· * ·) ?_ (blk5 m c t j _))
  · exact (blk0 m c t r _).trans (dif_pos k.isLt)
  · rw [show (⟨2048 + k.val, by omega⟩ : Fin 3072) = ⟨2048 + k.val, by omega⟩ from rfl, blk0, dif_neg (show ¬ (2048 + k.val) < 2048 by omega)]
    exact congrArg (argCp m c _) (Fin.ext (show 2048 + k.val - 2048 = k.val by omega))

theorem rs_apply (x : Vec Ideal S1024x1024 .f32) (r : Fin 1024) : k0_pay4 (F := Ideal) x (ix2 r 0)
    = Ideal.rsqrt (Ideal.div (∑ k : Fin 1024, x (ix2 r k) * x (ix2 r k)) (Ideal.ofBits .f32 0x44800000#32) + Ideal.ofBits .f32 0x358637BD#32) := by
  pointwise [k0_pay4, k0_pay3]

theorem xh_apply (x : Vec Ideal S1024x1024 .f32) (r j : Fin 1024) : k0_pay5 (F := Ideal) x (ix2 r j) = x (ix2 r j) * k0_pay4 x (ix2 r 0) := by
  pointwise [k0_pay5, k0_pay3]

theorem n1_apply (x : Vec Ideal S1024x1024 .f32) (w : Vec Ideal S1x1024 .f32) (r j : Fin 1024) : k0_pay6 (F := Ideal) x w (ix2 r j) = k0_pay5 x (ix2 r j) * w (ix2 0 j) := by
  pointwise [k0_pay6]

theorem gx_apply (d : FVec Ideal S1024x1024 .f32) (v : FVec Ideal S1024x1 .f32) (h : FVec Ideal S1024x1024 .f32) (s : Vec Ideal S1x1024 .f32)
    (g : Vec Ideal S1024x1024 .f32) (w : Vec Ideal S1x1024 .f32) (r j : Fin 1024) : k0_pay11 (F := Ideal) d v h s g w (ix2 r j)
    = g (ix2 r j) + v (ix2 r 0) * (d (ix2 r j) * (1 + s (ix2 0 j)) * w (ix2 0 j) - h (ix2 r j)
        * Ideal.div (∑ k : Fin 1024, h (ix2 r k) * (d (ix2 r k) * (1 + s (ix2 0 k)) * w (ix2 0 k))) (Ideal.ofBits .f32 0x44800000#32)) := by
  pointwise [k0_pay11, k0_pay9]

theorem rs_blk (t : Fin 8) (r : Fin 1024) : k0_pay4 (F := Ideal) (iblk m c 1 (pt t)) (ix2 r 0) = RS m c (row t r) := by
  rw [rs_apply]
  unfold RS
  exact congrArg (fun s => Ideal.rsqrt (Ideal.div s _ + _)) (Finset.sum_congr rfl fun k _ => congrArg₂ (· * ·) (blk1 m c t r k) (blk1 m c t r k))

theorem xh_blk (t : Fin 8) (r j : Fin 1024) : k0_pay5 (F := Ideal) (iblk m c 1 (pt t)) (ix2 r j) = argX m c (row t r) j * RS m c (row t r) :=
  (xh_apply _ r j).trans (congrArg₂ (· * ·) (blk1 m c t r j) (rs_blk m c t r))

theorem n1_blk (t : Fin 8) (r j : Fin 1024) : k0_pay6 (F := Ideal) (iblk m c 1 (pt t)) (iblk m c 3 (pt t)) (ix2 r j) = argX m c (row t r) j * RS m c (row t r) * argNw m c j :=
  (n1_apply _ _ r j).trans (congrArg₂ (· * ·) (xh_blk m c t r j) (blk3 m c t j))

theorem g_blk (t : Fin 8) (r j : Fin 1024) : dh (iblk m c 0 (pt t)) (iblk m c 5 (pt t)) (ix2 r j) * (1 + iblk m c 4 (pt t) (ix2 0 j)) * iblk m c 3 (pt t) (ix2 0 j) = G m c (row t r) j :=
  congrArg₂ (· * ·) (congrArg₂ (· * ·) (dh_blk m c t r j) (congrArg (1 + ·) (blk4 m c t j))) (blk3 m c t j)

theorem gx_blk (t : Fin 8) (r j : Fin 1024) :
    k0_pay11 (F := Ideal) (dh (iblk m c 0 (pt t)) (iblk m c 5 (pt t))) (k0_pay4 (iblk m c 1 (pt t))) (k0_pay5 (iblk m c 1 (pt t))) (iblk m c 4 (pt t)) (iblk m c 2 (pt t)) (iblk m c 3 (pt t)) (ix2 r j)
      = GX m c (row t r) j := by
  rw [gx_apply]
  unfold GX
  refine congrArg₂ (· + ·) (blk2 m c t r j) (congrArg₂ (· * ·) (rs_blk m c t r) (congrArg₂ (· - ·) (g_blk m c t r j)
    (congrArg₂ (· * ·) (xh_blk m c t r j) (congrArg (Ideal.div · _) (Finset.sum_congr rfl fun k _ => congrArg₂ (· * ·) (xh_blk m c t r k) (g_blk m c t r k))))))

theorem part_blk (t : Fin 8) (i : ℕ) (j : Fin 1024) :
    part (iblk m c 0 (pt t)) (iblk m c 1 (pt t)) (iblk m c 3 (pt t)) (iblk m c 4 (pt t)) (iblk m c 5 (pt t)) i j = ∑ r : Fin 1024, term m c i j (row t r) := by
  unfold part term
  split_ifs
  · exact Finset.sum_congr rfl fun r _ => congrArg₂ (· * ·) (congrArg₂ (· * ·) (dh_blk m c t r j) (congrArg (1 + ·) (blk4 m c t j))) (xh_blk m c t r j)
  · exact Finset.sum_congr rfl fun r _ => congrArg₂ (· * ·) (dh_blk m c t r j) (n1_blk m c t r j)
  · exact Finset.sum_congr rfl fun r _ => dh_blk m c t r j
  · simp

/-! The final arrays. -/

theorem flushed_6 (t : Fin 8) (r j : Fin 1024) : (dats m 0 c).flushed 6 (pt t) (ix2 r j) = GX m c (row t r) j := by
  by_cases h0 : (pt t).val % 8 = 0
  · rw [Cert.ProjInIdeal.Value.flushed6_A m c (pt t) h0, out_A_6]
    exact gx_blk m c t r j
  · rw [Cert.ProjInIdeal.Value.flushed6_B m c (pt t) h0, out_B_6]
    exact gx_blk m c t r j

theorem flush_6 : ∀ t : Fin cfg0.N, (cfg0.win 6).flush t = true := by decide +kernel

theorem final_6 (R : Fin 8192) (j : Fin 1024) : (dats m 0 c).arrAt 6 cfg0.N (ix2 R j) = GX m c R j := by
  obtain ⟨t, r, rfl⟩ : ∃ (t : Fin 8) (r : Fin 1024), R = row t r :=
    ⟨⟨R.val / 1024, by omega⟩, ⟨R.val % 1024, by omega⟩, Fin.ext (by
      show R.val = 1024 * (R.val / 1024) + R.val % 1024
      omega)⟩
  have hb := congrFun (Cert.ProjInIdeal.Value.blocks6 m c (pt t) (flush_6 _)) (ix2 r j)
  exact (congrArg ((dats m 0 c).arrAt 6 cfg0.N) (emb6 t r j)).symm.trans (hb.trans (flushed_6 m c t r j))

/-- The accumulator after point `n`. -/
theorem acc_reset (t : Fin 8) (h0 : (pt t).val % 8 = 0) (i : Fin 8) (j : Fin 1024) :
    (outsAt0 m c (pt t).val (pt t).isLt).2 (ix2 i j) = ∑ r : Fin 1024, term m c i.val j (row t r) := by
  rw [outsAt0_A m c (pt t) h0]
  dsimp only
  rw [out_A_7]
  exact part_blk m c t i.val j

theorem acc_add (t : Fin 8) (h0 : ¬(pt t).val % 8 = 0) (i : Fin 8) (j : Fin 1024) :
    (outsAt0 m c (pt t).val (pt t).isLt).2 (ix2 i j)
      = (outsAt0 m c ((pt t).val - 1) (Nat.lt_of_le_of_lt (Nat.sub_le _ _) (pt t).isLt)).2 (ix2 i j) + ∑ r : Fin 1024, term m c i.val j (row t r) := by
  rw [outsAt0_B m c (pt t) h0]
  dsimp only
  rw [out_B_7]
  exact congrArg _ (part_blk m c t i.val j)

theorem acc_eq (i : Fin 8) (j : Fin 1024) : ∀ (n : ℕ) (h : n < 8),
    (outsAt0 m c n (pt ⟨n, h⟩).isLt).2 (ix2 i j) = ∑ t : Fin (n + 1), ∑ r : Fin 1024, term m c i.val j (row ⟨t.val, by omega⟩ r)
  | 0, h => by
    rw [Fin.sum_univ_one]
    exact acc_reset m c ⟨0, h⟩ rfl i j
  | n + 1, h => by
    rw [Fin.sum_univ_castSucc]
    exact (acc_add m c ⟨n + 1, h⟩ (by show ¬(n + 1) % 8 = 0; omega) i j).trans
      (congrArg (· + ∑ r : Fin 1024, term m c i.val j (row ⟨n + 1, h⟩ r)) (acc_eq i j n (by omega)))

/-- The accumulator's array: the last point's contents, written back whole. -/
theorem final_7 (i : Fin 8) (j : Fin 1024) : (dats m 0 c).arrAt 7 cfg0.N (ix2 i j) = ∑ t : Fin 8, ∑ r : Fin 1024, term m c i.val j (row t r) := by
  have h := (dats m 0 c).arrAt_eq_of_cover 7 (fun y => (outsAt0 m c 7 (pt 7).isLt).2 (ix2 (y 0 : Fin 8) (y 1 : Fin 1024))) (fun t hf => by
    have h7 : t = pt 7 := Fin.ext (by
      have := (flush0_7 t).mp hf
      have h8 : t.val < 8 := t.isLt
      show t.val = 7
      omega)
    subst h7
    rw [Cert.ProjInIdeal.Value.flushed7]
    funext y
    obtain ⟨a, b, rfl⟩ : ∃ (a : Fin 8) (b : Fin 1024), y = ix2 a b := ⟨y 0, y 1, eq_ix2 y⟩
    refine Eq.symm ?_
    have e := emb7 7 a b
    refine Eq.trans ?_ ((congrArg (fun z : S8x1024.Idx => (outsAt0 m c 7 (pt 7).isLt).2 (ix2 (z 0) (z 1))) e).trans ?_)
    · rfl
    · rfl) (fun y => ⟨pt 7, (flush0_7 _).mpr rfl, by
    obtain ⟨a, b, rfl⟩ : ∃ (a : Fin 8) (b : Fin 1024), y = ix2 a b := ⟨y 0, y 1, eq_ix2 y⟩
    rw [← emb7 7 a b]
    exact View.emb_mem_set _ _⟩)
  rw [h]
  exact acc_eq m c i j 7 (by decide)

end Cert.Proof.ProjIn

end
-- ==== Proof.ProjIn.Reference.lean ====
module

public import proofs.«01_k».proof.Proof.Gen.ProjInRefIdeal.Read
public import Idealize.ShloMosaic.Lib.Pointwise

/-! The reference's results at an index. -/

@[expose] public section

noncomputable section

namespace Cert.Proof.ProjIn.Reference

open Cert.ProjInRefIdeal Cert.ProjInRefIdeal.Gen Cert.ProjInRefIdeal.Read Idealize.ShloMosaic Idealize.ShloMosaic.TcCoe Idealize.SL.Sem Idealize.ShloMosaic.Pointwise

variable (x0 : (⟨S1x8192x1024, .f32⟩ : BufTy).Contents (Elt Ideal)) (x1 : (⟨S1x6144, .f32⟩ : BufTy).Contents (Elt Ideal)) (x2 : (⟨S1x1024, .f32⟩ : BufTy).Contents (Elt Ideal)) (x3 : (⟨S1x1024x3072, .f32⟩ : BufTy).Contents (Elt Ideal)) (x4 : (⟨S1x8192x1024, .f32⟩ : BufTy).Contents (Elt Ideal)) (x5 : (⟨S1x8192x3072, .f32⟩ : BufTy).Contents (Elt Ideal))

theorem v34_apply (R : Fin 8192) (j : Fin 1024) : val_main_v34 (F := Ideal) x3 x5 (ix2 R j)
    = ∑ k : Fin 3072, (x5 (ix3 0 R k) : EReal) * x3 (ix3 0 j k) := by
  pointwise [val_main_v34, val_main_v33, val_main_v30]

theorem v12_apply (R : Fin 8192) : val_main_v12 (F := Ideal) x0 (ix2 R 0)
    = Ideal.div (∑ k : Fin 1024, (x0 (ix3 0 R k) : EReal) * x0 (ix3 0 R k)) (Ideal.ofBits .f32 0x44800000#32)
      + Ideal.ofBits .f32 0x358637BD#32 := by
  pointwise [val_main_v12, val_main_v11, val_main_cst_1, val_main_v10, val_main_v9, val_main_cst_0, val_main_v8, val_main_v7, val_main_cst, val_main_v6, val_main_v0]

theorem v13_apply (R : Fin 8192) : val_main_v13 (F := Ideal) x0 (ix2 R 0)
    = Ideal.rsqrt (val_main_v12 (F := Ideal) x0 (ix2 R 0)) := by
  pointwise [val_main_v13]

theorem v48_apply (R : Fin 8192) (j : Fin 1024) : val_main_v48 (F := Ideal) x1 x2 x3 x5 (ix2 R j)
    = val_main_v34 (F := Ideal) x3 x5 (ix2 R j) * (1 + x1 (ix2 0 (⟨1024 + j.val, by omega⟩ : Fin 6144))) * x2 (ix2 0 j) := by
  pointwise [val_main_v48, val_main_v47, val_main_v42, val_main_v41, val_main_v24, val_main_v23, val_main_v22, val_main_cst_3, val_main_v4, val_main_v3, val_main_v19, val_main_v5]

theorem v60_apply (R : Fin 8192) (j : Fin 1024) : val_main_v60 (F := Ideal) x0 x1 x2 x3 x5 (ix2 R j)
    = Ideal.div ((∑ k : Fin 1024, x0 (ix3 0 R k) * val_main_v48 (F := Ideal) x1 x2 x3 x5 (ix2 R k))
        * (Ideal.ofBits .f32 0xBF000000#32
          * Ideal.div (val_main_v13 (F := Ideal) x0 (ix2 R 0)) (val_main_v12 (F := Ideal) x0 (ix2 R 0))))
      (Ideal.ofBits .f32 0x44800000#32) := by
  pointwise [val_main_v60, val_main_v59, val_main_v58, val_main_v57, val_main_v56, val_main_v52, val_main_v51, val_main_v50, val_main_cst_10, val_main_cst_11, val_main_cst_12, val_main_v16, val_main_v15, val_main_v14, val_main_cst_2, val_main_v0]
  exact Fin.sum_univ_one _

theorem v64_apply (R : Fin 8192) (j : Fin 1024) : val_main_v64 (F := Ideal) x0 x1 x2 x3 x4 x5 (ix2 R j)
    = x4 (ix3 0 R j) + val_main_v48 (F := Ideal) x1 x2 x3 x5 (ix2 R j) * val_main_v13 (F := Ideal) x0 (ix2 R 0)
      + x0 (ix3 0 R j) * val_main_v60 (F := Ideal) x0 x1 x2 x3 x5 (ix2 R j)
      + val_main_v60 (F := Ideal) x0 x1 x2 x3 x5 (ix2 R j) * x0 (ix3 0 R j) := by
  pointwise [val_main_v64, val_main_v63, val_main_v62, val_main_v61, val_main_v55, val_main_v54, val_main_v53, val_main_v32, val_main_v0]

theorem v18_apply (R : Fin 8192) (j : Fin 1024) : val_main_v18 (F := Ideal) x0 (ix2 R j)
    = x0 (ix3 0 R j) * val_main_v13 (F := Ideal) x0 (ix2 R 0) := by
  pointwise [val_main_v18, val_main_v17, val_main_v0]

theorem v21_apply (R : Fin 8192) (j : Fin 1024) : val_main_v21 (F := Ideal) x0 x2 (ix2 R j)
    = val_main_v18 (F := Ideal) x0 (ix2 R j) * x2 (ix2 0 j) := by
  pointwise [val_main_v21, val_main_v20, val_main_v19, val_main_v5]

theorem v42_apply (R : Fin 8192) (j : Fin 1024) : val_main_v42 (F := Ideal) x1 x3 x5 (ix2 R j)
    = val_main_v34 (F := Ideal) x3 x5 (ix2 R j) * (1 + x1 (ix2 0 (⟨1024 + j.val, by omega⟩ : Fin 6144))) := by
  pointwise [val_main_v42, val_main_v41, val_main_v24, val_main_v23, val_main_v22, val_main_cst_3, val_main_v4, val_main_v3]

theorem v70_apply (R : Fin 8) (j : Fin 1024) : val_main_v70 (F := Ideal) x0 x1 x2 x3 x5 (ix2 R j)
    = if R.val = 2 then ∑ S : Fin 8192, val_main_v18 (F := Ideal) x0 (ix2 S j) * val_main_v42 (F := Ideal) x1 x3 x5 (ix2 S j)
      else if R.val = 1 then ∑ S : Fin 8192, val_main_v21 (F := Ideal) x0 x2 (ix2 S j) * val_main_v34 (F := Ideal) x3 x5 (ix2 S j)
      else if R.val = 0 then ∑ S : Fin 8192, val_main_v34 (F := Ideal) x3 x5 (ix2 S j)
      else 0 := by
  pointwise [val_main_v70, val_main_v69, val_main_v68, val_main_v67, val_main_v66, val_main_v65, val_main_v49, val_main_v46, val_main_v45, val_main_v44, val_main_v43, val_main_v40, val_main_v39, val_main_v38, val_main_v37, val_main_v36, val_main_v35, val_main_cst_13, val_main_cst_4, val_main_cst_5, val_main_cst_6, val_main_cst_7, val_main_cst_8, val_main_cst_9]
  have h8 := R.isLt
  split_ifs <;> first | omega | exact Fin.sum_univ_one _ | rfl

end Cert.Proof.ProjIn.Reference

end
-- ==== Proof.ProjIn.Equal.lean ====
module

public import proofs.«01_k».proof.Proof.Common.Ereal
public import proofs.«01_k».proof.Proof.ProjIn.Kernel
public import proofs.«01_k».proof.Proof.ProjIn.Reference

/-! The kernel's arrays are the reference's results at the same arguments. -/

@[expose] public section

noncomputable section

namespace Cert.Proof.ProjIn

open Idealize.ShloMosaic Idealize.ShloMosaic.TcCoe Idealize.SL.Sem Idealize.ShloMosaic.Pointwise Cert.ProjInRefIdeal.Read Cert.Proof.Ereal

variable (m : (ℓ : Loc Cert.ProjInIdeal.nD Cert.ProjInIdeal.τ Cert.ProjInIdeal.sig) → Buf (Elt Ideal) ℓ) (c : Dev Cert.ProjInIdeal.nD)

def a0 : (⟨Cert.ProjInRefIdeal.S1x8192x1024, .f32⟩ : BufTy).Contents (Elt Ideal) := m ((c : Thread Cert.ProjInIdeal.nD Cert.ProjInIdeal.τ).loc Cert.ProjInIdeal.main_arg0)
def a1 : (⟨Cert.ProjInRefIdeal.S1x6144, .f32⟩ : BufTy).Contents (Elt Ideal) := m ((c : Thread Cert.ProjInIdeal.nD Cert.ProjInIdeal.τ).loc Cert.ProjInIdeal.main_arg1)
def a2 : (⟨Cert.ProjInRefIdeal.S1x1024, .f32⟩ : BufTy).Contents (Elt Ideal) := m ((c : Thread Cert.ProjInIdeal.nD Cert.ProjInIdeal.τ).loc Cert.ProjInIdeal.main_arg2)
def a3 : (⟨Cert.ProjInRefIdeal.S1x1024x3072, .f32⟩ : BufTy).Contents (Elt Ideal) := m ((c : Thread Cert.ProjInIdeal.nD Cert.ProjInIdeal.τ).loc Cert.ProjInIdeal.main_arg3)
def a4 : (⟨Cert.ProjInRefIdeal.S1x8192x1024, .f32⟩ : BufTy).Contents (Elt Ideal) := m ((c : Thread Cert.ProjInIdeal.nD Cert.ProjInIdeal.τ).loc Cert.ProjInIdeal.main_arg4)
def a5 : (⟨Cert.ProjInRefIdeal.S1x8192x3072, .f32⟩ : BufTy).Contents (Elt Ideal) := m ((c : Thread Cert.ProjInIdeal.nD Cert.ProjInIdeal.τ).loc Cert.ProjInIdeal.main_arg5)

/-- The product with the weight: the last 2048 columns and the first 1024 are summed apart. -/
theorem DH_eq (R : Fin 8192) (j : Fin 1024) : DH m c R j = val_main_v34 (F := Ideal) (a3 m c) (a5 m c) (ix2 R j) := by
  rw [Reference.v34_apply, DH, add_comm]
  exact (Fin.sum_univ_add (a := 1024) (b := 2048) fun k : Fin 3072 => argCp m c R k * argW m c j k).symm

theorem V_eq (R : Fin 8192) : Ideal.div (∑ k, argX m c R k * argX m c R k) (Ideal.ofBits .f32 0x44800000#32) + Ideal.ofBits .f32 0x358637BD#32
    = val_main_v12 (F := Ideal) (a0 m c) (ix2 R 0) := (Reference.v12_apply _ R).symm

theorem RS_eq (R : Fin 8192) : RS m c R = val_main_v13 (F := Ideal) (a0 m c) (ix2 R 0) := by
  rw [Reference.v13_apply, ← V_eq, RS]

theorem G_eq (R : Fin 8192) (j : Fin 1024) : G m c R j = val_main_v48 (F := Ideal) (a1 m c) (a2 m c) (a3 m c) (a5 m c) (ix2 R j) := by
  rw [Reference.v48_apply, ← DH_eq]; rfl

theorem GX_eq (R : Fin 8192) (j : Fin 1024) : GX m c R j
    = val_main_v64 (F := Ideal) (a0 m c) (a1 m c) (a2 m c) (a3 m c) (a4 m c) (a5 m c) (ix2 R j) := by
  obtain ⟨e, he, hE⟩ := ofBits_eps
  have hv := meanSq (argX m c R) he
  rw [← hE, ← ofBits_1024, V_eq] at hv
  rw [Reference.v64_apply, Reference.v60_apply, GX, RS_eq, G_eq, Reference.v13_apply]
  simp only [G_eq]
  rw [ofBits_1024, ofBits_neg_half]
  exact norm_grad (argX m c R) (fun k => val_main_v48 (F := Ideal) (a1 m c) (a2 m c) (a3 m c) (a5 m c) (ix2 R k)) _ _ j hv

/-- Summing over the blocks and over the rows of a block is summing over the rows. -/
theorem sum_rows (f : Fin 8192 → EReal) : ∑ t : Fin 8, ∑ r : Fin 1024, f (row t r) = ∑ R, f R := by
  rw [← Finset.sum_product', ← (finProdFinEquiv (m := 8) (n := 1024)).sum_comp f]
  exact Finset.sum_congr rfl fun p _ => congrArg f (Fin.ext ((add_comm _ _).trans (finProdFinEquiv_apply_val p).symm))

theorem sums_eq (i : Fin 8) (j : Fin 1024) : ∑ t : Fin 8, ∑ r : Fin 1024, term m c i.val j (row t r)
    = val_main_v70 (F := Ideal) (a0 m c) (a1 m c) (a2 m c) (a3 m c) (a5 m c) (ix2 i j) := by
  rw [sum_rows (term m c i.val j), Reference.v70_apply]
  simp only [Reference.v21_apply, Reference.v18_apply, Reference.v42_apply, ← DH_eq, ← RS_eq]
  unfold term
  split_ifs
  · exact Finset.sum_congr rfl fun R _ => mul_comm _ _
  · exact Finset.sum_congr rfl fun R _ => mul_comm _ _
  · rfl
  · simp

end Cert.Proof.ProjIn

end
-- ==== Proof.ProjIn.Claims.lean ====
module

public import proofs.«01_k».proof.Defs
public import proofs.«01_k».proof.Proof.Gen.ProjInRefIdeal.Run
public import proofs.«01_k».proof.Proof.ProjIn.Equal
public import Idealize.ShloMosaic.Lib.Claim

/-! The value claim and the reference's frame. -/

@[expose] public section

noncomputable section

namespace Cert.Proof.ProjIn

open Idealize.ShloMosaic Idealize.ShloMosaic.TcCoe Idealize.SL.Sem Idealize.ShloMosaic.Pointwise Cert.ProjInRefIdeal.Read

theorem frame_reference : Cert.quiescent_ProjInRefIdeal (hProjInRefIdeal := Cert.ProjInRefIdeal.Gen.facts) := fun m ρ _ =>
  (θ_run Cert.ProjInRefIdeal.defs _ _).mono (fun r h => ⟨fun c => (h c).2.2, sem_eq_zero_of_no_sems (by decide) r.2⟩)
    (Cert.ProjInRefIdeal.Value.run (F := Ideal) m ρ)

theorem algebraic : Cert.algebraic_ProjInIdeal_ProjInRefIdeal (hProjInIdeal := Cert.ProjInIdeal.Gen.facts)
    (hProjInRefIdeal := Cert.ProjInRefIdeal.Gen.facts) := by
  intro m g m' g' _ hm
  refine ⟨_, _, (θ_run Cert.ProjInIdeal.defs _ _).mono (fun _ h => h) (Cert.ProjInIdeal.Value.run_blocks (F := Ideal) m g),
    (θ_run Cert.ProjInRefIdeal.defs _ _).mono (fun _ h c => ⟨(h c).1.trans ?_, (h c).2.1.trans ?_, (h c).2.2⟩)
      (Cert.ProjInRefIdeal.Value.run (F := Ideal) m' g')⟩
  · obtain ⟨h0, h1, h2, h3, h4, h5⟩ := hm c
    rw [val_main_v64_eq, h0, h1, h2, h3, h4, h5]
    funext y
    rw [eq_ix2 y]
    exact ((final_6 m c _ _).trans (GX_eq m c _ _)).symm
  · obtain ⟨h0, h1, h2, h3, h4, h5⟩ := hm c
    rw [val_main_v70_eq, h0, h1, h2, h3, h5]
    funext y
    rw [eq_ix2 y]
    exact ((final_7 m c _ _).trans (sums_eq m c _ _)).symm

end Cert.Proof.ProjIn

end
-- ==== Proof.Gmlp.Gate.lean ====
module

public import Idealize.ShloMosaic.Lib.Pointwise
public import proofs.«01_k».proof.Proof.Common.Ereal

/-! The gate's scalar parts and one row of the layer norm's gradient, at finite arguments. -/

@[expose] public section

noncomputable section

namespace Cert.Proof.Gmlp

open Idealize.ShloMosaic Cert.Proof.Ereal

theorem coe_sum {ι : Type} [Fintype ι] (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

/-- An extended real that is a real. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.zero : IsReal 0 := ⟨0, by push_cast; rfl⟩
theorem IsReal.sum {ι : Type} [Fintype ι] {f : ι → EReal} (h : ∀ k, IsReal (f k)) : IsReal (∑ k, f k) := by
  choose g hg using h
  exact ⟨∑ k, g k, by rw [funext hg]; exact (coe_sum g).symm⟩

def half : EReal := Ideal.ofBits .f32 0x3F000000#32
def width : EReal := Ideal.ofBits .f32 0x44000000#32
def tiny : EReal := Ideal.ofBits .f32 0x358637BD#32
/-- The root of a half, and the normal density at zero up to the rounding of the slope of `erf`. -/
def root : EReal := (((Real.sqrt 2)⁻¹ : ℝ) : EReal)
def dens : EReal := ((9465531 / 16777216 * (Real.sqrt 2)⁻¹ : ℝ) : EReal)

def cdf (x : EReal) : EReal := half * (1 + Ideal.erf (x * root))
def gel (x : EReal) : EReal := x * cdf x
def dgel (x : EReal) : EReal := cdf x + x * (Ideal.exp (Ideal.ofBits .f32 0xBF000000#32 * x * x) * dens)

theorem half_eq : half = ((1 / 2 : ℝ) : EReal) := by
  simp [half, Ideal.ofBits, Ideal.ieee, -EReal.coe_mul]; norm_num
theorem width_eq : width = ((512 : ℝ) : EReal) := by
  simp [width, Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem slope_eq : Ideal.ofBits .f32 0xBF906EBB#32 = ((-(9465531 / 8388608) : ℝ) : EReal) := by
  simp [Ideal.ofBits, Ideal.ieee, -EReal.coe_mul]; norm_num
theorem root_eq : Ideal.sqrt half = root := by
  rw [half_eq, Ideal.sqrt_coe, if_neg (by norm_num), root]
  norm_num [Real.sqrt_inv]

theorem erf_isReal {x : EReal} (hx : IsReal x) : IsReal (Ideal.erf x) := by
  obtain ⟨a, rfl⟩ := hx; exact ⟨_, Ideal.erf_coe a⟩

theorem cdf_isReal {x : EReal} (hx : IsReal x) : IsReal (cdf x) :=
  (half_eq ▸ IsReal.coe _ : IsReal half).mul (IsReal.add ⟨1, by push_cast; rfl⟩ (erf_isReal (hx.mul (IsReal.coe _))))

theorem gel_isReal {x : EReal} (hx : IsReal x) : IsReal (gel x) := hx.mul (cdf_isReal hx)

/-- The reference's gate: `erfc` of the negated argument. -/
theorem gel_erfc (x : EReal) : half * x * Ideal.erfc (-x * root) = gel x := by
  rw [EReal.neg_mul, Ideal.erfc_neg, gel, cdf, mul_comm half x, mul_assoc]

/-- The reference's derivative of the gate. -/
theorem dgel_erfc {x q : EReal} (hx : IsReal x) (hq : IsReal q) :
    -(Ideal.ofBits .f32 0xBF906EBB#32 * (half * x * q) * Ideal.exp (-(-x * root * (-x * root))) * root)
      + half * (q * Ideal.erfc (-x * root)) = q * dgel x := by
  obtain ⟨e, he⟩ := erf_isReal (hx.mul (IsReal.coe (Real.sqrt 2)⁻¹))
  rw [EReal.neg_mul x root, Ideal.erfc_neg, dgel, cdf]
  change _ = _ at he
  rw [show Ideal.erf (x * root) = _ from he]
  obtain ⟨x, rfl⟩ := hx; obtain ⟨q, rfl⟩ := hq
  rw [slope_eq, half_eq, ofBits_neg_half, root, dens]
  have h2 : (Real.sqrt 2)⁻¹ * (Real.sqrt 2)⁻¹ = (1 / 2 : ℝ) := by
    rw [← mul_inv, Real.mul_self_sqrt (by norm_num)]; norm_num
  have hs : (-(-((x : EReal) * ((Real.sqrt 2)⁻¹ : ℝ)) * -((x : EReal) * ((Real.sqrt 2)⁻¹ : ℝ)))) = ((-(1 / 2) * x * x : ℝ) : EReal) := by
    norm_cast
    rw [neg_mul_neg]
    linear_combination (-(x * x)) * h2
  rw [hs, show ((-(1 / 2) : ℝ) : EReal) * (x : EReal) * (x : EReal) = ((-(1 / 2) * x * x : ℝ) : EReal) by push_cast; rfl, Ideal.exp_coe]
  norm_cast
  ring

/-! One row of the layer norm: its values `f`, the derivative `g` at the normalised row. -/

section
variable (f g : Fin 512 → EReal)

def mean : EReal := Ideal.div (∑ k, f k) width
def cent (j : Fin 512) : EReal := f j - mean f
def spread : EReal := mean (fun k => cent f k * cent f k) + tiny
def rstd : EReal := Ideal.rsqrt (spread f)
def hat (j : Fin 512) : EReal := cent f j * rstd f
/-- The gradient at the row. -/
def lnGrad (j : Fin 512) : EReal := rstd f * (g j - mean g - hat f j * mean (fun k => g k * hat f k))

variable {f g}

theorem mean_coe (a : Fin 512 → ℝ) : mean (fun k => (a k : EReal)) = (((∑ k, a k) / 512 : ℝ) : EReal) := by
  rw [mean, width_eq, Ideal.div_coe (by norm_num), ← coe_sum, ← EReal.coe_mul, mul_one_div]

theorem mean_isReal (hf : ∀ k, IsReal (f k)) : IsReal (mean f) := by
  choose a ha using hf
  rw [funext ha]; exact ⟨_, mean_coe a⟩

theorem cent_isReal (hf : ∀ k, IsReal (f k)) (j : Fin 512) : IsReal (cent f j) := (hf j).sub (mean_isReal hf)

theorem spread_pos (hf : ∀ k, IsReal (f k)) : ∃ s : ℝ, 0 < s ∧ spread f = (s : EReal) := by
  choose c hc using cent_isReal hf
  obtain ⟨e, he, hb⟩ := ofBits_eps
  refine ⟨(∑ k, c k * c k) / 512 + e, ?_, ?_⟩
  · have : 0 ≤ ∑ k, c k * c k := Finset.sum_nonneg fun k _ => mul_self_nonneg _
    positivity
  · rw [spread, tiny, hb, EReal.coe_add, ← mean_coe]
    simp only [hc, EReal.coe_mul]

theorem rstd_coe (hf : ∀ k, IsReal (f k)) : ∃ s : ℝ, 0 < s ∧ spread f = (s : EReal) ∧ rstd f = (((Real.sqrt s)⁻¹ : ℝ) : EReal) := by
  obtain ⟨s, h, hs⟩ := spread_pos hf
  exact ⟨s, h, hs, by rw [rstd, hs, Ideal.rsqrt_coe, if_neg (not_lt.mpr h.le), if_neg h.ne']⟩

theorem rstd_isReal (hf : ∀ k, IsReal (f k)) : IsReal (rstd f) := by
  obtain ⟨s, -, -, h⟩ := rstd_coe hf; exact ⟨_, h⟩

theorem hat_isReal (hf : ∀ k, IsReal (f k)) (j : Fin 512) : IsReal (hat f j) := (cent_isReal hf j).mul (rstd_isReal hf)

theorem lnGrad_isReal (hf : ∀ k, IsReal (f k)) (hg : ∀ k, IsReal (g k)) (j : Fin 512) : IsReal (lnGrad f g j) :=
  (rstd_isReal hf).mul (((hg j).sub (mean_isReal hg)).sub ((hat_isReal hf j).mul (mean_isReal fun k => (hg k).mul (hat_isReal hf k))))

/-- What the reference writes for the gradient of the variance at column `j`. -/
def varGrad (f g : Fin 512 → EReal) (j : Fin 512) : EReal :=
  Ideal.div ((∑ k, cent f k * g k) * (Ideal.ofBits .f32 0xBF000000#32 * Ideal.div (rstd f) (spread f))) width
    * (Ideal.ofBits .f32 0x40000000#32 * cent f j)

/-- The reference's gradient at the row: through the value, the variance and the mean. -/
theorem lnGrad_eq (hf : ∀ k, IsReal (f k)) (hg : ∀ k, IsReal (g k)) (j : Fin 512) :
    g j * rstd f + varGrad f g j + Ideal.div ((∑ k, -(g k * rstd f)) + ∑ k, -(varGrad f g k)) width = lnGrad f g j := by
  obtain ⟨s, h0, hs, hr⟩ := rstd_coe hf
  choose c hc using cent_isReal hf
  choose b hb using hg
  choose a ha using hf
  set r : ℝ := (Real.sqrt s)⁻¹ with hrdef
  have hrr : r * r = 1 / s := by rw [hrdef, ← mul_inv, Real.mul_self_sqrt h0.le, one_div]
  have hc0 : ∑ k, c k = 0 := by
    have hm : mean f = (((∑ k, a k) / 512 : ℝ) : EReal) := by rw [show f = fun k => (a k : EReal) from funext ha]; exact mean_coe a
    have hck : ∀ k, c k = a k - (∑ k, a k) / 512 := fun k => by
      have := hc k
      rw [cent, ha k, hm, ← EReal.coe_sub] at this
      exact (EReal.coe_injective this).symm
    rw [Finset.sum_congr rfl fun k _ => hck k, Finset.sum_sub_distrib, Finset.sum_const, Finset.card_univ, Fintype.card_fin, nsmul_eq_mul]
    push_cast; ring
  have hv : ∀ k, varGrad f g k = ((((∑ k, c k * b k) * (-(1 / 2) * (r / s)) / 512) * (2 * c k) : ℝ) : EReal) := fun k => by
    unfold varGrad
    rw [hr, hs, ofBits_neg_half, two_eq, width_eq, Ideal.div_coe h0.ne', Ideal.div_coe (by norm_num)]
    simp only [hc, hb]
    rw [show (∑ k, (c k : EReal) * (b k : EReal)) = ((∑ k, c k * b k : ℝ) : EReal) by rw [coe_sum]; simp only [EReal.coe_mul]]
    norm_cast
    ring
  have hm : mean g = (((∑ k, b k) / 512 : ℝ) : EReal) := by rw [show g = fun k => (b k : EReal) from funext hb]; exact mean_coe b
  have hm2 : mean (fun k => g k * hat f k) = (((∑ k, b k * (c k * r)) / 512 : ℝ) : EReal) := by
    rw [← mean_coe]; congr 1; funext k; rw [hat, hb, hc, hr]; norm_cast
  rw [lnGrad, hm, hm2, hat, hr, hc, hb]
  simp only [hv, hb]
  have e1 : (∑ k, -((b k : EReal) * (r : EReal))) = ((∑ k, -(b k * r) : ℝ) : EReal) := by
    rw [coe_sum]; exact Finset.sum_congr rfl fun k _ => by norm_cast
  have e2 : (∑ k, -((((((∑ k, c k * b k) * (-(1 / 2) * (r / s)) / 512) * (2 * c k) : ℝ)) : EReal)))
      = ((∑ k, -(((∑ k, c k * b k) * (-(1 / 2) * (r / s)) / 512) * (2 * c k)) : ℝ) : EReal) := by
    rw [coe_sum]; exact Finset.sum_congr rfl fun k _ => (EReal.coe_neg _).symm
  have s1 : ∑ k, -(b k * r) = -((∑ k, b k) * r) := by rw [Finset.sum_neg_distrib, Finset.sum_mul]
  have s2 : ∑ k, -(((∑ k, c k * b k) * (-(1 / 2) * (r / s)) / 512) * (2 * c k)) = 0 := by
    rw [Finset.sum_neg_distrib, ← Finset.mul_sum, ← Finset.mul_sum, hc0]; simp
  have s3 : ∑ k, b k * (c k * r) = (∑ k, c k * b k) * r := by
    rw [Finset.sum_mul]; exact Finset.sum_congr rfl fun k _ => by ring
  rw [e1, e2, s1, s2, s3, width_eq, Ideal.div_coe (by norm_num)]
  generalize (∑ k, b k) = B
  generalize (∑ k, c k * b k) = A
  rw [div_eq_mul_one_div r s, ← hrr]
  simp only [← EReal.coe_mul, ← EReal.coe_add, ← EReal.coe_sub, ← EReal.coe_neg]
  exact congrArg _ (by ring)

end

end Cert.Proof.Gmlp

end
-- ==== Proof.Gmlp.Block.lean ====
module

public import proofs.«01_k».proof.Proof.Gmlp.Gate
public import proofs.«01_k».proof.Proof.Gen.GmlpIdeal.Skeleton

/-! One block of 128 rows of the gating unit's gradient, as the body computes it. -/

@[expose] public section

set_option maxRecDepth 16384

noncomputable section

namespace Cert.Proof.Gmlp

open Cert.GmlpIdeal Cert.GmlpIdeal.Gen Idealize.ShloMosaic Idealize.ShloMosaic.Pointwise

/-- A block's rows of the two halves of the projection and of the cotangent. -/
abbrev Rows := Vec Ideal S128x512 .f32

variable (U V Y : Rows) (W : Fin 4 → Vec Ideal S1x128x128 .bf16) (C : Fin 4 → Vec Ideal S128x1 .f32)
    (g b : Vec Ideal S1x512 .f32)

/-- The normalised rows. -/
def vn : FVec Ideal S128x512 .bf16 := k0_pay22 (k0_pay12 V) g b (k0_pay16 V)

/-- The cotangent of the mixed rows. -/
def dmx : FVec Ideal S128x512 .bf16 := k0_pay30 (k0_pay14 U) Y

/-- The gradient of the first half. -/
def du : FVec Ideal S128x512 .bf16 :=
  k0_pay27 (k0_pay15 U) (vn V g b) (k0_pay23 (k0_pay12 V) g b (k0_pay16 V) (W 0) (C 0))
    (k0_pay24 (k0_pay12 V) g b (k0_pay16 V) (W 1)) (k0_pay25 (C 1)) (W 2) (C 2) (W 3) (C 3) Y

/-- The cotangent of the normalised rows. -/
def dvn : FVec Ideal S128x512 .f32 :=
  k0_pay41 (dmx U Y) (k0_pay36 (dmx U Y) (W 0)) (k0_pay38 (dmx U Y) (W 1)) (W 2) (W 3)

/-- The gradient of the second half. -/
def dv : FVec Ideal S128x512 .bf16 :=
  k0_pay44 (k0_pay18 (k0_pay12 V) (k0_pay16 V) (k0_pay17 V)) (k0_pay20 (k0_pay12 V) (k0_pay16 V))
    (k0_pay21 (k0_pay12 V) (k0_pay16 V)) (dvn U Y W) g

/-- The pairs of positions whose weights are kept. -/
def kept : IVec S128x128 1 :=
  k0_pay32 k0_pay6 (k0_pay10 (iota .tc S128x128 32 [1] iota_S128x128_d1_w32) 64#32 k0_pay7 k0_pay8 k0_pay9)

/-- One block's contribution to a head's weight gradient. -/
def dw (h : ℕ) (inb : S128x512.Slices ![0, h] S128x128) : FVec Ideal S128x128 .f32 :=
  select kept
    (matmul dot_S128x128_S128x128_S128x128_1_1_0_0_n_n none
      (extractStridedSlice S128x128 ![0, h] (dmx U Y) inb) (extractStridedSlice S128x128 ![0, h] (vn V g b) inb)
      (constant S128x128 .f32 0x00000000#32))
    (broadcast S128x128 (Scalar.ofBits .f32 0x00000000#32 : Ideal .f32))

/-- The one block's contributions of the four heads. -/
def dws : Fin 4 → FVec Ideal S128x128 .f32 :=
  ![dw U V Y g b 0 slices_S128x512_o0_0_S128x128, dw U V Y g b 128 slices_S128x512_o0_128_S128x128,
    dw U V Y g b 256 slices_S128x512_o0_256_S128x128, dw U V Y g b 384 slices_S128x512_o0_384_S128x128]

/-- One block's contribution to the scale's gradient. -/
def dlw : FVec Ideal S1x512 .f32 :=
  shapeCast S1x512 (multiReduction .add [0] S512 (mulf (dvn U Y W) (k0_pay21 (k0_pay12 V) (k0_pay16 V)))
    0x00000000#32 reduces_S128x512_S512 (.inl rfl) rfl) shapeCasts_S512_S1x512

/-- One block's contribution to the shift's gradient. -/
def dlb : FVec Ideal S1x512 .f32 :=
  shapeCast S1x512 (multiReduction .add [0] S512 (dvn U Y W) 0x00000000#32 reduces_S128x512_S512 (.inl rfl) rfl)
    shapeCasts_S512_S1x512

end Cert.Proof.Gmlp

end
-- ==== Proof.Common.Tiles.lean ====
module

public import Idealize.ShloMosaic.Lib.Pointwise
public import Idealize.ShloMosaic.Lib.Pipeline.Value
public import Idealize.ShloMosaic.Lib.WritesUnit

/-! A two-dimensional buffer into which a body stores tiles, read at an index. -/

@[expose] public section

noncomputable section

namespace Cert.Proof.Tiles

open Idealize.ShloMosaic Idealize.SL.Sem Idealize.ShloMosaic.Pointwise

variable {sig : RefSig} {κ : Kind} {sp : Space} {m n : ℕ} {e : EltTy} {Val : EltTy → Type}

/-- The tile of `k` by `l` entries at `(o, p)`. -/
abbrev tile (o p k l : ℕ) (inb : ∀ a : Fin 2, (![o, p] : Fin 2 → ℕ) a + (![k, l] : Fin 2 → ℕ) a ≤ (![m, n] : Fin 2 → ℕ) a) :
    Rect ⟨2, ![m, n]⟩ := Rect.unit (s := ⟨2, ![m, n]⟩) ![o, p] ![k, l] inb

variable {o p k l : ℕ} (inb : ∀ a : Fin 2, (![o, p] : Fin 2 → ℕ) a + (![k, l] : Fin 2 → ℕ) a ≤ (![m, n] : Fin 2 → ℕ) a)

theorem tile_emb (i : Fin k) (j : Fin l) (hi : o + i.val < m) (hj : p + j.val < n) :
    (tile o p k l inb).emb (ix2 i j) = ix2 (⟨o + i.val, hi⟩ : Fin m) (⟨p + j.val, hj⟩ : Fin n) := funext fun a => Fin.ext (by
  match a with
  | ⟨0, _⟩ => show o + 1 * i.val = o + i.val; omega
  | ⟨1, _⟩ => show p + 1 * j.val = p + j.val; omega)

/-- Inside its tile the newest piece is read. -/
theorem canon_tile_in [∀ e, Nonempty (Val e)] (w : (⟨2, ![k, l]⟩ : Shape).Idx → Val e) (L : List (View.Piece Val (⟨2, ![m, n]⟩ : Shape) e))
    (y : (⟨2, ![m, n]⟩ : Shape).Idx) (i : Fin k) (j : Fin l) (hi : (y 0).val = o + i.val) (hj : (y 1).val = p + j.val) :
    View.canon (⟨tile o p k l inb, w⟩ :: L) y = w (ix2 i j) := by
  have hy : (tile o p k l inb).emb (ix2 i j) = y := funext fun a => Fin.ext (by
    match a with
    | ⟨0, _⟩ => show o + 1 * i.val = (y 0).val; omega
    | ⟨1, _⟩ => show p + 1 * j.val = (y 1).val; omega)
  conv_lhs => rw [← hy]
  exact View.canon_cons_emb (tile o p k l inb) w L _

/-- Above, below or beside it the older pieces are. -/
theorem canon_tile_out [∀ e, Nonempty (Val e)] (w : (⟨2, ![k, l]⟩ : Shape).Idx → Val e) (L : List (View.Piece Val (⟨2, ![m, n]⟩ : Shape) e))
    (y : (⟨2, ![m, n]⟩ : Shape).Idx)
    (h : ¬ (o ≤ (y 0).val ∧ (y 0).val < o + k ∧ p ≤ (y 1).val ∧ (y 1).val < p + l)) :
    View.canon (⟨tile o p k l inb, w⟩ :: L) y = View.canon L y := by
  refine View.canon_cons_of_not_mem _ L fun hm => h ?_
  have h0 := (Rect.mem_set_unit (inb := inb).mp hm) 0
  have h1 := (Rect.mem_set_unit (inb := inb).mp hm) 1
  exact ⟨h0.1, h0.2, h1.1, h1.2⟩

/-- A tile loaded back reads the pieces at its place. -/
theorem readCov_tile [∀ e, Nonempty (Val e)] (v : View sig κ sp ⟨2, ![m, n]⟩ e) (L : List (View.Piece Val (⟨2, ![m, n]⟩ : Shape) e))
    (i : Fin k) (j : Fin l) (hi : o + i.val < m) (hj : p + j.val < n) :
    v.readCov L (tile o p k l inb).toLoadRect (ix2 i j) = View.canon L (ix2 (⟨o + i.val, hi⟩ : Fin m) (⟨p + j.val, hj⟩ : Fin n)) := by
  rw [View.readCov_eq_canon', ← tile_emb inb i j hi hj]
  rfl

/-- A tile of what the buffer held at entry. -/
theorem ld_tile (X : (⟨2, ![m, n]⟩ : Shape).Idx → Val e) (i : Fin k) (j : Fin l) (hi : o + i.val < m) (hj : p + j.val < n) :
    View.ld X (tile o p k l inb) (ix2 i j) = X (ix2 (⟨o + i.val, hi⟩ : Fin m) (⟨p + j.val, hj⟩ : Fin n)) := by
  rw [← tile_emb inb i j hi hj]
  rfl

/-- A step for each of the eight blocks after the first, and for all eight. -/
def later {α : Type} (step : Fin 8 → α → α) (a : α) : α :=
  step 7 (step 6 (step 5 (step 4 (step 3 (step 2 (step 1 a))))))
def every {α : Type} (step : Fin 8 → α → α) (a : α) : α := later step (step 0 a)

theorem later_map {α β : Type} (f : α → β) (step : Fin 8 → α → α) (step' : Fin 8 → β → β) (h : ∀ k a, f (step k a) = step' k (f a)) (a : α) :
    f (later step a) = later step' (f a) := by
  simp only [later, h]
theorem every_map {α β : Type} (f : α → β) (step : Fin 8 → α → α) (step' : Fin 8 → β → β) (h : ∀ k a, f (step k a) = step' k (f a)) (a : α) :
    f (every step a) = every step' (f a) := by
  simp only [every, later, h]
theorem later_add (f : Fin 8 → EReal) (a : EReal) : later (fun k x => x + f k) (a + f 0) = a + ∑ k, f k := by
  simp only [later, Fin.sum_univ_eight, add_assoc]
theorem every_add (f : Fin 8 → EReal) (a : EReal) : every (fun k x => x + f k) a = a + ∑ k, f k := later_add f a
theorem later_const {α : Type} (a : α) : later (fun _ x => x) a = a := rfl
theorem every_pick {α : Type} (q : Fin 8) (f : Fin 8 → α) (a : α) : every (fun k x => if k = q then f k else x) a = f q := by
  unfold every later
  fin_cases q <;> rfl

end Cert.Proof.Tiles

end
-- ==== Proof.Gmlp.Pieces.lean ====
module

public import proofs.«01_k».proof.Proof.Gmlp.Block
public import proofs.«01_k».proof.Proof.Common.Tiles
public import proofs.«01_k».proof.Proof.Gen.GmlpIdeal.Value

/-! The pieces the body stores into its windows at a point, block after block. -/

@[expose] public section

set_option maxRecDepth 16384

noncomputable section

namespace Cert.Proof.Gmlp

open Cert.GmlpIdeal Cert.GmlpIdeal.Gen Idealize.ShloMosaic Idealize.ShloMosaic.TcCoe Idealize.SL.Sem Idealize.ShloMosaic.Pointwise Cert.Proof.Tiles

theorem inb_rows (b : Fin 8) (o : Fin 2 → ℕ) (ho : o = ![128 * b.val, 0]) : ∀ a, o a + S128x512.size a ≤ S1024x512.size a := by
  subst ho
  intro a
  have hb := b.isLt
  match a with
  | ⟨0, _⟩ => show 128 * b.val + 128 ≤ 1024; omega
  | ⟨1, _⟩ => show 0 + 512 ≤ 512; omega

/-- Block `b`'s rows as the body loads them. -/
def loaded (arg : Memref sig .tc .vmem S1024x512 .f32) (f : arg.view.ty.Contents (Elt Ideal)) (b : Fin 8) : Rows :=
  View.readAt (Elt Ideal) arg.view (Rect.unit (s := S1024x512) ![128 * b.val, 0] S128x512.size (inb_rows b _ rfl)).toLoadRect f

/-- The four heads' mixing weights and biases as the body loads them. -/
def weights (arg : Memref sig .tc .vmem S4x128x128 .bf16) (f : arg.view.ty.Contents (Elt Ideal)) : Fin 4 → Vec Ideal S1x128x128 .bf16 :=
  ![View.readAt (Elt Ideal) arg.view (Rect.unit (s := S4x128x128) ![0, 0, 0] S1x128x128.size inb_S4x128x128_S1x128x128_0_0_0).toLoadRect f,
    View.readAt (Elt Ideal) arg.view (Rect.unit (s := S4x128x128) ![1, 0, 0] S1x128x128.size inb_S4x128x128_S1x128x128_1_0_0).toLoadRect f,
    View.readAt (Elt Ideal) arg.view (Rect.unit (s := S4x128x128) ![2, 0, 0] S1x128x128.size inb_S4x128x128_S1x128x128_2_0_0).toLoadRect f,
    View.readAt (Elt Ideal) arg.view (Rect.unit (s := S4x128x128) ![3, 0, 0] S1x128x128.size inb_S4x128x128_S1x128x128_3_0_0).toLoadRect f]
def biases (arg : Memref sig .tc .vmem S128x4 .f32) (f : arg.view.ty.Contents (Elt Ideal)) : Fin 4 → Vec Ideal S128x1 .f32 :=
  ![View.readAt (Elt Ideal) arg.view (Rect.unit (s := S128x4) ![0, 0] S128x1.size inb_S128x4_S128x1_0_0).toLoadRect f,
    View.readAt (Elt Ideal) arg.view (Rect.unit (s := S128x4) ![0, 1] S128x1.size inb_S128x4_S128x1_0_1).toLoadRect f,
    View.readAt (Elt Ideal) arg.view (Rect.unit (s := S128x4) ![0, 2] S128x1.size inb_S128x4_S128x1_0_2).toLoadRect f,
    View.readAt (Elt Ideal) arg.view (Rect.unit (s := S128x4) ![0, 3] S128x1.size inb_S128x4_S128x1_0_3).toLoadRect f]
/-- A parameter's one row. -/
def oneRow (arg : Memref sig .tc .vmem S1x512 .f32) (f : arg.view.ty.Contents (Elt Ideal)) : Vec Ideal S1x512 .f32 :=
  View.readAt (Elt Ideal) arg.view (Rect.unit ![0, 0] S1x512.size inb_S1x512_S1x512_0_0).toLoadRect f

section
variable (U V Y : Fin 8 → Rows) (W : Fin 4 → Vec Ideal S1x128x128 .bf16) (C : Fin 4 → Vec Ideal S128x1 .f32)
    (g b : Vec Ideal S1x512 .f32)

theorem inb_out (k : Fin 8) (p : ℕ) (hp : p + 512 ≤ 1024) : ∀ a, (![128 * k.val, p] : Fin 2 → ℕ) a + S128x512.size a ≤ S1024x1024.size a := by
  intro a
  have hb := k.isLt
  match a with
  | ⟨0, _⟩ => show 128 * k.val + 128 ≤ 1024; omega
  | ⟨1, _⟩ => show p + 512 ≤ 1024; omega

/-- The two gradients of block `k`, side by side. -/
def put7 (k : Fin 8) (L : List (View.Piece (Elt Ideal) S1024x1024 .bf16)) : List (View.Piece (Elt Ideal) S1024x1024 .bf16) :=
  ⟨Rect.unit ![128 * k.val, 512] S128x512.size (inb_out k 512 (by decide)), dv (U k) (V k) (Y k) W g⟩ ::
  ⟨Rect.unit ![128 * k.val, 0] S128x512.size (inb_out k 0 (by decide)), du (U k) (V k) (Y k) W C g b⟩ :: L

theorem put7_eq {U V Y W C g b} {k : Fin 8} {L L' : List (View.Piece (Elt Ideal) S1024x1024 .bf16)} {o o' : Fin 2 → ℕ}
    {inb : ∀ a, o a + S128x512.size a ≤ S1024x1024.size a} {inb' : ∀ a, o' a + S128x512.size a ≤ S1024x1024.size a}
    {w w' : S128x512.Idx → Ideal .bf16} (ho : o = ![128 * k.val, 512]) (ho' : o' = ![128 * k.val, 0])
    (hw : w = dv (U k) (V k) (Y k) W g) (hw' : w' = du (U k) (V k) (Y k) W C g b) (hL : L = L') :
    ⟨Rect.unit (s := S1024x1024) o S128x512.size inb, w⟩ :: ⟨Rect.unit (s := S1024x1024) o' S128x512.size inb', w'⟩ :: L
      = put7 U V Y W C g b k L' := by
  subst ho ho' hw hw' hL
  rfl

end

section
variable (arg : Memref sig .tc .vmem S512x128 .f32) (D : Fin 4 → FVec Ideal S128x128 .f32)

theorem inb_head (h : Fin 4) : ∀ a, (![128 * h.val, 0] : Fin 2 → ℕ) a + S128x128.size a ≤ S512x128.size a := by
  intro a
  have hb := h.isLt
  match a with
  | ⟨0, _⟩ => show 128 * h.val + 128 ≤ 512; omega
  | ⟨1, _⟩ => show 0 + 128 ≤ 128; omega

abbrev headRect (h : Fin 4) : Rect S512x128 := Rect.unit ![128 * h.val, 0] S128x128.size (inb_head h)

/-- A head's weight gradient of one block added to what the pieces leave. -/
def put8 (h : Fin 4) (L : List (View.Piece (Elt Ideal) S512x128 .f32)) : List (View.Piece (Elt Ideal) S512x128 .f32) :=
  ⟨headRect h, addf (shapeCast S128x128 (arg.view.readCov L (headRect h).toLoadRect : FVec Ideal S128x128 .f32) shapeCasts_S128x128_S128x128) (D h)⟩ :: L
def put8s (L : List (View.Piece (Elt Ideal) S512x128 .f32)) : List (View.Piece (Elt Ideal) S512x128 .f32) :=
  put8 arg D 3 (put8 arg D 2 (put8 arg D 1 (put8 arg D 0 L)))

/-- The same added to what the point found. -/
def start8 (f : arg.view.ty.Contents (Elt Ideal)) (h : Fin 4) : View.Piece (Elt Ideal) S512x128 .f32 :=
  ⟨headRect h, addf (shapeCast S128x128 (View.readAt (Elt Ideal) arg.view (headRect h).toLoadRect f : FVec Ideal S128x128 .f32) shapeCasts_S128x128_S128x128) (D h)⟩

theorem put8_eq {arg D} {h : Fin 4}
    {L L' : List (View.Piece (Elt Ideal) S512x128 .f32)} {o : Fin 2 → ℕ} {inb : ∀ a, o a + S128x128.size a ≤ S512x128.size a}
    {w : S128x128.Idx → Ideal .f32} (ho : o = ![128 * h.val, 0])
    (hw : w = addf (shapeCast S128x128 (arg.view.readCov L (Rect.unit (s := S512x128) o S128x128.size inb).toLoadRect : FVec Ideal S128x128 .f32) shapeCasts_S128x128_S128x128) (D h))
    (hL : L = L') :
    ⟨Rect.unit (s := S512x128) o S128x128.size inb, w⟩ :: L = put8 arg D h L' := by
  subst ho hw hL
  rfl

theorem start8_eq {arg : Memref sig .tc .vmem S512x128 .f32} {D : Fin 4 → FVec Ideal S128x128 .f32} {f : arg.view.ty.Contents (Elt Ideal)} {h : Fin 4}
    {L L' : List (View.Piece (Elt Ideal) S512x128 .f32)} {o : Fin 2 → ℕ} {inb : ∀ a, o a + S128x128.size a ≤ S512x128.size a}
    {w : S128x128.Idx → Ideal .f32} (ho : o = ![128 * h.val, 0])
    (hw : w = addf (shapeCast S128x128 (View.readAt (Elt Ideal) arg.view (Rect.unit (s := S512x128) o S128x128.size inb).toLoadRect f : FVec Ideal S128x128 .f32) shapeCasts_S128x128_S128x128) (D h))
    (hL : L = L') :
    ⟨Rect.unit (s := S512x128) o S128x128.size inb, w⟩ :: L = start8 arg D f h :: L' := by
  subst ho hw hL
  rfl

end

section
variable (arg : Memref sig .tc .vmem S8x512 .f32) (d : Fin 2 → FVec Ideal S1x512 .f32)

theorem inb_line (h : Fin 2) : ∀ a, (![h.val, 0] : Fin 2 → ℕ) a + S1x512.size a ≤ S8x512.size a := by
  intro a
  have hb := h.isLt
  match a with
  | ⟨0, _⟩ => show h.val + 1 ≤ 8; omega
  | ⟨1, _⟩ => show 0 + 512 ≤ 512; omega

abbrev lineRect (h : Fin 2) : Rect S8x512 := Rect.unit ![h.val, 0] S1x512.size (inb_line h)

/-- One row of one block's parameter gradients added to what the pieces leave. -/
def put10 (h : Fin 2) (L : List (View.Piece (Elt Ideal) S8x512 .f32)) : List (View.Piece (Elt Ideal) S8x512 .f32) :=
  ⟨lineRect h, addf (shapeCast S1x512 (arg.view.readCov L (lineRect h).toLoadRect : FVec Ideal S1x512 .f32) shapeCasts_S1x512_S1x512) (d h)⟩ :: L
def put10s (L : List (View.Piece (Elt Ideal) S8x512 .f32)) : List (View.Piece (Elt Ideal) S8x512 .f32) :=
  put10 arg d 1 (put10 arg d 0 L)

/-- The same added to what the point found. -/
def start10 (f : arg.view.ty.Contents (Elt Ideal)) (h : Fin 2) : View.Piece (Elt Ideal) S8x512 .f32 :=
  ⟨lineRect h, addf (shapeCast S1x512 (View.readAt (Elt Ideal) arg.view (lineRect h).toLoadRect f : FVec Ideal S1x512 .f32) shapeCasts_S1x512_S1x512) (d h)⟩

theorem put10_eq {arg d} {h : Fin 2}
    {L L' : List (View.Piece (Elt Ideal) S8x512 .f32)} {o : Fin 2 → ℕ} {inb : ∀ a, o a + S1x512.size a ≤ S8x512.size a}
    {w : S1x512.Idx → Ideal .f32} (ho : o = ![h.val, 0])
    (hw : w = addf (shapeCast S1x512 (arg.view.readCov L (Rect.unit (s := S8x512) o S1x512.size inb).toLoadRect : FVec Ideal S1x512 .f32) shapeCasts_S1x512_S1x512) (d h))
    (hL : L = L') :
    ⟨Rect.unit (s := S8x512) o S1x512.size inb, w⟩ :: L = put10 arg d h L' := by
  subst ho hw hL
  rfl

theorem start10_eq {arg : Memref sig .tc .vmem S8x512 .f32} {d : Fin 2 → FVec Ideal S1x512 .f32} {f : arg.view.ty.Contents (Elt Ideal)} {h : Fin 2}
    {L L' : List (View.Piece (Elt Ideal) S8x512 .f32)} {o : Fin 2 → ℕ} {inb : ∀ a, o a + S1x512.size a ≤ S8x512.size a}
    {w : S1x512.Idx → Ideal .f32} (ho : o = ![h.val, 0])
    (hw : w = addf (shapeCast S1x512 (View.readAt (Elt Ideal) arg.view (Rect.unit (s := S8x512) o S1x512.size inb).toLoadRect f : FVec Ideal S1x512 .f32) shapeCasts_S1x512_S1x512) (d h))
    (hL : L = L') :
    ⟨Rect.unit (s := S8x512) o S1x512.size inb, w⟩ :: L = start10 arg d f h :: L' := by
  subst ho hw hL
  rfl

end

section
variable (arg : Memref sig .tc .vmem S128x512 .f32) (d : Rows)

abbrev allRect : Rect S128x512 := Rect.unit ![0, 0] S128x512.size inb_S128x512_S128x512_0_0

/-- One block's cotangents added to what the pieces leave. -/
def put12 (L : List (View.Piece (Elt Ideal) S128x512 .f32)) : List (View.Piece (Elt Ideal) S128x512 .f32) :=
  ⟨allRect, shapeCast S128x512 (addf (arg.view.readCov L allRect.toLoadRect : FVec Ideal S128x512 .f32) d : FVec Ideal S128x512 .f32) shapeCasts_S128x512_S128x512⟩ :: L
/-- The same added to what the point found. -/
def start12 (f : arg.view.ty.Contents (Elt Ideal)) : View.Piece (Elt Ideal) S128x512 .f32 :=
  ⟨allRect, shapeCast S128x512 (addf (View.readAt (Elt Ideal) arg.view allRect.toLoadRect f : FVec Ideal S128x512 .f32) d : FVec Ideal S128x512 .f32) shapeCasts_S128x512_S128x512⟩

theorem put12_eq {arg : Memref sig .tc .vmem S128x512 .f32} {d : Rows} {L L' : List (View.Piece (Elt Ideal) S128x512 .f32)} {inb : ∀ a, (![0, 0] : Fin 2 → ℕ) a + S128x512.size a ≤ S128x512.size a}
    {w : S128x512.Idx → Ideal .f32}
    (hw : w = shapeCast S128x512 (addf (arg.view.readCov L (Rect.unit (s := S128x512) ![0, 0] S128x512.size inb).toLoadRect : FVec Ideal S128x512 .f32) d : FVec Ideal S128x512 .f32) shapeCasts_S128x512_S128x512)
    (hL : L = L') :
    ⟨Rect.unit (s := S128x512) ![0, 0] S128x512.size inb, w⟩ :: L = put12 arg d L' := by
  subst hw hL
  rfl

end

/-- A block's cotangents of the mixed rows, before their rounding. -/
def dm (U Y : Rows) : Rows := k0_pay28 (k0_pay14 U) Y

section
variable (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S4x128x128 .bf16) (harg4 : arg4.IsWhole) (arg5 : Memref sig .tc .vmem S128x4 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x128 .f32) (harg9 : arg9.IsWhole) (arg10 : Memref sig .tc .vmem S8x128 .f32) (harg10 : arg10.IsWhole) (arg11 : Memref sig .tc .vmem S8x512 .f32) (harg11 : arg11.IsWhole) (arg12 : Memref sig .tc .vmem S128x512 .f32) (harg12 : arg12.IsWhole)
    (x0 : Vec Ideal S1024x512 .f32) (x1 : Vec Ideal S1024x512 .f32) (x2 : Vec Ideal S1024x512 .f32) (x3 : Vec Ideal S4x128x128 .bf16) (x4 : Vec Ideal S128x4 .f32) (x5 : Vec Ideal S1x512 .f32) (x6 : Vec Ideal S1x512 .f32)
    (xo8 : Vec Ideal S512x128 .f32) (xo10 : Vec Ideal S8x512 .f32) (xs0 : Vec Ideal S128x512 .f32)

set_option maxHeartbeats 1000000

theorem pieces7_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1
      = every (put7 (loaded arg1 (harg1.unread x0)) (loaded arg2 (harg2.unread x1)) (loaded arg3 (harg3.unread x2)) (weights arg4 (harg4.unread x3)) (biases arg5 (harg5.unread x4)) (oneRow arg6 (harg6.unread x5)) (oneRow arg7 (harg7.unread x6))) [] := by
  unfold kernelRun0_A
  dsimp only
  unfold every later
  iterate 8 refine put7_eq rfl rfl rfl rfl ?_
  rfl

theorem pieces8_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1
      = every (fun k => put8s arg9 ((fun k => dws ((loaded arg1 (harg1.unread x0)) k) ((loaded arg2 (harg2.unread x1)) k) ((loaded arg3 (harg3.unread x2)) k) (oneRow arg6 (harg6.unread x5)) (oneRow arg7 (harg7.unread x6))) k)) [⟨Rect.unit ![0, 0] S512x128.size inb_S512x128_S512x128_0_0, k0_pay3 (F := Ideal)⟩] := by
  unfold kernelRun0_A
  dsimp only
  unfold every later put8s
  iterate 32 refine put8_eq rfl rfl ?_
  rfl

theorem pieces10_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.1
      = every (fun k => put10s arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) k)) [⟨Rect.unit ![0, 0] S8x512.size inb_S8x512_S8x512_0_0, k0_pay4 (F := Ideal)⟩] := by
  unfold kernelRun0_A
  dsimp only
  unfold every later put10s
  iterate 16 refine put10_eq rfl rfl ?_
  rfl

theorem pieces12_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.2.1
      = every (fun k => put12 arg12 ((fun k => dm ((loaded arg1 (harg1.unread x0)) k) ((loaded arg3 (harg3.unread x2)) k)) k)) [⟨allRect, k0_pay5 (F := Ideal)⟩] := by
  unfold kernelRun0_A
  dsimp only
  unfold every later
  iterate 8 refine put12_eq rfl ?_
  rfl

theorem pieces7_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).1
      = every (put7 (loaded arg1 (harg1.unread x0)) (loaded arg2 (harg2.unread x1)) (loaded arg3 (harg3.unread x2)) (weights arg4 (harg4.unread x3)) (biases arg5 (harg5.unread x4)) (oneRow arg6 (harg6.unread x5)) (oneRow arg7 (harg7.unread x6))) [] := by
  unfold kernelRun0_B
  dsimp only
  unfold every later
  iterate 8 refine put7_eq rfl rfl rfl rfl ?_
  rfl

theorem pieces8_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.1
      = later (fun k => put8s arg9 ((fun k => dws ((loaded arg1 (harg1.unread x0)) k) ((loaded arg2 (harg2.unread x1)) k) ((loaded arg3 (harg3.unread x2)) k) (oneRow arg6 (harg6.unread x5)) (oneRow arg7 (harg7.unread x6))) k)) [(start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 3), (start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 2), (start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 1), (start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 0)] := by
  unfold kernelRun0_B
  dsimp only
  unfold later put8s
  iterate 28 refine put8_eq rfl rfl ?_
  iterate 4 refine start8_eq rfl rfl ?_
  rfl

theorem pieces10_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.1
      = later (fun k => put10s arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) k)) [(start10 arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) 0) (harg11.unread xo10) 1), (start10 arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) 0) (harg11.unread xo10) 0)] := by
  unfold kernelRun0_B
  dsimp only
  unfold later put10s
  iterate 14 refine put10_eq rfl rfl ?_
  iterate 2 refine start10_eq rfl rfl ?_
  rfl

theorem pieces12_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1
      = later (fun k => put12 arg12 ((fun k => dm ((loaded arg1 (harg1.unread x0)) k) ((loaded arg3 (harg3.unread x2)) k)) k)) [start12 arg12 ((fun k => dm ((loaded arg1 (harg1.unread x0)) k) ((loaded arg3 (harg3.unread x2)) k)) 0) (harg12.unread xs0)] := by
  unfold kernelRun0_B
  dsimp only
  unfold later
  iterate 7 refine put12_eq rfl ?_
  rfl

theorem pieces7_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).1
      = every (put7 (loaded arg1 (harg1.unread x0)) (loaded arg2 (harg2.unread x1)) (loaded arg3 (harg3.unread x2)) (weights arg4 (harg4.unread x3)) (biases arg5 (harg5.unread x4)) (oneRow arg6 (harg6.unread x5)) (oneRow arg7 (harg7.unread x6))) [] := by
  unfold kernelRun0_C
  dsimp only
  unfold every later
  iterate 8 refine put7_eq rfl rfl rfl rfl ?_
  rfl

theorem pieces8_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.1
      = later (fun k => put8s arg9 ((fun k => dws ((loaded arg1 (harg1.unread x0)) k) ((loaded arg2 (harg2.unread x1)) k) ((loaded arg3 (harg3.unread x2)) k) (oneRow arg6 (harg6.unread x5)) (oneRow arg7 (harg7.unread x6))) k)) [(start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 3), (start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 2), (start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 1), (start8 arg9 ((fun k => dws ((loaded arg1 (harg1.unread x0)) k) ((loaded arg2 (harg2.unread x1)) k) ((loaded arg3 (harg3.unread x2)) k) (oneRow arg6 (harg6.unread x5)) (oneRow arg7 (harg7.unread x6))) 0) (harg9.unread xo8) 0)] := by
  unfold kernelRun0_C
  dsimp only
  unfold later put8s
  iterate 28 refine put8_eq rfl rfl ?_
  iterate 4 refine start8_eq rfl rfl ?_
  rfl

theorem pieces10_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.1
      = later (fun k => put10s arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) k)) [(start10 arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) 0) (harg11.unread xo10) 1), (start10 arg11 ((fun k => ![dlw ((loaded arg1 (harg1.unread x0)) k) ((loaded arg2 (harg2.unread x1)) k) ((loaded arg3 (harg3.unread x2)) k) (weights arg4 (harg4.unread x3)), dlb ((loaded arg1 (harg1.unread x0)) k) ((loaded arg3 (harg3.unread x2)) k) (weights arg4 (harg4.unread x3))]) 0) (harg11.unread xo10) 0)] := by
  unfold kernelRun0_C
  dsimp only
  unfold later put10s
  iterate 14 refine put10_eq rfl rfl ?_
  iterate 2 refine start10_eq rfl rfl ?_
  rfl

theorem pieces12_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1
      = later (fun k => put12 arg12 ((fun k => dm ((loaded arg1 (harg1.unread x0)) k) ((loaded arg3 (harg3.unread x2)) k)) k)) [start12 arg12 ((fun k => dm ((loaded arg1 (harg1.unread x0)) k) ((loaded arg3 (harg3.unread x2)) k)) 0) (harg12.unread xs0)] := by
  unfold kernelRun0_C
  dsimp only
  unfold later
  iterate 7 refine put12_eq rfl ?_
  rfl

end

end Cert.Proof.Gmlp

end
-- ==== Proof.Gmlp.Canon.lean ====
module

public import proofs.«01_k».proof.Proof.Gmlp.Pieces
public import proofs.«01_k».proof.Proof.Common.Rows

/-! What the pieces of a point leave at an index of each window. -/

@[expose] public section

set_option maxRecDepth 16384

noncomputable section

namespace Cert.Proof.Gmlp

open Cert.GmlpIdeal Cert.GmlpIdeal.Gen Idealize.ShloMosaic Idealize.ShloMosaic.TcCoe Idealize.SL.Sem Idealize.ShloMosaic.Pointwise Cert.Proof.Tiles

/-- Row `r` of block `q`, row `r` of head `h`, and a column's place on either side of the output's block. -/
def blockRow (q : Fin 8) (r : Fin 128) : Fin 1024 := ⟨128 * q.val + r.val, by omega⟩
def headRow (h : Fin 4) (r : Fin 128) : Fin 512 := ⟨128 * h.val + r.val, by omega⟩
def leftCol (j : Fin 512) : Fin 1024 := ⟨j.val, by omega⟩
def rightCol (j : Fin 512) : Fin 1024 := ⟨512 + j.val, by omega⟩

section
variable (U V Y : Fin 8 → Rows) (W : Fin 4 → Vec Ideal S1x128x128 .bf16) (C : Fin 4 → Vec Ideal S128x1 .f32)
    (g b : Vec Ideal S1x512 .f32)

theorem canon7_left (k q : Fin 8) (r : Fin 128) (j : Fin 512) (L : List (View.Piece (Elt Ideal) S1024x1024 .bf16)) :
    View.canon (put7 U V Y W C g b k L) (ix2 (blockRow q r) (leftCol j))
      = if k = q then du (U k) (V k) (Y k) W C g b (ix2 r j) else View.canon L (ix2 (blockRow q r) (leftCol j)) := by
  unfold put7
  have hr := r.isLt
  have hj := j.isLt
  refine (canon_tile_out (m := 1024) (n := 1024) (o := 128 * k.val) (p := 512) (k := 128) (l := 512) _ _ _ _ (fun h => ?_)).trans ?_
  · have h2 : 512 ≤ j.val := h.2.2.1
    omega
  split_ifs with h
  · subst h
    exact canon_tile_in (m := 1024) (n := 1024) (o := 128 * k.val) (p := 0) (k := 128) (l := 512) _ _ _ _ r j rfl (Nat.zero_add _).symm
  · refine canon_tile_out (m := 1024) (n := 1024) (o := 128 * k.val) (p := 0) (k := 128) (l := 512) _ _ _ _ (fun hc => h (Fin.ext ?_))
    have h1 : 128 * k.val ≤ 128 * q.val + r.val := hc.1
    have h2 : 128 * q.val + r.val < 128 * k.val + 128 := hc.2.1
    omega

theorem canon7_right (k q : Fin 8) (r : Fin 128) (j : Fin 512) (L : List (View.Piece (Elt Ideal) S1024x1024 .bf16)) :
    View.canon (put7 U V Y W C g b k L) (ix2 (blockRow q r) (rightCol j))
      = if k = q then dv (U k) (V k) (Y k) W g (ix2 r j) else View.canon L (ix2 (blockRow q r) (rightCol j)) := by
  unfold put7
  have hr := r.isLt
  have hj := j.isLt
  split_ifs with h
  · subst h
    exact canon_tile_in (m := 1024) (n := 1024) (o := 128 * k.val) (p := 512) (k := 128) (l := 512) _ _ _ _ r j rfl rfl
  · refine (canon_tile_out (m := 1024) (n := 1024) (o := 128 * k.val) (p := 512) (k := 128) (l := 512) _ _ _ _ (fun hc => h (Fin.ext ?_))).trans
      (canon_tile_out (m := 1024) (n := 1024) (o := 128 * k.val) (p := 0) (k := 128) (l := 512) _ _ _ _ (fun hc => ?_))
    · have h1 : 128 * k.val ≤ 128 * q.val + r.val := hc.1
      have h2 : 128 * q.val + r.val < 128 * k.val + 128 := hc.2.1
      omega
    · have h1 : 512 + j.val < 0 + 512 := hc.2.2.2
      omega

theorem every7_left (q : Fin 8) (r : Fin 128) (j : Fin 512) (L : List (View.Piece (Elt Ideal) S1024x1024 .bf16)) :
    View.canon (every (put7 U V Y W C g b) L) (ix2 (blockRow q r) (leftCol j)) = du (U q) (V q) (Y q) W C g b (ix2 r j) :=
  (every_map (fun L => View.canon L (ix2 (blockRow q r) (leftCol j))) _
    (fun k x => if k = q then du (U k) (V k) (Y k) W C g b (ix2 r j) else x) (fun k L => canon7_left U V Y W C g b k q r j L) L).trans
    (every_pick q (fun k => du (U k) (V k) (Y k) W C g b (ix2 r j)) _)

theorem every7_right (q : Fin 8) (r : Fin 128) (j : Fin 512) (L : List (View.Piece (Elt Ideal) S1024x1024 .bf16)) :
    View.canon (every (put7 U V Y W C g b) L) (ix2 (blockRow q r) (rightCol j)) = dv (U q) (V q) (Y q) W g (ix2 r j) :=
  (every_map (fun L => View.canon L (ix2 (blockRow q r) (rightCol j))) _
    (fun k x => if k = q then dv (U k) (V k) (Y k) W g (ix2 r j) else x) (fun k L => canon7_right U V Y W C g b k q r j L) L).trans
    (every_pick q (fun k => dv (U k) (V k) (Y k) W g (ix2 r j)) _)

end

section
variable (arg : Memref sig .tc .vmem S512x128 .f32) (harg : arg.IsWhole) (D : Fin 4 → FVec Ideal S128x128 .f32)

theorem put8_canon (h h' : Fin 4) (r x : Fin 128) (L : List (View.Piece (Elt Ideal) S512x128 .f32)) :
    View.canon (put8 arg D h L) (ix2 (headRow h' r) x)
      = if h = h' then View.canon L (ix2 (headRow h' r) x) + D h (ix2 r x) else View.canon L (ix2 (headRow h' r) x) := by
  unfold put8
  have hr := r.isLt
  have hx := x.isLt
  split_ifs with e
  · subst e
    refine (canon_tile_in (m := 512) (n := 128) (o := 128 * h.val) (p := 0) (k := 128) (l := 128) _ _ _ _ r x rfl (Nat.zero_add _).symm).trans ?_
    pointwise []
    refine congrArg (· + _) ?_
    refine (readCov_tile (m := 512) (n := 128) (o := 128 * h.val) (p := 0) (k := 128) (l := 128) _ arg.view L r x (by omega) (by omega)).trans ?_
    exact congrArg (View.canon L) (congrArg₂ ix2 rfl (Fin.ext (Nat.zero_add _)))
  · refine canon_tile_out (m := 512) (n := 128) (o := 128 * h.val) (p := 0) (k := 128) (l := 128) _ _ _ _ (fun hc => e (Fin.ext ?_))
    have h1 : 128 * h.val ≤ 128 * h'.val + r.val := hc.1
    have h2 : 128 * h'.val + r.val < 128 * h.val + 128 := hc.2.1
    omega

theorem put8s_canon (h' : Fin 4) (r x : Fin 128) (L : List (View.Piece (Elt Ideal) S512x128 .f32)) :
    View.canon (put8s arg D L) (ix2 (headRow h' r) x) = View.canon L (ix2 (headRow h' r) x) + D h' (ix2 r x) := by
  unfold put8s
  simp only [put8_canon]
  fin_cases h' <;> simp

theorem start8_canon (X : Vec Ideal S512x128 .f32) (h h' : Fin 4) (r x : Fin 128) (L : List (View.Piece (Elt Ideal) S512x128 .f32)) :
    View.canon (start8 arg D (harg.unread X) h :: L) (ix2 (headRow h' r) x)
      = if h = h' then X (ix2 (headRow h' r) x) + D h (ix2 r x) else View.canon L (ix2 (headRow h' r) x) := by
  unfold start8
  have hr := r.isLt
  have hx := x.isLt
  split_ifs with e
  · subst e
    refine (canon_tile_in (m := 512) (n := 128) (o := 128 * h.val) (p := 0) (k := 128) (l := 128) _ _ _ _ r x rfl (Nat.zero_add _).symm).trans ?_
    pointwise []
    refine congrArg (· + _) ?_
    rw [View.readAt_eq_ld, harg.read_unread]
    refine (ld_tile (m := 512) (n := 128) (o := 128 * h.val) (p := 0) (k := 128) (l := 128) _ X r x (by omega) (by omega)).trans ?_
    exact congrArg X (congrArg₂ ix2 rfl (Fin.ext (Nat.zero_add _)))
  · refine canon_tile_out (m := 512) (n := 128) (o := 128 * h.val) (p := 0) (k := 128) (l := 128) _ _ _ _ (fun hc => e (Fin.ext ?_))
    have h1 : 128 * h.val ≤ 128 * h'.val + r.val := hc.1
    have h2 : 128 * h'.val + r.val < 128 * h.val + 128 := hc.2.1
    omega

theorem starts8_canon (X : Vec Ideal S512x128 .f32) (h' : Fin 4) (r x : Fin 128) :
    View.canon [start8 arg D (harg.unread X) 3, start8 arg D (harg.unread X) 2, start8 arg D (harg.unread X) 1, start8 arg D (harg.unread X) 0] (ix2 (headRow h' r) x)
      = X (ix2 (headRow h' r) x) + D h' (ix2 r x) := by
  simp only [start8_canon]
  fin_cases h' <;> simp

end

section
variable (arg : Memref sig .tc .vmem S8x512 .f32) (harg : arg.IsWhole) (d : Fin 2 → FVec Ideal S1x512 .f32)

theorem line_payload (L : List (View.Piece (Elt Ideal) S8x512 .f32)) (h : Fin 2) (i : Fin 8) (hi : i.val = h.val) (j : Fin 512) :
    addf (shapeCast S1x512 (arg.view.readCov L (lineRect h).toLoadRect : FVec Ideal S1x512 .f32) shapeCasts_S1x512_S1x512) (d h) (ix2 (0 : Fin 1) j)
      = View.canon L (ix2 i j) + d h (ix2 0 j) := by
  pointwise []
  refine congrArg (· + _) ?_
  refine (congrFun (Rows.readCov_row (m := 8) (n := 512) arg.view h.val (by omega) _ L) (ix2 (0 : Fin 1) j)).trans ?_
  exact congrArg (View.canon L) (congrArg₂ ix2 (Fin.ext hi.symm) rfl)

theorem put10_canon (h : Fin 2) (i : Fin 8) (j : Fin 512) (L : List (View.Piece (Elt Ideal) S8x512 .f32)) :
    View.canon (put10 arg d h L) (ix2 i j) = if i.val = h.val then View.canon L (ix2 i j) + d h (ix2 0 j) else View.canon L (ix2 i j) := by
  unfold put10
  refine (Rows.canon_row (m := 8) (n := 512) h.val _ _ _ _).trans ?_
  by_cases e : i.val = h.val
  · exact (if_pos e).trans ((line_payload arg d L h i e j).trans (if_pos e).symm)
  · exact (if_neg e).trans (if_neg e).symm

theorem put10_read (f : arg.view.ty.Contents (Elt Ideal)) (h : Fin 2) (i : Fin 8) (j : Fin 512) (L : List (View.Piece (Elt Ideal) S8x512 .f32)) :
    arg.view.read (Elt Ideal) (arg.view.writes (Elt Ideal) f (put10 arg d h L)) (ix2 i j)
      = if i.val = h.val then View.canon L (ix2 i j) + d h (ix2 0 j) else arg.view.read (Elt Ideal) (arg.view.writes (Elt Ideal) f L) (ix2 i j) := by
  unfold put10
  refine (Rows.read_writes_row (m := 8) (n := 512) arg.view f h.val _ _ _ _).trans ?_
  by_cases e : i.val = h.val
  · exact (if_pos e).trans ((line_payload arg d L h i e j).trans (if_pos e).symm)
  · exact (if_neg e).trans (if_neg e).symm

theorem start_payload (X : Vec Ideal S8x512 .f32) (h : Fin 2) (i : Fin 8) (hi : i.val = h.val) (j : Fin 512) :
    addf (shapeCast S1x512 (View.readAt (Elt Ideal) arg.view (lineRect h).toLoadRect (harg.unread X) : FVec Ideal S1x512 .f32) shapeCasts_S1x512_S1x512) (d h) (ix2 (0 : Fin 1) j)
      = X (ix2 i j) + d h (ix2 0 j) := by
  pointwise []
  refine congrArg (· + _) ?_
  rw [View.readAt_eq_ld, harg.read_unread]
  refine (congrFun (Rows.ld_row (m := 8) (n := 512) X h.val (by omega) _) (ix2 (0 : Fin 1) j)).trans ?_
  exact congrArg X (congrArg₂ ix2 (Fin.ext hi.symm) rfl)

theorem start10_canon (X : Vec Ideal S8x512 .f32) (h : Fin 2) (i : Fin 8) (j : Fin 512) (L : List (View.Piece (Elt Ideal) S8x512 .f32)) :
    View.canon (start10 arg d (harg.unread X) h :: L) (ix2 i j) = if i.val = h.val then X (ix2 i j) + d h (ix2 0 j) else View.canon L (ix2 i j) := by
  unfold start10
  refine (Rows.canon_row (m := 8) (n := 512) h.val _ _ _ _).trans ?_
  by_cases e : i.val = h.val
  · exact (if_pos e).trans ((start_payload arg harg d X h i e j).trans (if_pos e).symm)
  · exact (if_neg e).trans (if_neg e).symm

theorem start10_read (X : Vec Ideal S8x512 .f32) (h : Fin 2) (i : Fin 8) (j : Fin 512) (L : List (View.Piece (Elt Ideal) S8x512 .f32)) :
    arg.view.read (Elt Ideal) (arg.view.writes (Elt Ideal) (harg.unread X) (start10 arg d (harg.unread X) h :: L)) (ix2 i j)
      = if i.val = h.val then X (ix2 i j) + d h (ix2 0 j) else arg.view.read (Elt Ideal) (arg.view.writes (Elt Ideal) (harg.unread X) L) (ix2 i j) := by
  unfold start10
  refine (Rows.read_writes_row (m := 8) (n := 512) arg.view _ h.val _ _ _ _).trans ?_
  by_cases e : i.val = h.val
  · exact (if_pos e).trans ((start_payload arg harg d X h i e j).trans (if_pos e).symm)
  · exact (if_neg e).trans (if_neg e).symm

/-- What a row of the two parameter rows gains from one block. -/
def gain (i : Fin 8) (j : Fin 512) : EReal := if i.val = 0 then d 0 (ix2 0 j) else if i.val = 1 then d 1 (ix2 0 j) else 0

theorem put10s_canon (i : Fin 8) (j : Fin 512) (L : List (View.Piece (Elt Ideal) S8x512 .f32)) :
    View.canon (put10s arg d L) (ix2 i j) = View.canon L (ix2 i j) + gain d i j := by
  unfold put10s gain
  simp only [put10_canon]
  fin_cases i <;> simp

/-- Over a buffer entered with contents `X`: what is read, and for the two rows what the pieces alone leave. -/
def Holds (X : Vec Ideal S8x512 .f32) (i : Fin 8) (j : Fin 512) (v : EReal) (L : List (View.Piece (Elt Ideal) S8x512 .f32)) : Prop :=
  arg.view.read (Elt Ideal) (arg.view.writes (Elt Ideal) (harg.unread X) L) (ix2 i j) = v ∧ (i.val < 2 → View.canon L (ix2 i j) = v)

theorem put10s_holds (X : Vec Ideal S8x512 .f32) (i : Fin 8) (j : Fin 512) (v : EReal) (L : List (View.Piece (Elt Ideal) S8x512 .f32))
    (h : Holds arg harg X i j v L) : Holds arg harg X i j (v + gain d i j) (put10s arg d L) := by
  have hv := h.2
  refine ⟨?_, fun hi => by rw [put10s_canon, hv hi]⟩
  unfold put10s gain
  simp only [put10_read, put10_canon, h.1]
  by_cases hi : i.val < 2
  · simp only [hv hi]
    clear h hv
    fin_cases i <;> simp_all
  · rw [if_neg (show ¬i.val = ((1 : Fin 2) : ℕ) by show ¬i.val = 1; omega), if_neg (show ¬i.val = ((0 : Fin 2) : ℕ) by show ¬i.val = 0; omega),
      if_neg (by omega), if_neg (by omega), add_zero]

theorem starts10_holds (X : Vec Ideal S8x512 .f32) (i : Fin 8) (j : Fin 512) :
    Holds arg harg X i j (X (ix2 i j) + gain d i j) [start10 arg d (harg.unread X) 1, start10 arg d (harg.unread X) 0] := by
  unfold Holds gain
  simp only [start10_read, start10_canon, View.writes_nil, harg.read_unread]
  fin_cases i <;> simp

end

section
variable (arg : Memref sig .tc .vmem S128x512 .f32) (harg : arg.IsWhole) (d : Rows)

theorem put12_canon (r : Fin 128) (j : Fin 512) (L : List (View.Piece (Elt Ideal) S128x512 .f32)) :
    View.canon (put12 arg d L) (ix2 r j) = View.canon L (ix2 r j) + d (ix2 r j) := by
  unfold put12
  have hr := r.isLt
  have hj := j.isLt
  refine (canon_tile_in (m := 128) (n := 512) (o := 0) (p := 0) (k := 128) (l := 512) _ _ _ _ r j (Nat.zero_add _).symm (Nat.zero_add _).symm).trans ?_
  pointwise []
  refine congrArg (· + _) ?_
  refine (readCov_tile (m := 128) (n := 512) (o := 0) (p := 0) (k := 128) (l := 512) _ arg.view L r j (by omega) (by omega)).trans ?_
  exact congrArg (View.canon L) (congrArg₂ ix2 (Fin.ext (Nat.zero_add _)) (Fin.ext (Nat.zero_add _)))

theorem start12_canon (X : Vec Ideal S128x512 .f32) (r : Fin 128) (j : Fin 512) :
    View.canon [start12 arg d (harg.unread X)] (ix2 r j) = X (ix2 r j) + d (ix2 r j) := by
  unfold start12
  have hr := r.isLt
  have hj := j.isLt
  refine (canon_tile_in (m := 128) (n := 512) (o := 0) (p := 0) (k := 128) (l := 512) _ _ _ _ r j (Nat.zero_add _).symm (Nat.zero_add _).symm).trans ?_
  pointwise []
  refine congrArg (· + _) ?_
  rw [View.readAt_eq_ld, harg.read_unread]
  refine (ld_tile (m := 128) (n := 512) (o := 0) (p := 0) (k := 128) (l := 512) _ X r j (by omega) (by omega)).trans ?_
  exact congrArg X (congrArg₂ ix2 (Fin.ext (Nat.zero_add _)) (Fin.ext (Nat.zero_add _)))

end

end Cert.Proof.Gmlp

end
-- ==== Proof.Gmlp.Outputs.lean ====
module

public import proofs.«01_k».proof.Proof.Gmlp.Canon

/-! A point's outputs, from the blocks it read and what the point before left. -/

@[expose] public section

set_option maxRecDepth 16384

noncomputable section

namespace Cert.Proof.Gmlp

open Cert.GmlpIdeal Cert.GmlpIdeal.Gen Idealize.ShloMosaic Idealize.ShloMosaic.TcCoe Idealize.SL.Sem Idealize.ShloMosaic.Pointwise Cert.Proof.Tiles

/-- A block's rows, a head's weights and a head's biases in the arrays the point read. -/
def rowsOf (x : Vec Ideal S1024x512 .f32) (k : Fin 8) : Rows := fun z => x (ix2 (blockRow k (z 0)) (z 1 : Fin 512))
def weightOf (x : Vec Ideal S4x128x128 .bf16) (h : Fin 4) : Vec Ideal S1x128x128 .bf16 := fun z => x (ix3 h (z 1 : Fin 128) (z 2 : Fin 128))
def biasOf (x : Vec Ideal S128x4 .f32) (h : Fin 4) : Vec Ideal S128x1 .f32 := fun z => x (ix2 (z 0 : Fin 128) h)

theorem loaded_eq (arg : Memref sig .tc .vmem S1024x512 .f32) (harg : arg.IsWhole) (x : Vec Ideal S1024x512 .f32) :
    loaded arg (harg.unread x) = rowsOf x := by
  funext k z
  obtain ⟨r, j, rfl⟩ : ∃ (r : Fin 128) (j : Fin 512), z = ix2 r j := ⟨z 0, z 1, eq_ix2 z⟩
  unfold loaded
  rw [View.readAt_eq_ld, harg.read_unread]
  have hr := r.isLt
  have hj := j.isLt
  refine (ld_tile (m := 1024) (n := 512) (o := 128 * k.val) (p := 0) (k := 128) (l := 512) _ x r j (by omega) (by omega)).trans ?_
  exact congrArg x (congrArg₂ ix2 rfl (Fin.ext (Nat.zero_add _)))

theorem weights_eq (arg : Memref sig .tc .vmem S4x128x128 .bf16) (harg : arg.IsWhole) (x : Vec Ideal S4x128x128 .bf16) :
    weights arg (harg.unread x) = weightOf x := by
  have e : ∀ (h : Fin 4) (inb : ∀ a : Fin 3, (![h.val, 0, 0] : Fin 3 → ℕ) a + S1x128x128.size a ≤ S4x128x128.size a),
      View.readAt (Elt Ideal) arg.view (Rect.unit (s := S4x128x128) ![h.val, 0, 0] S1x128x128.size inb).toLoadRect (harg.unread x) = weightOf x h := by
    intro h inb
    rw [View.readAt_eq_ld, harg.read_unread]
    funext z
    refine congrArg x (funext fun a => Fin.ext ?_)
    have h0 : (z 0).val < 1 := (z 0).isLt
    match a with
    | ⟨0, _⟩ => show h.val + 1 * (z 0).val = h.val; omega
    | ⟨1, _⟩ => show 0 + 1 * (z 1).val = (z 1).val; omega
    | ⟨2, _⟩ => show 0 + 1 * (z 2).val = (z 2).val; omega
  funext h
  match h with
  | 0 => exact e 0 _
  | 1 => exact e 1 _
  | 2 => exact e 2 _
  | 3 => exact e 3 _

theorem biases_eq (arg : Memref sig .tc .vmem S128x4 .f32) (harg : arg.IsWhole) (x : Vec Ideal S128x4 .f32) :
    biases arg (harg.unread x) = biasOf x := by
  have e : ∀ (h : Fin 4) (inb : ∀ a : Fin 2, (![0, h.val] : Fin 2 → ℕ) a + S128x1.size a ≤ S128x4.size a),
      View.readAt (Elt Ideal) arg.view (Rect.unit (s := S128x4) ![0, h.val] S128x1.size inb).toLoadRect (harg.unread x) = biasOf x h := by
    intro h inb
    rw [View.readAt_eq_ld, harg.read_unread]
    funext z
    refine congrArg x (funext fun a => Fin.ext ?_)
    have h0 : (z 1).val < 1 := (z 1).isLt
    match a with
    | ⟨0, _⟩ => show 0 + 1 * (z 0).val = (z 0).val; omega
    | ⟨1, _⟩ => show h.val + 1 * (z 1).val = h.val; omega
  funext h
  match h with
  | 0 => exact e 0 _
  | 1 => exact e 1 _
  | 2 => exact e 2 _
  | 3 => exact e 3 _

theorem origin : (![0, 0] : Fin 2 → Nat) = fun _ => 0 := funext fun a => by fin_cases a <;> rfl

theorem oneRow_eq (arg : Memref sig .tc .vmem S1x512 .f32) (harg : arg.IsWhole) (x : Vec Ideal S1x512 .f32) :
    oneRow arg (harg.unread x) = x := by
  unfold oneRow
  rw [View.readAt_eq_ld, harg.read_unread, View.ld_unit_zero (S := S1x512) origin]

section
variable (x0 x1 x2 : Vec Ideal S1024x512 .f32) (x3 : Vec Ideal S4x128x128 .bf16) (x4 : Vec Ideal S128x4 .f32) (x5 x6 : Vec Ideal S1x512 .f32)

/-- What a point adds to each accumulator. -/
def add8 (h : Fin 4) (r x : Fin 128) : EReal := ∑ k, dws (rowsOf x0 k) (rowsOf x1 k) (rowsOf x2 k) x5 x6 h (ix2 r x)
def add10 (i : Fin 8) (j : Fin 512) : EReal :=
  ∑ k, gain ![dlw (rowsOf x0 k) (rowsOf x1 k) (rowsOf x2 k) (weightOf x3), dlb (rowsOf x0 k) (rowsOf x2 k) (weightOf x3)] i j
def add12 (r : Fin 128) (j : Fin 512) : EReal := ∑ k, dm (rowsOf x0 k) (rowsOf x2 k) (ix2 r j)

end

theorem zero3 (y : S512x128.Idx) : k0_pay3 (F := Ideal) y = 0 := by pointwise [k0_pay3]
theorem zero4 (y : S8x512.Idx) : k0_pay4 (F := Ideal) y = 0 := by pointwise [k0_pay4]
theorem zero5 (y : S128x512.Idx) : k0_pay5 (F := Ideal) y = 0 := by pointwise [k0_pay5]

theorem later_keep {α β : Type} (P : β → α → Prop) (step : Fin 8 → α → α) (step' : Fin 8 → β → β)
    (h : ∀ k b a, P b a → P (step' k b) (step k a)) (b : β) (a : α) (ha : P b a) : P (later step' b) (later step a) :=
  h _ _ _ (h _ _ _ (h _ _ _ (h _ _ _ (h _ _ _ (h _ _ _ (h _ _ _ ha))))))

/-- The bias gradients' rows: each head's row is its columns' sum, the others are zero. -/
theorem pay2_apply (a0 a1 a2 a3 : Vec Ideal S128x128 .f32) (i : Fin 8) (r : Fin 128) :
    k0_pay2 (F := Ideal) a0 a1 a2 a3 (ix2 i r)
      = if hi : i.val < 4 then ∑ d : Fin 128, (![a0, a1, a2, a3] : Fin 4 → Vec Ideal S128x128 .f32) ⟨i.val, hi⟩ (ix2 r d) else 0 := by
  pointwise [k0_pay2]
  fin_cases i <;> simp [Scalar.select, IntOp.cmpi]

section
variable (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S4x128x128 .bf16) (harg4 : arg4.IsWhole) (arg5 : Memref sig .tc .vmem S128x4 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S512x128 .f32) (harg9 : arg9.IsWhole) (arg10 : Memref sig .tc .vmem S8x128 .f32) (harg10 : arg10.IsWhole) (arg11 : Memref sig .tc .vmem S8x512 .f32) (harg11 : arg11.IsWhole) (arg12 : Memref sig .tc .vmem S128x512 .f32) (harg12 : arg12.IsWhole)
    (x0 : Vec Ideal S1024x512 .f32) (x1 : Vec Ideal S1024x512 .f32) (x2 : Vec Ideal S1024x512 .f32) (x3 : Vec Ideal S4x128x128 .bf16) (x4 : Vec Ideal S128x4 .f32) (x5 : Vec Ideal S1x512 .f32) (x6 : Vec Ideal S1x512 .f32)
    (xo8 : Vec Ideal S512x128 .f32) (xo10 : Vec Ideal S8x512 .f32) (xs0 : Vec Ideal S128x512 .f32)

set_option maxHeartbeats 1000000

theorem out7_left_A (hc0 : cond0_0 i) (hc1 : ¬cond0_1 i) (q : Fin 8) (r : Fin 128) (j : Fin 512) :
    out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 (blockRow q r) (leftCol j)) = du (rowsOf x0 q) (rowsOf x1 q) (rowsOf x2 q) (weightOf x3) (biasOf x4) x5 x6 (ix2 r j) := by
  unfold out0_A_7
  rw [View.read_writes_junk_eq_canon, pieces7_A, every7_left]
  simp only [loaded_eq, weights_eq, biases_eq, oneRow_eq]

theorem out7_right_A (hc0 : cond0_0 i) (hc1 : ¬cond0_1 i) (q : Fin 8) (r : Fin 128) (j : Fin 512) :
    out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 (blockRow q r) (rightCol j)) = dv (rowsOf x0 q) (rowsOf x1 q) (rowsOf x2 q) (weightOf x3) x5 (ix2 r j) := by
  unfold out0_A_7
  rw [View.read_writes_junk_eq_canon, pieces7_A, every7_right]
  simp only [loaded_eq, weights_eq, biases_eq, oneRow_eq]

theorem out8_A (hc0 : cond0_0 i) (hc1 : ¬cond0_1 i) (h : Fin 4) (r x : Fin 128) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 (headRow h r) x) = add8 x0 x1 x2 x5 x6 h r x := by
  unfold out0_A_8
  rw [View.read_writes_junk_eq_canon, pieces8_A]
  simp only [loaded_eq, weights_eq, biases_eq, oneRow_eq]
  refine (every_map (fun L => View.canon L (ix2 (headRow h r) x)) _ (fun k a => a + dws (rowsOf x0 k) (rowsOf x1 k) (rowsOf x2 k) x5 x6 h (ix2 r x))
    (fun k L => put8s_canon arg9 _ h r x L) _).trans ?_
  rw [View.canon_unit_zero (S := S512x128) origin, zero3, every_add, zero_add]
  rfl

theorem out10_A (hc0 : cond0_0 i) (hc1 : ¬cond0_1 i) (i' : Fin 8) (j : Fin 512) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 i' j) = add10 x0 x1 x2 x3 i' j := by
  unfold out0_A_10
  rw [View.read_writes_junk_eq_canon, pieces10_A]
  simp only [loaded_eq, weights_eq, biases_eq, oneRow_eq]
  refine (every_map (fun L => View.canon L (ix2 i' j)) _ (fun k a => a + gain ((fun k => ![dlw (rowsOf x0 k) (rowsOf x1 k) (rowsOf x2 k) (weightOf x3), dlb (rowsOf x0 k) (rowsOf x2 k) (weightOf x3)]) k) i' j)
    (fun k L => put10s_canon arg11 _ i' j L) _).trans ?_
  rw [View.canon_unit_zero (S := S8x512) origin, zero4, every_add, zero_add]
  rfl

theorem sout_A (hc0 : cond0_0 i) (hc1 : ¬cond0_1 i) (r : Fin 128) (j : Fin 512) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 r j) = add12 x0 x2 r j := by
  unfold sout0_A_0
  rw [View.read_writes_junk_eq_canon, pieces12_A]
  simp only [loaded_eq, weights_eq, biases_eq, oneRow_eq]
  refine (every_map (fun L => View.canon L (ix2 r j)) _ (fun k a => a + dm (rowsOf x0 k) (rowsOf x2 k) (ix2 r j))
    (fun k L => put12_canon arg12 _ r j L) _).trans ?_
  rw [View.canon_unit_zero (S := S128x512) origin, zero5, every_add, zero_add]
  rfl

theorem out7_left_B (hc0 : ¬cond0_0 i) (hc1 : ¬cond0_1 i) (q : Fin 8) (r : Fin 128) (j : Fin 512) :
    out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 (blockRow q r) (leftCol j)) = du (rowsOf x0 q) (rowsOf x1 q) (rowsOf x2 q) (weightOf x3) (biasOf x4) x5 x6 (ix2 r j) := by
  unfold out0_B_7
  rw [View.read_writes_junk_eq_canon, pieces7_B, every7_left]
  simp only [loaded_eq, weights_eq, biases_eq, oneRow_eq]

theorem out7_right_B (hc0 : ¬cond0_0 i) (hc1 : ¬cond0_1 i) (q : Fin 8) (r : Fin 128) (j : Fin 512) :
    out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 (blockRow q r) (rightCol j)) = dv (rowsOf x0 q) (rowsOf x1 q) (rowsOf x2 q) (weightOf x3) x5 (ix2 r j) := by
  unfold out0_B_7
  rw [View.read_writes_junk_eq_canon, pieces7_B, every7_right]
  simp only [loaded_eq, weights_eq, biases_eq, oneRow_eq]

theorem out8_B (hc0 : ¬cond0_0 i) (hc1 : ¬cond0_1 i) (h : Fin 4) (r x : Fin 128) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 (headRow h r) x) = xo8 (ix2 (headRow h r) x) + add8 x0 x1 x2 x5 x6 h r x := by
  unfold out0_B_8
  rw [View.read_writes_junk_eq_canon, pieces8_B]
  simp only [loaded_eq, weights_eq, biases_eq, oneRow_eq]
  refine (later_map (fun L => View.canon L (ix2 (headRow h r) x)) _ (fun k a => a + dws (rowsOf x0 k) (rowsOf x1 k) (rowsOf x2 k) x5 x6 h (ix2 r x))
    (fun k L => put8s_canon arg9 _ h r x L) _).trans ?_
  rw [starts8_canon, later_add (fun k => dws (rowsOf x0 k) (rowsOf x1 k) (rowsOf x2 k) x5 x6 h (ix2 r x))]
  rfl

theorem out10_B (hc0 : ¬cond0_0 i) (hc1 : ¬cond0_1 i) (i' : Fin 8) (j : Fin 512) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 i' j) = xo10 (ix2 i' j) + add10 x0 x1 x2 x3 i' j := by
  unfold out0_B_10
  rw [pieces10_B]
  simp only [loaded_eq, weights_eq, biases_eq, oneRow_eq]
  have key := later_keep (fun v L => Holds arg11 harg11 xo10 i' j v L) _ (fun k a => a + gain ((fun k => ![dlw (rowsOf x0 k) (rowsOf x1 k) (rowsOf x2 k) (weightOf x3), dlb (rowsOf x0 k) (rowsOf x2 k) (weightOf x3)]) k) i' j)
    (fun k v L h => put10s_holds arg11 harg11 ((fun k => ![dlw (rowsOf x0 k) (rowsOf x1 k) (rowsOf x2 k) (weightOf x3), dlb (rowsOf x0 k) (rowsOf x2 k) (weightOf x3)]) k) xo10 i' j v L h) _ _ (starts10_holds arg11 harg11 ((fun k => ![dlw (rowsOf x0 k) (rowsOf x1 k) (rowsOf x2 k) (weightOf x3), dlb (rowsOf x0 k) (rowsOf x2 k) (weightOf x3)]) 0) xo10 i' j)
  refine key.1.trans ?_
  rw [later_add (fun k => gain ((fun k => ![dlw (rowsOf x0 k) (rowsOf x1 k) (rowsOf x2 k) (weightOf x3), dlb (rowsOf x0 k) (rowsOf x2 k) (weightOf x3)]) k) i' j)]
  rfl

theorem sout_B (hc0 : ¬cond0_0 i) (hc1 : ¬cond0_1 i) (r : Fin 128) (j : Fin 512) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 r j) = xs0 (ix2 r j) + add12 x0 x2 r j := by
  unfold sout0_B_0
  rw [View.read_writes_junk_eq_canon, pieces12_B]
  simp only [loaded_eq, weights_eq, biases_eq, oneRow_eq]
  refine (later_map (fun L => View.canon L (ix2 r j)) _ (fun k a => a + dm (rowsOf x0 k) (rowsOf x2 k) (ix2 r j))
    (fun k L => put12_canon arg12 _ r j L) _).trans ?_
  rw [start12_canon, later_add (fun k => dm (rowsOf x0 k) (rowsOf x2 k) (ix2 r j))]
  rfl

theorem out7_left_C (hc0 : ¬cond0_0 i) (hc1 : cond0_1 i) (q : Fin 8) (r : Fin 128) (j : Fin 512) :
    out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 (blockRow q r) (leftCol j)) = du (rowsOf x0 q) (rowsOf x1 q) (rowsOf x2 q) (weightOf x3) (biasOf x4) x5 x6 (ix2 r j) := by
  unfold out0_C_7
  rw [View.read_writes_junk_eq_canon, pieces7_C, every7_left]
  simp only [loaded_eq, weights_eq, biases_eq, oneRow_eq]

theorem out7_right_C (hc0 : ¬cond0_0 i) (hc1 : cond0_1 i) (q : Fin 8) (r : Fin 128) (j : Fin 512) :
    out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 (blockRow q r) (rightCol j)) = dv (rowsOf x0 q) (rowsOf x1 q) (rowsOf x2 q) (weightOf x3) x5 (ix2 r j) := by
  unfold out0_C_7
  rw [View.read_writes_junk_eq_canon, pieces7_C, every7_right]
  simp only [loaded_eq, weights_eq, biases_eq, oneRow_eq]

theorem out8_C (hc0 : ¬cond0_0 i) (hc1 : cond0_1 i) (h : Fin 4) (r x : Fin 128) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 (headRow h r) x) = xo8 (ix2 (headRow h r) x) + add8 x0 x1 x2 x5 x6 h r x := by
  unfold out0_C_8
  rw [View.read_writes_junk_eq_canon, pieces8_C]
  simp only [loaded_eq, weights_eq, biases_eq, oneRow_eq]
  refine (later_map (fun L => View.canon L (ix2 (headRow h r) x)) _ (fun k a => a + dws (rowsOf x0 k) (rowsOf x1 k) (rowsOf x2 k) x5 x6 h (ix2 r x))
    (fun k L => put8s_canon arg9 _ h r x L) _).trans ?_
  rw [starts8_canon, later_add (fun k => dws (rowsOf x0 k) (rowsOf x1 k) (rowsOf x2 k) x5 x6 h (ix2 r x))]
  rfl

theorem out10_C (hc0 : ¬cond0_0 i) (hc1 : cond0_1 i) (i' : Fin 8) (j : Fin 512) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 i' j) = xo10 (ix2 i' j) + add10 x0 x1 x2 x3 i' j := by
  unfold out0_C_10
  rw [pieces10_C]
  simp only [loaded_eq, weights_eq, biases_eq, oneRow_eq]
  have key := later_keep (fun v L => Holds arg11 harg11 xo10 i' j v L) _ (fun k a => a + gain ((fun k => ![dlw (rowsOf x0 k) (rowsOf x1 k) (rowsOf x2 k) (weightOf x3), dlb (rowsOf x0 k) (rowsOf x2 k) (weightOf x3)]) k) i' j)
    (fun k v L h => put10s_holds arg11 harg11 ((fun k => ![dlw (rowsOf x0 k) (rowsOf x1 k) (rowsOf x2 k) (weightOf x3), dlb (rowsOf x0 k) (rowsOf x2 k) (weightOf x3)]) k) xo10 i' j v L h) _ _ (starts10_holds arg11 harg11 ((fun k => ![dlw (rowsOf x0 k) (rowsOf x1 k) (rowsOf x2 k) (weightOf x3), dlb (rowsOf x0 k) (rowsOf x2 k) (weightOf x3)]) 0) xo10 i' j)
  refine key.1.trans ?_
  rw [later_add (fun k => gain ((fun k => ![dlw (rowsOf x0 k) (rowsOf x1 k) (rowsOf x2 k) (weightOf x3), dlb (rowsOf x0 k) (rowsOf x2 k) (weightOf x3)]) k) i' j)]
  rfl

theorem sout_C (hc0 : ¬cond0_0 i) (hc1 : cond0_1 i) (r : Fin 128) (j : Fin 512) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 r j) = xs0 (ix2 r j) + add12 x0 x2 r j := by
  unfold sout0_C_0
  rw [View.read_writes_junk_eq_canon, pieces12_C]
  simp only [loaded_eq, weights_eq, biases_eq, oneRow_eq]
  refine (later_map (fun L => View.canon L (ix2 r j)) _ (fun k a => a + dm (rowsOf x0 k) (rowsOf x2 k) (ix2 r j))
    (fun k L => put12_canon arg12 _ r j L) _).trans ?_
  rw [start12_canon, later_add (fun k => dm (rowsOf x0 k) (rowsOf x2 k) (ix2 r j))]
  rfl

theorem pieces9_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.1
      = [⟨Rect.unit ![0, 0] S8x128.size inb_S8x128_S8x128_0_0, k0_pay2
          (arg12.view.readCov (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1 (Rect.unit (s := S128x512) ![0, 0] S128x128.size inb_S128x512_S128x128_0_0).toLoadRect)
          (arg12.view.readCov (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1 (Rect.unit (s := S128x512) ![0, 128] S128x128.size inb_S128x512_S128x128_0_128).toLoadRect)
          (arg12.view.readCov (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1 (Rect.unit (s := S128x512) ![0, 256] S128x128.size inb_S128x512_S128x128_0_256).toLoadRect)
          (arg12.view.readCov (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1 (Rect.unit (s := S128x512) ![0, 384] S128x128.size inb_S128x512_S128x128_0_384).toLoadRect)⟩] := by
  unfold kernelRun0_C
  rfl

theorem head_sum (hc0 : ¬cond0_0 i) (hc1 : cond0_1 i) (h : Fin 4) (inb : ∀ a : Fin 2, (![0, 128 * h.val] : Fin 2 → ℕ) a + S128x128.size a ≤ S128x512.size a) (r d : Fin 128) :
    arg12.view.readCov (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0).2.2.2.2.1 (Rect.unit (s := S128x512) ![0, 128 * h.val] S128x128.size inb).toLoadRect (ix2 r d)
      = xs0 (ix2 r (headRow h d)) + add12 x0 x2 r (headRow h d) := by
  have hr := r.isLt
  have hd := d.isLt
  refine (readCov_tile (m := 128) (n := 512) (o := 0) (p := 128 * h.val) (k := 128) (l := 128) inb arg12.view _ r d (by omega) (by omega)).trans ?_
  have e := sout_C c i arg1 harg1 arg2 harg2 arg3 harg3 arg4 harg4 arg5 harg5 arg6 harg6 arg7 harg7 arg8 harg8 arg9 harg9 arg10 harg10 arg11 harg11 arg12 harg12 x0 x1 x2 x3 x4 x5 x6 xo8 xo10 xs0 hc0 hc1 r (headRow h d)
  unfold sout0_C_0 at e
  rw [View.read_writes_junk_eq_canon] at e
  refine Eq.trans (congrArg (View.canon _) ?_) e
  exact congrArg₂ ix2 (Fin.ext (Nat.zero_add _)) rfl

/-- One row of a point's bias gradients. -/
theorem out9_C (hc0 : ¬cond0_0 i) (hc1 : cond0_1 i) (i' : Fin 8) (r : Fin 128) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xo10 xs0 (ix2 i' r)
      = if hi : i'.val < 4 then ∑ d : Fin 128, (xs0 (ix2 r (headRow ⟨i'.val, hi⟩ d)) + add12 x0 x2 r (headRow ⟨i'.val, hi⟩ d)) else 0 := by
  unfold out0_C_9
  rw [View.read_writes_junk_eq_canon, pieces9_C, View.canon_unit_zero (S := S8x128) origin, pay2_apply]
  split_ifs with hi
  · have hp : ∀ (h : Fin 4) (w : FVec Ideal S128x128 .f32), (∀ d, w (ix2 r d) = xs0 (ix2 r (headRow h d)) + add12 x0 x2 r (headRow h d)) →
        ∑ d : Fin 128, w (ix2 r d) = ∑ d : Fin 128, (xs0 (ix2 r (headRow h d)) + add12 x0 x2 r (headRow h d)) :=
      fun h w hw => Finset.sum_congr rfl fun d _ => hw d
    generalize hq : (⟨i'.val, hi⟩ : Fin 4) = q
    match q with
    | 0 => exact hp 0 _ (fun d => head_sum c i arg1 harg1 arg2 harg2 arg3 harg3 arg4 harg4 arg5 harg5 arg6 harg6 arg7 harg7 arg8 harg8 arg9 harg9 arg10 harg10 arg11 harg11 arg12 harg12 x0 x1 x2 x3 x4 x5 x6 xo8 xo10 xs0 hc0 hc1 0 _ r d)
    | 1 => exact hp 1 _ (fun d => head_sum c i arg1 harg1 arg2 harg2 arg3 harg3 arg4 harg4 arg5 harg5 arg6 harg6 arg7 harg7 arg8 harg8 arg9 harg9 arg10 harg10 arg11 harg11 arg12 harg12 x0 x1 x2 x3 x4 x5 x6 xo8 xo10 xs0 hc0 hc1 1 _ r d)
    | 2 => exact hp 2 _ (fun d => head_sum c i arg1 harg1 arg2 harg2 arg3 harg3 arg4 harg4 arg5 harg5 arg6 harg6 arg7 harg7 arg8 harg8 arg9 harg9 arg10 harg10 arg11 harg11 arg12 harg12 x0 x1 x2 x3 x4 x5 x6 xo8 xo10 xs0 hc0 hc1 2 _ r d)
    | 3 => exact hp 3 _ (fun d => head_sum c i arg1 harg1 arg2 harg2 arg3 harg3 arg4 harg4 arg5 harg5 arg6 harg6 arg7 harg7 arg8 harg8 arg9 harg9 arg10 harg10 arg11 harg11 arg12 harg12 x0 x1 x2 x3 x4 x5 x6 xo8 xo10 xs0 hc0 hc1 3 _ r d)
  · rfl

end

end Cert.Proof.Gmlp

end
-- ==== Proof.Gmlp.Spec.lean ====
module

public import proofs.«01_k».proof.Proof.Gmlp.Block

/-! One block's results at an entry, through the scalar gate and the row's layer norm. -/

@[expose] public section

set_option maxRecDepth 16384

noncomputable section

namespace Cert.Proof.Gmlp

open Cert.GmlpIdeal Cert.GmlpIdeal.Gen Idealize.ShloMosaic Idealize.ShloMosaic.Pointwise

variable (U V Y : Rows) (W : Fin 4 → Vec Ideal S1x128x128 .bf16) (C : Fin 4 → Vec Ideal S128x1 .f32)
    (g b : Vec Ideal S1x512 .f32)

/-- The gated row the norm sees. -/
def gated (r : Fin 128) : Fin 512 → EReal := fun j => gel (V (ix2 r j))

theorem sqrt_half_named : (Named.named κ "sqrt_half" 0x3F3504F3#32 : Ideal .f32) = root :=
  IdealRules.named_const.ideal_named_scalar _ _ _ _ rfl
theorem normal_named : (Named.named κ "normal" 0x3ECC422A#32 : Ideal .f32) = dens :=
  IdealRules.named_const.ideal_named_scalar _ _ _ _ rfl

theorem pay13_apply (r : Fin 128) (j : Fin 512) : k0_pay13 (F := Ideal) U (ix2 r j) = cdf (U (ix2 r j)) := by
  pointwise [k0_pay13, k0_pay11]
  rw [sqrt_half_named]; rfl
theorem pay16_apply (r : Fin 128) (j : Fin 512) : k0_pay16 (F := Ideal) V (ix2 r j) = cdf (V (ix2 r j)) := by
  pointwise [k0_pay16, k0_pay12]
  rw [sqrt_half_named]; rfl
theorem pay14_apply (r : Fin 128) (j : Fin 512) : k0_pay14 (F := Ideal) U (ix2 r j) = gel (U (ix2 r j)) := by
  pointwise [k0_pay14, k0_pay11]
  rw [pay13_apply]; rfl
theorem pay15_apply (r : Fin 128) (j : Fin 512) : k0_pay15 (F := Ideal) U (ix2 r j) = dgel (U (ix2 r j)) := by
  pointwise [k0_pay15, k0_pay11]
  rw [pay13_apply, normal_named]; rfl
theorem pay18_apply (r : Fin 128) (j : Fin 512) :
    k0_pay18 (F := Ideal) (k0_pay12 V) (k0_pay16 V) (k0_pay17 V) (ix2 r j) = dgel (V (ix2 r j)) := by
  pointwise [k0_pay18, k0_pay17, k0_pay12]
  rw [pay16_apply, normal_named]; rfl
theorem pay20_apply (r : Fin 128) (z : Fin 1) : k0_pay20 (F := Ideal) (k0_pay12 V) (k0_pay16 V) (ix2 r z) = rstd (gated V r) := by
  pointwise [k0_pay20, k0_pay19, k0_pay12]
  simp only [pay16_apply]; rfl
theorem pay21_apply (r : Fin 128) (j : Fin 512) : k0_pay21 (F := Ideal) (k0_pay12 V) (k0_pay16 V) (ix2 r j) = hat (gated V r) j := by
  pointwise [k0_pay21, k0_pay19]
  rw [pay20_apply]
  pointwise [k0_pay12]
  simp only [pay16_apply]; rfl

theorem vn_apply (r : Fin 128) (j : Fin 512) : vn V g b (ix2 r j) = hat (gated V r) j * g (ix2 0 j) + b (ix2 0 j) := by
  pointwise [vn, k0_pay22]
  rw [pay21_apply]
theorem dm_apply (r : Fin 128) (j : Fin 512) : k0_pay28 (F := Ideal) (k0_pay14 U) Y (ix2 r j) = Y (ix2 r j) * gel (U (ix2 r j)) := by
  pointwise [k0_pay28, k0_pay26]
  rw [pay14_apply]
theorem dmx_apply (r : Fin 128) (j : Fin 512) : dmx U Y (ix2 r j) = Y (ix2 r j) * gel (U (ix2 r j)) := by
  pointwise [dmx, k0_pay30]
  rw [dm_apply]

/-- The head of a column. -/
def headOf (j : Fin 512) : Fin 4 := ⟨j.val / 128, by omega⟩

theorem headOf_eq (j : Fin 512) (h : Fin 4) (lo : 128 * h.val ≤ j.val) (hi : j.val < 128 * h.val + 128) : headOf j = h :=
  Fin.ext (show j.val / 128 = h.val by omega)

theorem dvn_apply (r : Fin 128) (j : Fin 512) :
    dvn U Y W (ix2 r j) = ∑ x : Fin 128, W (headOf j) (ix3 0 x r) * (Y (ix2 x j) * gel (U (ix2 x j))) := by
  pointwise [dvn, k0_pay41, k0_pay36, k0_pay38]
  simp only [dmx_apply]
  have key : ∀ (h : Fin 4) (q : Fin 512), 128 * h.val ≤ j.val → j.val < 128 * h.val + 128 → q.val = j.val → ∑ x : Fin 128, W h (ix3 0 x r) * (Y (ix2 x q) * gel (U (ix2 x q)))
      = ∑ x : Fin 128, W (headOf j) (ix3 0 x r) * (Y (ix2 x j) * gel (U (ix2 x j))) := by
    intro h q lo hi hq
    rw [headOf_eq j h lo hi, Fin.ext hq]
  by_cases h0 : j.val < 128
  · rw [dif_pos h0]
    exact key 0 j (Nat.zero_le _) h0 rfl
  rw [dif_neg h0]
  by_cases h1 : j.val - 128 < 128
  · rw [dif_pos h1]
    exact key 1 ⟨128 + (j.val - 128), by omega⟩ (by show 128 ≤ _; omega) (by show _ < 256; omega) (by show 128 + (j.val - 128) = _; omega)
  rw [dif_neg h1]
  by_cases h2 : j.val - 128 - 128 < 128
  · rw [dif_pos h2]
    exact key 2 ⟨256 + (j.val - 128 - 128), by omega⟩ (by show 256 ≤ _; omega) (by show _ < 384; omega) (by show 256 + (j.val - 128 - 128) = _; omega)
  rw [dif_neg h2]
  exact key 3 ⟨384 + (j.val - 128 - 128 - 128), by omega⟩ (by show 384 ≤ _; omega) (by have := j.isLt; show _ < 512; omega) (by show 384 + (j.val - 128 - 128 - 128) = _; omega)

/-- The mixed row. -/
def mixed (r : Fin 128) (j : Fin 512) : EReal :=
  ∑ x : Fin 128, W (headOf j) (ix3 0 r x) * (hat (gated V x) j * g (ix2 0 j) + b (ix2 0 j)) + C (headOf j) (ix2 r 0)

theorem du_apply (r : Fin 128) (j : Fin 512) :
    du U V Y W C g b (ix2 r j) = Y (ix2 r j) * mixed V W C g b r j * dgel (U (ix2 r j)) := by
  pointwise [du, k0_pay27, k0_pay26, k0_pay23, k0_pay24, k0_pay25]
  have hv : ∀ r j, k0_pay22 (F := Ideal) (k0_pay12 V) g b (k0_pay16 V) (ix2 r j) = hat (gated V r) j * g (ix2 0 j) + b (ix2 0 j) := vn_apply V g b
  simp only [vn_apply, hv, pay15_apply, mixed]
  refine congrArg (· * _) (congrArg (_ * ·) ?_)
  have key : ∀ (h : Fin 4) (q : Fin 512), 128 * h.val ≤ j.val → j.val < 128 * h.val + 128 → q.val = j.val → ∑ x : Fin 128, W h (ix3 0 r x) * (hat (gated V x) q * g (ix2 0 q) + b (ix2 0 q)) + C h (ix2 r 0)
      = ∑ x : Fin 128, W (headOf j) (ix3 0 r x) * (hat (gated V x) j * g (ix2 0 j) + b (ix2 0 j)) + C (headOf j) (ix2 r 0) := by
    intro h q lo hi hq
    rw [headOf_eq j h lo hi, Fin.ext hq]
  by_cases h0 : j.val < 128
  · rw [dif_pos h0]
    exact key 0 j (Nat.zero_le _) h0 rfl
  rw [dif_neg h0]
  by_cases h1 : j.val - 128 < 128
  · rw [dif_pos h1]
    exact key 1 ⟨128 + (j.val - 128), by omega⟩ (by show 128 ≤ _; omega) (by show _ < 256; omega) (by show 128 + (j.val - 128) = _; omega)
  rw [dif_neg h1]
  by_cases h2 : j.val - 128 - 128 < 128
  · rw [dif_pos h2]
    exact key 2 ⟨256 + (j.val - 128 - 128), by omega⟩ (by show 256 ≤ _; omega) (by show _ < 384; omega) (by show 256 + (j.val - 128 - 128) = _; omega)
  rw [dif_neg h2]
  exact key 3 ⟨384 + (j.val - 128 - 128 - 128), by omega⟩ (by show 384 ≤ _; omega) (by have := j.isLt; show _ < 512; omega) (by show 384 + (j.val - 128 - 128 - 128) = _; omega)

theorem dv_apply (r : Fin 128) (j : Fin 512) :
    dv U V Y W g (ix2 r j) = lnGrad (gated V r) (fun k => dvn U Y W (ix2 r k) * g (ix2 0 k)) j * dgel (V (ix2 r j)) := by
  pointwise [dv, k0_pay44]
  simp only [pay18_apply, pay20_apply, pay21_apply]
  rfl

theorem dlw_apply (z : Fin 1) (j : Fin 512) : dlw U V Y W (ix2 z j) = ∑ r : Fin 128, dvn U Y W (ix2 r j) * hat (gated V r) j := by
  pointwise [dlw]
  simp only [pay21_apply]
theorem dlb_apply (z : Fin 1) (j : Fin 512) : dlb U Y W (ix2 z j) = ∑ r : Fin 128, dvn U Y W (ix2 r j) := by
  pointwise [dlb]

theorem chunk_row (r x : Fin 128) : k0_pay6 (ix2 r x) = BitVec.ofNat 32 (r.val / 64) := by
  have h : ∀ r : Fin 128, k0_pay6 (ix2 r (0 : Fin 128)) = BitVec.ofNat 32 (r.val / 64) := by decide +kernel
  exact h r

theorem chunk_column (r x : Fin 128) :
    k0_pay10 (iota .tc S128x128 32 [1] iota_S128x128_d1_w32) 64#32 k0_pay7 k0_pay8 k0_pay9 (ix2 r x) = BitVec.ofNat 32 (x.val / 64) := by
  have h : ∀ x : Fin 128, k0_pay10 (iota .tc S128x128 32 [1] iota_S128x128_d1_w32) 64#32 k0_pay7 k0_pay8 k0_pay9 (ix2 (0 : Fin 128) x)
      = BitVec.ofNat 32 (x.val / 64) := by decide +kernel
  exact h x

/-- Rows keep the weights of their own and of earlier chunks of 64 positions. -/
theorem kept_apply (r x : Fin 128) : kept (ix2 r x) = BitVec.ofBool (decide (x.val / 64 ≤ r.val / 64)) := by
  have h : ∀ a b : Fin 2, Scalar.cmpi .sge (BitVec.ofNat 32 a.val) (BitVec.ofNat 32 b.val) = BitVec.ofBool (decide (b.val ≤ a.val)) := by
    decide
  refine Eq.trans ?_ (h ⟨r.val / 64, by omega⟩ ⟨x.val / 64, by omega⟩)
  rw [← chunk_row r x, ← chunk_column r x]
  rfl

theorem dws_apply (h : Fin 4) (r x : Fin 128) (hd : ∀ d : Fin 128, 128 * h.val + d.val < 512) :
    dws U V Y g b h (ix2 r x)
      = if x.val / 64 ≤ r.val / 64 then
          ∑ d : Fin 128, Y (ix2 r (⟨128 * h.val + d.val, hd d⟩ : Fin 512)) * gel (U (ix2 r (⟨128 * h.val + d.val, hd d⟩ : Fin 512)))
            * (hat (gated V x) (⟨128 * h.val + d.val, hd d⟩ : Fin 512) * g (ix2 0 (⟨128 * h.val + d.val, hd d⟩ : Fin 512)) + b (ix2 0 (⟨128 * h.val + d.val, hd d⟩ : Fin 512)))
        else 0 := by
  have hs : ∀ a c : EReal, Scalar.select (kept (ix2 r x)) a c = if x.val / 64 ≤ r.val / 64 then a else c := fun a c => by
    rw [kept_apply]
    by_cases hq : x.val / 64 ≤ r.val / 64 <;> simp [hq, Scalar.select]
  match h, hd with
  | 0, _ => show dw U V Y g b 0 _ (ix2 r x) = _; pointwise [dw]; rw [hs]; simp only [dmx_apply, vn_apply]
  | 1, _ => show dw U V Y g b 128 _ (ix2 r x) = _; pointwise [dw]; rw [hs]; simp only [dmx_apply, vn_apply]
  | 2, _ => show dw U V Y g b 256 _ (ix2 r x) = _; pointwise [dw]; rw [hs]; simp only [dmx_apply, vn_apply]
  | 3, _ => show dw U V Y g b 384 _ (ix2 r x) = _; pointwise [dw]; rw [hs]; simp only [dmx_apply, vn_apply]

end Cert.Proof.Gmlp

end
-- ==== Proof.Gmlp.Kernel.lean ====
module

public import Idealize.ShloMosaic.Lib.StableHlo.ReadAt
public import proofs.«01_k».proof.Proof.Gmlp.Outputs
public import proofs.«01_k».proof.Proof.Gmlp.Spec

/-! The arrays the kernel's run leaves, at an index, from the arguments. -/

@[expose] public section

set_option maxRecDepth 16384

noncomputable section

namespace Cert.Proof.Gmlp

open Cert.GmlpIdeal Cert.GmlpIdeal.Gen Idealize.ShloMosaic Idealize.ShloMosaic.TcCoe Idealize.SL.Sem Idealize.ShloMosaic.Pointwise

variable (m : (ℓ : Loc nD τ sig) → Buf (Elt Ideal) ℓ) (c : Dev nD)

/-- The arguments, read as the extended reals they hold. -/
def argP (R : Fin 8192) (k : Fin 3072) : EReal := m ((c : Thread nD τ).loc main_arg0) (ix3 0 R k)
def argW (h : Fin 4) (i j : Fin 128) : EReal := m ((c : Thread nD τ).loc main_arg1) (ix4 0 h i j)
def argB (h : Fin 4) (i : Fin 128) : EReal := m ((c : Thread nD τ).loc main_arg2) (ix3 0 h i)
def argY (R : Fin 8192) (k : Fin 1024) : EReal := m ((c : Thread nD τ).loc main_arg5) (ix3 0 R k)

def pt (t : Fin 8) : Fin cfg0.N := ⟨t.val, t.isLt⟩
/-- The number of block `k` of point `t`, and row `r` of block `n`. -/
def num (t k : Fin 8) : Fin 64 := ⟨8 * t.val + k.val, by omega⟩
def rowAt (n : Fin 64) (r : Fin 128) : Fin 8192 := ⟨128 * n.val + r.val, by omega⟩
def loCol (j : Fin 512) : Fin 3072 := ⟨j.val, by omega⟩
def hiCol (j : Fin 512) : Fin 3072 := ⟨512 + j.val, by omega⟩

/-- The blocks and the small operands as the body reads them. -/
def blkU (n : Fin 64) : Rows := fun z => argP m c (rowAt n (z 0)) (loCol (z 1))
def blkV (n : Fin 64) : Rows := fun z => argP m c (rowAt n (z 0)) (hiCol (z 1))
def blkY (n : Fin 64) : Rows := fun z => argY m c (rowAt n (z 0)) (leftCol (z 1))
def wgt (h : Fin 4) : Vec Ideal S1x128x128 .bf16 := fun z => if (z 2 : Fin 128).val / 64 ≤ (z 1 : Fin 128).val / 64 then argW m c h (z 1) (z 2) else 0
def bias (h : Fin 4) : Vec Ideal S128x1 .f32 := fun z => argB m c h (z 0)
abbrev scale : Vec Ideal S1x512 .f32 := m ((c : Thread nD τ).loc main_arg3)
abbrev shift : Vec Ideal S1x512 .f32 := m ((c : Thread nD τ).loc main_arg4)

/-- The chunk number as the host computes it: a division rounded down. -/
def chunk (x : BitVec 32) : BitVec 32 :=
  Scalar.select
    (IntOp.andi
      (IntOp.cmpi (w := 32) .ne (if x = 0 then (0 : BitVec 32) else if x.msb = true then -1 else 1)
        (if (64#32 : BitVec 32) = 0 then (0 : BitVec 32) else if BitVec.msb (64#32 : BitVec 32) = true then -1 else 1))
      (IntOp.cmpi (w := 32) .ne (IntOp.remsi ArithUnit.host x 64#32) 0#32))
    (IntOp.subi (IntOp.divsi ArithUnit.host x 64#32) 1#32) (IntOp.divsi ArithUnit.host x 64#32)

theorem chunk_eq (i : Fin 128) : chunk (BitVec.ofNat 32 i.val) = BitVec.ofNat 32 (i.val / 64) := by
  have h : ∀ i : Fin 128, chunk (BitVec.ofNat 32 i.val) = BitVec.ofNat 32 (i.val / 64) := by decide +kernel
  exact h i

/-- A select on the order of two chunk numbers. -/
theorem select_chunk (i j : Fin 128) (a b : EReal) :
    Scalar.select (IntOp.cmpi .sge (chunk (BitVec.ofNat 32 i.val)) (chunk (BitVec.ofNat 32 j.val))) a b
      = if j.val / 64 ≤ i.val / 64 then a else b := by
  have h : ∀ a b : Fin 2, IntOp.cmpi .sge (BitVec.ofNat 32 a.val) (BitVec.ofNat 32 b.val) = BitVec.ofBool (decide (b.val ≤ a.val)) := by
    decide
  rw [chunk_eq, chunk_eq, h ⟨i.val / 64, by omega⟩ ⟨j.val / 64, by omega⟩]
  by_cases hq : j.val / 64 ≤ i.val / 64 <;> simp [hq, Scalar.select]

/-- The host's zero constant. -/
theorem zero_word : Ideal.ofBits .f32 0#32 = (0 : EReal) := by
  simp [Ideal.ofBits, Ideal.ieee, -EReal.coe_mul]

theorem V11_apply (R : Fin 8192) (k : Fin 3072) : V m c main_v11 (ix2 R k) = argP m c R k := by
  unfold_abbrev_sides
  simp only [List.flatten_cons, List.flatten_nil, List.append_nil, List.cons_append, List.nil_append]
  after_reads_at
  rfl

theorem V12_apply (R : Fin 8192) (k : Fin 1024) : V m c main_v12 (ix2 R k) = argY m c R k := by
  unfold_abbrev_sides
  simp only [List.flatten_cons, List.flatten_nil, List.append_nil, List.cons_append, List.nil_append]
  after_reads_at
  rfl

theorem V10_apply (i : Fin 128) (h : Fin 4) : V m c main_v10 (ix2 i h) = argB m c h i := by
  unfold_abbrev_sides
  simp only [List.flatten_cons, List.flatten_nil, List.append_nil, List.cons_append, List.nil_append]
  after_reads_at
  rfl

theorem V8_apply (h : Fin 4) (i j : Fin 128) : V m c main_v8 (ix3 h i j) = wgt m c h (ix3 0 i j) := by
  unfold_abbrev_sides
  simp only [List.flatten_cons, List.flatten_nil, List.append_nil, List.cons_append, List.nil_append]
  after_reads_at
  refine (select_chunk i j (argW m c h i j) (Ideal.ofBits .f32 0#32)).trans ?_
  rw [zero_word]
  rfl

theorem index_at : ∀ t : Fin grid0.N,
    (win0_0.index t 0 = t.val ∧ win0_0.index t 1 = 0) ∧ (win0_1.index t 0 = t.val ∧ win0_1.index t 1 = 1)
    ∧ (win0_2.index t 0 = t.val ∧ win0_2.index t 1 = 0)
    ∧ (win0_3.index t 0 = 0 ∧ win0_3.index t 1 = 0 ∧ win0_3.index t 2 = 0)
    ∧ (win0_4.index t 0 = 0 ∧ win0_4.index t 1 = 0) ∧ (win0_5.index t 0 = 0 ∧ win0_5.index t 1 = 0)
    ∧ (win0_6.index t 0 = 0 ∧ win0_6.index t 1 = 0) := by decide +kernel

theorem rows_place (t k : Fin 8) (r : Fin 128) (i : ℕ) (hi : i = t.val) : i * 1024 + 1 * (128 * k.val + r.val) = 128 * (8 * t.val + k.val) + r.val := by
  omega

theorem emb0 (t k : Fin 8) (r : Fin 128) (j : Fin 512) :
    ((cfg0.win 0).blk (pt t)).view.emb (ix2 (blockRow k r) j) = (ix2 (rowAt (num t k) r) (loCol j) : S8192x3072.Idx) :=
  funext fun a => Fin.ext (by
    match a with
    | ⟨0, _⟩ => exact rows_place t k r _ (index_at (pt t)).1.1
    | ⟨1, _⟩ => show win0_0.index (pt t) 1 * 512 + 1 * j.val = j.val; rw [(index_at (pt t)).1.2]; omega)

theorem emb1 (t k : Fin 8) (r : Fin 128) (j : Fin 512) :
    ((cfg0.win 1).blk (pt t)).view.emb (ix2 (blockRow k r) j) = (ix2 (rowAt (num t k) r) (hiCol j) : S8192x3072.Idx) :=
  funext fun a => Fin.ext (by
    match a with
    | ⟨0, _⟩ => exact rows_place t k r _ (index_at (pt t)).2.1.1
    | ⟨1, _⟩ => show win0_1.index (pt t) 1 * 512 + 1 * j.val = 512 + j.val; rw [(index_at (pt t)).2.1.2]; omega)

theorem emb2 (t k : Fin 8) (r : Fin 128) (j : Fin 512) :
    ((cfg0.win 2).blk (pt t)).view.emb (ix2 (blockRow k r) j) = (ix2 (rowAt (num t k) r) (leftCol j) : S8192x1024.Idx) :=
  funext fun a => Fin.ext (by
    match a with
    | ⟨0, _⟩ => exact rows_place t k r _ (index_at (pt t)).2.2.1.1
    | ⟨1, _⟩ => show win0_2.index (pt t) 1 * 512 + 1 * j.val = j.val; rw [(index_at (pt t)).2.2.1.2]; omega)

theorem emb3 (t : Fin 8) (h : Fin 4) (i j : Fin 128) : ((cfg0.win 3).blk (pt t)).view.emb (ix3 h i j) = (ix3 h i j : S4x128x128.Idx) :=
  funext fun a => Fin.ext (by
    match a with
    | ⟨0, _⟩ => show win0_3.index (pt t) 0 * 4 + 1 * h.val = h.val; rw [(index_at (pt t)).2.2.2.1.1]; omega
    | ⟨1, _⟩ => show win0_3.index (pt t) 1 * 128 + 1 * i.val = i.val; rw [(index_at (pt t)).2.2.2.1.2.1]; omega
    | ⟨2, _⟩ => show win0_3.index (pt t) 2 * 128 + 1 * j.val = j.val; rw [(index_at (pt t)).2.2.2.1.2.2]; omega)

theorem emb4 (t : Fin 8) (i : Fin 128) (h : Fin 4) : ((cfg0.win 4).blk (pt t)).view.emb (ix2 i h) = (ix2 i h : S128x4.Idx) :=
  funext fun a => Fin.ext (by
    match a with
    | ⟨0, _⟩ => show win0_4.index (pt t) 0 * 128 + 1 * i.val = i.val; rw [(index_at (pt t)).2.2.2.2.1.1]; omega
    | ⟨1, _⟩ => show win0_4.index (pt t) 1 * 4 + 1 * h.val = h.val; rw [(index_at (pt t)).2.2.2.2.1.2]; omega)

theorem emb5 (t : Fin 8) (z : Fin 1) (j : Fin 512) : ((cfg0.win 5).blk (pt t)).view.emb (ix2 z j) = (ix2 z j : S1x512.Idx) :=
  funext fun a => Fin.ext (by
    match a with
    | ⟨0, _⟩ => show win0_5.index (pt t) 0 * 1 + 1 * z.val = z.val; rw [(index_at (pt t)).2.2.2.2.2.1.1]; omega
    | ⟨1, _⟩ => show win0_5.index (pt t) 1 * 512 + 1 * j.val = j.val; rw [(index_at (pt t)).2.2.2.2.2.1.2]; omega)

theorem emb6 (t : Fin 8) (z : Fin 1) (j : Fin 512) : ((cfg0.win 6).blk (pt t)).view.emb (ix2 z j) = (ix2 z j : S1x512.Idx) :=
  funext fun a => Fin.ext (by
    match a with
    | ⟨0, _⟩ => show win0_6.index (pt t) 0 * 1 + 1 * z.val = z.val; rw [(index_at (pt t)).2.2.2.2.2.2.1]; omega
    | ⟨1, _⟩ => show win0_6.index (pt t) 1 * 512 + 1 * j.val = j.val; rw [(index_at (pt t)).2.2.2.2.2.2.2]; omega)

theorem rowsU (t k : Fin 8) : rowsOf (iblk m c 0 (pt t)) k = blkU m c (num t k) := by
  funext z
  obtain ⟨r, j, rfl⟩ : ∃ (r : Fin 128) (j : Fin 512), z = ix2 r j := ⟨z 0, z 1, eq_ix2 z⟩
  exact (congrArg (V m c main_v11) (emb0 t k r j)).trans (V11_apply m c _ _)
theorem rowsV (t k : Fin 8) : rowsOf (iblk m c 1 (pt t)) k = blkV m c (num t k) := by
  funext z
  obtain ⟨r, j, rfl⟩ : ∃ (r : Fin 128) (j : Fin 512), z = ix2 r j := ⟨z 0, z 1, eq_ix2 z⟩
  exact (congrArg (V m c main_v11) (emb1 t k r j)).trans (V11_apply m c _ _)
theorem rowsY (t k : Fin 8) : rowsOf (iblk m c 2 (pt t)) k = blkY m c (num t k) := by
  funext z
  obtain ⟨r, j, rfl⟩ : ∃ (r : Fin 128) (j : Fin 512), z = ix2 r j := ⟨z 0, z 1, eq_ix2 z⟩
  exact (congrArg (V m c main_v12) (emb2 t k r j)).trans (V12_apply m c _ _)
theorem weightsAt (t : Fin 8) : weightOf (iblk m c 3 (pt t)) = wgt m c := by
  funext h z
  exact (congrArg (V m c main_v8) (emb3 t h (z 1) (z 2))).trans (V8_apply m c h _ _)
theorem biasesAt (t : Fin 8) : biasOf (iblk m c 4 (pt t)) = bias m c := by
  funext h z
  exact (congrArg (V m c main_v10) (emb4 t (z 0) h)).trans (V10_apply m c _ _)
theorem scaleAt (t : Fin 8) : iblk m c 5 (pt t) = scale m c := by
  funext z
  obtain ⟨r, j, rfl⟩ : ∃ (r : Fin 1) (j : Fin 512), z = ix2 r j := ⟨z 0, z 1, eq_ix2 z⟩
  exact (congrArg (V m c main_arg3) (emb5 t r j)).trans (congrFun (V_main_arg3 m c) _)
theorem shiftAt (t : Fin 8) : iblk m c 6 (pt t) = shift m c := by
  funext z
  obtain ⟨r, j, rfl⟩ : ∃ (r : Fin 1) (j : Fin 512), z = ix2 r j := ⟨z 0, z 1, eq_ix2 z⟩
  exact (congrArg (V m c main_arg4) (emb6 t r j)).trans (congrFun (V_main_arg4 m c) _)

/-! The accumulators after point `n`. -/

/-- The carried state after a point. -/
abbrev state (t : Fin 8) := outsAt0 m c (pt t).val (pt t).isLt

def sum8 (t : Fin 8) (h : Fin 4) (r x : Fin 128) : EReal :=
  ∑ k, dws (blkU m c (num t k)) (blkV m c (num t k)) (blkY m c (num t k)) (scale m c) (shift m c) h (ix2 r x)
def sum10 (t : Fin 8) (i : Fin 8) (j : Fin 512) : EReal :=
  ∑ k, gain ![dlw (blkU m c (num t k)) (blkV m c (num t k)) (blkY m c (num t k)) (wgt m c), dlb (blkU m c (num t k)) (blkY m c (num t k)) (wgt m c)] i j
def sum12 (t : Fin 8) (r : Fin 128) (j : Fin 512) : EReal := ∑ k, dm (blkU m c (num t k)) (blkY m c (num t k)) (ix2 r j)

theorem add8_at (t : Fin 8) (h : Fin 4) (r x : Fin 128) :
    add8 (iblk m c 0 (pt t)) (iblk m c 1 (pt t)) (iblk m c 2 (pt t)) (iblk m c 5 (pt t)) (iblk m c 6 (pt t)) h r x = sum8 m c t h r x := by
  unfold add8 sum8
  simp only [rowsU, rowsV, rowsY, scaleAt, shiftAt]
theorem add10_at (t : Fin 8) (i : Fin 8) (j : Fin 512) :
    add10 (iblk m c 0 (pt t)) (iblk m c 1 (pt t)) (iblk m c 2 (pt t)) (iblk m c 3 (pt t)) i j = sum10 m c t i j := by
  unfold add10 sum10
  simp only [rowsU, rowsV, rowsY, weightsAt]
theorem add12_at (t : Fin 8) (r : Fin 128) (j : Fin 512) :
    add12 (iblk m c 0 (pt t)) (iblk m c 2 (pt t)) r j = sum12 m c t r j := by
  unfold add12 sum12
  simp only [rowsU, rowsY]

end Cert.Proof.Gmlp

end
-- ==== Proof.Gmlp.Final.lean ====
module

public import proofs.«01_k».proof.Proof.Gmlp.Kernel
public import proofs.«01_k».proof.Proof.Gen.GmlpIdeal.Value

/-! What each result of the kernel holds once the grid has run. -/

@[expose] public section

set_option maxRecDepth 16384

noncomputable section

namespace Cert.Proof.Gmlp

open Cert.GmlpIdeal Cert.GmlpIdeal.Gen Idealize.ShloMosaic Idealize.ShloMosaic.TcCoe Idealize.SL.Sem Idealize.ShloMosaic.Pointwise

variable (m : (ℓ : Loc nD τ sig) → Buf (Elt Ideal) ℓ) (c : Dev nD)

/-- The outputs and the scratch after point `n`. -/
abbrev after (n : ℕ) (h : n < 8) := outsAt0 m c n (pt ⟨n, h⟩).isLt

theorem reset8 (t : Fin 8) (h0 : (pt t).val % 8 = 0) (h1 : ¬(pt t).val % 8 = 7) (h : Fin 4) (r x : Fin 128) :
    (after m c t.val t.isLt).2.1 (ix2 (headRow h r) x) = sum8 m c t h r x := by
  refine (congrArg (fun s => s.2.1 (ix2 (headRow h r) x)) (outsAt0_A m c (pt t) h0 h1)).trans ?_
  dsimp only
  rw [out8_A]
  exact add8_at m c t h r x

theorem add8_step (t : Fin 8) (h0 : ¬(pt t).val % 8 = 0) (h : Fin 4) (r x : Fin 128) :
    (after m c t.val t.isLt).2.1 (ix2 (headRow h r) x)
      = (after m c (t.val - 1) (Nat.lt_of_le_of_lt (Nat.sub_le _ _) t.isLt)).2.1 (ix2 (headRow h r) x) + sum8 m c t h r x := by
  by_cases h1 : (pt t).val % 8 = 7
  · refine (congrArg (fun s => s.2.1 (ix2 (headRow h r) x)) (outsAt0_C m c (pt t) h0 h1)).trans ?_
    dsimp only
    rw [out8_C]
    exact congrArg _ (add8_at m c t h r x)
  · refine (congrArg (fun s => s.2.1 (ix2 (headRow h r) x)) (outsAt0_B m c (pt t) h0 h1)).trans ?_
    dsimp only
    rw [out8_B]
    exact congrArg _ (add8_at m c t h r x)

theorem acc8 (h : Fin 4) (r x : Fin 128) : ∀ (n : ℕ) (hn : n < 8),
    (after m c n hn).2.1 (ix2 (headRow h r) x) = ∑ t : Fin (n + 1), sum8 m c ⟨t.val, by omega⟩ h r x
  | 0, hn => by
    rw [Fin.sum_univ_one]
    exact reset8 m c ⟨0, hn⟩ rfl (by show ¬(0 % 8 = 7); decide) h r x
  | n + 1, hn => by
    rw [Fin.sum_univ_castSucc]
    exact (add8_step m c ⟨n + 1, hn⟩ (by show ¬(n + 1) % 8 = 0; omega) h r x).trans
      (congrArg (· + sum8 m c ⟨n + 1, hn⟩ h r x) (acc8 h r x n (by omega)))

theorem reset10 (t : Fin 8) (h0 : (pt t).val % 8 = 0) (h1 : ¬(pt t).val % 8 = 7) (i : Fin 8) (j : Fin 512) :
    (after m c t.val t.isLt).2.2.2.1 (ix2 (i) j) = sum10 m c t i j := by
  refine (congrArg (fun s => s.2.2.2.1 (ix2 (i) j)) (outsAt0_A m c (pt t) h0 h1)).trans ?_
  dsimp only
  rw [out10_A]
  exact add10_at m c t i j

theorem add10_step (t : Fin 8) (h0 : ¬(pt t).val % 8 = 0) (i : Fin 8) (j : Fin 512) :
    (after m c t.val t.isLt).2.2.2.1 (ix2 (i) j)
      = (after m c (t.val - 1) (Nat.lt_of_le_of_lt (Nat.sub_le _ _) t.isLt)).2.2.2.1 (ix2 (i) j) + sum10 m c t i j := by
  by_cases h1 : (pt t).val % 8 = 7
  · refine (congrArg (fun s => s.2.2.2.1 (ix2 (i) j)) (outsAt0_C m c (pt t) h0 h1)).trans ?_
    dsimp only
    rw [out10_C]
    exact congrArg _ (add10_at m c t i j)
  · refine (congrArg (fun s => s.2.2.2.1 (ix2 (i) j)) (outsAt0_B m c (pt t) h0 h1)).trans ?_
    dsimp only
    rw [out10_B]
    exact congrArg _ (add10_at m c t i j)

theorem acc10 (i : Fin 8) (j : Fin 512) : ∀ (n : ℕ) (hn : n < 8),
    (after m c n hn).2.2.2.1 (ix2 (i) j) = ∑ t : Fin (n + 1), sum10 m c ⟨t.val, by omega⟩ i j
  | 0, hn => by
    rw [Fin.sum_univ_one]
    exact reset10 m c ⟨0, hn⟩ rfl (by show ¬(0 % 8 = 7); decide) i j
  | n + 1, hn => by
    rw [Fin.sum_univ_castSucc]
    exact (add10_step m c ⟨n + 1, hn⟩ (by show ¬(n + 1) % 8 = 0; omega) i j).trans
      (congrArg (· + sum10 m c ⟨n + 1, hn⟩ i j) (acc10 i j n (by omega)))

theorem reset12 (t : Fin 8) (h0 : (pt t).val % 8 = 0) (h1 : ¬(pt t).val % 8 = 7) (r : Fin 128) (j : Fin 512) :
    (after m c t.val t.isLt).2.2.2.2 (ix2 (r) j) = sum12 m c t r j := by
  refine (congrArg (fun s => s.2.2.2.2 (ix2 (r) j)) (outsAt0_A m c (pt t) h0 h1)).trans ?_
  dsimp only
  rw [sout_A]
  exact add12_at m c t r j

theorem add12_step (t : Fin 8) (h0 : ¬(pt t).val % 8 = 0) (r : Fin 128) (j : Fin 512) :
    (after m c t.val t.isLt).2.2.2.2 (ix2 (r) j)
      = (after m c (t.val - 1) (Nat.lt_of_le_of_lt (Nat.sub_le _ _) t.isLt)).2.2.2.2 (ix2 (r) j) + sum12 m c t r j := by
  by_cases h1 : (pt t).val % 8 = 7
  · refine (congrArg (fun s => s.2.2.2.2 (ix2 (r) j)) (outsAt0_C m c (pt t) h0 h1)).trans ?_
    dsimp only
    rw [sout_C]
    exact congrArg _ (add12_at m c t r j)
  · refine (congrArg (fun s => s.2.2.2.2 (ix2 (r) j)) (outsAt0_B m c (pt t) h0 h1)).trans ?_
    dsimp only
    rw [sout_B]
    exact congrArg _ (add12_at m c t r j)

theorem acc12 (r : Fin 128) (j : Fin 512) : ∀ (n : ℕ) (hn : n < 8),
    (after m c n hn).2.2.2.2 (ix2 (r) j) = ∑ t : Fin (n + 1), sum12 m c ⟨t.val, by omega⟩ r j
  | 0, hn => by
    rw [Fin.sum_univ_one]
    exact reset12 m c ⟨0, hn⟩ rfl (by show ¬(0 % 8 = 7); decide) r j
  | n + 1, hn => by
    rw [Fin.sum_univ_castSucc]
    exact (add12_step m c ⟨n + 1, hn⟩ (by show ¬(n + 1) % 8 = 0; omega) r j).trans
      (congrArg (· + sum12 m c ⟨n + 1, hn⟩ r j) (acc12 r j n (by omega)))

theorem block_left (t k : Fin 8) (r : Fin 128) (j : Fin 512) :
    (after m c t.val t.isLt).1 (ix2 (blockRow k r) (leftCol j))
      = du (blkU m c (num t k)) (blkV m c (num t k)) (blkY m c (num t k)) (wgt m c) (bias m c) (scale m c) (shift m c) (ix2 r j) := by
  by_cases h0 : (pt t).val % 8 = 0
  · have h1 : ¬(pt t).val % 8 = 7 := by omega
    refine (congrArg (fun s => s.1 (ix2 (blockRow k r) (leftCol j))) (outsAt0_A m c (pt t) h0 h1)).trans ?_
    dsimp only
    rw [out7_left_A]
    simp only [rowsU, rowsV, rowsY, weightsAt, biasesAt, scaleAt, shiftAt]
  · by_cases h1 : (pt t).val % 8 = 7
    · refine (congrArg (fun s => s.1 (ix2 (blockRow k r) (leftCol j))) (outsAt0_C m c (pt t) h0 h1)).trans ?_
      dsimp only
      rw [out7_left_C]
      simp only [rowsU, rowsV, rowsY, weightsAt, biasesAt, scaleAt, shiftAt]
    · refine (congrArg (fun s => s.1 (ix2 (blockRow k r) (leftCol j))) (outsAt0_B m c (pt t) h0 h1)).trans ?_
      dsimp only
      rw [out7_left_B]
      simp only [rowsU, rowsV, rowsY, weightsAt, biasesAt, scaleAt, shiftAt]

theorem block_right (t k : Fin 8) (r : Fin 128) (j : Fin 512) :
    (after m c t.val t.isLt).1 (ix2 (blockRow k r) (rightCol j))
      = dv (blkU m c (num t k)) (blkV m c (num t k)) (blkY m c (num t k)) (wgt m c) (scale m c) (ix2 r j) := by
  by_cases h0 : (pt t).val % 8 = 0
  · have h1 : ¬(pt t).val % 8 = 7 := by omega
    refine (congrArg (fun s => s.1 (ix2 (blockRow k r) (rightCol j))) (outsAt0_A m c (pt t) h0 h1)).trans ?_
    dsimp only
    rw [out7_right_A]
    simp only [rowsU, rowsV, rowsY, weightsAt, scaleAt]
  · by_cases h1 : (pt t).val % 8 = 7
    · refine (congrArg (fun s => s.1 (ix2 (blockRow k r) (rightCol j))) (outsAt0_C m c (pt t) h0 h1)).trans ?_
      dsimp only
      rw [out7_right_C]
      simp only [rowsU, rowsV, rowsY, weightsAt, scaleAt]
    · refine (congrArg (fun s => s.1 (ix2 (blockRow k r) (rightCol j))) (outsAt0_B m c (pt t) h0 h1)).trans ?_
      dsimp only
      rw [out7_right_B]
      simp only [rowsU, rowsV, rowsY, weightsAt, scaleAt]

/-- Sums over the points and their blocks are sums over the blocks. -/
theorem sum_blocks (f : Fin 64 → EReal) : ∑ t : Fin 8, ∑ k : Fin 8, f (num t k) = ∑ n, f n := by
  rw [← Fintype.sum_prod_type' (fun t k => f (num t k))]
  exact Fintype.sum_equiv (finProdFinEquiv (m := 8) (n := 8)) _ _ fun p => congrArg f (Fin.ext (by
    show 8 * p.1.val + p.2.val = p.2.val + 8 * p.1.val
    omega))

/-- The gradient of the spatial weights. -/
theorem final8 (h : Fin 4) (r x : Fin 128) :
    Value.G8 m c (ix2 (headRow h r) x)
      = ∑ n, dws (blkU m c n) (blkV m c n) (blkY m c n) (scale m c) (shift m c) h (ix2 r x) := by
  rw [Value.G8_last, ← Value.outsAt0_sweep m c 7 (pt 7).isLt]
  refine (acc8 m c h r x 7 (by decide)).trans ?_
  exact sum_blocks fun n => dws (blkU m c n) (blkV m c n) (blkY m c n) (scale m c) (shift m c) h (ix2 r x)

/-- The gradients of the scale and of the shift of the norm, in the first two of eight rows. -/
theorem final10 (i : Fin 8) (j : Fin 512) :
    Value.G10 m c (ix2 i j)
      = ∑ n, gain ![dlw (blkU m c n) (blkV m c n) (blkY m c n) (wgt m c), dlb (blkU m c n) (blkY m c n) (wgt m c)] i j := by
  rw [Value.G10_last, ← Value.outsAt0_sweep m c 7 (pt 7).isLt]
  refine (acc10 m c i j 7 (by decide)).trans ?_
  exact sum_blocks fun n => gain ![dlw (blkU m c n) (blkV m c n) (blkY m c n) (wgt m c), dlb (blkU m c n) (blkY m c n) (wgt m c)] i j

/-- The gradient of the spatial bias, in the first four of eight rows. -/
theorem final9 (i : Fin 8) (r : Fin 128) :
    Value.G9 m c (ix2 i r)
      = if hi : i.val < 4 then ∑ d : Fin 128, ∑ n, dm (blkU m c n) (blkY m c n) (ix2 r (headRow ⟨i.val, hi⟩ d)) else 0 := by
  rw [Value.G9_last, ← Value.outsAt0_sweep m c 7 (pt 7).isLt]
  refine (congrArg (fun s => s.2.2.1 (ix2 i r)) (outsAt0_C m c (pt 7) (by decide) (by decide))).trans ?_
  dsimp only
  rw [out9_C]
  by_cases hi : i.val < 4
  · rw [dif_pos hi, dif_pos hi]
    refine Finset.sum_congr rfl fun d _ => ?_
    refine Eq.trans ?_ ((acc12 m c r (headRow ⟨i.val, hi⟩ d) 7 (by decide)).trans
      (sum_blocks fun n => dm (blkU m c n) (blkY m c n) (ix2 r (headRow ⟨i.val, hi⟩ d))))
    rw [add12_at]
    exact (add12_step m c 7 (by decide) r (headRow ⟨i.val, hi⟩ d)).symm
  · rw [dif_neg hi, dif_neg hi]

/-- Where a row and a column of the first result lie. -/
theorem point_of (t k : Fin 8) (r : Fin 128) (j : Fin 1024) :
    Value.pt7Of (ix2 (rowAt (num t k) r) (⟨2048 + j.val, by omega⟩ : Fin 3072)) = t.val := by
  show 1 * ((128 * (8 * t.val + k.val) + r.val) / 1024 - 0) + 1 * ((2048 + j.val) / 1024 - 2) = t.val
  omega

theorem loc_of (t k : Fin 8) (r : Fin 128) (j : Fin 1024) :
    Value.loc7Of (ix2 (rowAt (num t k) r) (⟨2048 + j.val, by omega⟩ : Fin 3072)) = ix2 (blockRow k r) j := by
  funext a
  match a with
  | ⟨0, _⟩ => exact Fin.ext (by show (128 * (8 * t.val + k.val) + r.val) % 1024 = 128 * k.val + r.val; omega)
  | ⟨1, _⟩ => exact Fin.ext (by show (2048 + j.val) % 1024 = j.val; omega)

theorem first_at (t k : Fin 8) (r : Fin 128) (j : Fin 1024) :
    Value.G7 m c (ix2 (rowAt (num t k) r) (⟨2048 + j.val, by omega⟩ : Fin 3072)) = (after m c t.val t.isLt).1 (ix2 (blockRow k r) j) := by
  have hp := point_of t k r j
  have hl := loc_of t k r j
  unfold Value.G7
  generalize (ix2 (rowAt (num t k) r) (⟨2048 + j.val, by omega⟩ : Fin 3072) : S8192x3072.Idx) = y at hp hl
  have hN : Value.pt7Of y < cfg0.N := by rw [hp]; exact (pt t).isLt
  rw [dif_pos hN, hl, ← Value.outsAt0_sweep m c (Value.pt7Of y) hN]
  have e : ∀ (n : ℕ) (h : n < cfg0.N), n = t.val → (outsAt0 m c n h).1 (ix2 (blockRow k r) j) = (after m c t.val t.isLt).1 (ix2 (blockRow k r) j) := by
    intro n h hn
    subst hn
    rfl
  exact e _ hN hp

theorem final7_left (t k : Fin 8) (r : Fin 128) (j : Fin 512) :
    Value.G7 m c (ix2 (rowAt (num t k) r) (⟨2048 + (leftCol j).val, by omega⟩ : Fin 3072))
      = du (blkU m c (num t k)) (blkV m c (num t k)) (blkY m c (num t k)) (wgt m c) (bias m c) (scale m c) (shift m c) (ix2 r j) :=
  (first_at m c t k r (leftCol j)).trans (block_left m c t k r j)

theorem final7_right (t k : Fin 8) (r : Fin 128) (j : Fin 512) :
    Value.G7 m c (ix2 (rowAt (num t k) r) (⟨2048 + (rightCol j).val, by omega⟩ : Fin 3072))
      = dv (blkU m c (num t k)) (blkV m c (num t k)) (blkY m c (num t k)) (wgt m c) (scale m c) (ix2 r j) :=
  (first_at m c t k r (rightCol j)).trans (block_right m c t k r j)

end Cert.Proof.Gmlp

end
-- ==== Proof.Common.Reduce.lean ====
module

public import Idealize.ShloMosaic.Lib.Pointwise

/-! Sums over several axes at once: what a host reduction or product leaves at an index, from a list of the source's indices. -/

@[expose] public section

namespace Cert.Proof.Reduce

open Idealize.ShloMosaic Idealize.ShloMosaic.Pointwise

/-- A host sum whose fibre over `j` is listed by `e`. -/
theorem hostReduceAdd_at {s t : Shape} {axes : List (Fin s.rank)} (h : s.ReducesTo axes t) (v : s.Idx → EReal) (a : EReal) (j : t.Idx)
    {K : Type} [Fintype K] (e : K → s.Idx) (inj : Function.Injective e) (fib : ∀ i, h.drop i = j ↔ ∃ k, e k = i) :
    Ideal.hostReduceAdd h v a j = a + ∑ k, v (e k) := by
  classical
  have hs : (Finset.univ.filter fun i => h.drop i = j) = Finset.univ.image e := by
    ext i
    simp [fib]
  unfold Ideal.hostReduceAdd
  rw [show (∑ i ∈ Finset.univ.filter (fun i => h.drop i = j), v i) = ∑ i ∈ Finset.univ.image e, v i from by
    rw [← hs]]
  rw [Finset.sum_image fun _ _ _ _ hk => inj hk]

/-- A host sum with one source index over `j`. -/
theorem hostReduceAdd_one {s t : Shape} {axes : List (Fin s.rank)} (h : s.ReducesTo axes t) (v : s.Idx → EReal) (a : EReal) (j : t.Idx)
    (e : s.Idx) (fib : ∀ i, h.drop i = j ↔ e = i) : Ideal.hostReduceAdd h v a j = a + v e := by
  rw [hostReduceAdd_at h v a j (fun _ : Unit => e) (fun _ _ _ => rfl) (fun i => by simpa using fib i)]
  simp

end Cert.Proof.Reduce

end
-- ==== Proof.Gmlp.Reference.lean ====
module

public import proofs.«01_k».proof.Proof.Gen.GmlpRefIdeal.Read
public import proofs.«01_k».proof.Proof.Gmlp.Final
public import proofs.«01_k».proof.Proof.Common.Reduce

/-! The reference's values at an index. -/

@[expose] public section

noncomputable section

namespace Cert.Proof.Gmlp.Reference

open Cert.GmlpRefIdeal Cert.GmlpRefIdeal.Gen Cert.GmlpRefIdeal.Read Idealize.ShloMosaic Idealize.ShloMosaic.TcCoe Idealize.SL.Sem Idealize.ShloMosaic.Pointwise Reduce

/-! The sums the reference takes over several axes. -/

theorem sum_lead (v : S1x1x512.Idx → EReal) (a : EReal) (j : Fin 512) :
    Ideal.hostReduceAdd reducesTo_S1x1x512_S512_d0_1 v a (ix1 j) = a + v (ix3 0 0 j) :=
  hostReduceAdd_one _ v a _ (ix3 0 0 j) fun i => ⟨fun e => by
    obtain ⟨p, q, l, rfl⟩ : ∃ (p : Fin 1) (q : Fin 1) (l : Fin 512), i = ix3 p q l := ⟨i 0, i 1, i 2, eq_ix3 i⟩
    have h : l = j := congrFun e 0
    rw [h, Fin.fin_one_eq_zero p, Fin.fin_one_eq_zero q], fun e => by subst e; funext b; match b with | ⟨0, _⟩ => rfl⟩

theorem sum_row (v : S1x8192x1.Idx → EReal) (a : EReal) (R : Fin 8192) :
    Ideal.hostReduceAdd reducesTo_S1x8192x1_S8192_d0_2 v a (ix1 R) = a + v (ix3 0 R 0) :=
  hostReduceAdd_one _ v a _ (ix3 0 R 0) fun i => ⟨fun e => by
    obtain ⟨p, q, l, rfl⟩ : ∃ (p : Fin 1) (q : Fin 8192) (l : Fin 1), i = ix3 p q l := ⟨i 0, i 1, i 2, eq_ix3 i⟩
    have h : q = R := congrFun e 0
    rw [h, Fin.fin_one_eq_zero p, Fin.fin_one_eq_zero l], fun e => by subst e; funext b; match b with | ⟨0, _⟩ => rfl⟩

theorem sum_unit (v : S1x1x128x4x1.Idx → EReal) (a : EReal) (i : Fin 128) (h : Fin 4) :
    Ideal.hostReduceAdd reducesTo_S1x1x128x4x1_S128x4_d0_1_4 v a (ix2 i h) = a + v (ix5 0 0 i h 0) :=
  hostReduceAdd_one _ v a _ (ix5 0 0 i h 0) fun y => ⟨fun e => by
    obtain ⟨p, q, l, k, o, rfl⟩ : ∃ (p : Fin 1) (q : Fin 1) (l : Fin 128) (k : Fin 4) (o : Fin 1), y = ix5 p q l k o :=
      ⟨y 0, y 1, y 2, y 3, y 4, eq_ix5 y⟩
    have h1 : l = i := congrFun e 0
    have h2 : k = h := congrFun e 1
    rw [h1, h2, Fin.fin_one_eq_zero p, Fin.fin_one_eq_zero q, Fin.fin_one_eq_zero o],
    fun e => by subst e; funext b; match b with | ⟨0, _⟩ => rfl | ⟨1, _⟩ => rfl⟩

theorem sum_blocks_lanes (v : S1x64x128x4x128.Idx → EReal) (a : EReal) (i : Fin 128) (h : Fin 4) :
    Ideal.hostReduceAdd reducesTo_S1x64x128x4x128_S1x128x4_d1_4 v a (ix3 0 i h) = a + ∑ p : Fin 64 × Fin 128, v (ix5 0 p.1 i h p.2) :=
  hostReduceAdd_at _ v a _ (fun p : Fin 64 × Fin 128 => ix5 0 p.1 i h p.2)
    (fun p q e => Prod.ext (congrFun e 1) (congrFun e 4)) fun y => ⟨fun e => by
    obtain ⟨p, q, l, k, o, rfl⟩ : ∃ (p : Fin 1) (q : Fin 64) (l : Fin 128) (k : Fin 4) (o : Fin 128), y = ix5 p q l k o :=
      ⟨y 0, y 1, y 2, y 3, y 4, eq_ix5 y⟩
    have h1 : l = i := congrFun e 1
    have h2 : k = h := congrFun e 2
    exact ⟨(q, o), by rw [h1, h2, Fin.fin_one_eq_zero p]⟩,
    fun ⟨p, e⟩ => by subst e; funext b; match b with | ⟨0, _⟩ => rfl | ⟨1, _⟩ => rfl | ⟨2, _⟩ => rfl⟩

/-- The contracted indices of the product over blocks and lanes. -/
def contracted : Fin 1 × Fin 64 × Fin 128 ≃ dot_S4x1x64x128x128_S1x64x128x4x128_S4x128x128_123_014_4_2_0_3.contr.Idx where
  toFun p := fun a => match a with | ⟨0, _⟩ => p.1 | ⟨1, _⟩ => p.2.1 | ⟨2, _⟩ => p.2.2
  invFun k := (k ⟨0, by decide⟩, k ⟨1, by decide⟩, k ⟨2, by decide⟩)
  left_inv _ := rfl
  right_inv k := by funext a; match a with | ⟨0, _⟩ => rfl | ⟨1, _⟩ => rfl | ⟨2, _⟩ => rfl

theorem product_three (l : S4x1x64x128x128.Idx → EReal) (r : S1x64x128x4x128.Idx → EReal) (h : Fin 4) (i j : Fin 128) :
    Ideal.matmul dot_S4x1x64x128x128_S1x64x128x4x128_S4x128x128_123_014_4_2_0_3 l r (fun _ => 0) (ix3 h i j)
      = ∑ p : Fin 1 × Fin 64 × Fin 128, l (ix5 h p.1 p.2.1 p.2.2 i) * r (ix5 p.1 p.2.1 j h p.2.2) := by
  unfold Ideal.matmul
  rw [zero_add]
  refine (Fintype.sum_equiv contracted _ _ fun _ => rfl).symm.trans ?_
  refine Finset.sum_congr rfl fun p _ => congrArg₂ _ (congrArg l ?_) (congrArg r ?_)
  · funext b; match b with | ⟨0, _⟩ => rfl | ⟨1, _⟩ => rfl | ⟨2, _⟩ => rfl | ⟨3, _⟩ => rfl | ⟨4, _⟩ => rfl
  · funext b; match b with | ⟨0, _⟩ => rfl | ⟨1, _⟩ => rfl | ⟨2, _⟩ => rfl | ⟨3, _⟩ => rfl | ⟨4, _⟩ => rfl

variable (x0 : (⟨S1x8192x3072, .f32⟩ : BufTy).Contents (Elt Ideal)) (x1 : (⟨S1x4x128x128, .f32⟩ : BufTy).Contents (Elt Ideal)) (x2 : (⟨S1x4x128, .f32⟩ : BufTy).Contents (Elt Ideal)) (x3 x4 : (⟨S1x512, .f32⟩ : BufTy).Contents (Elt Ideal)) (x5 : (⟨S1x8192x1024, .f32⟩ : BufTy).Contents (Elt Ideal))

/-! The two gates and the norm of the second. -/

theorem v16_apply (R : Fin 8192) (j : Fin 512) : val_main_v16 (F := Ideal) x0 (ix3 0 R j) = gel (x0 (ix3 0 R (loCol j))) := by
  rw [← gel_erfc, ← root_eq]
  pointwise [val_main_v16, val_main_v7, val_main_v6, val_main_cst, val_main_v12, val_main_v11, val_main_v10, val_main_v9, val_main_cst_0, val_main_v8, val_main_v0]
  rfl
/-- The second gate's values along a row. -/
def gate (R : Fin 8192) : Fin 512 → EReal := fun j => gel (x0 (ix3 0 R (hiCol j)))
theorem v27_apply (R : Fin 8192) (j : Fin 512) : val_main_v27 (F := Ideal) x0 (ix3 0 R j) = gate x0 R j := by
  unfold gate
  rw [← gel_erfc, ← root_eq]
  pointwise [val_main_v27, val_main_v18, val_main_v17, val_main_cst_1, val_main_v23, val_main_v22, val_main_v21, val_main_v20, val_main_cst_2, val_main_v19, val_main_v1]
  rfl
theorem v31_apply (R : Fin 8192) : val_main_v31 (F := Ideal) x0 (ix3 0 R 0) = mean (gate x0 R) := by
  pointwise [val_main_v31, val_main_v30, val_main_cst_4, val_main_v29, val_main_v28, val_main_cst_3]
  simp only [v27_apply]
  rfl
theorem v33_apply (R : Fin 8192) (j : Fin 512) : val_main_v33 (F := Ideal) x0 (ix3 0 R j) = cent (gate x0 R) j := by
  pointwise [val_main_v33, val_main_v32]
  rw [v27_apply, v31_apply]
  rfl
theorem v42_apply (R : Fin 8192) (j : Fin 512) : val_main_v42 (F := Ideal) x0 (ix3 0 R j) = cent (gate x0 R) j := by
  pointwise [val_main_v42, val_main_v41]
  rw [v27_apply, v31_apply]
  rfl
theorem v44_apply (R : Fin 8192) : val_main_v44 (F := Ideal) x0 (ix3 0 R 0) = spread (gate x0 R) := by
  pointwise [val_main_v44, val_main_v43, val_main_cst_8, val_main_v40, val_main_v39, val_main_cst_7, val_main_v38, val_main_v37, val_main_cst_6, val_main_v34]
  simp only [v33_apply]
  rfl
theorem v45_apply (R : Fin 8192) : val_main_v45 (F := Ideal) x0 (ix3 0 R 0) = rstd (gate x0 R) := by
  pointwise [val_main_v45]
  rw [v44_apply]
  rfl
theorem v48_apply (R : Fin 8192) : val_main_v48 (F := Ideal) x0 (ix3 0 R 0)
    = Ideal.ofBits .f32 0xBF000000#32 * Ideal.div (rstd (gate x0 R)) (spread (gate x0 R)) := by
  pointwise [val_main_v48, val_main_v47, val_main_cst_9, val_main_v46]
  rw [v44_apply, v45_apply]
theorem v50_apply (R : Fin 8192) (j : Fin 512) : val_main_v50 (F := Ideal) x0 (ix3 0 R j) = hat (gate x0 R) j := by
  pointwise [val_main_v50, val_main_v49]
  rw [v42_apply, v45_apply]
  rfl
theorem v56_apply (R : Fin 8192) (j : Fin 512) : val_main_v56 (F := Ideal) x0 x3 x4 (ix3 0 R j) = hat (gate x0 R) j * x3 (ix2 0 j) + x4 (ix2 0 j) := by
  pointwise [val_main_v56, val_main_v55, val_main_v54, val_main_v53, val_main_v52, val_main_v51, val_main_v4, val_main_v5]
  rw [v50_apply]

/-! The masked spatial weights, the mixed rows and the derivative that comes back through them. -/

theorem v59_apply (i : Fin 128) : val_main_v59 (F := Ideal) (ix1 i) = chunk (BitVec.ofNat 32 i.val) := by
  pointwise [val_main_v59, val_main_call0_v11, val_main_call0_v13, val_main_call0_v2, val_main_call0_v6, val_main_call0_v10, val_main_call0_v3, val_main_call0_v5, val_main_call0_v4, val_main_call0_v8, val_main_call0_v9, val_main_call0_c, val_main_call0_v7, val_main_call0_v1, val_main_call0_v12, val_main_call0_c_0, val_main_call0_v0, val_main_c, val_main_v58]
  rfl
theorem v66_apply (h : Fin 4) (i j : Fin 128) : val_main_v66_0 (F := Ideal) x1 (ix3 h i j) = if j.val / 64 ≤ i.val / 64 then x1 (ix4 0 h i j) else 0 := by
  pointwise [val_main_v66_0, val_main_v66_1, val_main_v65, val_main_v64, val_main_v63, val_main_v62, val_main_v61, val_main_v60, val_main_v2, val_main_call1_v2, val_main_call1_v0, val_main_c_10]
  rw [v59_apply, v59_apply, show (FloatOps.sitofp .f32 0#32 : Ideal .f32) = (0 : EReal) by
    show (((0#32 : BitVec 32).toInt : ℝ) : EReal) = 0
    simp]
  exact select_chunk i j (x1 (ix4 0 h i j)) 0

/-- The mask as the gradient of the weights takes it. -/
theorem v87_apply (h : Fin 4) (i j : Fin 128) : val_main_v87 (F := Ideal) x0 x3 x4 x5 (ix3 h i j)
    = if j.val / 64 ≤ i.val / 64 then val_main_v84 (F := Ideal) x0 x3 x4 x5 (ix3 h i j) else 0 := by
  pointwise [val_main_v87, val_main_v66_1, val_main_v65, val_main_v64, val_main_v63, val_main_v62, val_main_v61, val_main_v60, val_main_call2_v0, val_main_call2_cst]
  rw [v59_apply, v59_apply]
  exact select_chunk i j _ _

theorem place (n : Fin 64) (r : Fin 128) : (rowAt n r).val / 128 = n.val ∧ (rowAt n r).val % 128 = r.val := by
  show (128 * n.val + r.val) / 128 = n.val ∧ (128 * n.val + r.val) % 128 = r.val
  omega
theorem lane (h : Fin 4) (d : Fin 128) : (headRow h d).val / 128 = h.val ∧ (headRow h d).val % 128 = d.val := by
  show (128 * h.val + d.val) / 128 = h.val ∧ (128 * h.val + d.val) % 128 = d.val
  omega

theorem v73_apply (n : Fin 64) (r : Fin 128) (h : Fin 4) (d : Fin 128) : val_main_v73 (F := Ideal) x0 x1 x2 x3 x4 (ix3 0 (rowAt n r) (headRow h d))
    = ∑ x : Fin 128, val_main_v56 (F := Ideal) x0 x3 x4 (ix3 0 (rowAt n x) (headRow h d)) * val_main_v66_0 (F := Ideal) x1 (ix3 h r x) + x2 (ix3 0 h r) := by
  pointwise [val_main_v73, val_main_v72, val_main_v71, val_main_v70, val_main_v69, val_main_v68, val_main_v67, val_main_v57, val_main_v3]
  have e1 : (⟨(headRow h d).val / 128, by omega⟩ : Fin 4) = h := Fin.ext (lane h d).1
  have e2 : (⟨(rowAt n r).val % 128, by omega⟩ : Fin 128) = r := Fin.ext (place n r).2
  have e3 : ∀ x : Fin 128, (⟨(rowAt n r).val / 128 * 128 + x.val, by have := (rowAt n r).isLt; omega⟩ : Fin 8192) = rowAt n x := fun x =>
    Fin.ext (by have := (place n r).1; show (rowAt n r).val / 128 * 128 + x.val = 128 * n.val + x.val; omega)
  simp only [e1, e2, e3]

theorem v76_apply (R : Fin 8192) (j : Fin 512) : val_main_v76 (F := Ideal) x0 x5 (ix3 0 R j) = gel (x0 (ix3 0 R (loCol j))) * x5 (ix3 0 R (leftCol j)) := by
  pointwise [val_main_v76, val_main_v75]
  rw [v16_apply]
  rfl
theorem v77_apply (R : Fin 8192) (j : Fin 512) : val_main_v77 (F := Ideal) x0 x1 x2 x3 x4 x5 (ix3 0 R j)
    = x5 (ix3 0 R (leftCol j)) * val_main_v73 (F := Ideal) x0 x1 x2 x3 x4 (ix3 0 R j) := by
  pointwise [val_main_v77, val_main_v75]
  rfl

theorem v88_apply (n : Fin 64) (r : Fin 128) (h : Fin 4) (d : Fin 128) : val_main_v88 (F := Ideal) x0 x1 x5 (ix3 0 (rowAt n r) (headRow h d))
    = ∑ x : Fin 128, val_main_v76 (F := Ideal) x0 x5 (ix3 0 (rowAt n x) (headRow h d)) * val_main_v66_0 (F := Ideal) x1 (ix3 h x r) := by
  pointwise [val_main_v88, val_main_v86, val_main_v85, val_main_v83, val_main_v78]
  have e1 : (⟨(headRow h d).val / 128, by omega⟩ : Fin 4) = h := Fin.ext (lane h d).1
  have e2 : (⟨(rowAt n r).val % 128, by omega⟩ : Fin 128) = r := Fin.ext (place n r).2
  have e3 : ∀ x : Fin 128, (⟨(rowAt n r).val / 128 * 128 + x.val, by have := (rowAt n r).isLt; omega⟩ : Fin 8192) = rowAt n x := fun x =>
    Fin.ext (by have := (place n r).1; show (rowAt n r).val / 128 * 128 + x.val = 128 * n.val + x.val; omega)
  simp only [e1, e2, e3]
theorem v96_apply (R : Fin 8192) (j : Fin 512) : val_main_v96 (F := Ideal) x0 x1 x3 x5 (ix3 0 R j)
    = val_main_v88 (F := Ideal) x0 x1 x5 (ix3 0 R j) * x3 (ix2 0 j) := by
  pointwise [val_main_v96, val_main_v95, val_main_v51, val_main_v4]

/-! The norm's gradient along a row. -/

/-- The derivative at the normalised row. -/
def back (R : Fin 8192) : Fin 512 → EReal := fun j => val_main_v96 (F := Ideal) x0 x1 x3 x5 (ix3 0 R j)

theorem v108_apply (R : Fin 8192) : val_main_v108 (F := Ideal) x0 x1 x3 x5 (ix3 0 R 0)
    = Ideal.div ((∑ k, cent (gate x0 R) k * back x0 x1 x3 x5 R k)
        * (Ideal.ofBits .f32 0xBF000000#32 * Ideal.div (rstd (gate x0 R)) (spread (gate x0 R)))) width := by
  pointwise [val_main_v108, val_main_v107, val_main_cst_19, val_main_v103, val_main_v100, val_main_v99, val_main_cst_17, val_main_v98]
  simp only [v42_apply, v48_apply]
  rfl
theorem v109_apply (R : Fin 8192) : val_main_v109 (F := Ideal) x0 x1 x3 x5 (ix1 R) = val_main_v108 (F := Ideal) x0 x1 x3 x5 (ix3 0 R 0) := by
  refine (sum_row _ _ R).trans ?_
  pointwise [val_main_cst_20]
theorem v112_apply (R : Fin 8192) (j : Fin 512) : val_main_v112 (F := Ideal) x0 x1 x3 x5 (ix3 0 R j) = varGrad (gate x0 R) (back x0 x1 x3 x5 R) j := by
  pointwise [val_main_v112, val_main_v111, val_main_v110, val_main_v36, val_main_v35, val_main_cst_5]
  rw [v109_apply, v108_apply, v33_apply]
  rfl
theorem v119_apply (R : Fin 8192) : val_main_v119 (F := Ideal) x0 x1 x3 x5 (ix3 0 R 0)
    = Ideal.div ((∑ k, -(back x0 x1 x3 x5 R k * rstd (gate x0 R))) + ∑ k, -(varGrad (gate x0 R) (back x0 x1 x3 x5 R) k)) width := by
  pointwise [val_main_v119, val_main_v118, val_main_cst_22, val_main_v117, val_main_v115, val_main_v114, val_main_cst_21, val_main_v113, val_main_v106, val_main_v105, val_main_cst_18, val_main_v104, val_main_v102, val_main_v101]
  simp only [v112_apply, v45_apply]
  rfl
theorem v120_apply (R : Fin 8192) : val_main_v120 (F := Ideal) x0 x1 x3 x5 (ix1 R) = val_main_v119 (F := Ideal) x0 x1 x3 x5 (ix3 0 R 0) := by
  refine (sum_row _ _ R).trans ?_
  pointwise [val_main_cst_23]
theorem v123_apply (R : Fin 8192) (j : Fin 512) : val_main_v123 (F := Ideal) x0 x1 x3 x5 (ix3 0 R j)
    = back x0 x1 x3 x5 R j * rstd (gate x0 R) + varGrad (gate x0 R) (back x0 x1 x3 x5 R) j
      + Ideal.div ((∑ k, -(back x0 x1 x3 x5 R k * rstd (gate x0 R))) + ∑ k, -(varGrad (gate x0 R) (back x0 x1 x3 x5 R) k)) width := by
  pointwise [val_main_v123, val_main_v122, val_main_v121, val_main_v116, val_main_v102, val_main_v101]
  rw [v120_apply, v119_apply, v112_apply, v45_apply]
  rfl

/-! The gates' gradients. -/

/-- What the reference writes for a gate's gradient at `x` times `q`. -/
def slopeBy (x q : EReal) : EReal :=
  -(Ideal.ofBits .f32 0xBF906EBB#32 * (half * x * q) * Ideal.exp (-(-x * root * (-x * root))) * root) + half * (q * Ideal.erfc (-x * root))

theorem v134_apply (R : Fin 8192) (j : Fin 512) : val_main_v134 (F := Ideal) x0 x1 x3 x5 (ix3 0 R j)
    = slopeBy (x0 (ix3 0 R (hiCol j))) (val_main_v123 (F := Ideal) x0 x1 x3 x5 (ix3 0 R j)) := by
  unfold slopeBy
  rw [← root_eq]
  pointwise [val_main_v134, val_main_v133, val_main_v132, val_main_cst_25, val_main_v131, val_main_v130, val_main_v129, val_main_v128, val_main_v127, val_main_v126, val_main_cst_24, val_main_v125, val_main_v124, val_main_v26, val_main_v25, val_main_v24, val_main_v18, val_main_v17, val_main_cst_1, val_main_v23, val_main_v22, val_main_v21, val_main_v20, val_main_cst_2, val_main_v19, val_main_v1]
  rfl
theorem v145_apply (R : Fin 8192) (j : Fin 512) : val_main_v145 (F := Ideal) x0 x1 x2 x3 x4 x5 (ix3 0 R j)
    = slopeBy (x0 (ix3 0 R (loCol j))) (val_main_v77 (F := Ideal) x0 x1 x2 x3 x4 x5 (ix3 0 R j)) := by
  unfold slopeBy
  rw [← root_eq]
  pointwise [val_main_v145, val_main_v144, val_main_v143, val_main_cst_27, val_main_v142, val_main_v141, val_main_v140, val_main_v139, val_main_v138, val_main_v137, val_main_cst_26, val_main_v136, val_main_v135, val_main_v15, val_main_v14, val_main_v13, val_main_v7, val_main_v6, val_main_cst, val_main_v12, val_main_v11, val_main_v10, val_main_v9, val_main_cst_0, val_main_v8, val_main_v0]
  rfl

/-! The four results. -/

theorem v150_apply (R : Fin 8192) (q : Fin 3072) : val_main_v150 (F := Ideal) x0 x1 x2 x3 x4 x5 (ix2 R q)
    = if h : q.val < 2048 then 0
      else if h : q.val - 2048 < 512 then val_main_v145 (F := Ideal) x0 x1 x2 x3 x4 x5 (ix3 0 R ⟨q.val - 2048, h⟩)
      else val_main_v134 (F := Ideal) x0 x1 x3 x5 (ix3 0 R ⟨q.val - 2048 - 512, by omega⟩) := by
  pointwise [val_main_v150, val_main_v149, val_main_v147, val_main_v148, val_main_v146, val_main_cst_28]
theorem v150_left (R : Fin 8192) (j : Fin 512) : val_main_v150 (F := Ideal) x0 x1 x2 x3 x4 x5 (ix2 R (⟨2048 + (leftCol j).val, by omega⟩ : Fin 3072))
    = val_main_v145 (F := Ideal) x0 x1 x2 x3 x4 x5 (ix3 0 R j) := by
  have hj : (leftCol j).val = j.val := rfl
  rw [v150_apply, dif_neg (show ¬ 2048 + (leftCol j).val < 2048 by omega), dif_pos (show 2048 + (leftCol j).val - 2048 < 512 by omega)]
  exact congrArg (fun q => val_main_v145 (F := Ideal) x0 x1 x2 x3 x4 x5 (ix3 0 R q)) (Fin.ext (by show 2048 + (leftCol j).val - 2048 = j.val; omega))
theorem v150_right (R : Fin 8192) (j : Fin 512) : val_main_v150 (F := Ideal) x0 x1 x2 x3 x4 x5 (ix2 R (⟨2048 + (rightCol j).val, by omega⟩ : Fin 3072))
    = val_main_v134 (F := Ideal) x0 x1 x3 x5 (ix3 0 R j) := by
  have hj : (rightCol j).val = 512 + j.val := rfl
  rw [v150_apply, dif_neg (show ¬ 2048 + (rightCol j).val < 2048 by omega), dif_neg (show ¬ 2048 + (rightCol j).val - 2048 < 512 by omega)]
  exact congrArg (fun q => val_main_v134 (F := Ideal) x0 x1 x3 x5 (ix3 0 R q)) (Fin.ext (by show 2048 + (rightCol j).val - 2048 - 512 = j.val; omega))

theorem v84_apply (h : Fin 4) (i j : Fin 128) : val_main_v84 (F := Ideal) x0 x3 x4 x5 (ix3 h i j)
    = ∑ p : Fin 1 × Fin 64 × Fin 128, val_main_v76 (F := Ideal) x0 x5 (ix3 0 (rowAt p.2.1 i) (headRow h p.2.2))
        * val_main_v56 (F := Ideal) x0 x3 x4 (ix3 0 (rowAt p.2.1 j) (headRow h p.2.2)) := by
  pointwise [val_main_v84, val_main_v83, val_main_v57, val_main_v78]
  refine (product_three _ _ h i j).trans (Finset.sum_congr rfl fun p _ => ?_)
  obtain ⟨z, n, d⟩ := p
  obtain rfl : z = 0 := Fin.fin_one_eq_zero z
  pointwise []
  refine congrArg₂ (fun a b => val_main_v76 (F := Ideal) x0 x5 a * val_main_v56 (F := Ideal) x0 x3 x4 b) ?_ ?_
  · refine congrArg₂ (fun a b => ix3 0 a b) (Fin.ext ?_) (Fin.ext ?_)
    · show n.val * 128 + i.val = 128 * n.val + i.val; omega
    · show h.val * 128 + d.val = 128 * h.val + d.val; omega
  · refine congrArg₂ (fun a b => ix3 0 a b) (Fin.ext ?_) (Fin.ext ?_)
    · show n.val * 128 + j.val = 128 * n.val + j.val; omega
    · show h.val * 128 + d.val = 128 * h.val + d.val; omega
theorem v151_apply (h : Fin 4) (i j : Fin 128) : val_main_v151 (F := Ideal) x0 x3 x4 x5 (ix2 (headRow h i) j)
    = val_main_v87 (F := Ideal) x0 x3 x4 x5 (ix3 h i j) := by
  pointwise [val_main_v151]
  exact congrArg₂ (fun a b => val_main_v87 (F := Ideal) x0 x3 x4 x5 (ix3 a b j)) (Fin.ext (lane h i).1) (Fin.ext (lane h i).2)

theorem v82_apply (h : Fin 4) (i : Fin 128) : val_main_v82 (F := Ideal) x0 x5 (ix2 h i)
    = ∑ p : Fin 64 × Fin 128, val_main_v76 (F := Ideal) x0 x5 (ix3 0 (rowAt p.1 i) (headRow h p.2)) := by
  pointwise [val_main_v82, val_main_v81]
  refine (sum_unit _ _ i h).trans ?_
  pointwise [val_main_v80, val_main_v79, val_main_cst_12]
  refine (sum_blocks_lanes _ _ i h).trans ?_
  pointwise [val_main_cst_11, val_main_v78]
  refine Finset.sum_congr rfl fun p _ => congrArg (val_main_v76 (F := Ideal) x0 x5) (congrArg₂ (fun a b => ix3 0 a b) (Fin.ext ?_) (Fin.ext ?_))
  · show p.1.val * 128 + i.val = 128 * p.1.val + i.val; omega
  · show h.val * 128 + p.2.val = 128 * h.val + p.2.val; omega
theorem v153_apply (i : Fin 8) (j : Fin 128) : val_main_v153 (F := Ideal) x0 x5 (ix2 i j)
    = if hi : i.val < 4 then val_main_v82 (F := Ideal) x0 x5 (ix2 ⟨i.val, hi⟩ j) else 0 := by
  pointwise [val_main_v153, val_main_v152, val_main_cst_29]

theorem v91_apply (j : Fin 512) : val_main_v91 (F := Ideal) x0 x1 x5 (ix1 j) = ∑ R : Fin 8192, val_main_v88 (F := Ideal) x0 x1 x5 (ix3 0 R j) := by
  pointwise [val_main_v91]
  refine (sum_lead _ _ j).trans ?_
  pointwise [val_main_v90, val_main_v89, val_main_cst_13, val_main_cst_14]
theorem v97_apply (j : Fin 512) : val_main_v97 (F := Ideal) x0 x1 x5 (ix1 j)
    = ∑ R : Fin 8192, hat (gate x0 R) j * val_main_v88 (F := Ideal) x0 x1 x5 (ix3 0 R j) := by
  pointwise [val_main_v97]
  refine (sum_lead _ _ j).trans ?_
  pointwise [val_main_v94, val_main_v93, val_main_cst_15, val_main_cst_16, val_main_v92]
  simp only [v50_apply]
theorem v157_apply (i : Fin 8) (j : Fin 512) : val_main_v157 (F := Ideal) x0 x1 x5 (ix2 i j)
    = if i.val = 0 then val_main_v97 (F := Ideal) x0 x1 x5 (ix1 j) else if i.val = 1 then val_main_v91 (F := Ideal) x0 x1 x5 (ix1 j) else 0 := by
  pointwise [val_main_v157, val_main_v156, val_main_cst_30, val_main_v155, val_main_v154]
  by_cases h0 : i.val = 0
  · rw [dif_pos (by omega), if_pos h0]
  · rw [dif_neg (by omega), if_neg h0]
    by_cases h1 : i.val = 1
    · rw [dif_pos (by omega), if_pos h1]
    · rw [dif_neg (by omega), if_neg h1]

end Cert.Proof.Gmlp.Reference
end
-- ==== Proof.Gmlp.Equal.lean ====
module

public import proofs.«01_k».proof.Proof.Gmlp.Reference

/-! The kernel's arrays are the reference's results at the same finite arguments. -/

@[expose] public section

noncomputable section

namespace Cert.Proof.Gmlp

open Idealize.ShloMosaic Idealize.ShloMosaic.TcCoe Idealize.SL.Sem Idealize.ShloMosaic.Pointwise Cert.GmlpRefIdeal.Read Reference

variable (m : (ℓ : Loc Cert.GmlpIdeal.nD Cert.GmlpIdeal.τ Cert.GmlpIdeal.sig) → Buf (Elt Ideal) ℓ) (c : Dev Cert.GmlpIdeal.nD)

def a0 : (⟨Cert.GmlpRefIdeal.S1x8192x3072, .f32⟩ : BufTy).Contents (Elt Ideal) := m ((c : Thread Cert.GmlpIdeal.nD Cert.GmlpIdeal.τ).loc Cert.GmlpIdeal.main_arg0)
def a1 : (⟨Cert.GmlpRefIdeal.S1x4x128x128, .f32⟩ : BufTy).Contents (Elt Ideal) := m ((c : Thread Cert.GmlpIdeal.nD Cert.GmlpIdeal.τ).loc Cert.GmlpIdeal.main_arg1)
def a2 : (⟨Cert.GmlpRefIdeal.S1x4x128, .f32⟩ : BufTy).Contents (Elt Ideal) := m ((c : Thread Cert.GmlpIdeal.nD Cert.GmlpIdeal.τ).loc Cert.GmlpIdeal.main_arg2)
def a3 : (⟨Cert.GmlpRefIdeal.S1x512, .f32⟩ : BufTy).Contents (Elt Ideal) := m ((c : Thread Cert.GmlpIdeal.nD Cert.GmlpIdeal.τ).loc Cert.GmlpIdeal.main_arg3)
def a4 : (⟨Cert.GmlpRefIdeal.S1x512, .f32⟩ : BufTy).Contents (Elt Ideal) := m ((c : Thread Cert.GmlpIdeal.nD Cert.GmlpIdeal.τ).loc Cert.GmlpIdeal.main_arg4)
def a5 : (⟨Cert.GmlpRefIdeal.S1x8192x1024, .f32⟩ : BufTy).Contents (Elt Ideal) := m ((c : Thread Cert.GmlpIdeal.nD Cert.GmlpIdeal.τ).loc Cert.GmlpIdeal.main_arg5)

theorem gated_eq (n : Fin 64) (r : Fin 128) : gated (blkV m c n) r = gate (a0 m c) (rowAt n r) := rfl

theorem headOf_headRow (h : Fin 4) (d : Fin 128) : headOf (headRow h d) = h := Fin.ext (lane h d).1

theorem split_lane (j : Fin 512) : ∃ (h : Fin 4) (d : Fin 128), j = headRow h d :=
  ⟨⟨j.val / 128, by omega⟩, ⟨j.val % 128, by omega⟩, Fin.ext (by show j.val = 128 * (j.val / 128) + j.val % 128; omega)⟩

theorem split_row (R : Fin 8192) : ∃ (t k : Fin 8) (r : Fin 128), R = rowAt (num t k) r :=
  ⟨⟨R.val / 1024, by omega⟩, ⟨R.val / 128 % 8, by omega⟩, ⟨R.val % 128, by omega⟩, Fin.ext (by
    show R.val = 128 * (8 * (R.val / 1024) + R.val / 128 % 8) + R.val % 128
    omega)⟩

theorem v76_eq (n : Fin 64) (r : Fin 128) (j : Fin 512) :
    blkY m c n (ix2 r j) * gel (blkU m c n (ix2 r j)) = val_main_v76 (F := Ideal) (a0 m c) (a5 m c) (ix3 0 (rowAt n r) j) := by
  rw [v76_apply, mul_comm]
  rfl

theorem v56_eq (n : Fin 64) (r : Fin 128) (j : Fin 512) :
    hat (gated (blkV m c n) r) j * scale m c (ix2 0 j) + shift m c (ix2 0 j) = val_main_v56 (F := Ideal) (a0 m c) (a3 m c) (a4 m c) (ix3 0 (rowAt n r) j) := by
  rw [v56_apply, gated_eq]
  rfl

theorem v66_eq (h : Fin 4) (i j : Fin 128) : wgt m c h (ix3 0 i j) = val_main_v66_0 (F := Ideal) (a1 m c) (ix3 h i j) := by
  rw [v66_apply]
  rfl

theorem v88_eq (n : Fin 64) (r : Fin 128) (j : Fin 512) :
    dvn (blkU m c n) (blkY m c n) (wgt m c) (ix2 r j) = val_main_v88 (F := Ideal) (a0 m c) (a1 m c) (a5 m c) (ix3 0 (rowAt n r) j) := by
  obtain ⟨h, d, rfl⟩ := split_lane j
  rw [dvn_apply, v88_apply, headOf_headRow]
  exact Finset.sum_congr rfl fun x _ => by rw [v76_eq, v66_eq, mul_comm]

theorem v73_eq (n : Fin 64) (r : Fin 128) (j : Fin 512) :
    mixed (blkV m c n) (wgt m c) (bias m c) (scale m c) (shift m c) r j
      = val_main_v73 (F := Ideal) (a0 m c) (a1 m c) (a2 m c) (a3 m c) (a4 m c) (ix3 0 (rowAt n r) j) := by
  obtain ⟨h, d, rfl⟩ := split_lane j
  rw [mixed, v73_apply, headOf_headRow]
  refine congrArg₂ (· + ·) (Finset.sum_congr rfl fun x _ => ?_) rfl
  rw [v56_eq, v66_eq, mul_comm]

/-! At finite arguments. -/

/-- Every argument is real at every index. -/
structure Finite : Prop where
  proj : ∀ R k, IsReal (argP m c R k)
  weight : ∀ h i j, IsReal (argW m c h i j)
  bias : ∀ h i, IsReal (argB m c h i)
  scale : ∀ j, IsReal (scale m c (ix2 0 j))
  shift : ∀ j, IsReal (shift m c (ix2 0 j))
  dy : ∀ R k, IsReal (argY m c R k)

variable {m c} (fin : Finite m c)
include fin

theorem gate_isReal (R : Fin 8192) (j : Fin 512) : IsReal (gate (a0 m c) R j) := gel_isReal (fin.proj R (hiCol j))

theorem wgt_isReal (h : Fin 4) (i j : Fin 128) : IsReal (wgt m c h (ix3 0 i j)) := by
  show IsReal (if j.val / 64 ≤ i.val / 64 then argW m c h i j else 0)
  split_ifs
  · exact fin.weight h i j
  · exact IsReal.coe 0

theorem dvn_isReal (n : Fin 64) (r : Fin 128) (j : Fin 512) : IsReal (dvn (blkU m c n) (blkY m c n) (wgt m c) (ix2 r j)) := by
  rw [dvn_apply]
  exact IsReal.sum fun x => (wgt_isReal fin _ x r).mul ((fin.dy _ _).mul (gel_isReal (fin.proj _ _)))

theorem mixed_isReal (n : Fin 64) (r : Fin 128) (j : Fin 512) :
    IsReal (mixed (blkV m c n) (wgt m c) (Gmlp.bias m c) (Gmlp.scale m c) (Gmlp.shift m c) r j) := by
  unfold mixed
  exact (IsReal.sum fun x => (wgt_isReal fin _ r x).mul
    (((hat_isReal (gate_isReal fin (rowAt n x)) j).mul (fin.scale j)).add (fin.shift j))).add (fin.bias _ r)

omit fin in
theorem back_eq (n : Fin 64) (r : Fin 128) :
    (fun k => dvn (blkU m c n) (blkY m c n) (wgt m c) (ix2 r k) * Gmlp.scale m c (ix2 0 k)) = back (a0 m c) (a1 m c) (a3 m c) (a5 m c) (rowAt n r) :=
  funext fun k => by
    rw [back, v96_apply, v88_eq]
    rfl

/-- The gradient at the first gate's argument. -/
theorem left_eq (n : Fin 64) (r : Fin 128) (j : Fin 512) :
    du (blkU m c n) (blkV m c n) (blkY m c n) (wgt m c) (Gmlp.bias m c) (Gmlp.scale m c) (Gmlp.shift m c) (ix2 r j)
      = val_main_v145 (F := Ideal) (a0 m c) (a1 m c) (a2 m c) (a3 m c) (a4 m c) (a5 m c) (ix3 0 (rowAt n r) j) := by
  rw [du_apply, v145_apply, v77_apply, ← v73_eq]
  exact (dgel_erfc (fin.proj _ _) ((fin.dy _ _).mul (mixed_isReal fin n r j))).symm

/-- The gradient at the second gate's argument. -/
theorem right_eq (n : Fin 64) (r : Fin 128) (j : Fin 512) :
    dv (blkU m c n) (blkV m c n) (blkY m c n) (wgt m c) (Gmlp.scale m c) (ix2 r j)
      = val_main_v134 (F := Ideal) (a0 m c) (a1 m c) (a3 m c) (a5 m c) (ix3 0 (rowAt n r) j) := by
  have hb : ∀ k, IsReal (back (a0 m c) (a1 m c) (a3 m c) (a5 m c) (rowAt n r) k) := fun k => by
    rw [← back_eq]
    exact (dvn_isReal fin n r k).mul (fin.scale k)
  have hg := gate_isReal fin (rowAt n r)
  rw [dv_apply, v134_apply, v123_apply, lnGrad_eq hg hb, back_eq, gated_eq]
  exact (dgel_erfc (fin.proj _ _) (lnGrad_isReal hg hb j)).symm

/-- The first result. -/
theorem first_eq (R : Fin 8192) (j : Fin 1024) :
    Cert.GmlpIdeal.Value.G7 m c (ix2 R (⟨2048 + j.val, by omega⟩ : Fin 3072))
      = val_main_v150 (F := Ideal) (a0 m c) (a1 m c) (a2 m c) (a3 m c) (a4 m c) (a5 m c) (ix2 R (⟨2048 + j.val, by omega⟩ : Fin 3072)) := by
  obtain ⟨t, k, r, rfl⟩ := split_row R
  by_cases hj : j.val < 512
  · obtain ⟨q, rfl⟩ : ∃ q, j = leftCol q := ⟨⟨j.val, hj⟩, rfl⟩
    exact (final7_left m c t k r _).trans ((left_eq fin _ r _).trans (v150_left _ _ _ _ _ _ _ _).symm)
  · obtain ⟨q, rfl⟩ : ∃ q, j = rightCol q := ⟨⟨j.val - 512, by omega⟩, Fin.ext (by show j.val = 512 + (j.val - 512); omega)⟩
    exact (final7_right m c t k r _).trans ((right_eq fin _ r _).trans (v150_right _ _ _ _ _ _ _ _).symm)

omit fin

/-! The sums over the rows, at any arguments. -/

theorem weights_sum (h : Fin 4) (r x : Fin 128) :
    Cert.GmlpIdeal.Value.G8 m c (ix2 (headRow h r) x)
      = val_main_v151 (F := Ideal) (a0 m c) (a3 m c) (a4 m c) (a5 m c) (ix2 (headRow h r) x) := by
  rw [final8, v151_apply, v87_apply, v84_apply]
  show @Eq EReal _ _
  simp only [dws_apply _ _ _ _ _ _ _ _ (fun d : Fin 128 => (headRow h d).isLt)]
  split_ifs
  · rw [Fintype.sum_prod_type, Fin.sum_univ_one, Fintype.sum_prod_type]
    refine Finset.sum_congr rfl fun n _ => Finset.sum_congr rfl fun d _ => ?_
    rw [← v76_eq, ← v56_eq]
    rfl
  · exact Finset.sum_const_zero

theorem weights_all (i : Fin 512) (x : Fin 128) :
    Cert.GmlpIdeal.Value.G8 m c (ix2 i x) = val_main_v151 (F := Ideal) (a0 m c) (a3 m c) (a4 m c) (a5 m c) (ix2 i x) := by
  obtain ⟨h, r, rfl⟩ := split_lane i
  exact weights_sum h r x

theorem biases_sum (i : Fin 8) (r : Fin 128) :
    Cert.GmlpIdeal.Value.G9 m c (ix2 i r) = val_main_v153 (F := Ideal) (a0 m c) (a5 m c) (ix2 i r) := by
  rw [final9, v153_apply]
  show @Eq EReal _ _
  by_cases hi : i.val < 4
  · rw [dif_pos hi, dif_pos hi, v82_apply, Fintype.sum_prod_type, Finset.sum_comm]
    exact Finset.sum_congr rfl fun n _ => Finset.sum_congr rfl fun d _ => (dm_apply _ _ r _).trans (v76_eq m c n r _)
  · rw [dif_neg hi, dif_neg hi]

theorem sum_rows (f : Fin 8192 → EReal) : ∑ n : Fin 64, ∑ r : Fin 128, f (rowAt n r) = ∑ R, f R := by
  rw [← Fintype.sum_prod_type' (fun n r => f (rowAt n r))]
  exact Fintype.sum_equiv (finProdFinEquiv (m := 64) (n := 128)) _ _ fun p => congrArg f (Fin.ext (by
    show 128 * p.1.val + p.2.val = p.2.val + 128 * p.1.val
    omega))

theorem norms_sum (i : Fin 8) (j : Fin 512) :
    Cert.GmlpIdeal.Value.G10 m c (ix2 i j) = val_main_v157 (F := Ideal) (a0 m c) (a1 m c) (a5 m c) (ix2 i j) := by
  rw [final10, v157_apply]
  show @Eq EReal _ _
  unfold gain
  by_cases h0 : i.val = 0
  · simp only [if_pos h0]
    rw [v97_apply, ← sum_rows]
    refine Finset.sum_congr rfl fun n _ => (dlw_apply _ _ _ _ 0 j).trans (Finset.sum_congr rfl fun r _ => ?_)
    rw [v88_eq, gated_eq, mul_comm]
  · simp only [if_neg h0]
    by_cases h1 : i.val = 1
    · simp only [if_pos h1]
      rw [v91_apply, ← sum_rows]
      exact Finset.sum_congr rfl fun n _ => (dlb_apply _ _ _ 0 j).trans (Finset.sum_congr rfl fun r _ => v88_eq m c n r j)
    · simp only [if_neg h1]
      exact Finset.sum_const_zero

end Cert.Proof.Gmlp

end
-- ==== Proof.Gmlp.Claims.lean ====
module

public import proofs.«01_k».proof.Defs
public import proofs.«01_k».proof.Proof.Gen.GmlpRefIdeal.Run
public import proofs.«01_k».proof.Proof.Gmlp.Equal
public import Idealize.ShloMosaic.Lib.Claim

/-! The value claim at finite arguments, the constants' claim and the reference's frame. -/

@[expose] public section

noncomputable section

namespace Cert.Proof.Gmlp

open Idealize.ShloMosaic Idealize.ShloMosaic.TcCoe Idealize.SL.Sem Idealize.ShloMosaic.Pointwise Cert.GmlpRefIdeal.Read

instance pre_facts : Cert.Pre_finite2.Facts := by constructor <;> decide
instance on_facts : Cert.On_written2.Facts := by constructor <;> decide

/-- A number whose magnitude is below the infinite word is real. -/
theorem isReal_of_lt {x : EReal} (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  induction x using EReal.rec with
  | coe r => exact IsReal.coe r
  | bot => exact absurd h (by simp [Ideal.cmp])
  | top => exact absurd h (by simp [Ideal.cmp])

section
variable {m : (ℓ : Loc Cert.GmlpIdeal.nD Cert.GmlpIdeal.τ Cert.GmlpIdeal.sig) → Buf (Elt Ideal) ℓ}

theorem finite_of_pre (hp : Cert.Pre_GmlpIdeal_finite2 m) (c : Dev Cert.GmlpIdeal.nD) : Finite m c := by
  obtain ⟨h0, h1, h2, h3, h4, h5⟩ := hp c
  exact
    { proj := fun R k => isReal_of_lt (congrFun h0 (ix3 0 R k))
      weight := fun h i j => isReal_of_lt (congrFun h1 (ix4 0 h i j))
      bias := fun h i => isReal_of_lt (congrFun h2 (ix3 0 h i))
      scale := fun j => isReal_of_lt (congrFun h3 (ix2 0 j))
      shift := fun j => isReal_of_lt (congrFun h4 (ix2 0 j))
      dy := fun R k => isReal_of_lt (congrFun h5 (ix3 0 R k)) }

/-- The mask selects the columns from 2048 on. -/
theorem col_of_mask {q : Fin 3072} (h : Scalar.cmpi .sge (BitVec.ofNat 32 q.val) 2048#32 = 1#1) : 2048 ≤ q.val := by
  have hq := q.isLt
  by_contra hlt
  have : q.val < 2048 := by omega
  have e : (BitVec.ofNat 32 q.val).toInt = q.val := by
    rw [BitVec.toInt_eq_toNat_of_lt] <;> simp only [BitVec.toNat_ofNat] <;> omega
  revert h
  simp only [Scalar.cmpi, IntOp.cmpi, BitVec.sle, e]
  rw [decide_eq_false (by show ¬(2048 : Int) ≤ q.val; omega)]
  decide
end

theorem frame_reference : Cert.quiescent_GmlpRefIdeal (hGmlpRefIdeal := Cert.GmlpRefIdeal.Gen.facts) := fun m ρ _ =>
  (θ_run Cert.GmlpRefIdeal.defs _ _).mono (fun r h => ⟨fun c => (h c).2.2.2.2, sem_eq_zero_of_no_sems (by decide) r.2⟩)
    (Cert.GmlpRefIdeal.Value.run (F := Ideal) m ρ)

theorem constants : Cert.preserves_Gmlp_GmlpIdeal :=
  ⟨IdealRules.named_const.statement Cert.GmlpIdeal.κ "sqrt_half" .f32 0x3F3504F3#32 _ rfl,
    IdealRules.named_const.statement Cert.GmlpIdeal.κ "normal" .f32 0x3ECC422A#32 _ rfl⟩

theorem algebraic : Cert.algebraic_GmlpIdeal_GmlpRefIdeal_on_written2_pre_finite2 (hGmlpIdeal := Cert.GmlpIdeal.Gen.facts)
    (hGmlpRefIdeal := Cert.GmlpRefIdeal.Gen.facts) (hPre_finite2 := pre_facts) (hOn_written2 := on_facts) := by
  intro m g m' g' hp hm
  refine ⟨fun c => val_main_v150 (F := Ideal) (a0 m c) (a1 m c) (a2 m c) (a3 m c) (a4 m c) (a5 m c),
    fun c => val_main_v151 (F := Ideal) (a0 m c) (a3 m c) (a4 m c) (a5 m c),
    fun c => val_main_v153 (F := Ideal) (a0 m c) (a5 m c),
    fun c => val_main_v157 (F := Ideal) (a0 m c) (a1 m c) (a5 m c),
    (θ_run Cert.GmlpIdeal.defs _ _).mono (fun _ h c => ⟨fun i hi => ?_, fun i _ => ?_, fun i _ => ?_, fun i _ => ?_, (h c).2.2.2.2⟩)
      (Cert.GmlpIdeal.Value.run (F := Ideal) m g),
    (θ_run Cert.GmlpRefIdeal.defs _ _).mono (fun _ h c => ⟨fun i _ => congrFun ((h c).1.trans ?_) i, fun i _ => congrFun ((h c).2.1.trans ?_) i,
        fun i _ => congrFun ((h c).2.2.1.trans ?_) i, fun i _ => congrFun ((h c).2.2.2.1.trans ?_) i, (h c).2.2.2.2⟩)
      (Cert.GmlpRefIdeal.Value.run (F := Ideal) m' g')⟩
  · rw [(h c).1]
    have hcol : 2048 ≤ (i 1).val := col_of_mask (q := i 1) hi
    have h0 : (i 0).val < 8192 := (i 0).isLt
    have h1 : (i 1).val < 3072 := (i 1).isLt
    refine (if_pos ⟨Nat.zero_le _, h0, hcol, h1⟩).trans ?_
    obtain ⟨R, q, rfl⟩ : ∃ R q, i = ix2 R q := ⟨i 0, i 1, eq_ix2 i⟩
    have hq : 2048 ≤ q.val := hcol
    have hj : (⟨2048 + (q.val - 2048), by omega⟩ : Fin 3072) = q := Fin.ext (by show 2048 + (q.val - 2048) = q.val; omega)
    have e := first_eq (finite_of_pre hp c) R ⟨q.val - 2048, by omega⟩
    simp only [hj] at e
    exact e
  · rw [(h c).2.1, eq_ix2 i]
    exact weights_all (i 0) (i 1)
  · rw [(h c).2.2.1, eq_ix2 i]
    exact biases_sum (i 0) (i 1)
  · rw [(h c).2.2.2.1, eq_ix2 i]
    exact norms_sum (i 0) (i 1)
  all_goals
    have e0 : StableHlo.launchContents m' c (Proc.tc.devRef Cert.GmlpRefIdeal.main_arg0) = a0 m c := (hm c).1
    have e1 : StableHlo.launchContents m' c (Proc.tc.devRef Cert.GmlpRefIdeal.main_arg1) = a1 m c := (hm c).2.1
    have e2 : StableHlo.launchContents m' c (Proc.tc.devRef Cert.GmlpRefIdeal.main_arg2) = a2 m c := (hm c).2.2.1
    have e3 : StableHlo.launchContents m' c (Proc.tc.devRef Cert.GmlpRefIdeal.main_arg3) = a3 m c := (hm c).2.2.2.1
    have e4 : StableHlo.launchContents m' c (Proc.tc.devRef Cert.GmlpRefIdeal.main_arg4) = a4 m c := (hm c).2.2.2.2.1
    have e5 : StableHlo.launchContents m' c (Proc.tc.devRef Cert.GmlpRefIdeal.main_arg5) = a5 m c := (hm c).2.2.2.2.2
  · rw [val_main_v150_eq, e0, e1, e2, e3, e4, e5]
  · rw [val_main_v151_eq, e0, e3, e4, e5]
  · rw [val_main_v153_eq, e0, e5]
  · rw [val_main_v157_eq, e0, e1, e5]

end Cert.Proof.Gmlp

end
-- ==== Proof.Token.Words.lean ====
module

public import proofs.«01_k».proof.Proof.Gen.Token.Frame.Runs

/-! The body run once on words: what it leaves in each output window depends on the input blocks and, after the
first point, on the rows the point before left. -/

@[expose] public section

set_option maxRecDepth 16384

noncomputable section

namespace Cert.Proof.Token.Words

open Cert.Token Cert.Token.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The input windows' blocks at a point. -/
structure Blk (F : FTy → Type) where
  x0 : Vec F S256x1024 .f32
  x1 : Vec F S256x512 .bf16
  x2 : Vec F S256x1024 .f32
  x3 : Vec F S1x1024 .f32
  x4 : Vec F S1x1024 .f32
  x5 : Vec F S1x1024 .f32
  x6 : Vec F S1x1024 .f32
  x7 : Vec F S1x1024 .f32
  x8 : Vec F S1x1024 .f32
  x9 : Vec F S1024x1024 .bf16
  x10 : Vec F S1024x5632 .bf16
  x11 : Vec F S2816x1024 .bf16
  x12 : Vec F S256x512 .f32
  x13 : Vec F S256x512 .f32
  x14 : Vec F S4x128x128 .bf16
  x15 : Vec F S128x4 .f32
  x16 : Vec F S1x512 .f32
  x17 : Vec F S1x512 .f32

/-- What a point leaves in the output windows. -/
structure Outs (F : FTy → Type) where
  o18 : Vec F S256x1024 .f32
  o19 : Vec F S256x1024 .f32
  o20 : Vec F S256x1024 .bf16
  o21 : Vec F S256x2816 .bf16
  o22 : Vec F S256x1024 .bf16
  o23 : Vec F S256x5632 .bf16
  o24 : Vec F S256x1024 .bf16
  o25 : Vec F S8x1024 .f32
  o26 : Vec F S256x512 .bf16

variable (c : Dev nD) (i : grid0.Coords)
  (arg1 : Memref sig .tc .vmem S256x1024 .f32) (harg1 : arg1.IsWhole) (arg2 : Memref sig .tc .vmem S256x512 .bf16) (harg2 : arg2.IsWhole) (arg3 : Memref sig .tc .vmem S256x1024 .f32) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole)
  (arg13 : Memref sig .tc .vmem S256x512 .f32) (harg13 : arg13.IsWhole) (arg14 : Memref sig .tc .vmem S256x512 .f32) (harg14 : arg14.IsWhole) (arg15 : Memref sig .tc .vmem S4x128x128 .bf16) (harg15 : arg15.IsWhole)
  (arg16 : Memref sig .tc .vmem S128x4 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S256x1024 .f32) (harg19 : arg19.IsWhole) (arg20 : Memref sig .tc .vmem S256x1024 .f32) (harg20 : arg20.IsWhole) (arg21 : Memref sig .tc .vmem S256x1024 .bf16) (harg21 : arg21.IsWhole)
  (arg22 : Memref sig .tc .vmem S256x2816 .bf16) (harg22 : arg22.IsWhole) (arg23 : Memref sig .tc .vmem S256x1024 .bf16) (harg23 : arg23.IsWhole) (arg24 : Memref sig .tc .vmem S256x5632 .bf16) (harg24 : arg24.IsWhole)
  (arg25 : Memref sig .tc .vmem S256x1024 .bf16) (harg25 : arg25.IsWhole) (arg26 : Memref sig .tc .vmem S8x1024 .f32) (harg26 : arg26.IsWhole) (arg27 : Memref sig .tc .vmem S256x512 .bf16) (harg27 : arg27.IsWhole)

/-- The input windows' buffers at their blocks. -/
def held (B : Blk F) : sProp 𝕄 :=
  iprop(owns (c : Thread nD τ) arg1 fullShare B.x0 ∗ owns (c : Thread nD τ) arg2 fullShare B.x1 ∗ owns (c : Thread nD τ) arg3 fullShare B.x2 ∗ owns (c : Thread nD τ) arg4 fullShare B.x3 ∗ owns (c : Thread nD τ) arg5 fullShare B.x4 ∗ owns (c : Thread nD τ) arg6 fullShare B.x5 ∗ owns (c : Thread nD τ) arg7 fullShare B.x6 ∗ owns (c : Thread nD τ) arg8 fullShare B.x7 ∗ owns (c : Thread nD τ) arg9 fullShare B.x8 ∗ owns (c : Thread nD τ) arg10 fullShare B.x9 ∗ owns (c : Thread nD τ) arg11 fullShare B.x10 ∗ owns (c : Thread nD τ) arg12 fullShare B.x11 ∗ owns (c : Thread nD τ) arg13 fullShare B.x12 ∗ owns (c : Thread nD τ) arg14 fullShare B.x13 ∗ owns (c : Thread nD τ) arg15 fullShare B.x14 ∗ owns (c : Thread nD τ) arg16 fullShare B.x15 ∗ owns (c : Thread nD τ) arg17 fullShare B.x16 ∗ owns (c : Thread nD τ) arg18 fullShare B.x17)

set_option maxHeartbeats 8000000 in
/-- The body at a point: `d` is what the accumulated rows hold before, which the first point clears. -/
theorem point (B : Blk F) (prev : Vec F S8x1024 .f32) :
    ∃ o : Outs F, ∀ d : Vec F S8x1024 .f32, cond0_0 i ∨ d = prev → ∀ (E : Set ℕ) (K : PUnit → sProp 𝕄),
      iprop(held c arg1 arg2 arg3 arg4 arg5 arg6 arg7 arg8 arg9 arg10 arg11 arg12 arg13 arg14 arg15 arg16 arg17 arg18 B
          ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare d ∗ (∃ d, owns (c : Thread nD τ) arg27 fullShare d)
          ∗ (iprop(held c arg1 arg2 arg3 arg4 arg5 arg6 arg7 arg8 arg9 arg10 arg11 arg12 arg13 arg14 arg15 arg16 arg17 arg18 B
              ∗ owns (c : Thread nD τ) arg19 fullShare o.o18 ∗ owns (c : Thread nD τ) arg20 fullShare o.o19 ∗ owns (c : Thread nD τ) arg21 fullShare o.o20 ∗ owns (c : Thread nD τ) arg22 fullShare o.o21 ∗ owns (c : Thread nD τ) arg23 fullShare o.o22 ∗ owns (c : Thread nD τ) arg24 fullShare o.o23 ∗ owns (c : Thread nD τ) arg25 fullShare o.o24 ∗ owns (c : Thread nD τ) arg26 fullShare o.o25 ∗ owns (c : Thread nD τ) arg27 fullShare o.o26) -∗ K ⟨⟩))
        ⊢ wp frame (wpE (defs₀ (F := F)) Variants.none c none) E
            (cc0_token_local i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  by_cases hc0 : cond0_0 i
  · refine ⟨⟨?_, ?_, ?_, ?_, ?_, ?_, ?_, ?_, ?_⟩, fun d h E K => ?run⟩
    case run =>
      simp only [cc0_token_local_eq_skeleton]; unfold cc0_token_local_skel
      simp only [k0_part11_eq_skeleton]
      unfold held owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%f25, %hf25, H25⟩, ⟨%d26, %f26, %hf26, H26⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
      obtain rfl := harg26.eq_unread hf25
      sl_exec (disch := first | sl_exact hc0)
      sl_step
      iapply Hk
      isplitl [H0 H1 H2 H3 H4 H5 H6 H7 H8 H9 H10 H11 H12 H13 H14 H15 H16 H17]
      · isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr; · ipureintro; exact harg7.read_unread _
          iexact H6
        isplitl [H7]
        · iexists _; isplitr; · ipureintro; exact harg8.read_unread _
          iexact H7
        isplitl [H8]
        · iexists _; isplitr; · ipureintro; exact harg9.read_unread _
          iexact H8
        isplitl [H9]
        · iexists _; isplitr; · ipureintro; exact harg10.read_unread _
          iexact H9
        isplitl [H10]
        · iexists _; isplitr; · ipureintro; exact harg11.read_unread _
          iexact H10
        isplitl [H11]
        · iexists _; isplitr; · ipureintro; exact harg12.read_unread _
          iexact H11
        isplitl [H12]
        · iexists _; isplitr; · ipureintro; exact harg13.read_unread _
          iexact H12
        isplitl [H13]
        · iexists _; isplitr; · ipureintro; exact harg14.read_unread _
          iexact H13
        isplitl [H14]
        · iexists _; isplitr; · ipureintro; exact harg15.read_unread _
          iexact H14
        isplitl [H15]
        · iexists _; isplitr; · ipureintro; exact harg16.read_unread _
          iexact H15
        isplitl [H16]
        · iexists _; isplitr; · ipureintro; exact harg17.read_unread _
          iexact H16
        iexists _; isplitr; · ipureintro; exact harg18.read_unread _
        iexact H17
      isplitl [H18]
      · iexists _; isplitr; swap; · iexact H18
        ipureintro; exact View.read_writes_of_cover _ _ VO0_18 (View.junk (Val := Elt F) VO0_18) _ (View.cover_of_tiledL _ S256x1024.size (by sl_kernel_rfl))
      isplitl [H19]
      · iexists _; isplitr; swap; · iexact H19
        ipureintro; exact View.read_writes_of_cover _ _ VO0_19 (View.junk (Val := Elt F) VO0_19) _ (View.cover_of_tiledL _ S256x1024.size (by sl_kernel_rfl))
      isplitl [H20]
      · iexists _; isplitr; swap; · iexact H20
        ipureintro; exact View.read_writes_of_cover _ _ VO0_20 (View.junk (Val := Elt F) VO0_20) _ (View.cover_of_tiledL _ S256x1024.size (by sl_kernel_rfl))
      isplitl [H21]
      · iexists _; isplitr; swap; · iexact H21
        ipureintro; exact View.read_writes_of_cover _ _ VO0_21 (View.junk (Val := Elt F) VO0_21) _ (View.cover_of_tiledL _ S256x1408.size (by sl_kernel_rfl))
      isplitl [H22]
      · iexists _; isplitr; swap; · iexact H22
        ipureintro; exact View.read_writes_of_cover _ _ VO0_22 (View.junk (Val := Elt F) VO0_22) _ (View.cover_of_tiledL _ S256x1024.size (by sl_kernel_rfl))
      isplitl [H23]
      · iexists _; isplitr; swap; · iexact H23
        ipureintro; exact View.read_writes_of_cover _ _ VO0_23 (View.junk (Val := Elt F) VO0_23) _ (View.cover_of_tiledL _ S256x1408.size (by sl_kernel_rfl))
      isplitl [H24]
      · iexists _; isplitr; swap; · iexact H24
        ipureintro; exact View.read_writes_of_cover _ _ VO0_24 (View.junk (Val := Elt F) VO0_24) _ (View.cover_of_tiledL _ S256x1024.size (by sl_kernel_rfl))
      isplitl [H25]
      · iexists _; isplitr; swap; · iexact H25
        ipureintro; exact View.read_writes_of_cover _ _ VO0_25 (View.junk (Val := Elt F) VO0_25) _ (View.cover_of_tiledL _ S8x1024.size (by sl_kernel_rfl))
      iexists _; isplitr; swap; · iexact H26
      ipureintro; exact View.read_writes_of_cover _ _ VO0_26 (View.junk (Val := Elt F) VO0_26) _ (View.cover_of_tiledL _ S128x512.size (by sl_kernel_rfl))
  · refine ⟨⟨?_, ?_, ?_, ?_, ?_, ?_, ?_, ?_, ?_⟩, fun d h E K => ?run⟩
    case run =>
      obtain rfl := (h.resolve_left hc0).symm
      simp only [cc0_token_local_eq_skeleton]; unfold cc0_token_local_skel
      simp only [k0_part11_eq_skeleton]
      unfold held owns
      iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%f25, %hf25, H25⟩, ⟨%d26, %f26, %hf26, H26⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
      obtain rfl := harg26.eq_unread hf25
      sl_exec (disch := first | sl_exact hc0)
      sl_step
      iapply Hk
      isplitl [H0 H1 H2 H3 H4 H5 H6 H7 H8 H9 H10 H11 H12 H13 H14 H15 H16 H17]
      · isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr; · ipureintro; exact harg7.read_unread _
          iexact H6
        isplitl [H7]
        · iexists _; isplitr; · ipureintro; exact harg8.read_unread _
          iexact H7
        isplitl [H8]
        · iexists _; isplitr; · ipureintro; exact harg9.read_unread _
          iexact H8
        isplitl [H9]
        · iexists _; isplitr; · ipureintro; exact harg10.read_unread _
          iexact H9
        isplitl [H10]
        · iexists _; isplitr; · ipureintro; exact harg11.read_unread _
          iexact H10
        isplitl [H11]
        · iexists _; isplitr; · ipureintro; exact harg12.read_unread _
          iexact H11
        isplitl [H12]
        · iexists _; isplitr; · ipureintro; exact harg13.read_unread _
          iexact H12
        isplitl [H13]
        · iexists _; isplitr; · ipureintro; exact harg14.read_unread _
          iexact H13
        isplitl [H14]
        · iexists _; isplitr; · ipureintro; exact harg15.read_unread _
          iexact H14
        isplitl [H15]
        · iexists _; isplitr; · ipureintro; exact harg16.read_unread _
          iexact H15
        isplitl [H16]
        · iexists _; isplitr; · ipureintro; exact harg17.read_unread _
          iexact H16
        iexists _; isplitr; · ipureintro; exact harg18.read_unread _
        iexact H17
      isplitl [H18]
      · iexists _; isplitr; swap; · iexact H18
        ipureintro; exact View.read_writes_of_cover _ _ VO0_18 (View.junk (Val := Elt F) VO0_18) _ (View.cover_of_tiledL _ S256x1024.size (by sl_kernel_rfl))
      isplitl [H19]
      · iexists _; isplitr; swap; · iexact H19
        ipureintro; exact View.read_writes_of_cover _ _ VO0_19 (View.junk (Val := Elt F) VO0_19) _ (View.cover_of_tiledL _ S256x1024.size (by sl_kernel_rfl))
      isplitl [H20]
      · iexists _; isplitr; swap; · iexact H20
        ipureintro; exact View.read_writes_of_cover _ _ VO0_20 (View.junk (Val := Elt F) VO0_20) _ (View.cover_of_tiledL _ S256x1024.size (by sl_kernel_rfl))
      isplitl [H21]
      · iexists _; isplitr; swap; · iexact H21
        ipureintro; exact View.read_writes_of_cover _ _ VO0_21 (View.junk (Val := Elt F) VO0_21) _ (View.cover_of_tiledL _ S256x1408.size (by sl_kernel_rfl))
      isplitl [H22]
      · iexists _; isplitr; swap; · iexact H22
        ipureintro; exact View.read_writes_of_cover _ _ VO0_22 (View.junk (Val := Elt F) VO0_22) _ (View.cover_of_tiledL _ S256x1024.size (by sl_kernel_rfl))
      isplitl [H23]
      · iexists _; isplitr; swap; · iexact H23
        ipureintro; exact View.read_writes_of_cover _ _ VO0_23 (View.junk (Val := Elt F) VO0_23) _ (View.cover_of_tiledL _ S256x1408.size (by sl_kernel_rfl))
      isplitl [H24]
      · iexists _; isplitr; swap; · iexact H24
        ipureintro; exact View.read_writes_of_cover _ _ VO0_24 (View.junk (Val := Elt F) VO0_24) _ (View.cover_of_tiledL _ S256x1024.size (by sl_kernel_rfl))
      isplitl [H25]
      · iexists _; isplitr; swap; · iexact H25
        ipureintro; rfl
      iexists _; isplitr; swap; · iexact H26
      ipureintro; exact View.read_writes_of_cover _ _ VO0_26 (View.junk (Val := Elt F) VO0_26) _ (View.cover_of_tiledL _ S128x512.size (by sl_kernel_rfl))

end Cert.Proof.Token.Words

end
-- ==== Proof.Token.Row.lean ====
module

public import proofs.«01_k».proof.Proof.Gmlp.Gate

/-! One token's row through the two norms, the feed-forward block and the loss, and back. -/

@[expose] public section

noncomputable section

namespace Cert.Proof.Token

open Idealize.ShloMosaic Cert.Proof.Ereal Cert.Proof.Gmlp

/-- The scales, shifts and weights every token shares. -/
structure Par where
  g1 : Fin 1024 → EReal
  w2 : Fin 1024 → EReal
  sc2 : Fin 1024 → EReal
  sh2 : Fin 1024 → EReal
  g2 : Fin 1024 → EReal
  fw : Fin 1024 → EReal
  wo : Fin 1024 → Fin 1024 → EReal
  wi : Fin 1024 → Fin 5632 → EReal
  wd : Fin 2816 → Fin 1024 → EReal

/-- A token's residual, its two halves of the mixer's output and its target. -/
structure Tok where
  x : Fin 1024 → EReal
  ya : Fin 512 → EReal
  yb : Fin 512 → EReal
  t : Fin 1024 → EReal

def wide : EReal := Ideal.ofBits .f32 0x44800000#32

def mean2 (f : Fin 1024 → EReal) : EReal := Ideal.div (∑ k, f k) wide
def msq (f : Fin 1024 → EReal) : EReal := mean2 (fun k => f k * f k) + tiny
def rn (f : Fin 1024 → EReal) : EReal := Ideal.rsqrt (msq f)
def xh (f : Fin 1024 → EReal) (j : Fin 1024) : EReal := f j * rn f
/-- The gradient through `xh`. -/
def rmsGrad (f g : Fin 1024 → EReal) (j : Fin 1024) : EReal :=
  rn f * (g j - xh f j * mean2 (fun k => xh f k * g k))

/-- The two halves' places: of a row of the output projection, of a column of the first feed-forward weight. -/
def loRow (k : Fin 512) : Fin 1024 := ⟨k.val, by omega⟩
def hiRow (k : Fin 512) : Fin 1024 := ⟨512 + k.val, by omega⟩
def loCol (f : Fin 2816) : Fin 5632 := ⟨f.val, by omega⟩
def hiCol (f : Fin 2816) : Fin 5632 := ⟨2816 + f.val, by omega⟩

variable (P : Par) (T : Tok)

def mix (j : Fin 1024) : EReal := ∑ k, T.ya k * P.wo (loRow k) j + ∑ k, T.yb k * P.wo (hiRow k) j
def x1 (j : Fin 1024) : EReal := T.x j + P.g1 j * mix P T j
def n2 (j : Fin 1024) : EReal := xh (x1 P T) j * P.w2 j
def h2 (j : Fin 1024) : EReal := n2 P T j * (1 + P.sc2 j) + P.sh2 j
def gate (f : Fin 2816) : EReal := ∑ k, h2 P T k * P.wi k (loCol f)
def up (f : Fin 2816) : EReal := ∑ k, h2 P T k * P.wi k (hiCol f)
def sg (f : Fin 2816) : EReal := Ideal.logistic (gate P T f)
def act (f : Fin 2816) : EReal := gate P T f * sg P T f * up P T f
def ff (j : Fin 1024) : EReal := ∑ f, act P T f * P.wd f j
def x2 (j : Fin 1024) : EReal := x1 P T j + P.g2 j * ff P T j
def err (j : Fin 1024) : EReal := xh (x2 P T) j * P.fw j - T.t j
def loss (j : Fin 1024) : EReal := Ideal.ofBits .f32 0x3A000000#32 * err P T j * err P T j
def dy (j : Fin 1024) : EReal := err P T j * Ideal.ofBits .f32 0x3A800000#32
def dx2 (j : Fin 1024) : EReal := rmsGrad (x2 P T) (fun k => dy P T k * P.fw k) j
def dff (j : Fin 1024) : EReal := dx2 P T j * P.g2 j
def da (f : Fin 2816) : EReal := ∑ k, dff P T k * P.wd f k
def dgate (f : Fin 2816) : EReal := da P T f * up P T f * (sg P T f * (1 + gate P T f * (1 - sg P T f)))
def dup (f : Fin 2816) : EReal := da P T f * gate P T f * sg P T f
def dh2 (j : Fin 1024) : EReal := ∑ f, dgate P T f * P.wi j (loCol f) + ∑ f, dup P T f * P.wi j (hiCol f)
def dn2 (j : Fin 1024) : EReal := dh2 P T j * (1 + P.sc2 j)
def dx1 (j : Fin 1024) : EReal := dx2 P T j + rmsGrad (x1 P T) (fun k => dn2 P T k * P.w2 k) j
def dmix (j : Fin 1024) : EReal := dx1 P T j * P.g1 j
def dyo (j : Fin 1024) : EReal := ∑ k, dmix P T k * P.wo j k
/-- What the token adds to row `i` of the accumulated gradients. -/
def gain (i : ℕ) (j : Fin 1024) : EReal :=
  if i = 5 then dx1 P T j * mix P T j
  else if i = 3 then dn2 P T j * xh (x1 P T) j
  else if i = 1 then dh2 P T j * n2 P T j
  else if i = 2 then dh2 P T j
  else if i = 0 then dx2 P T j * ff P T j
  else if i = 4 then dy P T j * xh (x2 P T) j
  else if i = 6 then loss P T j
  else 0

/-! The gating unit's output. -/

/-- The head of a column. -/
def headOf (j : Fin 512) : Fin 4 := ⟨j.val / 128, by omega⟩

theorem headOf_eq (j : Fin 512) (h : Fin 4) (lo : 128 * h.val ≤ j.val) (hi : j.val < 128 * h.val + 128) : headOf j = h :=
  Fin.ext (show j.val / 128 = h.val by omega)

/-- Row `r` of a block of positions: the gated first half times the mixed second half. -/
def unit (u v : Fin 128 → Fin 512 → EReal) (ws : Fin 4 → Fin 128 → Fin 128 → EReal) (bs : Fin 4 → Fin 128 → EReal)
    (g b : Fin 512 → EReal) (r : Fin 128) (j : Fin 512) : EReal :=
  gel (u r j) * (∑ x, ws (headOf j) r x * (hat (fun k => gel (v x k)) j * g j + b j) + bs (headOf j) r)

end Cert.Proof.Token

end
-- ==== Proof.Token.Real.lean ====
module

public import proofs.«01_k».proof.Proof.Token.Row

/-! Where a token's values are finite, whatever the residual, and what the derivative's two forms then are. -/

@[expose] public section

noncomputable section

namespace Cert.Proof.Token

open Idealize.ShloMosaic Cert.Proof.Ereal Cert.Proof.Gmlp

theorem wide_eq : wide = ((1024 : ℝ) : EReal) := ofBits_1024

theorem msq_pos (f : Fin 1024 → EReal) : (∃ w : ℝ, 0 < w ∧ msq f = w) ∨ msq f = ⊤ := by
  obtain ⟨e, he, h⟩ := ofBits_eps
  have := meanSq f he
  rwa [← h, ← ofBits_1024] at this

theorem rn_isReal (f : Fin 1024 → EReal) : IsReal (rn f) := by
  unfold rn
  rcases msq_pos f with ⟨w, hw, e⟩ | e <;> rw [e]
  · rw [Ideal.rsqrt_coe, if_neg (not_lt.2 hw.le), if_neg hw.ne']
    exact IsReal.coe _
  · rw [Ideal.rsqrt_top]
    exact IsReal.zero

theorem msq_top (f : Fin 1024 → EReal) (j : Fin 1024) (h : f j * f j = ⊤) : msq f = ⊤ := by
  obtain ⟨e, he, h'⟩ := ofBits_eps
  have hs : ∑ k, f k * f k = ⊤ := top_le_iff.mp (h ▸ Finset.single_le_sum (f := fun k => f k * f k) (fun k _ => mul_self_nonneg (f k)) (Finset.mem_univ j))
  show Ideal.div (∑ k, f k * f k) wide + Ideal.ofBits .f32 0x358637BD#32 = ⊤
  rw [hs, h', wide_eq, Ideal.div_coe (by norm_num), EReal.top_mul_coe_of_pos (by norm_num)]
  rfl

/-- A row over its root mean square is finite: where an entry is infinite the factor is zero. -/
theorem xh_isReal (f : Fin 1024 → EReal) (j : Fin 1024) : IsReal (xh f j) := by
  unfold xh
  by_cases h : f j * f j = ⊤
  · rw [show rn f = 0 from (congrArg Ideal.rsqrt (msq_top f j h)).trans Ideal.rsqrt_top, mul_zero]
    exact IsReal.zero
  · have hf : IsReal (f j) := by
      generalize f j = x at h
      induction x using EReal.rec with
      | bot => exact absurd EReal.bot_mul_bot h
      | top => exact absurd EReal.top_mul_top h
      | coe r => exact IsReal.coe r
    exact hf.mul (rn_isReal f)

theorem mean2_isReal {f : Fin 1024 → EReal} (hf : ∀ k, IsReal (f k)) : IsReal (mean2 f) := by
  unfold mean2
  rw [wide_eq, Ideal.div_coe (by norm_num)]
  exact (IsReal.sum hf).mul (IsReal.coe _)

theorem rmsGrad_isReal (f : Fin 1024 → EReal) {g : Fin 1024 → EReal} (hg : ∀ k, IsReal (g k)) (j : Fin 1024) : IsReal (rmsGrad f g j) :=
  (rn_isReal f).mul ((hg j).sub ((xh_isReal f j).mul (mean2_isReal fun k => (xh_isReal f k).mul (hg k))))

theorem logistic_isReal {x : EReal} (hx : IsReal x) : IsReal (Ideal.logistic x) := by
  obtain ⟨r, rfl⟩ := hx
  have h : (1 : EReal) + Ideal.exp (-(r : EReal)) = ((1 + Real.exp (-r) : ℝ) : EReal) := by
    rw [← EReal.coe_neg, Ideal.exp_coe]
    push_cast
    rfl
  have hp : (1 + Real.exp (-r)) ≠ 0 := by have := Real.exp_pos (-r); linarith
  show IsReal (Ideal.div 1 (1 + Ideal.exp (-(r : EReal))))
  rw [h, Ideal.div_coe hp, one_mul]
  exact IsReal.coe _

/-- The parameters whose finiteness makes the backward pass finite. -/
structure Par.Finite (P : Par) : Prop where
  g1 : ∀ j, IsReal (P.g1 j)
  w2 : ∀ j, IsReal (P.w2 j)
  sc2 : ∀ j, IsReal (P.sc2 j)
  sh2 : ∀ j, IsReal (P.sh2 j)
  g2 : ∀ j, IsReal (P.g2 j)
  fw : ∀ j, IsReal (P.fw j)
  wi : ∀ k f, IsReal (P.wi k f)
  wd : ∀ f j, IsReal (P.wd f j)

section
variable {P : Par} (hP : P.Finite) {T : Tok} (hT : ∀ j, IsReal (T.t j))

theorem one_isReal : IsReal 1 := ⟨1, by push_cast; rfl⟩

include hP in
theorem h2_isReal (j : Fin 1024) : IsReal (h2 P T j) :=
  (((xh_isReal _ j).mul (hP.w2 j)).mul (one_isReal.add (hP.sc2 j))).add (hP.sh2 j)
include hP in
theorem gate_isReal (f : Fin 2816) : IsReal (gate P T f) := IsReal.sum fun k => (h2_isReal hP k).mul (hP.wi k _)
include hP in
theorem up_isReal (f : Fin 2816) : IsReal (up P T f) := IsReal.sum fun k => (h2_isReal hP k).mul (hP.wi k _)
include hP in
theorem sg_isReal (f : Fin 2816) : IsReal (sg P T f) := logistic_isReal (gate_isReal hP f)
include hP hT in
theorem err_isReal (j : Fin 1024) : IsReal (err P T j) := ((xh_isReal _ j).mul (hP.fw j)).sub (hT j)

theorem ofBits_inv : Ideal.ofBits .f32 0x3A800000#32 = ((1 / 1024 : ℝ) : EReal) := by
  simp [Ideal.ofBits, Ideal.ieee, -EReal.coe_mul]; norm_num
theorem ofBits_half_inv : Ideal.ofBits .f32 0x3A000000#32 = ((1 / 2 * (1 / 1024) : ℝ) : EReal) := by
  simp [Ideal.ofBits, Ideal.ieee, -EReal.coe_mul]; norm_num

include hP hT in
theorem dx2_isReal (j : Fin 1024) : IsReal (dx2 P T j) :=
  rmsGrad_isReal _ (fun k => ((err_isReal hP hT k).mul (ofBits_inv ▸ IsReal.coe _)).mul (hP.fw k)) j
include hP hT in
theorem da_isReal (f : Fin 2816) : IsReal (da P T f) := IsReal.sum fun k => ((dx2_isReal hP hT k).mul (hP.g2 k)).mul (hP.wd f k)

/-- The gate's derivative as a sum of two products. -/
theorem dgate_sum {a u g s : EReal} (ha : IsReal a) (hu : IsReal u) (hg : IsReal g) (hs : IsReal s) :
    a * u * s + g * (a * u) * (s * (1 - s)) = a * u * (s * (1 + g * (1 - s))) := by
  obtain ⟨a, rfl⟩ := ha
  obtain ⟨u, rfl⟩ := hu
  obtain ⟨g, rfl⟩ := hg
  obtain ⟨s, rfl⟩ := hs
  have : a * u * s + g * (a * u) * (s * (1 - s)) = a * u * (s * (1 + g * (1 - s))) := by ring
  exact_mod_cast congrArg (fun r : ℝ => (r : EReal)) this

/-- A scaled sum of squares, the factor inside or outside. -/
theorem loss_sum {ι : Type} [Fintype ι] (e : ι → EReal) :
    ∑ R, Ideal.ofBits .f32 0x3A000000#32 * e R * e R = half * Ideal.div (∑ R, e R * e R) wide := by
  rw [wide_eq, Ideal.div_coe (by norm_num), half_eq, ofBits_half_inv, mul_comm (∑ R, e R * e R), ← mul_assoc, ← EReal.coe_mul, mul_sum (by norm_num)]
  exact Finset.sum_congr rfl fun R _ => mul_assoc _ _ _

/-- Twice the error times the mean's factor. -/
theorem dy_eq (e : EReal) : Ideal.div half wide * (Ideal.ofBits .f32 0x40000000#32 * e) = e * Ideal.ofBits .f32 0x3A800000#32 := by
  have h2 : Ideal.ofBits .f32 0x40000000#32 = ((2 : ℝ) : EReal) := by
    rw [show (2 : ℝ) = (8388608 : ℝ) * (2 ^ 22)⁻¹ by norm_num]
    simp [Ideal.ofBits, Ideal.ieee, -EReal.coe_mul]
  rw [wide_eq, Ideal.div_coe (by norm_num), half_eq, ofBits_inv, h2, ← mul_assoc, ← EReal.coe_mul, ← EReal.coe_mul, mul_comm]
  congr 2
  norm_num

end

/-- The gradient through the norm, its factor taken apart. -/
theorem rmsGrad_spread (f g : Fin 1024 → EReal) (d : EReal) (j : Fin 1024) :
    d + g j * rn f
        + f j * Ideal.div ((∑ k, f k * g k) * (Ideal.ofBits .f32 0xBF000000#32 * Ideal.div (rn f) (msq f))) wide
        + Ideal.div ((∑ k, f k * g k) * (Ideal.ofBits .f32 0xBF000000#32 * Ideal.div (rn f) (msq f))) wide * f j
      = d + rmsGrad f g j := by
  rw [wide_eq, ofBits_neg_half]
  refine (norm_grad f g (msq f) d j (msq_pos f)).symm.trans ?_
  rw [← wide_eq]
  rfl

end Cert.Proof.Token

end
-- ==== Proof.Token.Reference.lean ====
module

public import proofs.«01_k».proof.Proof.Gen.TokenRefIdeal.Read
public import proofs.«01_k».proof.Proof.Gmlp.Reference
public import proofs.«01_k».proof.Proof.Token.Real

/-! The reference's values at an index. -/

@[expose] public section

noncomputable section

namespace Cert.Proof.Token.Reference

open Cert.TokenRefIdeal Cert.TokenRefIdeal.Gen Cert.TokenRefIdeal.Read Idealize.ShloMosaic Idealize.ShloMosaic.TcCoe Idealize.SL.Sem Idealize.ShloMosaic.Pointwise
open Cert.Proof.Gmlp (gel gel_erfc root root_eq half tiny mean cent spread rstd hat chunk select_chunk rowAt headRow IsReal)
open Cert.Proof.Gmlp.Reference (place lane)

variable (x0 : (⟨S1x8192x1024, .f32⟩ : BufTy).Contents (Elt Ideal)) (x1 : (⟨S1x8192x512, .f32⟩ : BufTy).Contents (Elt Ideal)) (x2 : (⟨S1x8192x1024, .f32⟩ : BufTy).Contents (Elt Ideal))
  (x3 : (⟨S1x6144, .f32⟩ : BufTy).Contents (Elt Ideal)) (x4 : (⟨S1x1024, .f32⟩ : BufTy).Contents (Elt Ideal)) (x5 : (⟨S1024, .f32⟩ : BufTy).Contents (Elt Ideal))
  (x6 : (⟨S1x1024x1024, .f32⟩ : BufTy).Contents (Elt Ideal)) (x7 : (⟨S1x1024x5632, .f32⟩ : BufTy).Contents (Elt Ideal)) (x8 : (⟨S1x2816x1024, .f32⟩ : BufTy).Contents (Elt Ideal))
  (x9 : (⟨S1x8192x3072, .f32⟩ : BufTy).Contents (Elt Ideal)) (x10 : (⟨S1x4x128x128, .f32⟩ : BufTy).Contents (Elt Ideal)) (x11 : (⟨S1x4x128, .f32⟩ : BufTy).Contents (Elt Ideal))
  (x12 x13 : (⟨S1x512, .f32⟩ : BufTy).Contents (Elt Ideal))

/-! The parameters and a token's rows, in the reference's arguments. -/

def par : Par where
  g1 j := x3 (ix2 0 (⟨2048 + j.val, by omega⟩ : Fin 6144))
  w2 j := x4 (ix2 0 j)
  sc2 j := x3 (ix2 0 (⟨4096 + j.val, by omega⟩ : Fin 6144))
  sh2 j := x3 (ix2 0 (⟨3072 + j.val, by omega⟩ : Fin 6144))
  g2 j := x3 (ix2 0 (⟨5120 + j.val, by omega⟩ : Fin 6144))
  fw j := x5 (ix1 j)
  wo k j := x6 (ix3 0 k j)
  wi k f := x7 (ix3 0 k f)
  wd f j := x8 (ix3 0 f j)

def block (R : Fin 8192) : Fin 64 := ⟨R.val / 128, by omega⟩
def row (R : Fin 8192) : Fin 128 := ⟨R.val % 128, by omega⟩

/-- The mixed second gate times the first, at a token. -/
def ya (R : Fin 8192) (j : Fin 512) : EReal :=
  unit (fun r k => x9 (ix3 0 (rowAt (block R) r) (Gmlp.loCol k))) (fun r k => x9 (ix3 0 (rowAt (block R) r) (Gmlp.hiCol k)))
    (fun h r x => if x.val / 64 ≤ r.val / 64 then x10 (ix4 0 h r x) else 0) (fun h r => x11 (ix3 0 h r))
    (fun k => x12 (ix2 0 k)) (fun k => x13 (ix2 0 k)) (row R) j

def tok (R : Fin 8192) : Tok where
  x j := x0 (ix3 0 R j)
  ya j := ya x9 x10 x11 x12 x13 R j
  yb j := x1 (ix3 0 R j)
  t j := x2 (ix3 0 R j)

/-! The gating unit. -/

theorem v13_apply (R : Fin 8192) (j : Fin 512) : val_main_v13 (F := Ideal) x9 (ix3 0 R j) = gel (x9 (ix3 0 R (Gmlp.loCol j))) := by
  rw [← gel_erfc, ← root_eq]
  pointwise [val_main_v13, val_main_v7, val_main_v12, val_main_v6, val_main_v0, val_main_v11, val_main_cst, val_main_v8, val_main_v10, val_main_v9, val_main_cst_0]
  rfl
def second (R : Fin 8192) : Fin 512 → EReal := fun j => gel (x9 (ix3 0 R (Gmlp.hiCol j)))
theorem v21_apply (R : Fin 8192) (j : Fin 512) : val_main_v21 (F := Ideal) x9 (ix3 0 R j) = second x9 R j := by
  unfold second
  rw [← gel_erfc, ← root_eq]
  pointwise [val_main_v21, val_main_v15, val_main_v20, val_main_v14, val_main_v1, val_main_v19, val_main_cst_1, val_main_v16, val_main_v18, val_main_v17, val_main_cst_2]
  rfl
theorem v25_apply (R : Fin 8192) : val_main_v25 (F := Ideal) x9 (ix3 0 R 0) = mean (second x9 R) := by
  pointwise [val_main_v25, val_main_v23, val_main_v24, val_main_v22, val_main_cst_4, val_main_cst_3]
  simp only [v21_apply]
  rfl
theorem v27_apply (R : Fin 8192) (j : Fin 512) : val_main_v27 (F := Ideal) x9 (ix3 0 R j) = cent (second x9 R) j := by
  pointwise [val_main_v27, val_main_v26]
  rw [v21_apply, v25_apply]
  rfl
theorem v37_apply (R : Fin 8192) : val_main_v37 (F := Ideal) x9 (ix3 0 R 0) = rstd (second x9 R) := by
  pointwise [val_main_v37, val_main_v36, val_main_v32, val_main_v35, val_main_v30, val_main_v31, val_main_cst_7, val_main_v29, val_main_cst_6, val_main_v28, val_main_cst_5]
  simp only [v27_apply]
  rfl
theorem v39_apply (R : Fin 8192) (j : Fin 512) : val_main_v39 (F := Ideal) x9 (ix3 0 R j) = hat (second x9 R) j := by
  pointwise [val_main_v39, val_main_v34, val_main_v38, val_main_v33]
  rw [v21_apply, v25_apply, v37_apply]
  rfl
theorem v45_apply (R : Fin 8192) (j : Fin 512) : val_main_v45 (F := Ideal) x9 x12 x13 (ix3 0 R j) = hat (second x9 R) j * x12 (ix2 0 j) + x13 (ix2 0 j) := by
  pointwise [val_main_v45, val_main_v42, val_main_v44, val_main_v41, val_main_v43, val_main_v40, val_main_v5, val_main_v4]
  rw [v39_apply]

theorem v48_apply (i : Fin 128) : val_main_v48 (F := Ideal) (ix1 i) = chunk (BitVec.ofNat 32 i.val) := by
  pointwise [val_main_v48, val_main_call0_v11, val_main_call0_v13, val_main_call0_v2, val_main_call0_v6, val_main_call0_v10, val_main_call0_v12, val_main_v47, val_main_call0_v1, val_main_call0_v3, val_main_call0_v5, val_main_call0_v8, val_main_call0_v9, val_main_call0_c_0, val_main_call0_v0, val_main_call0_v4, val_main_call0_v7, val_main_call0_c, val_main_c]
  rfl
theorem v55_apply (h : Fin 4) (i j : Fin 128) : val_main_v55 (F := Ideal) x10 (ix3 h i j) = if j.val / 64 ≤ i.val / 64 then x10 (ix4 0 h i j) else 0 := by
  pointwise [val_main_v55, val_main_call1_v1, val_main_v2, val_main_call1_v2, val_main_v54, val_main_call1_v0, val_main_v53, val_main_c_8, val_main_v51, val_main_v52, val_main_v49, val_main_v50]
  rw [v48_apply, v48_apply, show (FloatOps.sitofp .f32 0#32 : Ideal .f32) = (0 : EReal) by
    show (((0#32 : BitVec 32).toInt : ℝ) : EReal) = 0
    simp]
  exact select_chunk i j (x10 (ix4 0 h i j)) 0

theorem v62_apply (n : Fin 64) (r : Fin 128) (h : Fin 4) (d : Fin 128) : val_main_v62 (F := Ideal) x9 x10 x11 x12 x13 (ix3 0 (rowAt n r) (headRow h d))
    = ∑ x : Fin 128, val_main_v45 (F := Ideal) x9 x12 x13 (ix3 0 (rowAt n x) (headRow h d)) * val_main_v55 (F := Ideal) x10 (ix3 h r x) + x11 (ix3 0 h r) := by
  pointwise [val_main_v62, val_main_v61, val_main_v57, val_main_v60, val_main_v56, val_main_v59, val_main_v46, val_main_v58, val_main_v3]
  have e1 : (⟨(headRow h d).val / 128, by omega⟩ : Fin 4) = h := Fin.ext (lane h d).1
  have e2 : (⟨(rowAt n r).val % 128, by omega⟩ : Fin 128) = r := Fin.ext (place n r).2
  have e3 : ∀ x : Fin 128, (⟨(rowAt n r).val / 128 * 128 + x.val, by have := (rowAt n r).isLt; omega⟩ : Fin 8192) = rowAt n x := fun x =>
    Fin.ext (by have := (place n r).1; show (rowAt n r).val / 128 * 128 + x.val = 128 * n.val + x.val; omega)
  simp only [e1, e2, e3]

theorem v64_apply (R : Fin 8192) (j : Fin 512) : val_main_v64 (F := Ideal) x9 x10 x11 x12 x13 (ix2 R j) = ya x9 x10 x11 x12 x13 R j := by
  pointwise [val_main_v64, val_main_v63]
  have eR : R = rowAt (block R) (row R) := Fin.ext (by show R.val = 128 * (R.val / 128) + R.val % 128; omega)
  have ej : j = headRow (headOf j) (⟨j.val % 128, by omega⟩ : Fin 128) := Fin.ext (by show j.val = 128 * (j.val / 128) + j.val % 128; omega)
  rw [v13_apply]
  have h := v62_apply x9 x10 x11 x12 x13 (block R) (row R) (headOf j) (⟨j.val % 128, by omega⟩ : Fin 128)
  rw [← eR, ← ej] at h
  rw [h]
  simp only [v45_apply, v55_apply]
  exact congrArg₂ (· * ·) (congrArg (fun q => gel (x9 (ix3 0 q (Gmlp.loCol j)))) eR)
    (congrArg (· + _) (Finset.sum_congr rfl fun x _ => mul_comm _ _))

theorem v66_lo (R : Fin 8192) (k : Fin 512) : val_main_v66 (F := Ideal) x1 x9 x10 x11 x12 x13 (ix2 R (loRow k)) = ya x9 x10 x11 x12 x13 R k := by
  rw [← v64_apply]
  have hk : (loRow k).val < 512 := k.isLt
  pointwise [val_main_v66, val_main_v65]
  rw [dif_pos hk]
  rfl
theorem v66_hi (R : Fin 8192) (k : Fin 512) : val_main_v66 (F := Ideal) x1 x9 x10 x11 x12 x13 (ix2 R (hiRow k)) = x1 (ix3 0 R k) := by
  have hk : ¬ (hiRow k).val < 512 := by show ¬ 512 + k.val < 512; omega
  pointwise [val_main_v66, val_main_v65]
  rw [dif_neg hk]
  exact congrArg (fun q => x1 (ix3 0 R q)) (Fin.ext (by show 512 + k.val - 512 = k.val; omega))

/-! Forward. -/

section
variable (R : Fin 8192) (j : Fin 1024) (f : Fin 2816)

theorem v84_apply : val_main_v84 (F := Ideal) x1 x6 x9 x10 x11 x12 x13 (ix2 R j) = mix (par x3 x4 x5 x6 x7 x8) (tok x0 x1 x2 x9 x10 x11 x12 x13 R) j := by
  pointwise [val_main_v84, val_main_v83, val_main_v79, val_main_v82, val_main_cst_9]
  refine (Fin.sum_univ_add (a := 512) (b := 512) _).trans (congrArg₂ (· + ·) ?_ ?_)
  · exact Finset.sum_congr rfl fun k _ => congrArg (· * _) (v66_lo x1 x9 x10 x11 x12 x13 R k)
  · exact Finset.sum_congr rfl fun k _ => congrArg (· * _) (v66_hi x1 x9 x10 x11 x12 x13 R k)
theorem v88_apply : val_main_v88 (F := Ideal) x0 x1 x3 x6 x9 x10 x11 x12 x13 (ix2 R j) = Token.x1 (par x3 x4 x5 x6 x7 x8) (tok x0 x1 x2 x9 x10 x11 x12 x13 R) j := by
  pointwise [val_main_v88, val_main_v73, val_main_v87, val_main_v86, val_main_v85, val_main_v74, val_main_v69]
  rw [v84_apply x0 x1 x2 x3 x4 x5 x6 x7 x8 x9 x10 x11 x12 x13]
  rfl
theorem v95_apply (z : Fin 1) : val_main_v95 (F := Ideal) x0 x1 x3 x6 x9 x10 x11 x12 x13 (ix2 R z) = msq (Token.x1 (par x3 x4 x5 x6 x7 x8) (tok x0 x1 x2 x9 x10 x11 x12 x13 R)) := by
  pointwise [val_main_v95, val_main_v93, val_main_v94, val_main_v91, val_main_v92, val_main_cst_14, val_main_v90, val_main_cst_13, val_main_v89, val_main_cst_12]
  simp only [v88_apply x0 x1 x2 x3 x4 x5 x6 x7 x8 x9 x10 x11 x12 x13]
  rfl
theorem v96_apply (z : Fin 1) : val_main_v96 (F := Ideal) x0 x1 x3 x6 x9 x10 x11 x12 x13 (ix2 R z) = rn (Token.x1 (par x3 x4 x5 x6 x7 x8) (tok x0 x1 x2 x9 x10 x11 x12 x13 R)) := by
  pointwise [val_main_v96]
  rw [v95_apply x0 x1 x2 x3 x4 x5 x6 x7 x8 x9 x10 x11 x12 x13]
  rfl
theorem v99_apply (z : Fin 1) : val_main_v99 (F := Ideal) x0 x1 x3 x6 x9 x10 x11 x12 x13 (ix2 R z) = Ideal.ofBits .f32 0xBF000000#32 * Ideal.div (rn (Token.x1 (par x3 x4 x5 x6 x7 x8) (tok x0 x1 x2 x9 x10 x11 x12 x13 R))) (msq (Token.x1 (par x3 x4 x5 x6 x7 x8) (tok x0 x1 x2 x9 x10 x11 x12 x13 R))) := by
  pointwise [val_main_v99, val_main_v98, val_main_v97, val_main_cst_15]
  rw [v95_apply x0 x1 x2 x3 x4 x5 x6 x7 x8 x9 x10 x11 x12 x13, v96_apply x0 x1 x2 x3 x4 x5 x6 x7 x8 x9 x10 x11 x12 x13]
theorem v101_apply : val_main_v101 (F := Ideal) x0 x1 x3 x6 x9 x10 x11 x12 x13 (ix2 R j) = xh (Token.x1 (par x3 x4 x5 x6 x7 x8) (tok x0 x1 x2 x9 x10 x11 x12 x13 R)) j := by
  pointwise [val_main_v101, val_main_v100]
  rw [v88_apply x0 x1 x2 x3 x4 x5 x6 x7 x8 x9 x10 x11 x12 x13, v96_apply x0 x1 x2 x3 x4 x5 x6 x7 x8 x9 x10 x11 x12 x13]
  rfl
theorem v104_apply : val_main_v104 (F := Ideal) x0 x1 x3 x4 x6 x9 x10 x11 x12 x13 (ix2 R j) = n2 (par x3 x4 x5 x6 x7 x8) (tok x0 x1 x2 x9 x10 x11 x12 x13 R) j := by
  pointwise [val_main_v104, val_main_v103, val_main_v102, val_main_v75]
  rw [v101_apply x0 x1 x2 x3 x4 x5 x6 x7 x8 x9 x10 x11 x12 x13]
  rfl
theorem v112_apply : val_main_v112 (F := Ideal) x0 x1 x3 x4 x6 x9 x10 x11 x12 x13 (ix2 R j) = h2 (par x3 x4 x5 x6 x7 x8) (tok x0 x1 x2 x9 x10 x11 x12 x13 R) j := by
  pointwise [val_main_v112, val_main_v109, val_main_v111, val_main_v108, val_main_v110, val_main_v107, val_main_v77, val_main_v106, val_main_v70, val_main_v105, val_main_v76, val_main_cst_16, val_main_v71]
  rw [v104_apply x0 x1 x2 x3 x4 x5 x6 x7 x8 x9 x10 x11 x12 x13]
  rfl
theorem v116_apply : val_main_v116 (F := Ideal) x0 x1 x3 x4 x6 x7 x9 x10 x11 x12 x13 (ix2 R f) = gate (par x3 x4 x5 x6 x7 x8) (tok x0 x1 x2 x9 x10 x11 x12 x13 R) f := by
  pointwise [val_main_v116, val_main_v115, val_main_v114, val_main_v80, val_main_v113, val_main_cst_10]
  simp only [v112_apply x0 x1 x2 x3 x4 x5 x6 x7 x8 x9 x10 x11 x12 x13]
  rfl
theorem v127_apply : val_main_v127 (F := Ideal) x0 x1 x3 x4 x6 x7 x9 x10 x11 x12 x13 (ix2 R f) = up (par x3 x4 x5 x6 x7 x8) (tok x0 x1 x2 x9 x10 x11 x12 x13 R) f := by
  pointwise [val_main_v127, val_main_v115, val_main_v114, val_main_v80, val_main_v113, val_main_cst_10]
  simp only [v112_apply x0 x1 x2 x3 x4 x5 x6 x7 x8 x9 x10 x11 x12 x13]
  rfl
theorem v122_apply : val_main_v122 (F := Ideal) x0 x1 x3 x4 x6 x7 x9 x10 x11 x12 x13 (ix2 R f) = sg (par x3 x4 x5 x6 x7 x8) (tok x0 x1 x2 x9 x10 x11 x12 x13 R) f := by
  pointwise [val_main_v122, val_main_v121, val_main_v120, val_main_cst_18, val_main_v119, val_main_v118, val_main_cst_17, val_main_v117]
  rw [v116_apply x0 x1 x2 x3 x4 x5 x6 x7 x8 x9 x10 x11 x12 x13]
  rfl
theorem v126_apply : val_main_v126 (F := Ideal) x0 x1 x3 x4 x6 x7 x9 x10 x11 x12 x13 (ix2 R f) = gate (par x3 x4 x5 x6 x7 x8) (tok x0 x1 x2 x9 x10 x11 x12 x13 R) f * sg (par x3 x4 x5 x6 x7 x8) (tok x0 x1 x2 x9 x10 x11 x12 x13 R) f := by
  pointwise [val_main_v126]
  rw [v116_apply x0 x1 x2 x3 x4 x5 x6 x7 x8 x9 x10 x11 x12 x13, v122_apply x0 x1 x2 x3 x4 x5 x6 x7 x8 x9 x10 x11 x12 x13]
theorem v128_apply : val_main_v128 (F := Ideal) x0 x1 x3 x4 x6 x7 x9 x10 x11 x12 x13 (ix2 R f) = act (par x3 x4 x5 x6 x7 x8) (tok x0 x1 x2 x9 x10 x11 x12 x13 R) f := by
  pointwise [val_main_v128]
  rw [v126_apply x0 x1 x2 x3 x4 x5 x6 x7 x8 x9 x10 x11 x12 x13, v127_apply x0 x1 x2 x3 x4 x5 x6 x7 x8 x9 x10 x11 x12 x13]
  rfl
theorem v131_apply : val_main_v131 (F := Ideal) x0 x1 x3 x4 x6 x7 x8 x9 x10 x11 x12 x13 (ix2 R j) = ff (par x3 x4 x5 x6 x7 x8) (tok x0 x1 x2 x9 x10 x11 x12 x13 R) j := by
  pointwise [val_main_v131, val_main_v130, val_main_v81, val_main_v129, val_main_cst_11]
  simp only [v128_apply x0 x1 x2 x3 x4 x5 x6 x7 x8 x9 x10 x11 x12 x13]
  rfl
theorem v135_apply : val_main_v135 (F := Ideal) x0 x1 x3 x4 x6 x7 x8 x9 x10 x11 x12 x13 (ix2 R j) = Token.x2 (par x3 x4 x5 x6 x7 x8) (tok x0 x1 x2 x9 x10 x11 x12 x13 R) j := by
  pointwise [val_main_v135, val_main_v134, val_main_v133, val_main_v132, val_main_v78, val_main_v72]
  rw [v88_apply x0 x1 x2 x3 x4 x5 x6 x7 x8 x9 x10 x11 x12 x13, v131_apply x0 x1 x2 x3 x4 x5 x6 x7 x8 x9 x10 x11 x12 x13]
  rfl
theorem v142_apply (z : Fin 1) : val_main_v142 (F := Ideal) x0 x1 x3 x4 x6 x7 x8 x9 x10 x11 x12 x13 (ix2 R z) = msq (Token.x2 (par x3 x4 x5 x6 x7 x8) (tok x0 x1 x2 x9 x10 x11 x12 x13 R)) := by
  pointwise [val_main_v142, val_main_v140, val_main_v141, val_main_v138, val_main_v139, val_main_cst_22, val_main_v137, val_main_cst_21, val_main_v136, val_main_cst_20]
  simp only [v135_apply x0 x1 x2 x3 x4 x5 x6 x7 x8 x9 x10 x11 x12 x13]
  rfl
theorem v143_apply (z : Fin 1) : val_main_v143 (F := Ideal) x0 x1 x3 x4 x6 x7 x8 x9 x10 x11 x12 x13 (ix2 R z) = rn (Token.x2 (par x3 x4 x5 x6 x7 x8) (tok x0 x1 x2 x9 x10 x11 x12 x13 R)) := by
  pointwise [val_main_v143]
  rw [v142_apply x0 x1 x2 x3 x4 x5 x6 x7 x8 x9 x10 x11 x12 x13]
  rfl
theorem v146_apply (z : Fin 1) : val_main_v146 (F := Ideal) x0 x1 x3 x4 x6 x7 x8 x9 x10 x11 x12 x13 (ix2 R z) = Ideal.ofBits .f32 0xBF000000#32 * Ideal.div (rn (Token.x2 (par x3 x4 x5 x6 x7 x8) (tok x0 x1 x2 x9 x10 x11 x12 x13 R))) (msq (Token.x2 (par x3 x4 x5 x6 x7 x8) (tok x0 x1 x2 x9 x10 x11 x12 x13 R))) := by
  pointwise [val_main_v146, val_main_v145, val_main_v144, val_main_cst_23]
  rw [v142_apply x0 x1 x2 x3 x4 x5 x6 x7 x8 x9 x10 x11 x12 x13, v143_apply x0 x1 x2 x3 x4 x5 x6 x7 x8 x9 x10 x11 x12 x13]
theorem v148_apply : val_main_v148 (F := Ideal) x0 x1 x3 x4 x6 x7 x8 x9 x10 x11 x12 x13 (ix2 R j) = xh (Token.x2 (par x3 x4 x5 x6 x7 x8) (tok x0 x1 x2 x9 x10 x11 x12 x13 R)) j := by
  pointwise [val_main_v148, val_main_v147]
  rw [v135_apply x0 x1 x2 x3 x4 x5 x6 x7 x8 x9 x10 x11 x12 x13, v143_apply x0 x1 x2 x3 x4 x5 x6 x7 x8 x9 x10 x11 x12 x13]
  rfl
theorem v153_apply : val_main_v153 (F := Ideal) x0 x1 x2 x3 x4 x5 x6 x7 x8 x9 x10 x11 x12 x13 (ix2 R j) = err (par x3 x4 x5 x6 x7 x8) (tok x0 x1 x2 x9 x10 x11 x12 x13 R) j := by
  pointwise [val_main_v153, val_main_v151, val_main_v152, val_main_v150, val_main_v149]
  rw [v148_apply x0 x1 x2 x3 x4 x5 x6 x7 x8 x9 x10 x11 x12 x13]
  rfl

/-! Backward. -/

theorem v170_apply : val_main_v170 (F := Ideal) x0 x1 x2 x3 x4 x5 x6 x7 x8 x9 x10 x11 x12 x13 (ix2 R j) = dy (par x3 x4 x5 x6 x7 x8) (tok x0 x1 x2 x9 x10 x11 x12 x13 R) j := by
  pointwise [val_main_v170, val_main_v169, val_main_v156, val_main_v168, val_main_v155, val_main_v166, val_main_v167, val_main_cst_24, val_main_v165, val_main_v162, val_main_cst_32, val_main_cst_31, val_main_cst_28]
  rw [v153_apply x0 x1 x2 x3 x4 x5 x6 x7 x8 x9 x10 x11 x12 x13]
  exact dy_eq _
theorem v175_apply : val_main_v175 (F := Ideal) x0 x1 x2 x3 x4 x5 x6 x7 x8 x9 x10 x11 x12 x13 (ix2 R j) = dy (par x3 x4 x5 x6 x7 x8) (tok x0 x1 x2 x9 x10 x11 x12 x13 R) j * (par x3 x4 x5 x6 x7 x8).fw j := by
  pointwise [val_main_v175, val_main_v174, val_main_v149]
  rw [v170_apply x0 x1 x2 x3 x4 x5 x6 x7 x8 x9 x10 x11 x12 x13]
  rfl
theorem v185_apply : val_main_v185 (F := Ideal) x0 x1 x2 x3 x4 x5 x6 x7 x8 x9 x10 x11 x12 x13 (ix1 R) = Ideal.div ((∑ k, Token.x2 (par x3 x4 x5 x6 x7 x8) (tok x0 x1 x2 x9 x10 x11 x12 x13 R) k * (dy (par x3 x4 x5 x6 x7 x8) (tok x0 x1 x2 x9 x10 x11 x12 x13 R) k * (par x3 x4 x5 x6 x7 x8).fw k))
    * (Ideal.ofBits .f32 0xBF000000#32 * Ideal.div (rn (Token.x2 (par x3 x4 x5 x6 x7 x8) (tok x0 x1 x2 x9 x10 x11 x12 x13 R))) (msq (Token.x2 (par x3 x4 x5 x6 x7 x8) (tok x0 x1 x2 x9 x10 x11 x12 x13 R))))) wide := by
  pointwise [val_main_v185, val_main_v184, val_main_cst_37, val_main_v182, val_main_v183, val_main_v179, val_main_cst_36, val_main_v178, val_main_v177, val_main_cst_35]
  simp only [v135_apply x0 x1 x2 x3 x4 x5 x6 x7 x8 x9 x10 x11 x12 x13, v146_apply x0 x1 x2 x3 x4 x5 x6 x7 x8 x9 x10 x11 x12 x13, v175_apply x0 x1 x2 x3 x4 x5 x6 x7 x8 x9 x10 x11 x12 x13, Fin.sum_univ_one]
  rfl
theorem v190_apply : val_main_v190 (F := Ideal) x0 x1 x2 x3 x4 x5 x6 x7 x8 x9 x10 x11 x12 x13 (ix2 R j) = dx2 (par x3 x4 x5 x6 x7 x8) (tok x0 x1 x2 x9 x10 x11 x12 x13 R) j := by
  pointwise [val_main_v190, val_main_v188, val_main_v189, val_main_v181, val_main_v187, val_main_v186, val_main_v180]
  rw [v135_apply x0 x1 x2 x3 x4 x5 x6 x7 x8 x9 x10 x11 x12 x13, v143_apply x0 x1 x2 x3 x4 x5 x6 x7 x8 x9 x10 x11 x12 x13, v175_apply x0 x1 x2 x3 x4 x5 x6 x7 x8 x9 x10 x11 x12 x13, v185_apply x0 x1 x2 x3 x4 x5 x6 x7 x8 x9 x10 x11 x12 x13]
  refine Eq.trans ?_ ((rmsGrad_spread (Token.x2 (par x3 x4 x5 x6 x7 x8) (tok x0 x1 x2 x9 x10 x11 x12 x13 R)) (fun k => dy (par x3 x4 x5 x6 x7 x8) (tok x0 x1 x2 x9 x10 x11 x12 x13 R) k * (par x3 x4 x5 x6 x7 x8).fw k) 0 j).trans (zero_add _))
  rw [zero_add]
theorem v192_apply : val_main_v192 (F := Ideal) x0 x1 x2 x3 x4 x5 x6 x7 x8 x9 x10 x11 x12 x13 (ix2 R j) = dff (par x3 x4 x5 x6 x7 x8) (tok x0 x1 x2 x9 x10 x11 x12 x13 R) j := by
  pointwise [val_main_v192, val_main_v191, val_main_v132, val_main_v78, val_main_v72]
  rw [v190_apply x0 x1 x2 x3 x4 x5 x6 x7 x8 x9 x10 x11 x12 x13]
  exact mul_comm _ _
theorem v198_apply : val_main_v198 (F := Ideal) x0 x1 x2 x3 x4 x5 x6 x7 x8 x9 x10 x11 x12 x13 (ix2 R f) = da (par x3 x4 x5 x6 x7 x8) (tok x0 x1 x2 x9 x10 x11 x12 x13 R) f := by
  pointwise [val_main_v198, val_main_v164, val_main_v197, val_main_cst_30, val_main_v129]
  simp only [v192_apply x0 x1 x2 x3 x4 x5 x6 x7 x8 x9 x10 x11 x12 x13]
  rfl
theorem v199_apply : val_main_v199 (F := Ideal) x0 x1 x2 x3 x4 x5 x6 x7 x8 x9 x10 x11 x12 x13 (ix2 R f) = dup (par x3 x4 x5 x6 x7 x8) (tok x0 x1 x2 x9 x10 x11 x12 x13 R) f := by
  pointwise [val_main_v199]
  rw [v126_apply x0 x1 x2 x3 x4 x5 x6 x7 x8 x9 x10 x11 x12 x13, v198_apply x0 x1 x2 x3 x4 x5 x6 x7 x8 x9 x10 x11 x12 x13, mul_comm, ← mul_assoc]
  rfl

/-- The arguments that are finite. -/
structure Finite : Prop where
  par : (par x3 x4 x5 x6 x7 x8).Finite
  target : ∀ R j, IsReal (x2 (ix3 0 R j))

variable (fin : Finite x2 x3 x4 x5 x6 x7 x8)
include fin

theorem v205_apply : val_main_v205 (F := Ideal) x0 x1 x2 x3 x4 x5 x6 x7 x8 x9 x10 x11 x12 x13 (ix2 R f) = dgate (par x3 x4 x5 x6 x7 x8) (tok x0 x1 x2 x9 x10 x11 x12 x13 R) f := by
  pointwise [val_main_v205, val_main_v203, val_main_v204, val_main_v200, val_main_v202, val_main_v125, val_main_v124, val_main_v123, val_main_cst_19]
  rw [v116_apply x0 x1 x2 x3 x4 x5 x6 x7 x8 x9 x10 x11 x12 x13, v122_apply x0 x1 x2 x3 x4 x5 x6 x7 x8 x9 x10 x11 x12 x13, v127_apply x0 x1 x2 x3 x4 x5 x6 x7 x8 x9 x10 x11 x12 x13, v198_apply x0 x1 x2 x3 x4 x5 x6 x7 x8 x9 x10 x11 x12 x13]
  exact dgate_sum (da_isReal fin.par (fun k => fin.target R k) f) (up_isReal fin.par f) (gate_isReal fin.par f) (sg_isReal fin.par f)
theorem v207_lo : val_main_v207 (F := Ideal) x0 x1 x2 x3 x4 x5 x6 x7 x8 x9 x10 x11 x12 x13 (ix2 R (loCol f)) = dgate (par x3 x4 x5 x6 x7 x8) (tok x0 x1 x2 x9 x10 x11 x12 x13 R) f := by
  have hf : (loCol f).val = f.val := rfl
  rw [← v205_apply x0 x1 x2 x3 x4 x5 x6 x7 x8 x9 x10 x11 x12 x13 R f fin]
  pointwise [val_main_v207, val_main_v201, val_main_v206, val_main_cst_40, val_main_cst_41]
  rw [dif_neg (by omega), dif_pos (by omega), zero_add]
  rfl
theorem v207_hi : val_main_v207 (F := Ideal) x0 x1 x2 x3 x4 x5 x6 x7 x8 x9 x10 x11 x12 x13 (ix2 R (hiCol f)) = dup (par x3 x4 x5 x6 x7 x8) (tok x0 x1 x2 x9 x10 x11 x12 x13 R) f := by
  have hf : (hiCol f).val = 2816 + f.val := rfl
  rw [← v199_apply x0 x1 x2 x3 x4 x5 x6 x7 x8 x9 x10 x11 x12 x13 R f]
  pointwise [val_main_v207, val_main_v201, val_main_v206, val_main_cst_40, val_main_cst_41]
  rw [dif_pos (by omega), dif_neg (by omega), add_zero]
  exact congrArg (fun q => val_main_v199 (F := Ideal) x0 x1 x2 x3 x4 x5 x6 x7 x8 x9 x10 x11 x12 x13 (ix2 R q)) (Fin.ext (by show 2816 + f.val - 2816 = f.val; omega))
theorem v209_apply : val_main_v209 (F := Ideal) x0 x1 x2 x3 x4 x5 x6 x7 x8 x9 x10 x11 x12 x13 (ix2 R j) = dh2 (par x3 x4 x5 x6 x7 x8) (tok x0 x1 x2 x9 x10 x11 x12 x13 R) j := by
  pointwise [val_main_v209, val_main_v163, val_main_v208, val_main_cst_29, val_main_v113]
  refine (Fin.sum_univ_add (a := 2816) (b := 2816) _).trans (congrArg₂ (· + ·) ?_ ?_)
  · exact Finset.sum_congr rfl fun f _ => congrArg (· * _) (v207_lo x0 x1 x2 x3 x4 x5 x6 x7 x8 x9 x10 x11 x12 x13 R f fin)
  · exact Finset.sum_congr rfl fun f _ => congrArg (· * _) (v207_hi x0 x1 x2 x3 x4 x5 x6 x7 x8 x9 x10 x11 x12 x13 R f fin)
theorem v217_apply : val_main_v217 (F := Ideal) x0 x1 x2 x3 x4 x5 x6 x7 x8 x9 x10 x11 x12 x13 (ix2 R j) = dn2 (par x3 x4 x5 x6 x7 x8) (tok x0 x1 x2 x9 x10 x11 x12 x13 R) j := by
  pointwise [val_main_v217, val_main_v216, val_main_v107, val_main_v106, val_main_v105, val_main_v76, val_main_cst_16, val_main_v71]
  rw [v209_apply x0 x1 x2 x3 x4 x5 x6 x7 x8 x9 x10 x11 x12 x13 R j fin]
  rfl
theorem v223_apply : val_main_v223 (F := Ideal) x0 x1 x2 x3 x4 x5 x6 x7 x8 x9 x10 x11 x12 x13 (ix2 R j) = dn2 (par x3 x4 x5 x6 x7 x8) (tok x0 x1 x2 x9 x10 x11 x12 x13 R) j * (par x3 x4 x5 x6 x7 x8).w2 j := by
  pointwise [val_main_v223, val_main_v222, val_main_v102, val_main_v75]
  rw [v217_apply x0 x1 x2 x3 x4 x5 x6 x7 x8 x9 x10 x11 x12 x13 R j fin]
  rfl
theorem v234_apply : val_main_v234 (F := Ideal) x0 x1 x2 x3 x4 x5 x6 x7 x8 x9 x10 x11 x12 x13 (ix1 R) = Ideal.div ((∑ k, Token.x1 (par x3 x4 x5 x6 x7 x8) (tok x0 x1 x2 x9 x10 x11 x12 x13 R) k * (dn2 (par x3 x4 x5 x6 x7 x8) (tok x0 x1 x2 x9 x10 x11 x12 x13 R) k * (par x3 x4 x5 x6 x7 x8).w2 k))
    * (Ideal.ofBits .f32 0xBF000000#32 * Ideal.div (rn (Token.x1 (par x3 x4 x5 x6 x7 x8) (tok x0 x1 x2 x9 x10 x11 x12 x13 R))) (msq (Token.x1 (par x3 x4 x5 x6 x7 x8) (tok x0 x1 x2 x9 x10 x11 x12 x13 R))))) wide := by
  pointwise [val_main_v234, val_main_v233, val_main_cst_50, val_main_v231, val_main_v232, val_main_v227, val_main_cst_49, val_main_v226, val_main_v225, val_main_cst_48]
  simp only [v88_apply x0 x1 x2 x3 x4 x5 x6 x7 x8 x9 x10 x11 x12 x13, v99_apply x0 x1 x2 x3 x4 x5 x6 x7 x8 x9 x10 x11 x12 x13, v223_apply x0 x1 x2 x3 x4 x5 x6 x7 x8 x9 x10 x11 x12 x13 R _ fin, Fin.sum_univ_one]
  rfl
theorem v239_apply : val_main_v239 (F := Ideal) x0 x1 x2 x3 x4 x5 x6 x7 x8 x9 x10 x11 x12 x13 (ix2 R j) = dx1 (par x3 x4 x5 x6 x7 x8) (tok x0 x1 x2 x9 x10 x11 x12 x13 R) j := by
  pointwise [val_main_v239, val_main_v237, val_main_v238, val_main_v230, val_main_v236, val_main_v235, val_main_v229, val_main_v228]
  rw [v88_apply x0 x1 x2 x3 x4 x5 x6 x7 x8 x9 x10 x11 x12 x13, v96_apply x0 x1 x2 x3 x4 x5 x6 x7 x8 x9 x10 x11 x12 x13, v223_apply x0 x1 x2 x3 x4 x5 x6 x7 x8 x9 x10 x11 x12 x13 R j fin, v234_apply x0 x1 x2 x3 x4 x5 x6 x7 x8 x9 x10 x11 x12 x13 R fin, v190_apply x0 x1 x2 x3 x4 x5 x6 x7 x8 x9 x10 x11 x12 x13]
  exact rmsGrad_spread (Token.x1 (par x3 x4 x5 x6 x7 x8) (tok x0 x1 x2 x9 x10 x11 x12 x13 R)) (fun k => dn2 (par x3 x4 x5 x6 x7 x8) (tok x0 x1 x2 x9 x10 x11 x12 x13 R) k * (par x3 x4 x5 x6 x7 x8).w2 k) _ j
theorem v241_apply : val_main_v241 (F := Ideal) x0 x1 x2 x3 x4 x5 x6 x7 x8 x9 x10 x11 x12 x13 (ix2 R j) = dmix (par x3 x4 x5 x6 x7 x8) (tok x0 x1 x2 x9 x10 x11 x12 x13 R) j := by
  pointwise [val_main_v241, val_main_v240, val_main_v85, val_main_v74, val_main_v69]
  rw [v239_apply x0 x1 x2 x3 x4 x5 x6 x7 x8 x9 x10 x11 x12 x13 R j fin]
  exact mul_comm _ _
theorem v246_apply : val_main_v246 (F := Ideal) x0 x1 x2 x3 x4 x5 x6 x7 x8 x9 x10 x11 x12 x13 (ix2 R j) = dyo (par x3 x4 x5 x6 x7 x8) (tok x0 x1 x2 x9 x10 x11 x12 x13 R) j := by
  pointwise [val_main_v246, val_main_v82]
  simp only [v241_apply x0 x1 x2 x3 x4 x5 x6 x7 x8 x9 x10 x11 x12 x13 R _ fin]
  rfl
end

/-! The sums over the tokens. -/

section
variable (j : Fin 1024)

theorem v161_apply : val_main_v161 (F := Ideal) x0 x1 x2 x3 x4 x5 x6 x7 x8 x9 x10 x11 x12 x13 (ix1 j) = ∑ R, loss (par x3 x4 x5 x6 x7 x8) (tok x0 x1 x2 x9 x10 x11 x12 x13 R) j := by
  pointwise [val_main_v161, val_main_v160, val_main_v159, val_main_cst_27, val_main_v157, val_main_v158, val_main_v154, val_main_cst_25, val_main_cst_26]
  simp only [v153_apply x0 x1 x2 x3 x4 x5 x6 x7 x8 x9 x10 x11 x12 x13]
  exact (loss_sum _).symm
theorem v176_apply : val_main_v176 (F := Ideal) x0 x1 x2 x3 x4 x5 x6 x7 x8 x9 x10 x11 x12 x13 (ix1 j) = ∑ R, dy (par x3 x4 x5 x6 x7 x8) (tok x0 x1 x2 x9 x10 x11 x12 x13 R) j * xh (Token.x2 (par x3 x4 x5 x6 x7 x8) (tok x0 x1 x2 x9 x10 x11 x12 x13 R)) j := by
  pointwise [val_main_v176, val_main_v173, val_main_cst_34, val_main_v172, val_main_v171, val_main_cst_33]
  simp only [v148_apply x0 x1 x2 x3 x4 x5 x6 x7 x8 x9 x10 x11 x12 x13, v170_apply x0 x1 x2 x3 x4 x5 x6 x7 x8 x9 x10 x11 x12 x13, Fin.sum_univ_one]
  exact Finset.sum_congr rfl fun R _ => mul_comm _ _
theorem v196_apply : val_main_v196 (F := Ideal) x0 x1 x2 x3 x4 x5 x6 x7 x8 x9 x10 x11 x12 x13 (ix1 j) = ∑ R, dx2 (par x3 x4 x5 x6 x7 x8) (tok x0 x1 x2 x9 x10 x11 x12 x13 R) j * ff (par x3 x4 x5 x6 x7 x8) (tok x0 x1 x2 x9 x10 x11 x12 x13 R) j := by
  pointwise [val_main_v196, val_main_v195, val_main_cst_39, val_main_v194, val_main_v193, val_main_cst_38]
  simp only [v190_apply x0 x1 x2 x3 x4 x5 x6 x7 x8 x9 x10 x11 x12 x13, v131_apply x0 x1 x2 x3 x4 x5 x6 x7 x8 x9 x10 x11 x12 x13, Fin.sum_univ_one]

variable (fin : Finite x2 x3 x4 x5 x6 x7 x8)
include fin
theorem v212_apply : val_main_v212 (F := Ideal) x0 x1 x2 x3 x4 x5 x6 x7 x8 x9 x10 x11 x12 x13 (ix1 j) = ∑ R, dh2 (par x3 x4 x5 x6 x7 x8) (tok x0 x1 x2 x9 x10 x11 x12 x13 R) j := by
  pointwise [val_main_v212, val_main_v211, val_main_cst_43, val_main_v210, val_main_cst_42]
  simp only [v209_apply x0 x1 x2 x3 x4 x5 x6 x7 x8 x9 x10 x11 x12 x13 _ _ fin, Fin.sum_univ_one]
theorem v218_apply : val_main_v218 (F := Ideal) x0 x1 x2 x3 x4 x5 x6 x7 x8 x9 x10 x11 x12 x13 (ix1 j) = ∑ R, dh2 (par x3 x4 x5 x6 x7 x8) (tok x0 x1 x2 x9 x10 x11 x12 x13 R) j * n2 (par x3 x4 x5 x6 x7 x8) (tok x0 x1 x2 x9 x10 x11 x12 x13 R) j := by
  pointwise [val_main_v218, val_main_v215, val_main_cst_45, val_main_v214, val_main_v213, val_main_cst_44]
  simp only [v209_apply x0 x1 x2 x3 x4 x5 x6 x7 x8 x9 x10 x11 x12 x13 _ _ fin, v104_apply x0 x1 x2 x3 x4 x5 x6 x7 x8 x9 x10 x11 x12 x13, Fin.sum_univ_one]
  exact Finset.sum_congr rfl fun R _ => mul_comm _ _
theorem v224_apply : val_main_v224 (F := Ideal) x0 x1 x2 x3 x4 x5 x6 x7 x8 x9 x10 x11 x12 x13 (ix1 j) = ∑ R, dn2 (par x3 x4 x5 x6 x7 x8) (tok x0 x1 x2 x9 x10 x11 x12 x13 R) j * xh (Token.x1 (par x3 x4 x5 x6 x7 x8) (tok x0 x1 x2 x9 x10 x11 x12 x13 R)) j := by
  pointwise [val_main_v224, val_main_v221, val_main_cst_47, val_main_v220, val_main_v219, val_main_cst_46]
  simp only [v217_apply x0 x1 x2 x3 x4 x5 x6 x7 x8 x9 x10 x11 x12 x13 _ _ fin, v101_apply x0 x1 x2 x3 x4 x5 x6 x7 x8 x9 x10 x11 x12 x13, Fin.sum_univ_one]
  exact Finset.sum_congr rfl fun R _ => mul_comm _ _
theorem v245_apply : val_main_v245 (F := Ideal) x0 x1 x2 x3 x4 x5 x6 x7 x8 x9 x10 x11 x12 x13 (ix1 j) = ∑ R, dx1 (par x3 x4 x5 x6 x7 x8) (tok x0 x1 x2 x9 x10 x11 x12 x13 R) j * mix (par x3 x4 x5 x6 x7 x8) (tok x0 x1 x2 x9 x10 x11 x12 x13 R) j := by
  pointwise [val_main_v245, val_main_v244, val_main_cst_52, val_main_v243, val_main_v242, val_main_cst_51]
  simp only [v239_apply x0 x1 x2 x3 x4 x5 x6 x7 x8 x9 x10 x11 x12 x13 _ _ fin, v84_apply x0 x1 x2 x3 x4 x5 x6 x7 x8 x9 x10 x11 x12 x13, Fin.sum_univ_one]

theorem v256_apply (i : Fin 8) : val_main_v256 (F := Ideal) x0 x1 x2 x3 x4 x5 x6 x7 x8 x9 x10 x11 x12 x13 (ix2 i j) = ∑ R, gain (par x3 x4 x5 x6 x7 x8) (tok x0 x1 x2 x9 x10 x11 x12 x13 R) i.val j := by
  pointwise [val_main_v256, val_main_v248, val_main_v249, val_main_v250, val_main_v251, val_main_v252, val_main_v253, val_main_v254, val_main_v255, val_main_v247, val_main_cst_53]
  rw [v161_apply x0 x1 x2 x3 x4 x5 x6 x7 x8 x9 x10 x11 x12 x13, v176_apply x0 x1 x2 x3 x4 x5 x6 x7 x8 x9 x10 x11 x12 x13, v196_apply x0 x1 x2 x3 x4 x5 x6 x7 x8 x9 x10 x11 x12 x13, v212_apply x0 x1 x2 x3 x4 x5 x6 x7 x8 x9 x10 x11 x12 x13 j fin, v218_apply x0 x1 x2 x3 x4 x5 x6 x7 x8 x9 x10 x11 x12 x13 j fin, v224_apply x0 x1 x2 x3 x4 x5 x6 x7 x8 x9 x10 x11 x12 x13 j fin, v245_apply x0 x1 x2 x3 x4 x5 x6 x7 x8 x9 x10 x11 x12 x13 j fin]
  fin_cases i <;> simp [gain]
end

end Cert.Proof.Token.Reference

end
-- ==== Proof.Token.Block.lean ====
module

public import proofs.«01_k».proof.Proof.Token.Row
public import proofs.«01_k».proof.Proof.Common.Tiles
public import proofs.«01_k».proof.Proof.Gen.TokenIdeal.Skeleton

/-! One block of 256 tokens, as the body computes it. -/

@[expose] public section

set_option maxRecDepth 16384

noncomputable section

namespace Cert.Proof.Token

open Cert.TokenIdeal Cert.TokenIdeal.Gen Idealize.ShloMosaic Idealize.ShloMosaic.TcCoe Idealize.ShloMosaic.Pointwise

/-- The windows' blocks at a point. -/
structure Blk where
  x0 : Vec Ideal S256x1024 .f32
  x1 : Vec Ideal S256x512 .bf16
  x2 : Vec Ideal S256x1024 .f32
  x3 : Vec Ideal S1x1024 .f32
  x4 : Vec Ideal S1x1024 .f32
  x5 : Vec Ideal S1x1024 .f32
  x6 : Vec Ideal S1x1024 .f32
  x7 : Vec Ideal S1x1024 .f32
  x8 : Vec Ideal S1x1024 .f32
  x9 : Vec Ideal S1024x1024 .bf16
  x10 : Vec Ideal S1024x5632 .bf16
  x11 : Vec Ideal S2816x1024 .bf16
  x12 : Vec Ideal S256x512 .f32
  x13 : Vec Ideal S256x512 .f32
  x14 : Vec Ideal S4x128x128 .bf16
  x15 : Vec Ideal S128x4 .f32
  x16 : Vec Ideal S1x512 .f32
  x17 : Vec Ideal S1x512 .f32

variable (B : Blk)

def lw0 : Vec Ideal S1x128x128 .bf16 := View.ld B.x14 (Rect.unit (s := S4x128x128) ![0, 0, 0] S1x128x128.size inb_S4x128x128_S1x128x128_0_0_0)
def lw1 : Vec Ideal S1x128x128 .bf16 := View.ld B.x14 (Rect.unit (s := S4x128x128) ![1, 0, 0] S1x128x128.size inb_S4x128x128_S1x128x128_1_0_0)
def lw2 : Vec Ideal S1x128x128 .bf16 := View.ld B.x14 (Rect.unit (s := S4x128x128) ![2, 0, 0] S1x128x128.size inb_S4x128x128_S1x128x128_2_0_0)
def lw3 : Vec Ideal S1x128x128 .bf16 := View.ld B.x14 (Rect.unit (s := S4x128x128) ![3, 0, 0] S1x128x128.size inb_S4x128x128_S1x128x128_3_0_0)
def lb0 : Vec Ideal S128x1 .f32 := View.ld B.x15 (Rect.unit (s := S128x4) ![0, 0] S128x1.size inb_S128x4_S128x1_0_0)
def lb1 : Vec Ideal S128x1 .f32 := View.ld B.x15 (Rect.unit (s := S128x4) ![0, 1] S128x1.size inb_S128x4_S128x1_0_1)
def lb2 : Vec Ideal S128x1 .f32 := View.ld B.x15 (Rect.unit (s := S128x4) ![0, 2] S128x1.size inb_S128x4_S128x1_0_2)
def lb3 : Vec Ideal S128x1 .f32 := View.ld B.x15 (Rect.unit (s := S128x4) ![0, 3] S128x1.size inb_S128x4_S128x1_0_3)
def uTop : Vec Ideal S128x512 .f32 := View.ld B.x12 (Rect.unit (s := S256x512) ![0, 0] S128x512.size inb_S256x512_S128x512_0_0)
def uBot : Vec Ideal S128x512 .f32 := View.ld B.x12 (Rect.unit (s := S256x512) ![128, 0] S128x512.size inb_S256x512_S128x512_128_0)
def vTop : Vec Ideal S128x512 .f32 := View.ld B.x13 (Rect.unit (s := S256x512) ![0, 0] S128x512.size inb_S256x512_S128x512_0_0)
def vBot : Vec Ideal S128x512 .f32 := View.ld B.x13 (Rect.unit (s := S256x512) ![128, 0] S128x512.size inb_S256x512_S128x512_128_0)
def woTop : Vec Ideal S512x1024 .bf16 := View.ld B.x9 (Rect.unit (s := S1024x1024) ![0, 0] S512x1024.size inb_S1024x1024_S512x1024_0_0)
def woBot : Vec Ideal S512x1024 .bf16 := View.ld B.x9 (Rect.unit (s := S1024x1024) ![512, 0] S512x1024.size inb_S1024x1024_S512x1024_512_0)
def wg0 : Vec Ideal S1024x1408 .bf16 := View.ld B.x10 (Rect.unit (s := S1024x5632) ![0, 0] S1024x1408.size inb_S1024x5632_S1024x1408_0_0)
def wg1 : Vec Ideal S1024x1408 .bf16 := View.ld B.x10 (Rect.unit (s := S1024x5632) ![0, 1408] S1024x1408.size inb_S1024x5632_S1024x1408_0_1408)
def wu0 : Vec Ideal S1024x1408 .bf16 := View.ld B.x10 (Rect.unit (s := S1024x5632) ![0, 2816] S1024x1408.size inb_S1024x5632_S1024x1408_0_2816)
def wu1 : Vec Ideal S1024x1408 .bf16 := View.ld B.x10 (Rect.unit (s := S1024x5632) ![0, 4224] S1024x1408.size inb_S1024x5632_S1024x1408_0_4224)
def wd0 : Vec Ideal S1408x1024 .bf16 := View.ld B.x11 (Rect.unit (s := S2816x1024) ![0, 0] S1408x1024.size inb_S2816x1024_S1408x1024_0_0)
def wd1 : Vec Ideal S1408x1024 .bf16 := View.ld B.x11 (Rect.unit (s := S2816x1024) ![1408, 0] S1408x1024.size inb_S2816x1024_S1408x1024_1408_0)

/-- The gating unit of the first 128 tokens, and of the other 128. -/
def yaTop : FVec Ideal S128x512 .bf16 :=
  k0_pay11 (k0_pay2 (uTop B)) (k0_pay7 B.x16 B.x17 (k0_pay3 (vTop B)) (k0_pay4 (vTop B)) k0_pay5 (lw0 B) (lb0 B))
    (k0_pay8 B.x16 B.x17 (k0_pay3 (vTop B)) (k0_pay4 (vTop B)) k0_pay5 (lw1 B) (lb1 B))
    (k0_pay9 B.x16 B.x17 (k0_pay3 (vTop B)) (k0_pay4 (vTop B)) k0_pay5 (lw2 B) (lb2 B))
    (k0_pay10 B.x16 B.x17 (k0_pay3 (vTop B)) (k0_pay4 (vTop B)) k0_pay5 (lw3 B)) (lb3 B)
def yaBot : FVec Ideal S128x512 .bf16 :=
  k0_pay19 (k0_pay12 (uBot B)) (k0_pay15 B.x16 B.x17 (k0_pay13 (vBot B)) (k0_pay14 (vBot B)))
    (k0_pay16 B.x16 B.x17 (k0_pay13 (vBot B)) (k0_pay14 (vBot B)) (lw0 B) (lb0 B))
    (k0_pay17 B.x16 B.x17 (k0_pay13 (vBot B)) (k0_pay14 (vBot B)) (lw1 B) (lb1 B))
    (k0_pay18 B.x16 B.x17 (k0_pay13 (vBot B)) (k0_pay14 (vBot B)) (lw2 B) (lb2 B)) (lw3 B) (lb3 B)
/-- The two stacked. -/
def yaAll : FVec Ideal S256x512 .bf16 := fun y =>
  if h : (y 0).val < 128 then yaTop B (ix2 (⟨(y 0).val, h⟩ : Fin 128) (y 1))
  else yaBot B (ix2 (⟨(y 0).val - 128, by have : (y 0).val < 256 := (y 0).isLt; omega⟩ : Fin 128) (y 1))

def bMix : FVec Ideal S256x1024 .f32 := k0_pay20 (yaAll B) (woTop B) B.x1 (woBot B)
def bX1 : FVec Ideal S256x1024 .f32 := k0_pay21 B.x3 (yaAll B) (woTop B) B.x1 (woBot B) B.x0
def bQ1 : FVec Ideal S256x1 .f32 := k0_pay22 B.x3 (yaAll B) (woTop B) B.x1 (woBot B) B.x0
def bR1 : FVec Ideal S256x1 .f32 := k0_pay24 (bQ1 B) k0_pay23
def bN1 : FVec Ideal S256x1024 .f32 := k0_pay25 (bX1 B) (bQ1 B) k0_pay23
def bN2 : FVec Ideal S256x1024 .f32 := k0_pay26 (bX1 B) (bQ1 B) k0_pay23 B.x4
def bSc : FVec Ideal S1x1024 .f32 := k0_pay27 B.x5
def bH2 : FVec Ideal S256x1024 .bf16 := k0_pay28 (bX1 B) (bQ1 B) k0_pay23 B.x4 B.x5 B.x6
def bG0 : FVec Ideal S256x1408 .f32 := k0_pay29 (bX1 B) (bQ1 B) k0_pay23 B.x4 B.x5 B.x6 (wg0 B)
def bU0 : FVec Ideal S256x1408 .f32 := k0_pay30 (bX1 B) (bQ1 B) k0_pay23 B.x4 B.x5 B.x6 (wu0 B)
def bS0 : FVec Ideal S256x1408 .f32 := k0_pay31 (bX1 B) (bQ1 B) k0_pay23 B.x4 B.x5 B.x6 (wg0 B)
def bA0 : FVec Ideal S256x1408 .bf16 := k0_pay32 (bX1 B) (bQ1 B) k0_pay23 B.x4 B.x5 B.x6 (wg0 B) (wu0 B)
def bF0 : FVec Ideal S256x1024 .f32 := k0_pay33 (bX1 B) (bQ1 B) k0_pay23 B.x4 B.x5 B.x6 (wg0 B) (wu0 B) (wd0 B)
def bG1 : FVec Ideal S256x1408 .f32 := k0_pay35 (bH2 B) (k0_pay34 (wg1 B))
def bU1 : FVec Ideal S256x1408 .f32 := k0_pay36 (bH2 B) (wu1 B)
def bS1 : FVec Ideal S256x1408 .f32 := k0_pay37 (bH2 B) (k0_pay34 (wg1 B))
def bA1 : FVec Ideal S256x1408 .bf16 := k0_pay38 (bH2 B) (k0_pay34 (wg1 B)) (wu1 B)
def bFf : FVec Ideal S256x1024 .f32 := k0_pay39 (bH2 B) (bF0 B) (k0_pay34 (wg1 B)) (wu1 B) (wd1 B)
def bR2 : FVec Ideal S256x1 .f32 := k0_pay41 B.x7 (bX1 B) (bH2 B) (bF0 B) (k0_pay34 (wg1 B)) (wu1 B) (wd1 B)
def bN3 : FVec Ideal S256x1024 .f32 := k0_pay42 B.x7 (bX1 B) (bH2 B) (bF0 B) (k0_pay34 (wg1 B)) (wu1 B) (wd1 B)
def bErr : FVec Ideal S256x1024 .f32 := k0_pay43 B.x7 (bX1 B) (bH2 B) (bF0 B) (k0_pay34 (wg1 B)) (wu1 B) (wd1 B) B.x8 B.x2
def bLoss : FVec Ideal S1024 .f32 := k0_pay45 B.x7 (bX1 B) (bH2 B) (bF0 B) (k0_pay34 (wg1 B)) (wu1 B) (wd1 B) B.x8 B.x2
def bDx2 : FVec Ideal S256x1024 .f32 := k0_pay49 (bR2 B) (bN3 B) (bErr B) B.x8
def bDff : FVec Ideal S256x1024 .bf16 := k0_pay51 B.x7 (bR2 B) (bN3 B) (bErr B) B.x8
def bDg0 : FVec Ideal S256x1408 .bf16 := k0_pay53 (bG0 B) (bU0 B) (bS0 B) (bDff B) (wd0 B)
def bDu0 : FVec Ideal S256x1408 .bf16 := k0_pay54 (bG0 B) (bS0 B) (bDff B) (wd0 B)
def bDh0 : FVec Ideal S256x1024 .f32 := k0_pay55 (bG0 B) (bU0 B) (bS0 B) (bDff B) (wd0 B) (wg0 B) (wu0 B)
def bDa1 : FVec Ideal S256x1408 .f32 := k0_pay56 (bDff B) (wd1 B)
def bDg1 : FVec Ideal S256x1408 .f32 := k0_pay57 (bG1 B) (bU1 B) (bS1 B) (bDff B) (wd1 B)
def bDu1 : FVec Ideal S256x1408 .bf16 := k0_pay59 (bG1 B) (bS1 B) (bDa1 B)
def bDh2 : FVec Ideal S256x1024 .f32 := k0_pay60 (bG1 B) (bS1 B) (bDh0 B) (bDa1 B) (bDg1 B) (wg1 B) (wu1 B)
def bDn2 : FVec Ideal S256x1024 .f32 := k0_pay63 (bSc B) (bG1 B) (bS1 B) (bDh0 B) (bDa1 B) (bDg1 B) (wg1 B) (wu1 B)
def bDx1 : FVec Ideal S256x1024 .f32 := k0_pay67 (bR1 B) (bN1 B) (bDx2 B) (bDn2 B) B.x4
def bDmix : FVec Ideal S256x1024 .bf16 := k0_pay69 B.x3 (bR1 B) (bN1 B) (bDx2 B) (bDn2 B) B.x4
def bDy : FVec Ideal S256x1024 .f32 := k0_pay70 B.x3 (bR1 B) (bN1 B) (bDx2 B) (bDn2 B) B.x4 B.x9

/-! The rows the block holds. -/

def bPar : Par where
  g1 j := B.x3 (ix2 0 j)
  w2 j := B.x4 (ix2 0 j)
  sc2 j := B.x5 (ix2 0 j)
  sh2 j := B.x6 (ix2 0 j)
  g2 j := B.x7 (ix2 0 j)
  fw j := B.x8 (ix2 0 j)
  wo k j := B.x9 (ix2 k j)
  wi k f := B.x10 (ix2 k f)
  wd f j := B.x11 (ix2 f j)

def bTok (p : Fin 256) : Tok where
  x j := B.x0 (ix2 p j)
  ya j := yaAll B (ix2 p j)
  yb j := B.x1 (ix2 p j)
  t j := B.x2 (ix2 p j)

/-- The two halves of the feed-forward columns. -/
def f0 (q : Fin 1408) : Fin 2816 := ⟨q.val, by omega⟩
def f1 (q : Fin 1408) : Fin 2816 := ⟨1408 + q.val, by omega⟩

theorem sum_split (f : Fin 2816 → EReal) : ∑ q, f q = ∑ q, f (f0 q) + ∑ q, f (f1 q) := by
  exact Fin.sum_univ_add (a := 1408) (b := 1408) f

open Cert.Proof.Tiles in
theorem woTop_apply (k : Fin 512) (j : Fin 1024) : woTop B (ix2 k j) = (bPar B).wo (loRow k) j :=
  (ld_tile (m := 1024) (n := 1024) (o := 0) (p := 0) (k := 512) (l := 1024) _ B.x9 k j (by omega) (by omega)).trans
    (congrArg B.x9 (congrArg₂ ix2 (Fin.ext (Nat.zero_add _)) (Fin.ext (Nat.zero_add _))))
open Cert.Proof.Tiles in
theorem woBot_apply (k : Fin 512) (j : Fin 1024) : woBot B (ix2 k j) = (bPar B).wo (hiRow k) j :=
  (ld_tile (m := 1024) (n := 1024) (o := 512) (p := 0) (k := 512) (l := 1024) _ B.x9 k j (by omega) (by omega)).trans
    (congrArg B.x9 (congrArg₂ ix2 (Fin.ext rfl) (Fin.ext (Nat.zero_add _))))

section
variable (k : Fin 1024) (q : Fin 1408)
open Cert.Proof.Tiles
theorem wg0_apply : wg0 B (ix2 k q) = (bPar B).wi k (loCol (f0 q)) :=
  (ld_tile (m := 1024) (n := 5632) (o := 0) (p := 0) (k := 1024) (l := 1408) _ B.x10 k q (by omega) (by omega)).trans
    (congrArg B.x10 (congrArg₂ ix2 (Fin.ext (Nat.zero_add _)) (Fin.ext (Nat.zero_add _))))
theorem wg1_apply : wg1 B (ix2 k q) = (bPar B).wi k (loCol (f1 q)) :=
  (ld_tile (m := 1024) (n := 5632) (o := 0) (p := 1408) (k := 1024) (l := 1408) _ B.x10 k q (by omega) (by omega)).trans
    (congrArg B.x10 (congrArg₂ ix2 (Fin.ext (Nat.zero_add _)) (Fin.ext rfl)))
theorem wu0_apply : wu0 B (ix2 k q) = (bPar B).wi k (hiCol (f0 q)) :=
  (ld_tile (m := 1024) (n := 5632) (o := 0) (p := 2816) (k := 1024) (l := 1408) _ B.x10 k q (by omega) (by omega)).trans
    (congrArg B.x10 (congrArg₂ ix2 (Fin.ext (Nat.zero_add _)) (Fin.ext rfl)))
theorem wu1_apply : wu1 B (ix2 k q) = (bPar B).wi k (hiCol (f1 q)) :=
  (ld_tile (m := 1024) (n := 5632) (o := 0) (p := 4224) (k := 1024) (l := 1408) _ B.x10 k q (by omega) (by omega)).trans
    (congrArg B.x10 (congrArg₂ ix2 (Fin.ext (Nat.zero_add _)) (Fin.ext (by show 4224 + q.val = 2816 + (1408 + q.val); omega))))
theorem wd0_apply : wd0 B (ix2 q k) = (bPar B).wd (f0 q) k :=
  (ld_tile (m := 2816) (n := 1024) (o := 0) (p := 0) (k := 1408) (l := 1024) _ B.x11 q k (by omega) (by omega)).trans
    (congrArg B.x11 (congrArg₂ ix2 (Fin.ext (Nat.zero_add _)) (Fin.ext (Nat.zero_add _))))
theorem wd1_apply : wd1 B (ix2 q k) = (bPar B).wd (f1 q) k :=
  (ld_tile (m := 2816) (n := 1024) (o := 1408) (p := 0) (k := 1408) (l := 1024) _ B.x11 q k (by omega) (by omega)).trans
    (congrArg B.x11 (congrArg₂ ix2 (Fin.ext rfl) (Fin.ext (Nat.zero_add _))))
end

section
variable (p : Fin 256) (j : Fin 1024) (q : Fin 1408)

theorem bMix_apply : bMix B (ix2 p j) = mix (bPar B) (bTok B p) j := by
  pointwise [bMix, k0_pay20]
  simp only [woTop_apply, woBot_apply]
  rfl
theorem bX1_apply : bX1 B (ix2 p j) = x1 (bPar B) (bTok B p) j := by
  pointwise [bX1, k0_pay21]
  exact congrArg (fun t => _ + _ * t) (bMix_apply B p j)
theorem bQ1_apply (z : Fin 1) : bQ1 B (ix2 p z) = mean2 (fun k => x1 (bPar B) (bTok B p) k * x1 (bPar B) (bTok B p) k) := by
  pointwise [bQ1, k0_pay22]
  exact congrArg (fun f : Fin 1024 → EReal => Ideal.div (∑ k, f k * f k) wide) (funext fun k => bX1_apply B p k)
theorem bR1_apply (z : Fin 1) : bR1 B (ix2 p z) = rn (x1 (bPar B) (bTok B p)) := by
  pointwise [bR1, k0_pay24, k0_pay23]
  rw [bQ1_apply]; rfl
theorem bN1_apply : bN1 B (ix2 p j) = xh (x1 (bPar B) (bTok B p)) j := by
  pointwise [bN1, k0_pay25]
  exact congrArg₂ (· * ·) (bX1_apply B p j) (bR1_apply B p 0)
theorem bN2_apply : bN2 B (ix2 p j) = n2 (bPar B) (bTok B p) j := by
  pointwise [bN2, k0_pay26]
  exact congrArg (· * _) (bN1_apply B p j)
theorem bH2_apply : bH2 B (ix2 p j) = h2 (bPar B) (bTok B p) j := by
  pointwise [bH2, k0_pay28, k0_pay27]
  exact congrArg (fun t => t * (1 + _) + _) (bN2_apply B p j)
theorem bG0_apply : bG0 B (ix2 p q) = gate (bPar B) (bTok B p) (f0 q) := by
  pointwise [bG0, k0_pay29]
  exact Finset.sum_congr rfl fun k _ => congrArg₂ (· * ·) (bH2_apply B p k) (wg0_apply B k q)
theorem bU0_apply : bU0 B (ix2 p q) = up (bPar B) (bTok B p) (f0 q) := by
  pointwise [bU0, k0_pay30]
  exact Finset.sum_congr rfl fun k _ => congrArg₂ (· * ·) (bH2_apply B p k) (wu0_apply B k q)
theorem bS0_apply : bS0 B (ix2 p q) = sg (bPar B) (bTok B p) (f0 q) := by
  pointwise [bS0, k0_pay31]
  exact congrArg Ideal.logistic (bG0_apply B p q)
theorem bA0_apply : bA0 B (ix2 p q) = act (bPar B) (bTok B p) (f0 q) := by
  pointwise [bA0, k0_pay32]
  exact congrArg₂ (· * ·) (congrArg₂ (· * ·) (bG0_apply B p q) (bS0_apply B p q)) (bU0_apply B p q)
theorem bG1_apply : bG1 B (ix2 p q) = gate (bPar B) (bTok B p) (f1 q) := by
  pointwise [bG1, k0_pay35, k0_pay34]
  exact Finset.sum_congr rfl fun k _ => congrArg₂ (· * ·) (bH2_apply B p k) (wg1_apply B k q)
theorem bU1_apply : bU1 B (ix2 p q) = up (bPar B) (bTok B p) (f1 q) := by
  pointwise [bU1, k0_pay36]
  exact Finset.sum_congr rfl fun k _ => congrArg₂ (· * ·) (bH2_apply B p k) (wu1_apply B k q)
theorem bS1_apply : bS1 B (ix2 p q) = sg (bPar B) (bTok B p) (f1 q) := by
  pointwise [bS1, k0_pay37]
  exact congrArg Ideal.logistic (bG1_apply B p q)
theorem bA1_apply : bA1 B (ix2 p q) = act (bPar B) (bTok B p) (f1 q) := by
  pointwise [bA1, k0_pay38]
  exact congrArg₂ (· * ·) (congrArg₂ (· * ·) (bG1_apply B p q) (bS1_apply B p q)) (bU1_apply B p q)
theorem bFf_apply : bFf B (ix2 p j) = ff (bPar B) (bTok B p) j := by
  pointwise [bFf, k0_pay39, bF0, k0_pay33]
  refine Eq.trans ?_ (sum_split _).symm
  exact congrArg₂ (· + ·) (Finset.sum_congr rfl fun q _ => congrArg₂ (· * ·) (bA0_apply B p q) (wd0_apply B j q))
    (Finset.sum_congr rfl fun q _ => congrArg₂ (· * ·) (bA1_apply B p q) (wd1_apply B j q))
theorem bX2_apply : k0_pay40 B.x7 (bX1 B) (bH2 B) (bF0 B) (k0_pay34 (wg1 B)) (wu1 B) (wd1 B) (ix2 p j) = x2 (bPar B) (bTok B p) j := by
  pointwise [k0_pay40]
  exact congrArg₂ (· + ·) (bX1_apply B p j) (congrArg (_ * ·) (bFf_apply B p j))
theorem bR2_apply (z : Fin 1) : bR2 B (ix2 p z) = rn (x2 (bPar B) (bTok B p)) := by
  pointwise [bR2, k0_pay41]
  exact congrArg (fun f : Fin 1024 → EReal => Ideal.rsqrt (Ideal.div (∑ k, f k * f k) wide + _)) (funext fun k => bX2_apply B p k)
theorem bN3_apply : bN3 B (ix2 p j) = xh (x2 (bPar B) (bTok B p)) j := by
  pointwise [bN3, k0_pay42]
  exact congrArg₂ (· * ·) (bX2_apply B p j) (bR2_apply B p 0)
theorem bErr_apply : bErr B (ix2 p j) = err (bPar B) (bTok B p) j := by
  pointwise [bErr, k0_pay43]
  exact congrArg (fun t => t * _ - _) (bN3_apply B p j)
theorem bLoss_apply : bLoss B (ix1 j) = ∑ p, loss (bPar B) (bTok B p) j := by
  pointwise [bLoss, k0_pay45]
  exact Finset.sum_congr rfl fun p _ => congrArg (fun t => _ * t * t) (bErr_apply B p j)
theorem bDy_err : k0_pay47 (bErr B) (ix2 p j) = dy (bPar B) (bTok B p) j := by
  pointwise [k0_pay47]
  exact congrArg (· * _) (bErr_apply B p j)
theorem bDx2_apply : bDx2 B (ix2 p j) = dx2 (bPar B) (bTok B p) j := by
  pointwise [bDx2, k0_pay49]
  simp only [bR2_apply, bN3_apply, bDy_err]
  rfl
theorem bDff_apply : bDff B (ix2 p j) = dff (bPar B) (bTok B p) j := by
  pointwise [bDff, k0_pay51]
  exact congrArg (· * _) (bDx2_apply B p j)
theorem bDa0_apply : k0_pay52 (bDff B) (wd0 B) (ix2 p q) = da (bPar B) (bTok B p) (f0 q) := by
  pointwise [k0_pay52]
  exact Finset.sum_congr rfl fun k _ => congrArg₂ (· * ·) (bDff_apply B p k) (wd0_apply B k q)
theorem bDa1_apply : bDa1 B (ix2 p q) = da (bPar B) (bTok B p) (f1 q) := by
  pointwise [bDa1, k0_pay56]
  exact Finset.sum_congr rfl fun k _ => congrArg₂ (· * ·) (bDff_apply B p k) (wd1_apply B k q)
theorem bDg0_apply : bDg0 B (ix2 p q) = dgate (bPar B) (bTok B p) (f0 q) := by
  pointwise [bDg0, k0_pay53]
  simp only [bDa0_apply, bU0_apply, bS0_apply, bG0_apply]
  rfl
theorem bDu0_apply : bDu0 B (ix2 p q) = dup (bPar B) (bTok B p) (f0 q) := by
  pointwise [bDu0, k0_pay54]
  simp only [bDa0_apply, bS0_apply, bG0_apply]
  rfl
theorem bDg1_apply : bDg1 B (ix2 p q) = dgate (bPar B) (bTok B p) (f1 q) := by
  have e : k0_pay56 (bDff B) (wd1 B) (ix2 p q) = da (bPar B) (bTok B p) (f1 q) := bDa1_apply B p q
  pointwise [bDg1, k0_pay57]
  simp only [e, bU1_apply, bS1_apply, bG1_apply]
  rfl
theorem bDu1_apply : bDu1 B (ix2 p q) = dup (bPar B) (bTok B p) (f1 q) := by
  pointwise [bDu1, k0_pay59]
  simp only [bDa1_apply, bS1_apply, bG1_apply]
  rfl
theorem bDh2_apply : bDh2 B (ix2 p j) = dh2 (bPar B) (bTok B p) j := by
  pointwise [bDh2, k0_pay60, k0_pay58, bDh0, k0_pay55]
  refine Eq.trans ?_ (congrArg₂ (· + ·) (sum_split _) (sum_split _)).symm
  rw [show ∀ a b c d : EReal, a + b + (c + d) = a + c + b + d from fun a b c d => by ac_rfl]
  refine congrArg₂ (· + ·) (congrArg₂ (· + ·) (congrArg₂ (· + ·) ?_ ?_) ?_) ?_
  · exact Finset.sum_congr rfl fun q _ => congrArg₂ (· * ·) (bDg0_apply B p q) (wg0_apply B j q)
  · exact Finset.sum_congr rfl fun q _ => congrArg₂ (· * ·) (bDu0_apply B p q) (wu0_apply B j q)
  · exact Finset.sum_congr rfl fun q _ => congrArg₂ (· * ·) (bDg1_apply B p q) (wg1_apply B j q)
  · exact Finset.sum_congr rfl fun q _ => congrArg₂ (· * ·) (bDu1_apply B p q) (wu1_apply B j q)
theorem bDn2_apply : bDn2 B (ix2 p j) = dn2 (bPar B) (bTok B p) j := by
  pointwise [bDn2, k0_pay63, bSc, k0_pay27]
  exact congrArg (· * _) (bDh2_apply B p j)
theorem bDx1_apply : bDx1 B (ix2 p j) = dx1 (bPar B) (bTok B p) j := by
  pointwise [bDx1, k0_pay67]
  simp only [bDx2_apply, bR1_apply, bN1_apply, bDn2_apply]
  rfl
theorem bDmix_apply : bDmix B (ix2 p j) = dmix (bPar B) (bTok B p) j := by
  pointwise [bDmix, k0_pay69]
  exact congrArg (· * _) (bDx1_apply B p j)
theorem bDy_apply : bDy B (ix2 p j) = dyo (bPar B) (bTok B p) j := by
  pointwise [bDy, k0_pay70]
  exact Finset.sum_congr rfl fun k _ => congrArg (· * _) (bDmix_apply B p k)

end

end Cert.Proof.Token

end
-- ==== Proof.Token.Unit.lean ====
module

public import proofs.«01_k».proof.Proof.Token.Block

/-! The gating unit's output of a block of 256 tokens, two blocks of 128 positions one under the other. -/

@[expose] public section

set_option maxRecDepth 16384

noncomputable section

namespace Cert.Proof.Token

open Cert.TokenIdeal Cert.TokenIdeal.Gen Idealize.ShloMosaic Idealize.ShloMosaic.TcCoe Idealize.ShloMosaic.Pointwise Cert.Proof.Gmlp

theorem sqrt_half_named : (Named.named κ "sqrt_half" 0x3F3504F3#32 : Ideal .f32) = root :=
  IdealRules.named_const.ideal_named_scalar _ _ _ _ rfl

section
variable (U V : Vec Ideal S128x512 .f32) (W0 W1 W2 W3 : Vec Ideal S1x128x128 .bf16) (C0 C1 C2 C3 : Vec Ideal S128x1 .f32)
    (g b : Vec Ideal S1x512 .f32) (r : Fin 128) (j : Fin 512)

theorem pay2_apply : k0_pay2 (F := Ideal) U (ix2 r j) = gel (U (ix2 r j)) := by
  pointwise [k0_pay2]
  rw [sqrt_half_named]; rfl
theorem pay12_apply : k0_pay12 (F := Ideal) U (ix2 r j) = gel (U (ix2 r j)) := by
  pointwise [k0_pay12]
  rw [sqrt_half_named]; rfl
theorem pay3_apply : k0_pay3 (F := Ideal) V (ix2 r j) = cent (fun k => gel (V (ix2 r k))) j := by
  pointwise [k0_pay3]
  rw [sqrt_half_named]; rfl
theorem pay13_apply : k0_pay13 (F := Ideal) V (ix2 r j) = cent (fun k => gel (V (ix2 r k))) j := by
  pointwise [k0_pay13]
  rw [sqrt_half_named]; rfl
theorem pay6_apply : k0_pay6 (F := Ideal) g b (k0_pay3 V) (k0_pay4 V) k0_pay5 (ix2 r j)
    = hat (fun k => gel (V (ix2 r k))) j * g (ix2 0 j) + b (ix2 0 j) := by
  pointwise [k0_pay6, k0_pay4, k0_pay5]
  simp only [pay3_apply]; rfl
theorem pay15_apply : k0_pay15 (F := Ideal) g b (k0_pay13 V) (k0_pay14 V) (ix2 r j)
    = hat (fun k => gel (V (ix2 r k))) j * g (ix2 0 j) + b (ix2 0 j) := by
  pointwise [k0_pay15, k0_pay14]
  simp only [pay13_apply]; rfl

/-- The unit from one block's arrays and each head's own weights. -/
def unitOf : EReal :=
  unit (fun r j => U (ix2 r j)) (fun r j => V (ix2 r j)) (fun h r x => (![W0, W1, W2, W3] h : Vec Ideal S1x128x128 .bf16) (ix3 0 r x))
    (fun h r => (![C0, C1, C2, C3] h : Vec Ideal S128x1 .f32) (ix2 r 0)) (fun j => g (ix2 0 j)) (fun j => b (ix2 0 j)) r j

theorem byHead (W : Fin 4 → Vec Ideal S1x128x128 .bf16) (C : Fin 4 → Vec Ideal S128x1 .f32) (N : Fin 128 → Fin 512 → EReal) (h : Fin 4) (q : Fin 512)
    (lo : 128 * h.val ≤ j.val) (hi : j.val < 128 * h.val + 128) (hq : q.val = j.val) :
    ∑ x : Fin 128, W h (ix3 0 r x) * N x q + C h (ix2 r 0)
      = ∑ x : Fin 128, W (headOf j) (ix3 0 r x) * N x j + C (headOf j) (ix2 r 0) := by
  rw [headOf_eq j h lo hi, Fin.ext hq]

theorem top_apply : k0_pay11 (F := Ideal) (k0_pay2 U) (k0_pay7 g b (k0_pay3 V) (k0_pay4 V) k0_pay5 W0 C0)
      (k0_pay8 g b (k0_pay3 V) (k0_pay4 V) k0_pay5 W1 C1) (k0_pay9 g b (k0_pay3 V) (k0_pay4 V) k0_pay5 W2 C2)
      (k0_pay10 g b (k0_pay3 V) (k0_pay4 V) k0_pay5 W3) C3 (ix2 r j) = unitOf U V W0 W1 W2 W3 C0 C1 C2 C3 g b r j := by
  pointwise [k0_pay11, k0_pay7, k0_pay8, k0_pay9, k0_pay10]
  simp only [pay2_apply, pay6_apply, unitOf, unit]
  refine congrArg (fun t : EReal => gel (U (ix2 r j)) * t) ?_
  have key := byHead r j ![W0, W1, W2, W3] ![C0, C1, C2, C3]
    (fun x q => hat (fun k => gel (V (ix2 x k))) q * g (ix2 0 q) + b (ix2 0 q))
  by_cases h0 : j.val < 128
  · rw [dif_pos h0]
    exact key 0 j (Nat.zero_le _) h0 rfl
  rw [dif_neg h0]
  by_cases h1 : j.val - 128 < 128
  · rw [dif_pos h1]
    exact key 1 ⟨128 + (j.val - 128), by omega⟩ (by show 128 ≤ _; omega) (by show _ < 256; omega) (by show 128 + (j.val - 128) = _; omega)
  rw [dif_neg h1]
  by_cases h2 : j.val - 128 - 128 < 128
  · rw [dif_pos h2]
    exact key 2 ⟨256 + (j.val - 128 - 128), by omega⟩ (by show 256 ≤ _; omega) (by show _ < 384; omega) (by show 256 + (j.val - 128 - 128) = _; omega)
  rw [dif_neg h2]
  exact key 3 ⟨384 + (j.val - 128 - 128 - 128), by omega⟩ (by show 384 ≤ _; omega) (by have := j.isLt; show _ < 512; omega) (by show 384 + (j.val - 128 - 128 - 128) = _; omega)

theorem bottom_apply : k0_pay19 (F := Ideal) (k0_pay12 U) (k0_pay15 g b (k0_pay13 V) (k0_pay14 V)) (k0_pay16 g b (k0_pay13 V) (k0_pay14 V) W0 C0)
      (k0_pay17 g b (k0_pay13 V) (k0_pay14 V) W1 C1) (k0_pay18 g b (k0_pay13 V) (k0_pay14 V) W2 C2) W3 C3 (ix2 r j)
      = unitOf U V W0 W1 W2 W3 C0 C1 C2 C3 g b r j := by
  pointwise [k0_pay19, k0_pay16, k0_pay17, k0_pay18]
  simp only [pay12_apply, pay15_apply, unitOf, unit]
  refine congrArg (fun t : EReal => gel (U (ix2 r j)) * t) ?_
  have key := byHead r j ![W0, W1, W2, W3] ![C0, C1, C2, C3]
    (fun x q => hat (fun k => gel (V (ix2 x k))) q * g (ix2 0 q) + b (ix2 0 q))
  by_cases h0 : j.val < 128
  · rw [dif_pos h0]
    exact key 0 j (Nat.zero_le _) h0 rfl
  rw [dif_neg h0]
  by_cases h1 : j.val - 128 < 128
  · rw [dif_pos h1]
    exact key 1 ⟨128 + (j.val - 128), by omega⟩ (by show 128 ≤ _; omega) (by show _ < 256; omega) (by show 128 + (j.val - 128) = _; omega)
  rw [dif_neg h1]
  by_cases h2 : j.val - 128 - 128 < 128
  · rw [dif_pos h2]
    exact key 2 ⟨256 + (j.val - 128 - 128), by omega⟩ (by show 256 ≤ _; omega) (by show _ < 384; omega) (by show 256 + (j.val - 128 - 128) = _; omega)
  rw [dif_neg h2]
  exact key 3 ⟨384 + (j.val - 128 - 128 - 128), by omega⟩ (by show 384 ≤ _; omega) (by have := j.isLt; show _ < 512; omega) (by show 384 + (j.val - 128 - 128 - 128) = _; omega)

end

/-- Position `r` of block `s` of the two. -/
def pos (s : Fin 2) (r : Fin 128) : Fin 256 := ⟨128 * s.val + r.val, by omega⟩

section
variable (B : Blk) (r : Fin 128) (j : Fin 512)
open Cert.Proof.Tiles

theorem uTop_apply : uTop B (ix2 r j) = B.x12 (ix2 (pos 0 r) j) :=
  (ld_tile (m := 256) (n := 512) (o := 0) (p := 0) (k := 128) (l := 512) _ B.x12 r j (by omega) (by omega)).trans
    (congrArg B.x12 (congrArg₂ ix2 (Fin.ext rfl) (Fin.ext (Nat.zero_add _))))
theorem uBot_apply : uBot B (ix2 r j) = B.x12 (ix2 (pos 1 r) j) :=
  (ld_tile (m := 256) (n := 512) (o := 128) (p := 0) (k := 128) (l := 512) _ B.x12 r j (by omega) (by omega)).trans
    (congrArg B.x12 (congrArg₂ ix2 (Fin.ext rfl) (Fin.ext (Nat.zero_add _))))
theorem vTop_apply : vTop B (ix2 r j) = B.x13 (ix2 (pos 0 r) j) :=
  (ld_tile (m := 256) (n := 512) (o := 0) (p := 0) (k := 128) (l := 512) _ B.x13 r j (by omega) (by omega)).trans
    (congrArg B.x13 (congrArg₂ ix2 (Fin.ext rfl) (Fin.ext (Nat.zero_add _))))
theorem vBot_apply : vBot B (ix2 r j) = B.x13 (ix2 (pos 1 r) j) :=
  (ld_tile (m := 256) (n := 512) (o := 128) (p := 0) (k := 128) (l := 512) _ B.x13 r j (by omega) (by omega)).trans
    (congrArg B.x13 (congrArg₂ ix2 (Fin.ext rfl) (Fin.ext (Nat.zero_add _))))

theorem lw_apply (h : Fin 4) (r x : Fin 128) : (![lw0 B, lw1 B, lw2 B, lw3 B] h : Vec Ideal S1x128x128 .bf16) (ix3 0 r x) = B.x14 (ix3 h r x) := by
  fin_cases h <;>
    exact congrArg B.x14 (funext fun a => match a with
      | ⟨0, _⟩ => rfl
      | ⟨1, _⟩ => Fin.ext (by show 0 + 1 * r.val = r.val; omega)
      | ⟨2, _⟩ => Fin.ext (by show 0 + 1 * x.val = x.val; omega))
theorem lb_apply (h : Fin 4) (r : Fin 128) : (![lb0 B, lb1 B, lb2 B, lb3 B] h : Vec Ideal S128x1 .f32) (ix2 r 0) = B.x15 (ix2 r h) := by
  fin_cases h <;>
    exact congrArg B.x15 (funext fun a => match a with
      | ⟨0, _⟩ => Fin.ext (by show 0 + 1 * r.val = r.val; omega)
      | ⟨1, _⟩ => rfl)

/-- The gating unit of the block at a position. -/
theorem ya_apply (s : Fin 2) : yaAll B (ix2 (pos s r) j)
    = unit (fun r j => B.x12 (ix2 (pos s r) j)) (fun r j => B.x13 (ix2 (pos s r) j)) (fun h r x => B.x14 (ix3 h r x))
        (fun h r => B.x15 (ix2 r h)) (fun j => B.x16 (ix2 0 j)) (fun j => B.x17 (ix2 0 j)) r j := by
  have hr := r.isLt
  match s with
  | 0 =>
    refine (dif_pos (show (pos 0 r).val < 128 by show 128 * 0 + r.val < 128; omega)).trans ?_
    refine (congrArg (yaTop B) (congrArg₂ ix2 (Fin.ext (by show 128 * 0 + r.val = r.val; omega)) rfl)).trans ((top_apply (uTop B) (vTop B) (lw0 B) (lw1 B) (lw2 B) (lw3 B) (lb0 B) (lb1 B) (lb2 B) (lb3 B) B.x16 B.x17 r j).trans ?_)
    simp only [unitOf, lw_apply, lb_apply, uTop_apply, vTop_apply]
  | 1 =>
    refine (dif_neg (show ¬ (pos 1 r).val < 128 by show ¬ 128 * 1 + r.val < 128; omega)).trans ?_
    refine (congrArg (yaBot B) (congrArg₂ ix2 (Fin.ext (by show 128 * 1 + r.val - 128 = r.val; omega)) rfl)).trans ((bottom_apply (uBot B) (vBot B) (lw0 B) (lw1 B) (lw2 B) (lw3 B) (lb0 B) (lb1 B) (lb2 B) (lb3 B) B.x16 B.x17 r j).trans ?_)
    simp only [unitOf, lw_apply, lb_apply, uBot_apply, vBot_apply]

end

end Cert.Proof.Token

end
-- ==== Proof.Token.Run.lean ====
module

public import proofs.«01_k».proof.Proof.Token.Block
public import proofs.«01_k».proof.Proof.Gen.TokenIdeal.Frame.Runs

/-! The body run once: what it leaves in the output windows, as the pieces it stores. -/

@[expose] public section

set_option maxRecDepth 16384

noncomputable section

namespace Cert.Proof.Token

open Cert.TokenIdeal Cert.TokenIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What each output window's buffer receives, last store first. -/
structure Stores where
  p18 : List (View.Piece (Elt Ideal) S256x1024 .f32)
  p19 : List (View.Piece (Elt Ideal) S256x1024 .f32)
  p20 : List (View.Piece (Elt Ideal) S256x1024 .bf16)
  p21 : List (View.Piece (Elt Ideal) S256x2816 .bf16)
  p22 : List (View.Piece (Elt Ideal) S256x1024 .bf16)
  p23 : List (View.Piece (Elt Ideal) S256x5632 .bf16)
  p24 : List (View.Piece (Elt Ideal) S256x1024 .bf16)
  p25 : List (View.Piece (Elt Ideal) S8x1024 .f32)
  p26 : List (View.Piece (Elt Ideal) S256x512 .bf16)

variable (c : Dev nD) (i : grid0.Coords)
  (arg1 : Memref sig .tc .vmem S256x1024 .f32) (harg1 : arg1.IsWhole) (arg2 : Memref sig .tc .vmem S256x512 .bf16) (harg2 : arg2.IsWhole) (arg3 : Memref sig .tc .vmem S256x1024 .f32) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole)
  (arg13 : Memref sig .tc .vmem S256x512 .f32) (harg13 : arg13.IsWhole) (arg14 : Memref sig .tc .vmem S256x512 .f32) (harg14 : arg14.IsWhole) (arg15 : Memref sig .tc .vmem S4x128x128 .bf16) (harg15 : arg15.IsWhole)
  (arg16 : Memref sig .tc .vmem S128x4 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S256x1024 .f32) (harg19 : arg19.IsWhole) (arg20 : Memref sig .tc .vmem S256x1024 .f32) (harg20 : arg20.IsWhole) (arg21 : Memref sig .tc .vmem S256x1024 .bf16) (harg21 : arg21.IsWhole)
  (arg22 : Memref sig .tc .vmem S256x2816 .bf16) (harg22 : arg22.IsWhole) (arg23 : Memref sig .tc .vmem S256x1024 .bf16) (harg23 : arg23.IsWhole) (arg24 : Memref sig .tc .vmem S256x5632 .bf16) (harg24 : arg24.IsWhole)
  (arg25 : Memref sig .tc .vmem S256x1024 .bf16) (harg25 : arg25.IsWhole) (arg26 : Memref sig .tc .vmem S8x1024 .f32) (harg26 : arg26.IsWhole) (arg27 : Memref sig .tc .vmem S256x512 .bf16) (harg27 : arg27.IsWhole)

/-- The input windows' buffers at their blocks. -/
def held (B : Blk) : sProp 𝕄 :=
  iprop(owns (c : Thread nD τ) arg1 fullShare B.x0 ∗ owns (c : Thread nD τ) arg2 fullShare B.x1 ∗ owns (c : Thread nD τ) arg3 fullShare B.x2 ∗ owns (c : Thread nD τ) arg4 fullShare B.x3 ∗ owns (c : Thread nD τ) arg5 fullShare B.x4 ∗ owns (c : Thread nD τ) arg6 fullShare B.x5 ∗ owns (c : Thread nD τ) arg7 fullShare B.x6 ∗ owns (c : Thread nD τ) arg8 fullShare B.x7 ∗ owns (c : Thread nD τ) arg9 fullShare B.x8 ∗ owns (c : Thread nD τ) arg10 fullShare B.x9 ∗ owns (c : Thread nD τ) arg11 fullShare B.x10 ∗ owns (c : Thread nD τ) arg12 fullShare B.x11 ∗ owns (c : Thread nD τ) arg13 fullShare B.x12 ∗ owns (c : Thread nD τ) arg14 fullShare B.x13 ∗ owns (c : Thread nD τ) arg15 fullShare B.x14 ∗ owns (c : Thread nD τ) arg16 fullShare B.x15 ∗ owns (c : Thread nD τ) arg17 fullShare B.x16 ∗ owns (c : Thread nD τ) arg18 fullShare B.x17)

set_option maxHeartbeats 4000000 in
/-- The body at the first point, where it clears the accumulated rows: what each output window is left with. -/
noncomputable def firstRun (hc0 : cond0_0 i) (B : Blk) :
    { L : Stores // ∀ (E : Set ℕ) (K : PUnit → sProp 𝕄),
      iprop(held c arg1 arg2 arg3 arg4 arg5 arg6 arg7 arg8 arg9 arg10 arg11 arg12 arg13 arg14 arg15 arg16 arg17 arg18 B
          ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
          ∗ (iprop(held c arg1 arg2 arg3 arg4 arg5 arg6 arg7 arg8 arg9 arg10 arg11 arg12 arg13 arg14 arg15 arg16 arg17 arg18 B
              ∗ (∃ f, arg19.view.loc (c : Thread nD τ) ↦[arg19.view.set]{fullShare} arg19.view.writes (Elt Ideal) f L.p18) ∗ (∃ f, arg20.view.loc (c : Thread nD τ) ↦[arg20.view.set]{fullShare} arg20.view.writes (Elt Ideal) f L.p19) ∗ (∃ f, arg21.view.loc (c : Thread nD τ) ↦[arg21.view.set]{fullShare} arg21.view.writes (Elt Ideal) f L.p20) ∗ (∃ f, arg22.view.loc (c : Thread nD τ) ↦[arg22.view.set]{fullShare} arg22.view.writes (Elt Ideal) f L.p21) ∗ (∃ f, arg23.view.loc (c : Thread nD τ) ↦[arg23.view.set]{fullShare} arg23.view.writes (Elt Ideal) f L.p22) ∗ (∃ f, arg24.view.loc (c : Thread nD τ) ↦[arg24.view.set]{fullShare} arg24.view.writes (Elt Ideal) f L.p23) ∗ (∃ f, arg25.view.loc (c : Thread nD τ) ↦[arg25.view.set]{fullShare} arg25.view.writes (Elt Ideal) f L.p24) ∗ (∃ f, arg26.view.loc (c : Thread nD τ) ↦[arg26.view.set]{fullShare} arg26.view.writes (Elt Ideal) f L.p25) ∗ (∃ f, arg27.view.loc (c : Thread nD τ) ↦[arg27.view.set]{fullShare} arg27.view.writes (Elt Ideal) f L.p26)) -∗ K ⟨⟩))
        ⊢ wp frame (wpE (defs₀ (F := Ideal)) Variants.none c none) E
            (cc0_token_local i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨⟨?_, ?_, ?_, ?_, ?_, ?_, ?_, ?_, ?_⟩, fun E K => ?run⟩
  case run =>
    simp only [cc0_token_local_eq_skeleton]; unfold cc0_token_local_skel
    simp only [k0_part11_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0 H1 H2 H3 H4 H5 H6 H7 H8 H9 H10 H11 H12 H13 H14 H15 H16 H17]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

set_option maxHeartbeats 4000000 in
/-- The body at any later point, where the rows go on from what the point before left. -/
noncomputable def laterRun (hc0 : ¬cond0_0 i) (B : Blk) (prev : Vec Ideal S8x1024 .f32) :
    { L : Stores // ∀ (E : Set ℕ) (K : PUnit → sProp 𝕄),
      iprop(held c arg1 arg2 arg3 arg4 arg5 arg6 arg7 arg8 arg9 arg10 arg11 arg12 arg13 arg14 arg15 arg16 arg17 arg18 B
          ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare prev ∗ (∃ d, owns (c : Thread nD τ) arg27 fullShare d)
          ∗ (iprop(held c arg1 arg2 arg3 arg4 arg5 arg6 arg7 arg8 arg9 arg10 arg11 arg12 arg13 arg14 arg15 arg16 arg17 arg18 B
              ∗ (∃ f, arg19.view.loc (c : Thread nD τ) ↦[arg19.view.set]{fullShare} arg19.view.writes (Elt Ideal) f L.p18) ∗ (∃ f, arg20.view.loc (c : Thread nD τ) ↦[arg20.view.set]{fullShare} arg20.view.writes (Elt Ideal) f L.p19) ∗ (∃ f, arg21.view.loc (c : Thread nD τ) ↦[arg21.view.set]{fullShare} arg21.view.writes (Elt Ideal) f L.p20) ∗ (∃ f, arg22.view.loc (c : Thread nD τ) ↦[arg22.view.set]{fullShare} arg22.view.writes (Elt Ideal) f L.p21) ∗ (∃ f, arg23.view.loc (c : Thread nD τ) ↦[arg23.view.set]{fullShare} arg23.view.writes (Elt Ideal) f L.p22) ∗ (∃ f, arg24.view.loc (c : Thread nD τ) ↦[arg24.view.set]{fullShare} arg24.view.writes (Elt Ideal) f L.p23) ∗ (∃ f, arg25.view.loc (c : Thread nD τ) ↦[arg25.view.set]{fullShare} arg25.view.writes (Elt Ideal) f L.p24) ∗ (arg26.view.loc (c : Thread nD τ) ↦[arg26.view.set]{fullShare} arg26.view.writes (Elt Ideal) (harg26.unread prev) L.p25) ∗ (∃ f, arg27.view.loc (c : Thread nD τ) ↦[arg27.view.set]{fullShare} arg27.view.writes (Elt Ideal) f L.p26)) -∗ K ⟨⟩))
        ⊢ wp frame (wpE (defs₀ (F := Ideal)) Variants.none c none) E
            (cc0_token_local i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨⟨?_, ?_, ?_, ?_, ?_, ?_, ?_, ?_, ?_⟩, fun E K => ?run⟩
  case run =>
    simp only [cc0_token_local_eq_skeleton]; unfold cc0_token_local_skel
    simp only [k0_part11_eq_skeleton]
    unfold held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%f25, %hf25, H25⟩, ⟨%d26, %f26, %hf26, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    obtain rfl := harg26.eq_unread hf25
    sl_exec (disch := first | sl_exact hc0)
    sl_step
    iapply Hk
    isplitl [H0 H1 H2 H3 H4 H5 H6 H7 H8 H9 H10 H11 H12 H13 H14 H15 H16 H17]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]
      · iexists _; isplitr; · ipureintro; exact harg11.read_unread _
        iexact H10
      isplitl [H11]
      · iexists _; isplitr; · ipureintro; exact harg12.read_unread _
        iexact H11
      isplitl [H12]
      · iexists _; isplitr; · ipureintro; exact harg13.read_unread _
        iexact H12
      isplitl [H13]
      · iexists _; isplitr; · ipureintro; exact harg14.read_unread _
        iexact H13
      isplitl [H14]
      · iexists _; isplitr; · ipureintro; exact harg15.read_unread _
        iexact H14
      isplitl [H15]
      · iexists _; isplitr; · ipureintro; exact harg16.read_unread _
        iexact H15
      isplitl [H16]
      · iexists _; isplitr; · ipureintro; exact harg17.read_unread _
        iexact H16
      iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexact H25
    iexists _; iexact H26

end Cert.Proof.Token

end
-- ==== Proof.Token.Loads.lean ====
module

public import proofs.«01_k».proof.Proof.Token.Unit
public import proofs.«01_k».proof.Proof.Token.Run
public import proofs.«01_k».proof.Proof.Common.Tiles

/-! The values of a point as functions of what the body loads, whatever the loads are, and the loads themselves. -/

@[expose] public section

set_option maxRecDepth 16384

noncomputable section

namespace Cert.Proof.Token

open Cert.TokenIdeal Cert.TokenIdeal.Gen Idealize.ShloMosaic Idealize.ShloMosaic.TcCoe Idealize.SL.Sem Idealize.ShloMosaic.Pointwise

/-- What the gating unit of 128 tokens loads: its values and gates, the heads' matrices and offsets, the norm's weights. -/
structure Half where
  u : Vec Ideal S128x512 .f32
  v : Vec Ideal S128x512 .f32
  w0 : Vec Ideal S1x128x128 .bf16
  w1 : Vec Ideal S1x128x128 .bf16
  w2 : Vec Ideal S1x128x128 .bf16
  w3 : Vec Ideal S1x128x128 .bf16
  b0 : Vec Ideal S128x1 .f32
  b1 : Vec Ideal S128x1 .f32
  b2 : Vec Ideal S128x1 .f32
  b3 : Vec Ideal S128x1 .f32
  g : Vec Ideal S1x512 .f32
  s : Vec Ideal S1x512 .f32

def Half.top (H : Half) : FVec Ideal S128x512 .bf16 :=
  k0_pay11 (k0_pay2 H.u) (k0_pay7 H.g H.s (k0_pay3 H.v) (k0_pay4 H.v) k0_pay5 H.w0 H.b0) (k0_pay8 H.g H.s (k0_pay3 H.v) (k0_pay4 H.v) k0_pay5 H.w1 H.b1)
    (k0_pay9 H.g H.s (k0_pay3 H.v) (k0_pay4 H.v) k0_pay5 H.w2 H.b2) (k0_pay10 H.g H.s (k0_pay3 H.v) (k0_pay4 H.v) k0_pay5 H.w3) H.b3
def Half.bot (H : Half) : FVec Ideal S128x512 .bf16 :=
  k0_pay19 (k0_pay12 H.u) (k0_pay15 H.g H.s (k0_pay13 H.v) (k0_pay14 H.v)) (k0_pay16 H.g H.s (k0_pay13 H.v) (k0_pay14 H.v) H.w0 H.b0)
    (k0_pay17 H.g H.s (k0_pay13 H.v) (k0_pay14 H.v) H.w1 H.b1) (k0_pay18 H.g H.s (k0_pay13 H.v) (k0_pay14 H.v) H.w2 H.b2) H.w3 H.b3

/-- The two halves as they are stored. -/
def halves (t b : FVec Ideal S128x512 .bf16) : List (View.Piece (Elt Ideal) S256x512 .bf16) :=
  [⟨Rect.unit (s := S256x512) ![128, 0] S128x512.size inb_S256x512_S128x512_128_0, b⟩, ⟨Rect.unit (s := S256x512) ![0, 0] S128x512.size inb_S256x512_S128x512_0_0, t⟩]

/-- What the rest of the body loads. -/
structure Ld where
  ya : Vec Ideal S256x512 .bf16
  woTop : Vec Ideal S512x1024 .bf16
  woBot : Vec Ideal S512x1024 .bf16
  wg0 : Vec Ideal S1024x1408 .bf16
  wg1 : Vec Ideal S1024x1408 .bf16
  wu0 : Vec Ideal S1024x1408 .bf16
  wu1 : Vec Ideal S1024x1408 .bf16
  wd0 : Vec Ideal S1408x1024 .bf16
  wd1 : Vec Ideal S1408x1024 .bf16
  x0 : Vec Ideal S256x1024 .f32
  x1 : Vec Ideal S256x512 .bf16
  x2 : Vec Ideal S256x1024 .f32
  x3 : Vec Ideal S1x1024 .f32
  x4 : Vec Ideal S1x1024 .f32
  x5 : Vec Ideal S1x1024 .f32
  x6 : Vec Ideal S1x1024 .f32
  x7 : Vec Ideal S1x1024 .f32
  x8 : Vec Ideal S1x1024 .f32
  x9 : Vec Ideal S1024x1024 .bf16

def Ld.dMix (L : Ld) : FVec Ideal S256x1024 .f32 := k0_pay20 L.ya L.woTop L.x1 L.woBot
def Ld.dX1 (L : Ld) : FVec Ideal S256x1024 .f32 := k0_pay21 L.x3 L.ya L.woTop L.x1 L.woBot L.x0
def Ld.dQ1 (L : Ld) : FVec Ideal S256x1 .f32 := k0_pay22 L.x3 L.ya L.woTop L.x1 L.woBot L.x0
def Ld.dR1 (L : Ld) : FVec Ideal S256x1 .f32 := k0_pay24 L.dQ1 k0_pay23
def Ld.dN1 (L : Ld) : FVec Ideal S256x1024 .f32 := k0_pay25 L.dX1 L.dQ1 k0_pay23
def Ld.dN2 (L : Ld) : FVec Ideal S256x1024 .f32 := k0_pay26 L.dX1 L.dQ1 k0_pay23 L.x4
def Ld.dSc (L : Ld) : FVec Ideal S1x1024 .f32 := k0_pay27 L.x5
def Ld.dH2 (L : Ld) : FVec Ideal S256x1024 .bf16 := k0_pay28 L.dX1 L.dQ1 k0_pay23 L.x4 L.x5 L.x6
def Ld.dG0 (L : Ld) : FVec Ideal S256x1408 .f32 := k0_pay29 L.dX1 L.dQ1 k0_pay23 L.x4 L.x5 L.x6 L.wg0
def Ld.dU0 (L : Ld) : FVec Ideal S256x1408 .f32 := k0_pay30 L.dX1 L.dQ1 k0_pay23 L.x4 L.x5 L.x6 L.wu0
def Ld.dS0 (L : Ld) : FVec Ideal S256x1408 .f32 := k0_pay31 L.dX1 L.dQ1 k0_pay23 L.x4 L.x5 L.x6 L.wg0
def Ld.dA0 (L : Ld) : FVec Ideal S256x1408 .bf16 := k0_pay32 L.dX1 L.dQ1 k0_pay23 L.x4 L.x5 L.x6 L.wg0 L.wu0
def Ld.dF0 (L : Ld) : FVec Ideal S256x1024 .f32 := k0_pay33 L.dX1 L.dQ1 k0_pay23 L.x4 L.x5 L.x6 L.wg0 L.wu0 L.wd0
def Ld.dG1 (L : Ld) : FVec Ideal S256x1408 .f32 := k0_pay35 L.dH2 (k0_pay34 L.wg1)
def Ld.dU1 (L : Ld) : FVec Ideal S256x1408 .f32 := k0_pay36 L.dH2 L.wu1
def Ld.dS1 (L : Ld) : FVec Ideal S256x1408 .f32 := k0_pay37 L.dH2 (k0_pay34 L.wg1)
def Ld.dA1 (L : Ld) : FVec Ideal S256x1408 .bf16 := k0_pay38 L.dH2 (k0_pay34 L.wg1) L.wu1
def Ld.dFf (L : Ld) : FVec Ideal S256x1024 .f32 := k0_pay39 L.dH2 L.dF0 (k0_pay34 L.wg1) L.wu1 L.wd1
def Ld.dR2 (L : Ld) : FVec Ideal S256x1 .f32 := k0_pay41 L.x7 L.dX1 L.dH2 L.dF0 (k0_pay34 L.wg1) L.wu1 L.wd1
def Ld.dN3 (L : Ld) : FVec Ideal S256x1024 .f32 := k0_pay42 L.x7 L.dX1 L.dH2 L.dF0 (k0_pay34 L.wg1) L.wu1 L.wd1
def Ld.dErr (L : Ld) : FVec Ideal S256x1024 .f32 := k0_pay43 L.x7 L.dX1 L.dH2 L.dF0 (k0_pay34 L.wg1) L.wu1 L.wd1 L.x8 L.x2
def Ld.dLoss (L : Ld) : FVec Ideal S1024 .f32 := k0_pay45 L.x7 L.dX1 L.dH2 L.dF0 (k0_pay34 L.wg1) L.wu1 L.wd1 L.x8 L.x2
def Ld.dDx2 (L : Ld) : FVec Ideal S256x1024 .f32 := k0_pay49 L.dR2 L.dN3 L.dErr L.x8
def Ld.dDff (L : Ld) : FVec Ideal S256x1024 .bf16 := k0_pay51 L.x7 L.dR2 L.dN3 L.dErr L.x8
def Ld.dDg0 (L : Ld) : FVec Ideal S256x1408 .bf16 := k0_pay53 L.dG0 L.dU0 L.dS0 L.dDff L.wd0
def Ld.dDu0 (L : Ld) : FVec Ideal S256x1408 .bf16 := k0_pay54 L.dG0 L.dS0 L.dDff L.wd0
def Ld.dDh0 (L : Ld) : FVec Ideal S256x1024 .f32 := k0_pay55 L.dG0 L.dU0 L.dS0 L.dDff L.wd0 L.wg0 L.wu0
def Ld.dDa1 (L : Ld) : FVec Ideal S256x1408 .f32 := k0_pay56 L.dDff L.wd1
def Ld.dDg1 (L : Ld) : FVec Ideal S256x1408 .f32 := k0_pay57 L.dG1 L.dU1 L.dS1 L.dDff L.wd1
def Ld.dDu1 (L : Ld) : FVec Ideal S256x1408 .bf16 := k0_pay59 L.dG1 L.dS1 L.dDa1
def Ld.dDh2 (L : Ld) : FVec Ideal S256x1024 .f32 := k0_pay60 L.dG1 L.dS1 L.dDh0 L.dDa1 L.dDg1 L.wg1 L.wu1
def Ld.dDn2 (L : Ld) : FVec Ideal S256x1024 .f32 := k0_pay63 L.dSc L.dG1 L.dS1 L.dDh0 L.dDa1 L.dDg1 L.wg1 L.wu1
def Ld.dDx1 (L : Ld) : FVec Ideal S256x1024 .f32 := k0_pay67 L.dR1 L.dN1 L.dDx2 L.dDn2 L.x4
def Ld.dDmix (L : Ld) : FVec Ideal S256x1024 .bf16 := k0_pay69 L.x3 L.dR1 L.dN1 L.dDx2 L.dDn2 L.x4
def Ld.dDy (L : Ld) : FVec Ideal S256x1024 .f32 := k0_pay70 L.x3 L.dR1 L.dN1 L.dDx2 L.dDn2 L.x4 L.x9

/-! The accumulated rows, each from the row before it. -/

def Ld.row6 (L : Ld) (r : Vec Ideal S1x1024 .f32) : Vec Ideal S1x1024 .f32 := k0_pay46 (k0_pay44 r) L.dLoss
def Ld.row4 (L : Ld) (r : Vec Ideal S1x1024 .f32) : Vec Ideal S1x1024 .f32 := k0_pay48 L.dN3 L.dErr r
def Ld.row0 (L : Ld) (r : Vec Ideal S1x1024 .f32) : Vec Ideal S1x1024 .f32 := k0_pay50 L.dFf L.dR2 L.dN3 L.dErr L.x8 r
def Ld.row2 (L : Ld) (r : Vec Ideal S1x1024 .f32) : Vec Ideal S1x1024 .f32 := k0_pay61 L.dG1 L.dS1 L.dDh0 L.dDa1 L.dDg1 L.wg1 L.wu1 r
def Ld.row1 (L : Ld) (r : Vec Ideal S1x1024 .f32) : Vec Ideal S1x1024 .f32 := k0_pay62 L.dN2 L.dG1 L.dS1 L.dDh0 L.dDa1 L.dDg1 L.wg1 L.wu1 r
def Ld.row3 (L : Ld) (r : Vec Ideal S1x1024 .f32) : Vec Ideal S1x1024 .f32 := k0_pay66 (k0_pay64 r) (k0_pay65 L.dN1 L.dSc L.dG1 L.dS1 L.dDh0 L.dDa1 L.dDg1 L.wg1 L.wu1)
def Ld.row5 (L : Ld) (r : Vec Ideal S1x1024 .f32) : Vec Ideal S1x1024 .f32 := k0_pay68 L.dMix L.dR1 L.dN1 L.dDx2 L.dDn2 L.x4 r

section
variable
  (arg1 : Memref sig .tc .vmem S256x1024 .f32) (harg1 : arg1.IsWhole) (arg2 : Memref sig .tc .vmem S256x512 .bf16) (harg2 : arg2.IsWhole) (arg3 : Memref sig .tc .vmem S256x1024 .f32) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole)
  (arg13 : Memref sig .tc .vmem S256x512 .f32) (harg13 : arg13.IsWhole) (arg14 : Memref sig .tc .vmem S256x512 .f32) (harg14 : arg14.IsWhole) (arg15 : Memref sig .tc .vmem S4x128x128 .bf16) (harg15 : arg15.IsWhole)
  (arg16 : Memref sig .tc .vmem S128x4 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S256x1024 .f32) (harg19 : arg19.IsWhole) (arg20 : Memref sig .tc .vmem S256x1024 .f32) (harg20 : arg20.IsWhole) (arg21 : Memref sig .tc .vmem S256x1024 .bf16) (harg21 : arg21.IsWhole)
  (arg22 : Memref sig .tc .vmem S256x2816 .bf16) (harg22 : arg22.IsWhole) (arg23 : Memref sig .tc .vmem S256x1024 .bf16) (harg23 : arg23.IsWhole) (arg24 : Memref sig .tc .vmem S256x5632 .bf16) (harg24 : arg24.IsWhole)
  (arg25 : Memref sig .tc .vmem S256x1024 .bf16) (harg25 : arg25.IsWhole) (arg26 : Memref sig .tc .vmem S8x1024 .f32) (harg26 : arg26.IsWhole) (arg27 : Memref sig .tc .vmem S256x512 .bf16) (harg27 : arg27.IsWhole)

def rawTop (B : Blk) : Half where
  u := View.readAt (Elt Ideal) arg13.view (Rect.unit (s := S256x512) ![0, 0] S128x512.size inb_S256x512_S128x512_0_0).toLoadRect (harg13.unread B.x12)
  v := View.readAt (Elt Ideal) arg14.view (Rect.unit (s := S256x512) ![0, 0] S128x512.size inb_S256x512_S128x512_0_0).toLoadRect (harg14.unread B.x13)
  w0 := View.readAt (Elt Ideal) arg15.view (Rect.unit (s := S4x128x128) ![0, 0, 0] S1x128x128.size inb_S4x128x128_S1x128x128_0_0_0).toLoadRect (harg15.unread B.x14)
  w1 := View.readAt (Elt Ideal) arg15.view (Rect.unit (s := S4x128x128) ![1, 0, 0] S1x128x128.size inb_S4x128x128_S1x128x128_1_0_0).toLoadRect (harg15.unread B.x14)
  w2 := View.readAt (Elt Ideal) arg15.view (Rect.unit (s := S4x128x128) ![2, 0, 0] S1x128x128.size inb_S4x128x128_S1x128x128_2_0_0).toLoadRect (harg15.unread B.x14)
  w3 := View.readAt (Elt Ideal) arg15.view (Rect.unit (s := S4x128x128) ![3, 0, 0] S1x128x128.size inb_S4x128x128_S1x128x128_3_0_0).toLoadRect (harg15.unread B.x14)
  b0 := View.readAt (Elt Ideal) arg16.view (Rect.unit (s := S128x4) ![0, 0] S128x1.size inb_S128x4_S128x1_0_0).toLoadRect (harg16.unread B.x15)
  b1 := View.readAt (Elt Ideal) arg16.view (Rect.unit (s := S128x4) ![0, 1] S128x1.size inb_S128x4_S128x1_0_1).toLoadRect (harg16.unread B.x15)
  b2 := View.readAt (Elt Ideal) arg16.view (Rect.unit (s := S128x4) ![0, 2] S128x1.size inb_S128x4_S128x1_0_2).toLoadRect (harg16.unread B.x15)
  b3 := View.readAt (Elt Ideal) arg16.view (Rect.unit (s := S128x4) ![0, 3] S128x1.size inb_S128x4_S128x1_0_3).toLoadRect (harg16.unread B.x15)
  g := View.readAt (Elt Ideal) arg17.view (Rect.unit (s := S1x512) ![0, 0] S1x512.size inb_S1x512_S1x512_0_0).toLoadRect (harg17.unread B.x16)
  s := View.readAt (Elt Ideal) arg18.view (Rect.unit (s := S1x512) ![0, 0] S1x512.size inb_S1x512_S1x512_0_0).toLoadRect (harg18.unread B.x17)

def rawBot (B : Blk) : Half where
  u := View.readAt (Elt Ideal) arg13.view (Rect.unit (s := S256x512) ![128, 0] S128x512.size inb_S256x512_S128x512_128_0).toLoadRect (harg13.unread B.x12)
  v := View.readAt (Elt Ideal) arg14.view (Rect.unit (s := S256x512) ![128, 0] S128x512.size inb_S256x512_S128x512_128_0).toLoadRect (harg14.unread B.x13)
  w0 := View.readAt (Elt Ideal) arg15.view (Rect.unit (s := S4x128x128) ![0, 0, 0] S1x128x128.size inb_S4x128x128_S1x128x128_0_0_0).toLoadRect (harg15.unread B.x14)
  w1 := View.readAt (Elt Ideal) arg15.view (Rect.unit (s := S4x128x128) ![1, 0, 0] S1x128x128.size inb_S4x128x128_S1x128x128_1_0_0).toLoadRect (harg15.unread B.x14)
  w2 := View.readAt (Elt Ideal) arg15.view (Rect.unit (s := S4x128x128) ![2, 0, 0] S1x128x128.size inb_S4x128x128_S1x128x128_2_0_0).toLoadRect (harg15.unread B.x14)
  w3 := View.readAt (Elt Ideal) arg15.view (Rect.unit (s := S4x128x128) ![3, 0, 0] S1x128x128.size inb_S4x128x128_S1x128x128_3_0_0).toLoadRect (harg15.unread B.x14)
  b0 := View.readAt (Elt Ideal) arg16.view (Rect.unit (s := S128x4) ![0, 0] S128x1.size inb_S128x4_S128x1_0_0).toLoadRect (harg16.unread B.x15)
  b1 := View.readAt (Elt Ideal) arg16.view (Rect.unit (s := S128x4) ![0, 1] S128x1.size inb_S128x4_S128x1_0_1).toLoadRect (harg16.unread B.x15)
  b2 := View.readAt (Elt Ideal) arg16.view (Rect.unit (s := S128x4) ![0, 2] S128x1.size inb_S128x4_S128x1_0_2).toLoadRect (harg16.unread B.x15)
  b3 := View.readAt (Elt Ideal) arg16.view (Rect.unit (s := S128x4) ![0, 3] S128x1.size inb_S128x4_S128x1_0_3).toLoadRect (harg16.unread B.x15)
  g := View.readAt (Elt Ideal) arg17.view (Rect.unit (s := S1x512) ![0, 0] S1x512.size inb_S1x512_S1x512_0_0).toLoadRect (harg17.unread B.x16)
  s := View.readAt (Elt Ideal) arg18.view (Rect.unit (s := S1x512) ![0, 0] S1x512.size inb_S1x512_S1x512_0_0).toLoadRect (harg18.unread B.x17)

def rawLd (B : Blk) : Ld where
  ya := arg27.view.readCov (Val := Elt Ideal) (halves (rawTop arg13 harg13 arg14 harg14 arg15 harg15 arg16 harg16 arg17 harg17 arg18 harg18 B).top (rawBot arg13 harg13 arg14 harg14 arg15 harg15 arg16 harg16 arg17 harg17 arg18 harg18 B).bot) (Rect.unit (s := S256x512) ![0, 0] S256x512.size inb_S256x512_S256x512_0_0).toLoadRect
  woTop := View.readAt (Elt Ideal) arg10.view (Rect.unit (s := S1024x1024) ![0, 0] S512x1024.size inb_S1024x1024_S512x1024_0_0).toLoadRect (harg10.unread B.x9)
  woBot := View.readAt (Elt Ideal) arg10.view (Rect.unit (s := S1024x1024) ![512, 0] S512x1024.size inb_S1024x1024_S512x1024_512_0).toLoadRect (harg10.unread B.x9)
  wg0 := View.readAt (Elt Ideal) arg11.view (Rect.unit (s := S1024x5632) ![0, 0] S1024x1408.size inb_S1024x5632_S1024x1408_0_0).toLoadRect (harg11.unread B.x10)
  wg1 := View.readAt (Elt Ideal) arg11.view (Rect.unit (s := S1024x5632) ![0, 1408] S1024x1408.size inb_S1024x5632_S1024x1408_0_1408).toLoadRect (harg11.unread B.x10)
  wu0 := View.readAt (Elt Ideal) arg11.view (Rect.unit (s := S1024x5632) ![0, 2816] S1024x1408.size inb_S1024x5632_S1024x1408_0_2816).toLoadRect (harg11.unread B.x10)
  wu1 := View.readAt (Elt Ideal) arg11.view (Rect.unit (s := S1024x5632) ![0, 4224] S1024x1408.size inb_S1024x5632_S1024x1408_0_4224).toLoadRect (harg11.unread B.x10)
  wd0 := View.readAt (Elt Ideal) arg12.view (Rect.unit (s := S2816x1024) ![0, 0] S1408x1024.size inb_S2816x1024_S1408x1024_0_0).toLoadRect (harg12.unread B.x11)
  wd1 := View.readAt (Elt Ideal) arg12.view (Rect.unit (s := S2816x1024) ![1408, 0] S1408x1024.size inb_S2816x1024_S1408x1024_1408_0).toLoadRect (harg12.unread B.x11)
  x0 := View.readAt (Elt Ideal) arg1.view (Rect.unit (s := S256x1024) ![0, 0] S256x1024.size inb_S256x1024_S256x1024_0_0).toLoadRect (harg1.unread B.x0)
  x1 := View.readAt (Elt Ideal) arg2.view (Rect.unit (s := S256x512) ![0, 0] S256x512.size inb_S256x512_S256x512_0_0).toLoadRect (harg2.unread B.x1)
  x2 := View.readAt (Elt Ideal) arg3.view (Rect.unit (s := S256x1024) ![0, 0] S256x1024.size inb_S256x1024_S256x1024_0_0).toLoadRect (harg3.unread B.x2)
  x3 := View.readAt (Elt Ideal) arg4.view (Rect.unit (s := S1x1024) ![0, 0] S1x1024.size inb_S1x1024_S1x1024_0_0).toLoadRect (harg4.unread B.x3)
  x4 := View.readAt (Elt Ideal) arg5.view (Rect.unit (s := S1x1024) ![0, 0] S1x1024.size inb_S1x1024_S1x1024_0_0).toLoadRect (harg5.unread B.x4)
  x5 := View.readAt (Elt Ideal) arg6.view (Rect.unit (s := S1x1024) ![0, 0] S1x1024.size inb_S1x1024_S1x1024_0_0).toLoadRect (harg6.unread B.x5)
  x6 := View.readAt (Elt Ideal) arg7.view (Rect.unit (s := S1x1024) ![0, 0] S1x1024.size inb_S1x1024_S1x1024_0_0).toLoadRect (harg7.unread B.x6)
  x7 := View.readAt (Elt Ideal) arg8.view (Rect.unit (s := S1x1024) ![0, 0] S1x1024.size inb_S1x1024_S1x1024_0_0).toLoadRect (harg8.unread B.x7)
  x8 := View.readAt (Elt Ideal) arg9.view (Rect.unit (s := S1x1024) ![0, 0] S1x1024.size inb_S1x1024_S1x1024_0_0).toLoadRect (harg9.unread B.x8)
  x9 := View.readAt (Elt Ideal) arg10.view (Rect.unit (s := S1024x1024) ![0, 0] S1024x1024.size inb_S1024x1024_S1024x1024_0_0).toLoadRect (harg10.unread B.x9)

end

/-! The loads, read. -/

def top (B : Blk) : Half := ⟨uTop B, vTop B, lw0 B, lw1 B, lw2 B, lw3 B, lb0 B, lb1 B, lb2 B, lb3 B, B.x16, B.x17⟩
def bot (B : Blk) : Half := ⟨uBot B, vBot B, lw0 B, lw1 B, lw2 B, lw3 B, lb0 B, lb1 B, lb2 B, lb3 B, B.x16, B.x17⟩
def ld (B : Blk) : Ld where
  ya := yaAll B
  woTop := woTop B
  woBot := woBot B
  wg0 := wg0 B
  wg1 := wg1 B
  wu0 := wu0 B
  wu1 := wu1 B
  wd0 := wd0 B
  wd1 := wd1 B
  x0 := B.x0
  x1 := B.x1
  x2 := B.x2
  x3 := B.x3
  x4 := B.x4
  x5 := B.x5
  x6 := B.x6
  x7 := B.x7
  x8 := B.x8
  x9 := B.x9

theorem top_eq (B : Blk) : (top B).top = yaTop B := rfl
theorem bot_eq (B : Blk) : (bot B).bot = yaBot B := rfl

theorem hz2 : (![0, 0] : Fin 2 → Nat) = fun _ => 0 := funext fun a => by fin_cases a <;> rfl

open Cert.Proof.Tiles in
/-- Whichever half an index lies in, its piece is read. -/
theorem halves_canon (t b : FVec Ideal S128x512 .bf16) (y : S256x512.Idx) :
    View.canon (halves t b) y = if h : (y 0).val < 128 then t (ix2 (⟨(y 0).val, h⟩ : Fin 128) (y 1))
      else b (ix2 (⟨(y 0).val - 128, by have : (y 0).val < 256 := (y 0).isLt; omega⟩ : Fin 128) (y 1)) := by
  have h0 : (y 0).val < 256 := (y 0).isLt
  have h1 : (y 1).val < 512 := (y 1).isLt
  unfold halves
  split_ifs with h
  · refine (canon_tile_out (m := 256) (n := 512) (o := 128) (p := 0) (k := 128) (l := 512) _ _ _ y (fun hc => ?_)).trans
      (canon_tile_in (m := 256) (n := 512) (o := 0) (p := 0) (k := 128) (l := 512) _ _ _ y ⟨(y 0).val, h⟩ (y 1) (Nat.zero_add _).symm (Nat.zero_add _).symm)
    have := hc.1
    omega
  · exact canon_tile_in (m := 256) (n := 512) (o := 128) (p := 0) (k := 128) (l := 512) _ _ _ y ⟨(y 0).val - 128, by omega⟩ (y 1)
      (by show (y 0).val = 128 + ((y 0).val - 128); omega) (Nat.zero_add _).symm

theorem halves_eq (B : Blk) : View.canon (halves (yaTop B) (yaBot B)) = yaAll B := funext fun y => halves_canon _ _ y

/-- Read back, they are the stacked halves. -/
theorem halves_read (B : Blk) (v : View sig .tc .vmem S256x512 .bf16) :
    v.readCov (Val := Elt Ideal) (halves (yaTop B) (yaBot B)) (Rect.unit (s := S256x512) ![0, 0] S256x512.size inb_S256x512_S256x512_0_0).toLoadRect = yaAll B := by
  rw [View.readCov_eq_canon', halves_eq]
  exact View.ld_unit_zero (Val := Elt Ideal) (e := .bf16) (S := S256x512) hz2 inb_S256x512_S256x512_0_0 (yaAll B)

theorem Ld.ext_of {L M : Ld} (hya : L.ya = M.ya) (hwoTop : L.woTop = M.woTop) (hwoBot : L.woBot = M.woBot) (hwg0 : L.wg0 = M.wg0) (hwg1 : L.wg1 = M.wg1) (hwu0 : L.wu0 = M.wu0) (hwu1 : L.wu1 = M.wu1) (hwd0 : L.wd0 = M.wd0) (hwd1 : L.wd1 = M.wd1) (hx0 : L.x0 = M.x0) (hx1 : L.x1 = M.x1) (hx2 : L.x2 = M.x2) (hx3 : L.x3 = M.x3) (hx4 : L.x4 = M.x4) (hx5 : L.x5 = M.x5) (hx6 : L.x6 = M.x6) (hx7 : L.x7 = M.x7) (hx8 : L.x8 = M.x8) (hx9 : L.x9 = M.x9) : L = M := by
  cases L; cases M
  congr

section
variable
  (arg1 : Memref sig .tc .vmem S256x1024 .f32) (harg1 : arg1.IsWhole) (arg2 : Memref sig .tc .vmem S256x512 .bf16) (harg2 : arg2.IsWhole) (arg3 : Memref sig .tc .vmem S256x1024 .f32) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole)
  (arg13 : Memref sig .tc .vmem S256x512 .f32) (harg13 : arg13.IsWhole) (arg14 : Memref sig .tc .vmem S256x512 .f32) (harg14 : arg14.IsWhole) (arg15 : Memref sig .tc .vmem S4x128x128 .bf16) (harg15 : arg15.IsWhole)
  (arg16 : Memref sig .tc .vmem S128x4 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S256x1024 .f32) (harg19 : arg19.IsWhole) (arg20 : Memref sig .tc .vmem S256x1024 .f32) (harg20 : arg20.IsWhole) (arg21 : Memref sig .tc .vmem S256x1024 .bf16) (harg21 : arg21.IsWhole)
  (arg22 : Memref sig .tc .vmem S256x2816 .bf16) (harg22 : arg22.IsWhole) (arg23 : Memref sig .tc .vmem S256x1024 .bf16) (harg23 : arg23.IsWhole) (arg24 : Memref sig .tc .vmem S256x5632 .bf16) (harg24 : arg24.IsWhole)
  (arg25 : Memref sig .tc .vmem S256x1024 .bf16) (harg25 : arg25.IsWhole) (arg26 : Memref sig .tc .vmem S8x1024 .f32) (harg26 : arg26.IsWhole) (arg27 : Memref sig .tc .vmem S256x512 .bf16) (harg27 : arg27.IsWhole)

theorem rawTop_eq (B : Blk) : rawTop arg13 harg13 arg14 harg14 arg15 harg15 arg16 harg16 arg17 harg17 arg18 harg18 B = top B := by
  unfold rawTop top
  simp only [View.readAt_eq_ld, harg13.read_unread, harg14.read_unread, harg15.read_unread, harg16.read_unread, harg17.read_unread, harg18.read_unread, View.ld_unit_zero (S := S1x512) hz2]
  rfl
theorem rawBot_eq (B : Blk) : rawBot arg13 harg13 arg14 harg14 arg15 harg15 arg16 harg16 arg17 harg17 arg18 harg18 B = bot B := by
  unfold rawBot bot
  simp only [View.readAt_eq_ld, harg13.read_unread, harg14.read_unread, harg15.read_unread, harg16.read_unread, harg17.read_unread, harg18.read_unread, View.ld_unit_zero (S := S1x512) hz2]
  rfl
theorem rawLd_eq (B : Blk) : rawLd arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg27 B = ld B := by
  unfold rawLd ld
  simp only [rawTop_eq, rawBot_eq, top_eq, bot_eq, halves_read, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S256x512) hz2, View.ld_unit_zero (S := S1024x1024) hz2]
  exact Ld.ext_of (halves_read B _) rfl rfl rfl rfl rfl rfl rfl rfl rfl rfl rfl rfl rfl rfl rfl rfl rfl rfl

end

end Cert.Proof.Token

end
-- ==== Proof.Token.Pieces.lean ====
module

public import proofs.«01_k».proof.Proof.Token.Loads

/-! The pieces either run writes, as values of the loads. -/

@[expose] public section

set_option maxRecDepth 16384

noncomputable section

namespace Cert.Proof.Token

open Cert.TokenIdeal Cert.TokenIdeal.Gen Idealize.ShloMosaic Idealize.ShloMosaic.TcCoe Idealize.ShloMosaic.Tactic Idealize.SL.Sem Idealize.ShloMosaic.Pointwise

section
variable (L : Ld)

def piece18 : List (View.Piece (Elt Ideal) S256x1024 .f32) :=
  [⟨Rect.unit (s := S256x1024) ![0, 0] S256x1024.size inb_S256x1024_S256x1024_0_0, L.dDy⟩]
def piece19 : List (View.Piece (Elt Ideal) S256x1024 .f32) :=
  [⟨Rect.unit (s := S256x1024) ![0, 0] S256x1024.size inb_S256x1024_S256x1024_0_0, L.dDx1⟩]
def piece20 : List (View.Piece (Elt Ideal) S256x1024 .bf16) :=
  [⟨Rect.unit (s := S256x1024) ![0, 0] S256x1024.size inb_S256x1024_S256x1024_0_0, L.dH2⟩]
def piece21 : List (View.Piece (Elt Ideal) S256x2816 .bf16) :=
  [⟨Rect.unit (s := S256x2816) ![0, 1408] S256x1408.size inb_S256x2816_S256x1408_0_1408, L.dA1⟩, ⟨Rect.unit (s := S256x2816) ![0, 0] S256x1408.size inb_S256x2816_S256x1408_0_0, L.dA0⟩]
def piece22 : List (View.Piece (Elt Ideal) S256x1024 .bf16) :=
  [⟨Rect.unit (s := S256x1024) ![0, 0] S256x1024.size inb_S256x1024_S256x1024_0_0, L.dDff⟩]
def piece23 : List (View.Piece (Elt Ideal) S256x5632 .bf16) :=
  [⟨Rect.unit (s := S256x5632) ![0, 4224] S256x1408.size inb_S256x5632_S256x1408_0_4224, L.dDu1⟩,
    ⟨Rect.unit (s := S256x5632) ![0, 1408] S256x1408.size inb_S256x5632_S256x1408_0_1408, k0_pay58 L.dDg1⟩,
    ⟨Rect.unit (s := S256x5632) ![0, 2816] S256x1408.size inb_S256x5632_S256x1408_0_2816, L.dDu0⟩,
    ⟨Rect.unit (s := S256x5632) ![0, 0] S256x1408.size inb_S256x5632_S256x1408_0_0, L.dDg0⟩]
def piece24 : List (View.Piece (Elt Ideal) S256x1024 .bf16) :=
  [⟨Rect.unit (s := S256x1024) ![0, 0] S256x1024.size inb_S256x1024_S256x1024_0_0, L.dDmix⟩]

/-! The accumulated rows, one store after the other: `rd` reads a row, given the stores so far. -/

variable (rd : List (View.Piece (Elt Ideal) S8x1024 .f32) → (r : Rect S8x1024) → r.shape.Idx → EReal)

def put6 (P : List (View.Piece (Elt Ideal) S8x1024 .f32)) : List (View.Piece (Elt Ideal) S8x1024 .f32) :=
  ⟨Rect.unit (s := S8x1024) ![6, 0] S1x1024.size inb_S8x1024_S1x1024_6_0, L.row6 (rd P (Rect.unit (s := S8x1024) ![6, 0] S1x1024.size inb_S8x1024_S1x1024_6_0))⟩ :: P
def put4 (P : List (View.Piece (Elt Ideal) S8x1024 .f32)) : List (View.Piece (Elt Ideal) S8x1024 .f32) :=
  ⟨Rect.unit (s := S8x1024) ![4, 0] S1x1024.size inb_S8x1024_S1x1024_4_0, L.row4 (rd P (Rect.unit (s := S8x1024) ![4, 0] S1x1024.size inb_S8x1024_S1x1024_4_0))⟩ :: P
def put0 (P : List (View.Piece (Elt Ideal) S8x1024 .f32)) : List (View.Piece (Elt Ideal) S8x1024 .f32) :=
  ⟨Rect.unit (s := S8x1024) ![0, 0] S1x1024.size inb_S8x1024_S1x1024_0_0, L.row0 (rd P (Rect.unit (s := S8x1024) ![0, 0] S1x1024.size inb_S8x1024_S1x1024_0_0))⟩ :: P
def put2 (P : List (View.Piece (Elt Ideal) S8x1024 .f32)) : List (View.Piece (Elt Ideal) S8x1024 .f32) :=
  ⟨Rect.unit (s := S8x1024) ![2, 0] S1x1024.size inb_S8x1024_S1x1024_2_0, L.row2 (rd P (Rect.unit (s := S8x1024) ![2, 0] S1x1024.size inb_S8x1024_S1x1024_2_0))⟩ :: P
def put1 (P : List (View.Piece (Elt Ideal) S8x1024 .f32)) : List (View.Piece (Elt Ideal) S8x1024 .f32) :=
  ⟨Rect.unit (s := S8x1024) ![1, 0] S1x1024.size inb_S8x1024_S1x1024_1_0, L.row1 (rd P (Rect.unit (s := S8x1024) ![1, 0] S1x1024.size inb_S8x1024_S1x1024_1_0))⟩ :: P
def put3 (P : List (View.Piece (Elt Ideal) S8x1024 .f32)) : List (View.Piece (Elt Ideal) S8x1024 .f32) :=
  ⟨Rect.unit (s := S8x1024) ![3, 0] S1x1024.size inb_S8x1024_S1x1024_3_0, L.row3 (rd P (Rect.unit (s := S8x1024) ![3, 0] S1x1024.size inb_S8x1024_S1x1024_3_0))⟩ :: P
def put5 (P : List (View.Piece (Elt Ideal) S8x1024 .f32)) : List (View.Piece (Elt Ideal) S8x1024 .f32) :=
  ⟨Rect.unit (s := S8x1024) ![5, 0] S1x1024.size inb_S8x1024_S1x1024_5_0, L.row5 (rd P (Rect.unit (s := S8x1024) ![5, 0] S1x1024.size inb_S8x1024_S1x1024_5_0))⟩ :: P

def rows (P : List (View.Piece (Elt Ideal) S8x1024 .f32)) : List (View.Piece (Elt Ideal) S8x1024 .f32) :=
  put5 L rd (put3 L rd (put1 L rd (put2 L rd (put0 L rd (put4 L rd (put6 L rd P))))))

end

def stores (L : Ld) (H H' : Half) (R : List (View.Piece (Elt Ideal) S8x1024 .f32)) : Stores :=
  ⟨piece18 L, piece19 L, piece20 L, piece21 L, piece22 L, piece23 L, piece24 L, R, halves H.top H'.bot⟩

theorem Stores.ext_of {L M : Stores} (h18 : L.p18 = M.p18) (h19 : L.p19 = M.p19) (h20 : L.p20 = M.p20) (h21 : L.p21 = M.p21) (h22 : L.p22 = M.p22) (h23 : L.p23 = M.p23) (h24 : L.p24 = M.p24) (h25 : L.p25 = M.p25) (h26 : L.p26 = M.p26) : L = M := by
  cases L; cases M
  congr

/-- The rows' buffer after it is cleared. -/
def cleared : List (View.Piece (Elt Ideal) S8x1024 .f32) := [⟨Rect.unit (s := S8x1024) ![0, 0] S8x1024.size inb_S8x1024_S8x1024_0_0, k0_pay1 (F := Ideal)⟩]

variable (c : Dev nD) (i : grid0.Coords)
  (arg1 : Memref sig .tc .vmem S256x1024 .f32) (harg1 : arg1.IsWhole) (arg2 : Memref sig .tc .vmem S256x512 .bf16) (harg2 : arg2.IsWhole) (arg3 : Memref sig .tc .vmem S256x1024 .f32) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole)
  (arg13 : Memref sig .tc .vmem S256x512 .f32) (harg13 : arg13.IsWhole) (arg14 : Memref sig .tc .vmem S256x512 .f32) (harg14 : arg14.IsWhole) (arg15 : Memref sig .tc .vmem S4x128x128 .bf16) (harg15 : arg15.IsWhole)
  (arg16 : Memref sig .tc .vmem S128x4 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S256x1024 .f32) (harg19 : arg19.IsWhole) (arg20 : Memref sig .tc .vmem S256x1024 .f32) (harg20 : arg20.IsWhole) (arg21 : Memref sig .tc .vmem S256x1024 .bf16) (harg21 : arg21.IsWhole)
  (arg22 : Memref sig .tc .vmem S256x2816 .bf16) (harg22 : arg22.IsWhole) (arg23 : Memref sig .tc .vmem S256x1024 .bf16) (harg23 : arg23.IsWhole) (arg24 : Memref sig .tc .vmem S256x5632 .bf16) (harg24 : arg24.IsWhole)
  (arg25 : Memref sig .tc .vmem S256x1024 .bf16) (harg25 : arg25.IsWhole) (arg26 : Memref sig .tc .vmem S8x1024 .f32) (harg26 : arg26.IsWhole) (arg27 : Memref sig .tc .vmem S256x512 .bf16) (harg27 : arg27.IsWhole)

theorem first_stores (hc0 : cond0_0 i) (B : Blk) :
    (firstRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 B).1
      = stores (rawLd arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg27 B) (rawTop arg13 harg13 arg14 harg14 arg15 harg15 arg16 harg16 arg17 harg17 arg18 harg18 B) (rawBot arg13 harg13 arg14 harg14 arg15 harg15 arg16 harg16 arg17 harg17 arg18 harg18 B)
        (rows (rawLd arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg27 B) (fun P r => arg26.view.readCov (Val := Elt Ideal) P r.toLoadRect) cleared) := by
  refine Stores.ext_of ?_ ?_ ?_ ?_ ?_ ?_ ?_ ?_ ?_ <;> sl_kernel_rfl

theorem later_stores (hc0 : ¬cond0_0 i) (B : Blk) (prev : Vec Ideal S8x1024 .f32) :
    (laterRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 B prev).1
      = stores (rawLd arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg27 B) (rawTop arg13 harg13 arg14 harg14 arg15 harg15 arg16 harg16 arg17 harg17 arg18 harg18 B) (rawBot arg13 harg13 arg14 harg14 arg15 harg15 arg16 harg16 arg17 harg17 arg18 harg18 B)
        (rows (rawLd arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg27 B) (fun _ r => View.readAt (Elt Ideal) arg26.view r.toLoadRect (harg26.unread prev)) []) := by
  refine Stores.ext_of ?_ ?_ ?_ ?_ ?_ ?_ ?_ ?_ ?_ <;> sl_kernel_rfl

end Cert.Proof.Token

end
-- ==== Proof.Token.Outputs.lean ====
module

public import proofs.«01_k».proof.Proof.Token.Pieces
public import proofs.«01_k».proof.Proof.Common.Rows

/-! What a point leaves in each output window. -/

@[expose] public section

set_option maxRecDepth 16384

noncomputable section

namespace Cert.Proof.Token

open Cert.TokenIdeal Cert.TokenIdeal.Gen Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Cert.Proof.Rows

local notation "𝕄" => MT nD τ sig Unit (Elt Ideal) ℕ (UR sig nD τ) ℕ

/-- What the tokens of a block add to row `i` of the accumulated rows. -/
def gains (B : Blk) (i : ℕ) (j : Fin 1024) : EReal := ∑ p, gain (bPar B) (bTok B p) i j

section
variable (B : Blk) (r : Vec Ideal S1x1024 .f32) (j : Fin 1024)

theorem row0_apply : (ld B).row0 r (ix2 0 j) = r (ix2 0 j) + gains B 0 j := by
  show k0_pay50 (bFf B) (bR2 B) (bN3 B) (bErr B) B.x8 r (ix2 0 j) = _
  pointwise [k0_pay50]
  exact congrArg (_ + ·) (Finset.sum_congr rfl fun p _ => congrArg₂ (· * ·) (bDx2_apply B p j) (bFf_apply B p j))
theorem row1_apply : (ld B).row1 r (ix2 0 j) = r (ix2 0 j) + gains B 1 j := by
  show k0_pay62 (bN2 B) (bG1 B) (bS1 B) (bDh0 B) (bDa1 B) (bDg1 B) (wg1 B) (wu1 B) r (ix2 0 j) = _
  pointwise [k0_pay62]
  exact congrArg (_ + ·) (Finset.sum_congr rfl fun p _ => congrArg₂ (· * ·) (bDh2_apply B p j) (bN2_apply B p j))
theorem row2_apply : (ld B).row2 r (ix2 0 j) = r (ix2 0 j) + gains B 2 j := by
  show k0_pay61 (bG1 B) (bS1 B) (bDh0 B) (bDa1 B) (bDg1 B) (wg1 B) (wu1 B) r (ix2 0 j) = _
  pointwise [k0_pay61]
  exact congrArg (_ + ·) (Finset.sum_congr rfl fun p _ => bDh2_apply B p j)
theorem row3_apply : (ld B).row3 r (ix2 0 j) = r (ix2 0 j) + gains B 3 j := by
  show k0_pay66 (k0_pay64 r) (k0_pay65 (bN1 B) (bSc B) (bG1 B) (bS1 B) (bDh0 B) (bDa1 B) (bDg1 B) (wg1 B) (wu1 B)) (ix2 0 j) = _
  pointwise [k0_pay66, k0_pay64, k0_pay65]
  exact congrArg (_ + ·) (Finset.sum_congr rfl fun p _ => congrArg₂ (· * ·) (bDn2_apply B p j) (bN1_apply B p j))
theorem row4_apply : (ld B).row4 r (ix2 0 j) = r (ix2 0 j) + gains B 4 j := by
  show k0_pay48 (bN3 B) (bErr B) r (ix2 0 j) = _
  pointwise [k0_pay48]
  exact congrArg (_ + ·) (Finset.sum_congr rfl fun p _ => congrArg₂ (· * ·) (bDy_err B p j) (bN3_apply B p j))
theorem row5_apply : (ld B).row5 r (ix2 0 j) = r (ix2 0 j) + gains B 5 j := by
  show k0_pay68 (bMix B) (bR1 B) (bN1 B) (bDx2 B) (bDn2 B) B.x4 r (ix2 0 j) = _
  pointwise [k0_pay68]
  exact congrArg (_ + ·) (Finset.sum_congr rfl fun p _ => congrArg₂ (· * ·) (bDx1_apply B p j) (bMix_apply B p j))
theorem row6_apply : (ld B).row6 r (ix2 0 j) = r (ix2 0 j) + gains B 6 j := by
  show k0_pay46 (k0_pay44 r) (bLoss B) (ix2 0 j) = _
  pointwise [k0_pay46, k0_pay44]
  exact congrArg (_ + ·) (bLoss_apply B j)

theorem gains_other (i : ℕ) (h : 7 ≤ i) : gains B i j = 0 := by
  refine Finset.sum_eq_zero fun p _ => ?_
  unfold gain
  rw [if_neg (by omega), if_neg (by omega), if_neg (by omega), if_neg (by omega), if_neg (by omega), if_neg (by omega), if_neg (by omega)]

end

/-- The outputs' buffers after a point. -/
structure Outs where
  o18 : Vec Ideal S256x1024 .f32
  o19 : Vec Ideal S256x1024 .f32
  o20 : Vec Ideal S256x1024 .bf16
  o21 : Vec Ideal S256x2816 .bf16
  o22 : Vec Ideal S256x1024 .bf16
  o23 : Vec Ideal S256x5632 .bf16
  o24 : Vec Ideal S256x1024 .bf16
  o25 : Vec Ideal S8x1024 .f32
  o26 : Vec Ideal S256x512 .bf16

/-- From the block and the accumulated rows before it. -/
def leave (acc : Vec Ideal S8x1024 .f32) (B : Blk) : Outs :=
  ⟨bDy B, bDx1 B, bH2 B, View.canon (piece21 (ld B)), bDff B, View.canon (piece23 (ld B)), bDmix B, fun y => acc y + gains B (y 0).val (y 1), yaAll B⟩

open Classical in
/-- The accumulated rows a point starts from: cleared at the first point. -/
def start (i : grid0.Coords) (prev : Vec Ideal S8x1024 .f32) : Vec Ideal S8x1024 .f32 := if cond0_0 i then fun _ => 0 else prev

theorem pay1_apply (y : S8x1024.Idx) : (k0_pay1 (F := Ideal)) y = 0 := by
  rw [eq_ix2 y]
  pointwise [k0_pay1]

section
variable (B : Blk) (v : View sig .tc .vmem S8x1024 .f32)

/-- The rows' stores, none of which reads a row another wrote, over what the point before left. -/
theorem rows_later (f : v.ty.Contents (Elt Ideal)) (prev : Vec Ideal S8x1024 .f32) (hf : v.read (Elt Ideal) f = prev) :
    v.read (Elt Ideal) (v.writes (Elt Ideal) f (rows (ld B) (fun _ r => View.readAt (Elt Ideal) v r.toLoadRect f) []))
      = fun y => prev y + gains B (y 0).val (y 1) := by
  subst hf
  funext y
  obtain ⟨q, j, rfl⟩ : ∃ (q : Fin 8) (j : Fin 1024), y = ix2 q j := ⟨y 0, y 1, eq_ix2 y⟩
  unfold rows put5 put3 put1 put2 put0 put4 put6
  simp only [View.readAt_eq_ld]
  rw [read_writes_row (m := 8) (n := 1024), read_writes_row (m := 8) (n := 1024), read_writes_row (m := 8) (n := 1024), read_writes_row (m := 8) (n := 1024), read_writes_row (m := 8) (n := 1024), read_writes_row (m := 8) (n := 1024), read_writes_row (m := 8) (n := 1024), View.writes_nil]
  have hq : ∀ k : ℕ, (hk : k < 8) → (ix2 q j 0).val = k → q = ⟨k, hk⟩ := fun k hk h => Fin.ext h
  split_ifs with h5 h3 h1 h2 h0 h4 h6
  · obtain rfl := hq 5 (by decide) h5
    exact (row5_apply B _ j).trans (congrArg (· + _) (congrFun (ld_row (m := 8) (n := 1024) (v.read (Elt Ideal) f) 5 (by decide) _) (ix2 0 j)))
  · obtain rfl := hq 3 (by decide) h3
    exact (row3_apply B _ j).trans (congrArg (· + _) (congrFun (ld_row (m := 8) (n := 1024) (v.read (Elt Ideal) f) 3 (by decide) _) (ix2 0 j)))
  · obtain rfl := hq 1 (by decide) h1
    exact (row1_apply B _ j).trans (congrArg (· + _) (congrFun (ld_row (m := 8) (n := 1024) (v.read (Elt Ideal) f) 1 (by decide) _) (ix2 0 j)))
  · obtain rfl := hq 2 (by decide) h2
    exact (row2_apply B _ j).trans (congrArg (· + _) (congrFun (ld_row (m := 8) (n := 1024) (v.read (Elt Ideal) f) 2 (by decide) _) (ix2 0 j)))
  · obtain rfl := hq 0 (by decide) h0
    exact (row0_apply B _ j).trans (congrArg (· + _) (congrFun (ld_row (m := 8) (n := 1024) (v.read (Elt Ideal) f) 0 (by decide) _) (ix2 0 j)))
  · obtain rfl := hq 4 (by decide) h4
    exact (row4_apply B _ j).trans (congrArg (· + _) (congrFun (ld_row (m := 8) (n := 1024) (v.read (Elt Ideal) f) 4 (by decide) _) (ix2 0 j)))
  · obtain rfl := hq 6 (by decide) h6
    exact (row6_apply B _ j).trans (congrArg (· + _) (congrFun (ld_row (m := 8) (n := 1024) (v.read (Elt Ideal) f) 6 (by decide) _) (ix2 0 j)))
  · have h7 : 7 ≤ q.val := by
      have := q.isLt
      have e : (ix2 q j 0).val = q.val := rfl
      omega
    exact ((congrArg (_ + ·) (gains_other B j q.val h7)).trans (add_zero _)).symm

/-- The same over the cleared rows. -/
theorem rows_first : View.canon (rows (ld B) (fun P r => v.readCov (Val := Elt Ideal) P r.toLoadRect) cleared) = fun y => 0 + gains B (y 0).val (y 1) := by
  have hc : ∀ y, View.canon cleared y = 0 := fun y =>
    (congrFun (View.canon_unit_zero (Val := Elt Ideal) (e := .f32) (S := S8x1024) hz2 inb_S8x1024_S8x1024_0_0 (k0_pay1 (F := Ideal))) y).trans (pay1_apply y)
  funext y
  obtain ⟨q, j, rfl⟩ : ∃ (q : Fin 8) (j : Fin 1024), y = ix2 q j := ⟨y 0, y 1, eq_ix2 y⟩
  have hq : ∀ k : ℕ, (hk : k < 8) → (ix2 q j 0).val = k → q = ⟨k, hk⟩ := fun k hk h => Fin.ext h
  have apart : ∀ a b : ℕ, (ha : a < 8) → a ≠ b → ¬(ix2 (⟨a, ha⟩ : Fin 8) j 0).val = b := fun a b ha hn => hn
  have back : ∀ (k : ℕ) (hk : k < 8) (inb) (P : List (View.Piece (Elt Ideal) S8x1024 .f32)), View.canon P (ix2 (⟨k, hk⟩ : Fin 8) j) = 0 →
      v.readCov (Val := Elt Ideal) P (Rect.unit (s := S8x1024) ![k, 0] S1x1024.size inb).toLoadRect (ix2 0 j) = (0 : EReal) := fun k hk inb P h =>
    (congrFun (readCov_row (m := 8) (n := 1024) v k hk inb P) (ix2 0 j)).trans h
  unfold rows
  unfold put5
  refine (canon_row (m := 8) (n := 1024) 5 _ _ _ _).trans ?_
  split_ifs with h5
  · obtain rfl := hq 5 (by decide) h5
    refine (row5_apply B _ j).trans (congrArg (· + _) (back 5 (by decide) _ _ ?_))
    unfold put3 put1 put2 put0 put4 put6
    rw [canon_row (m := 8) (n := 1024), if_neg (apart 5 3 (by decide) (by decide)), canon_row (m := 8) (n := 1024), if_neg (apart 5 1 (by decide) (by decide)), canon_row (m := 8) (n := 1024), if_neg (apart 5 2 (by decide) (by decide)), canon_row (m := 8) (n := 1024), if_neg (apart 5 0 (by decide) (by decide)), canon_row (m := 8) (n := 1024), if_neg (apart 5 4 (by decide) (by decide)), canon_row (m := 8) (n := 1024), if_neg (apart 5 6 (by decide) (by decide))]
    exact hc _
  unfold put3
  refine (canon_row (m := 8) (n := 1024) 3 _ _ _ _).trans ?_
  split_ifs with h3
  · obtain rfl := hq 3 (by decide) h3
    refine (row3_apply B _ j).trans (congrArg (· + _) (back 3 (by decide) _ _ ?_))
    unfold put1 put2 put0 put4 put6
    rw [canon_row (m := 8) (n := 1024), if_neg (apart 3 1 (by decide) (by decide)), canon_row (m := 8) (n := 1024), if_neg (apart 3 2 (by decide) (by decide)), canon_row (m := 8) (n := 1024), if_neg (apart 3 0 (by decide) (by decide)), canon_row (m := 8) (n := 1024), if_neg (apart 3 4 (by decide) (by decide)), canon_row (m := 8) (n := 1024), if_neg (apart 3 6 (by decide) (by decide))]
    exact hc _
  unfold put1
  refine (canon_row (m := 8) (n := 1024) 1 _ _ _ _).trans ?_
  split_ifs with h1
  · obtain rfl := hq 1 (by decide) h1
    refine (row1_apply B _ j).trans (congrArg (· + _) (back 1 (by decide) _ _ ?_))
    unfold put2 put0 put4 put6
    rw [canon_row (m := 8) (n := 1024), if_neg (apart 1 2 (by decide) (by decide)), canon_row (m := 8) (n := 1024), if_neg (apart 1 0 (by decide) (by decide)), canon_row (m := 8) (n := 1024), if_neg (apart 1 4 (by decide) (by decide)), canon_row (m := 8) (n := 1024), if_neg (apart 1 6 (by decide) (by decide))]
    exact hc _
  unfold put2
  refine (canon_row (m := 8) (n := 1024) 2 _ _ _ _).trans ?_
  split_ifs with h2
  · obtain rfl := hq 2 (by decide) h2
    refine (row2_apply B _ j).trans (congrArg (· + _) (back 2 (by decide) _ _ ?_))
    unfold put0 put4 put6
    rw [canon_row (m := 8) (n := 1024), if_neg (apart 2 0 (by decide) (by decide)), canon_row (m := 8) (n := 1024), if_neg (apart 2 4 (by decide) (by decide)), canon_row (m := 8) (n := 1024), if_neg (apart 2 6 (by decide) (by decide))]
    exact hc _
  unfold put0
  refine (canon_row (m := 8) (n := 1024) 0 _ _ _ _).trans ?_
  split_ifs with h0
  · obtain rfl := hq 0 (by decide) h0
    refine (row0_apply B _ j).trans (congrArg (· + _) (back 0 (by decide) _ _ ?_))
    unfold put4 put6
    rw [canon_row (m := 8) (n := 1024), if_neg (apart 0 4 (by decide) (by decide)), canon_row (m := 8) (n := 1024), if_neg (apart 0 6 (by decide) (by decide))]
    exact hc _
  unfold put4
  refine (canon_row (m := 8) (n := 1024) 4 _ _ _ _).trans ?_
  split_ifs with h4
  · obtain rfl := hq 4 (by decide) h4
    refine (row4_apply B _ j).trans (congrArg (· + _) (back 4 (by decide) _ _ ?_))
    unfold put6
    rw [canon_row (m := 8) (n := 1024), if_neg (apart 4 6 (by decide) (by decide))]
    exact hc _
  unfold put6
  refine (canon_row (m := 8) (n := 1024) 6 _ _ _ _).trans ?_
  split_ifs with h6
  · obtain rfl := hq 6 (by decide) h6
    refine (row6_apply B _ j).trans (congrArg (· + _) (back 6 (by decide) _ _ ?_))
    exact hc _
  have h7 : 7 ≤ q.val := by
    have := q.isLt
    have e : (ix2 q j 0).val = q.val := rfl
    omega
  exact (hc _).trans ((congrArg (_ + ·) (gains_other B j q.val h7)).trans (add_zero _)).symm

end

theorem halves_out (B : Blk) : View.canon (halves (top B).top (bot B).bot) = yaAll B := by
  rw [top_eq, bot_eq, halves_eq]

theorem read18 (B : Blk) (v : View sig .tc .vmem S256x1024 .f32) (f : v.ty.Contents (Elt Ideal)) : v.read (Elt Ideal) (v.writes (Elt Ideal) f (piece18 (ld B))) = bDy B := by
  rw [View.read_writes_eq_canon v f (piece18 (ld B)) (View.cover_of_tiledL _ S256x1024.size (by sl_kernel_rfl))]
  exact View.canon_unit_zero (Val := Elt Ideal) (e := .f32) (S := S256x1024) hz2 _ (ld B).dDy

theorem read19 (B : Blk) (v : View sig .tc .vmem S256x1024 .f32) (f : v.ty.Contents (Elt Ideal)) : v.read (Elt Ideal) (v.writes (Elt Ideal) f (piece19 (ld B))) = bDx1 B := by
  rw [View.read_writes_eq_canon v f (piece19 (ld B)) (View.cover_of_tiledL _ S256x1024.size (by sl_kernel_rfl))]
  exact View.canon_unit_zero (Val := Elt Ideal) (e := .f32) (S := S256x1024) hz2 _ (ld B).dDx1

theorem read20 (B : Blk) (v : View sig .tc .vmem S256x1024 .bf16) (f : v.ty.Contents (Elt Ideal)) : v.read (Elt Ideal) (v.writes (Elt Ideal) f (piece20 (ld B))) = bH2 B := by
  rw [View.read_writes_eq_canon v f (piece20 (ld B)) (View.cover_of_tiledL _ S256x1024.size (by sl_kernel_rfl))]
  exact View.canon_unit_zero (Val := Elt Ideal) (e := .bf16) (S := S256x1024) hz2 _ (ld B).dH2

theorem read21 (B : Blk) (v : View sig .tc .vmem S256x2816 .bf16) (f : v.ty.Contents (Elt Ideal)) : v.read (Elt Ideal) (v.writes (Elt Ideal) f (piece21 (ld B))) = View.canon (piece21 (ld B)) :=
  View.read_writes_eq_canon v f (piece21 (ld B)) (View.cover_of_tiledL _ S256x1408.size (by sl_kernel_rfl))

theorem read22 (B : Blk) (v : View sig .tc .vmem S256x1024 .bf16) (f : v.ty.Contents (Elt Ideal)) : v.read (Elt Ideal) (v.writes (Elt Ideal) f (piece22 (ld B))) = bDff B := by
  rw [View.read_writes_eq_canon v f (piece22 (ld B)) (View.cover_of_tiledL _ S256x1024.size (by sl_kernel_rfl))]
  exact View.canon_unit_zero (Val := Elt Ideal) (e := .bf16) (S := S256x1024) hz2 _ (ld B).dDff

theorem read23 (B : Blk) (v : View sig .tc .vmem S256x5632 .bf16) (f : v.ty.Contents (Elt Ideal)) : v.read (Elt Ideal) (v.writes (Elt Ideal) f (piece23 (ld B))) = View.canon (piece23 (ld B)) :=
  View.read_writes_eq_canon v f (piece23 (ld B)) (View.cover_of_tiledL _ S256x1408.size (by sl_kernel_rfl))

theorem read24 (B : Blk) (v : View sig .tc .vmem S256x1024 .bf16) (f : v.ty.Contents (Elt Ideal)) : v.read (Elt Ideal) (v.writes (Elt Ideal) f (piece24 (ld B))) = bDmix B := by
  rw [View.read_writes_eq_canon v f (piece24 (ld B)) (View.cover_of_tiledL _ S256x1024.size (by sl_kernel_rfl))]
  exact View.canon_unit_zero (Val := Elt Ideal) (e := .bf16) (S := S256x1024) hz2 _ (ld B).dDmix

theorem read26 (B : Blk) (v : View sig .tc .vmem S256x512 .bf16) (f : v.ty.Contents (Elt Ideal)) : v.read (Elt Ideal) (v.writes (Elt Ideal) f (halves (top B).top (bot B).bot)) = yaAll B :=
  (View.read_writes_eq_canon v f _ (View.cover_of_tiledL _ S128x512.size (by sl_kernel_rfl))).trans (halves_out B)

theorem read25 (B : Blk) (v : View sig .tc .vmem S8x1024 .f32) (f : v.ty.Contents (Elt Ideal)) :
    v.read (Elt Ideal) (v.writes (Elt Ideal) f (rows (ld B) (fun P r => v.readCov (Val := Elt Ideal) P r.toLoadRect) cleared)) = fun y => 0 + gains B (y 0).val (y 1) :=
  (View.read_writes_eq_canon v f _ (View.cover_of_tiledL _ S8x1024.size (by sl_kernel_rfl))).trans (rows_first B v)

theorem leave_first (i : grid0.Coords) (prev : Vec Ideal S8x1024 .f32) (B : Blk) (hc0 : cond0_0 i) : (fun y => 0 + gains B (y 0).val (y 1)) = fun y => start i prev y + gains B (y 0).val (y 1) := by
  rw [start, if_pos hc0]

theorem leave_later (i : grid0.Coords) (prev : Vec Ideal S8x1024 .f32) (B : Blk) (hc0 : ¬cond0_0 i) : (fun y => prev y + gains B (y 0).val (y 1)) = fun y => start i prev y + gains B (y 0).val (y 1) := by
  rw [start, if_neg hc0]

section
variable (c : Dev nD) (i : grid0.Coords)
  (arg1 : Memref sig .tc .vmem S256x1024 .f32) (harg1 : arg1.IsWhole) (arg2 : Memref sig .tc .vmem S256x512 .bf16) (harg2 : arg2.IsWhole) (arg3 : Memref sig .tc .vmem S256x1024 .f32) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole)
  (arg10 : Memref sig .tc .vmem S1024x1024 .bf16) (harg10 : arg10.IsWhole) (arg11 : Memref sig .tc .vmem S1024x5632 .bf16) (harg11 : arg11.IsWhole) (arg12 : Memref sig .tc .vmem S2816x1024 .bf16) (harg12 : arg12.IsWhole)
  (arg13 : Memref sig .tc .vmem S256x512 .f32) (harg13 : arg13.IsWhole) (arg14 : Memref sig .tc .vmem S256x512 .f32) (harg14 : arg14.IsWhole) (arg15 : Memref sig .tc .vmem S4x128x128 .bf16) (harg15 : arg15.IsWhole)
  (arg16 : Memref sig .tc .vmem S128x4 .f32) (harg16 : arg16.IsWhole) (arg17 : Memref sig .tc .vmem S1x512 .f32) (harg17 : arg17.IsWhole) (arg18 : Memref sig .tc .vmem S1x512 .f32) (harg18 : arg18.IsWhole)
  (arg19 : Memref sig .tc .vmem S256x1024 .f32) (harg19 : arg19.IsWhole) (arg20 : Memref sig .tc .vmem S256x1024 .f32) (harg20 : arg20.IsWhole) (arg21 : Memref sig .tc .vmem S256x1024 .bf16) (harg21 : arg21.IsWhole)
  (arg22 : Memref sig .tc .vmem S256x2816 .bf16) (harg22 : arg22.IsWhole) (arg23 : Memref sig .tc .vmem S256x1024 .bf16) (harg23 : arg23.IsWhole) (arg24 : Memref sig .tc .vmem S256x5632 .bf16) (harg24 : arg24.IsWhole)
  (arg25 : Memref sig .tc .vmem S256x1024 .bf16) (harg25 : arg25.IsWhole) (arg26 : Memref sig .tc .vmem S8x1024 .f32) (harg26 : arg26.IsWhole) (arg27 : Memref sig .tc .vmem S256x512 .bf16) (harg27 : arg27.IsWhole)

set_option maxHeartbeats 800000 in
/-- The body at a point: `d` is what the accumulated rows hold before, which the first point clears. -/
theorem point (B : Blk) (prev d : Vec Ideal S8x1024 .f32) (h : cond0_0 i ∨ d = prev) (E : Set ℕ) (K : PUnit → sProp 𝕄) :
    let o := leave (start i prev) B
    iprop(held c arg1 arg2 arg3 arg4 arg5 arg6 arg7 arg8 arg9 arg10 arg11 arg12 arg13 arg14 arg15 arg16 arg17 arg18 B
        ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare d ∗ (∃ d, owns (c : Thread nD τ) arg27 fullShare d)
        ∗ (iprop(held c arg1 arg2 arg3 arg4 arg5 arg6 arg7 arg8 arg9 arg10 arg11 arg12 arg13 arg14 arg15 arg16 arg17 arg18 B
            ∗ owns (c : Thread nD τ) arg19 fullShare o.o18 ∗ owns (c : Thread nD τ) arg20 fullShare o.o19 ∗ owns (c : Thread nD τ) arg21 fullShare o.o20 ∗ owns (c : Thread nD τ) arg22 fullShare o.o21 ∗ owns (c : Thread nD τ) arg23 fullShare o.o22 ∗ owns (c : Thread nD τ) arg24 fullShare o.o23 ∗ owns (c : Thread nD τ) arg25 fullShare o.o24 ∗ owns (c : Thread nD τ) arg26 fullShare o.o25 ∗ owns (c : Thread nD τ) arg27 fullShare o.o26) -∗ K ⟨⟩))
      ⊢ wp frame (wpE (defs₀ (F := Ideal)) Variants.none c none) E
          (cc0_token_local i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  dsimp only [leave]
  by_cases hc0 : cond0_0 i
  · have run := (firstRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 B).2 E K
    rw [first_stores, rawLd_eq, rawTop_eq, rawBot_eq] at run
    dsimp only [stores] at run
    iintro ⟨Hb, H18, H19, H20, H21, H22, H23, H24, H25, H26, Hk⟩
    iapply run
    isplitl [Hb]; · iexact Hb
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexact H26
    iintro ⟨Hb, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩⟩
    iapply Hk
    isplitl [Hb]; · iexact Hb
    isplitl [H18]
    · unfold owns; iexists _; isplitr; swap; · iexact H18
      ipureintro; exact read18 B _ _
    isplitl [H19]
    · unfold owns; iexists _; isplitr; swap; · iexact H19
      ipureintro; exact read19 B _ _
    isplitl [H20]
    · unfold owns; iexists _; isplitr; swap; · iexact H20
      ipureintro; exact read20 B _ _
    isplitl [H21]
    · unfold owns; iexists _; isplitr; swap; · iexact H21
      ipureintro; exact read21 B _ _
    isplitl [H22]
    · unfold owns; iexists _; isplitr; swap; · iexact H22
      ipureintro; exact read22 B _ _
    isplitl [H23]
    · unfold owns; iexists _; isplitr; swap; · iexact H23
      ipureintro; exact read23 B _ _
    isplitl [H24]
    · unfold owns; iexists _; isplitr; swap; · iexact H24
      ipureintro; exact read24 B _ _
    isplitl [H25]
    · unfold owns; iexists _; isplitr; swap; · iexact H25
      ipureintro; exact (read25 B _ _).trans (leave_first i prev B hc0)
    unfold owns; iexists _; isplitr; swap; · iexact H26
    ipureintro; exact read26 B _ _
  · obtain rfl := (h.resolve_left hc0).symm
    have run := (laterRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 B prev).2 E K
    rw [later_stores, rawLd_eq, rawTop_eq, rawBot_eq] at run
    dsimp only [stores] at run
    iintro ⟨Hb, H18, H19, H20, H21, H22, H23, H24, H25, H26, Hk⟩
    iapply run
    isplitl [Hb]; · iexact Hb
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iintro ⟨Hb, ⟨%f18, H18⟩, ⟨%f19, H19⟩, ⟨%f20, H20⟩, ⟨%f21, H21⟩, ⟨%f22, H22⟩, ⟨%f23, H23⟩, ⟨%f24, H24⟩, H25, ⟨%f26, H26⟩⟩
    iapply Hk
    isplitl [Hb]; · iexact Hb
    isplitl [H18]
    · unfold owns; iexists _; isplitr; swap; · iexact H18
      ipureintro; exact read18 B _ _
    isplitl [H19]
    · unfold owns; iexists _; isplitr; swap; · iexact H19
      ipureintro; exact read19 B _ _
    isplitl [H20]
    · unfold owns; iexists _; isplitr; swap; · iexact H20
      ipureintro; exact read20 B _ _
    isplitl [H21]
    · unfold owns; iexists _; isplitr; swap; · iexact H21
      ipureintro; exact read21 B _ _
    isplitl [H22]
    · unfold owns; iexists _; isplitr; swap; · iexact H22
      ipureintro; exact read22 B _ _
    isplitl [H23]
    · unfold owns; iexists _; isplitr; swap; · iexact H23
      ipureintro; exact read23 B _ _
    isplitl [H24]
    · unfold owns; iexists _; isplitr; swap; · iexact H24
      ipureintro; exact read24 B _ _
    isplitl [H25]
    · unfold owns; iexists _; isplitr; swap; · iexact H25
      ipureintro; exact (rows_later B _ _ _ (harg26.read_unread _)).trans (leave_later i prev B hc0)
    unfold owns; iexists _; isplitr; swap; · iexact H26
    ipureintro; exact read26 B _ _

end

end Cert.Proof.Token

end
-- ==== Proof.Token.Arrays.lean ====
module

public import Idealize.ShloMosaic.Lib.StableHlo.ReadAt
public import proofs.«01_k».proof.Proof.Gen.TokenIdeal.Frame.Runs
public import proofs.«01_k».proof.Proof.Gmlp.Kernel
public import proofs.«01_k».proof.Proof.Token.Unit
public import proofs.«01_k».proof.Proof.Token.Reference

/-! What the input windows hold at a point, from the arguments. -/

@[expose] public section

set_option maxRecDepth 16384

noncomputable section

namespace Cert.Proof.Token

open Cert.TokenIdeal Cert.TokenIdeal.Gen Idealize.ShloMosaic Idealize.ShloMosaic.TcCoe Idealize.SL.Sem Idealize.ShloMosaic.Pointwise
open Cert.Proof.Gmlp (select_chunk zero_word)

variable (m : (ℓ : Loc nD τ sig) → Buf (Elt Ideal) ℓ) (c : Dev nD)

def a0 : Vec Ideal S1x8192x1024 .f32 := m ((c : Thread nD τ).loc main_arg0)
def a1 : Vec Ideal S1x8192x512 .f32 := m ((c : Thread nD τ).loc main_arg1)
def a2 : Vec Ideal S1x8192x1024 .f32 := m ((c : Thread nD τ).loc main_arg2)
def a3 : Vec Ideal S1x6144 .f32 := m ((c : Thread nD τ).loc main_arg3)
def a4 : Vec Ideal S1x1024 .f32 := m ((c : Thread nD τ).loc main_arg4)
def a5 : Vec Ideal S1024 .f32 := m ((c : Thread nD τ).loc main_arg5)
def a6 : Vec Ideal S1x1024x1024 .f32 := m ((c : Thread nD τ).loc main_arg6)
def a7 : Vec Ideal S1x1024x5632 .f32 := m ((c : Thread nD τ).loc main_arg7)
def a8 : Vec Ideal S1x2816x1024 .f32 := m ((c : Thread nD τ).loc main_arg8)
def a9 : Vec Ideal S1x8192x3072 .f32 := m ((c : Thread nD τ).loc main_arg9)
def a10 : Vec Ideal S1x4x128x128 .f32 := m ((c : Thread nD τ).loc main_arg10)
def a11 : Vec Ideal S1x4x128 .f32 := m ((c : Thread nD τ).loc main_arg11)
def a12 : Vec Ideal S1x512 .f32 := m ((c : Thread nD τ).loc main_arg12)
def a13 : Vec Ideal S1x512 .f32 := m ((c : Thread nD τ).loc main_arg13)

/-- The parameters and a token's rows, from the arguments. -/
def kPar : Par := Reference.par (a3 m c) (a4 m c) (a5 m c) (a6 m c) (a7 m c) (a8 m c)
def kTok (R : Fin 8192) : Tok :=
  Reference.tok (a0 m c) (a1 m c) (a2 m c) (a9 m c) (a10 m c) (a11 m c) (a12 m c) (a13 m c) R

def pt (t : Fin 32) : Fin cfg0.N := ⟨t.val, t.isLt⟩
/-- Token `p` of point `t`'s block. -/
def tokAt (t : Fin 32) (p : Fin 256) : Fin 8192 := ⟨256 * t.val + p.val, by omega⟩

/-! The host's arrays. -/

theorem V15_apply (R : Fin 8192) (j : Fin 1024) : V m c main_v15 (ix2 R j) = a0 m c (ix3 0 R j) := by
  unfold_abbrev_sides
  simp only [List.flatten_cons, List.flatten_nil, List.append_nil, List.cons_append, List.nil_append]
  after_reads_at
  rfl

theorem V14_apply (R : Fin 8192) (j : Fin 512) : V m c main_v14 (ix2 R (hiRow j)) = a1 m c (ix3 0 R j) := by
  unfold_abbrev_sides
  simp only [List.flatten_cons, List.flatten_nil, List.append_nil, List.cons_append, List.nil_append]
  after_reads_at
  have h : ¬ (hiRow j).val < 512 := by show ¬ 512 + j.val < 512; omega
  have e : (⟨(hiRow j).val - 512, by have := (hiRow j).isLt; omega⟩ : Fin 512) = j := Fin.ext (show 512 + j.val - 512 = j.val by omega)
  refine (dif_neg h).trans ?_
  exact congrArg (fun q : Fin 512 => a1 m c (ix3 0 R q)) e

theorem V16_apply (R : Fin 8192) (j : Fin 1024) : V m c main_v16 (ix2 R j) = a2 m c (ix3 0 R j) := by
  unfold_abbrev_sides
  simp only [List.flatten_cons, List.flatten_nil, List.append_nil, List.cons_append, List.nil_append]
  after_reads_at
  rfl

theorem V17_apply (j : Fin 1024) : V m c main_v17 (ix2 0 j) = a5 m c (ix1 j) := by
  unfold_abbrev_sides
  simp only [List.flatten_cons, List.flatten_nil, List.append_nil, List.cons_append, List.nil_append]
  after_reads_at
  rfl

theorem V19_apply (k j : Fin 1024) : V m c main_v19 (ix2 k j) = a6 m c (ix3 0 k j) := by
  unfold_abbrev_sides
  simp only [List.flatten_cons, List.flatten_nil, List.append_nil, List.cons_append, List.nil_append]
  after_reads_at
  rfl

theorem V21_apply (k : Fin 1024) (f : Fin 5632) : V m c main_v21 (ix2 k f) = a7 m c (ix3 0 k f) := by
  unfold_abbrev_sides
  simp only [List.flatten_cons, List.flatten_nil, List.append_nil, List.cons_append, List.nil_append]
  after_reads_at
  rfl

theorem V23_apply (f : Fin 2816) (j : Fin 1024) : V m c main_v23 (ix2 f j) = a8 m c (ix3 0 f j) := by
  unfold_abbrev_sides
  simp only [List.flatten_cons, List.flatten_nil, List.append_nil, List.cons_append, List.nil_append]
  after_reads_at
  rfl

theorem V24_apply (R : Fin 8192) (k : Fin 3072) : V m c main_v24 (ix2 R k) = a9 m c (ix3 0 R k) := by
  unfold_abbrev_sides
  simp only [List.flatten_cons, List.flatten_nil, List.append_nil, List.cons_append, List.nil_append]
  after_reads_at
  rfl

theorem V8_apply (h : Fin 4) (i j : Fin 128) : V m c main_v8 (ix3 h i j) = if j.val / 64 ≤ i.val / 64 then a10 m c (ix4 0 h i j) else 0 := by
  unfold_abbrev_sides
  simp only [List.flatten_cons, List.flatten_nil, List.append_nil, List.cons_append, List.nil_append]
  after_reads_at
  refine (select_chunk i j (a10 m c (ix4 0 h i j)) (Ideal.ofBits .f32 0#32)).trans ?_
  rw [zero_word]

theorem V10_apply (i : Fin 128) (h : Fin 4) : V m c main_v10 (ix2 i h) = a11 m c (ix3 0 h i) := by
  unfold_abbrev_sides
  simp only [List.flatten_cons, List.flatten_nil, List.append_nil, List.cons_append, List.nil_append]
  after_reads_at
  rfl

/-! Where a window's block lies. -/

theorem ix2_ext {a b : ℕ} (y : (⟨2, ![a, b]⟩ : Shape).Idx) (r : Fin a) (j : Fin b) (h0 : (y 0).val = r.val) (h1 : (y 1).val = j.val) : y = ix2 r j :=
  funext fun d => Fin.ext (by
    match d with
    | ⟨0, _⟩ => exact h0
    | ⟨1, _⟩ => exact h1)

theorem ix3_ext {a b d : ℕ} (y : (⟨3, ![a, b, d]⟩ : Shape).Idx) (q : Fin a) (r : Fin b) (j : Fin d) (h0 : (y 0).val = q.val) (h1 : (y 1).val = r.val)
    (h2 : (y 2).val = j.val) : y = ix3 q r j :=
  funext fun d => Fin.ext (by
    match d with
    | ⟨0, _⟩ => exact h0
    | ⟨1, _⟩ => exact h1
    | ⟨2, _⟩ => exact h2)

/-- The `k`th block along an axis cut into blocks of `n`. -/
theorem off {i k n r q : ℕ} (h : i = k) (hq : q = n * k + r) : i * n + 1 * r = q := by
  subst h; rw [hq, Nat.mul_comm, Nat.one_mul]
theorem off0 {i n r : ℕ} (h : i = 0) : i * n + 1 * r = r := off h (by omega)

theorem tokens_at : ∀ t : Fin grid0.N, (win0_0.index t 0 = t.val ∧ win0_0.index t 1 = 0) ∧ (win0_1.index t 0 = t.val ∧ win0_1.index t 1 = 1)
    ∧ (win0_2.index t 0 = t.val ∧ win0_2.index t 1 = 0) ∧ (win0_12.index t 0 = t.val ∧ win0_12.index t 1 = 0)
    ∧ (win0_13.index t 0 = t.val ∧ win0_13.index t 1 = 1) := by decide +kernel

theorem rows_at : ∀ t : Fin grid0.N, (win0_3.index t 0 = 0 ∧ win0_3.index t 1 = 2) ∧ (win0_4.index t 0 = 0 ∧ win0_4.index t 1 = 0)
    ∧ (win0_5.index t 0 = 0 ∧ win0_5.index t 1 = 4) ∧ (win0_6.index t 0 = 0 ∧ win0_6.index t 1 = 3)
    ∧ (win0_7.index t 0 = 0 ∧ win0_7.index t 1 = 5) ∧ (win0_8.index t 0 = 0 ∧ win0_8.index t 1 = 0) := by decide +kernel

theorem whole_at : ∀ t : Fin grid0.N, (win0_9.index t 0 = 0 ∧ win0_9.index t 1 = 0) ∧ (win0_10.index t 0 = 0 ∧ win0_10.index t 1 = 0)
    ∧ (win0_11.index t 0 = 0 ∧ win0_11.index t 1 = 0) ∧ (win0_14.index t 0 = 0 ∧ win0_14.index t 1 = 0 ∧ win0_14.index t 2 = 0)
    ∧ (win0_15.index t 0 = 0 ∧ win0_15.index t 1 = 0) ∧ (win0_16.index t 0 = 0 ∧ win0_16.index t 1 = 0)
    ∧ (win0_17.index t 0 = 0 ∧ win0_17.index t 1 = 0) := by decide +kernel

variable (t : Fin 32)

theorem emb0 (p : Fin 256) (j : Fin 1024) : ((cfg0.win 0).blk (pt t)).view.emb (ix2 p j) = (ix2 (tokAt t p) j : S8192x1024.Idx) :=
  ix2_ext _ _ _ (off (tokens_at (pt t)).1.1 rfl) (off0 (tokens_at (pt t)).1.2)
theorem emb1 (p : Fin 256) (j : Fin 512) : ((cfg0.win 1).blk (pt t)).view.emb (ix2 p j) = (ix2 (tokAt t p) (hiRow j) : S8192x1024.Idx) :=
  ix2_ext _ _ _ (off (tokens_at (pt t)).2.1.1 rfl) (off (tokens_at (pt t)).2.1.2 rfl)
theorem emb2 (p : Fin 256) (j : Fin 1024) : ((cfg0.win 2).blk (pt t)).view.emb (ix2 p j) = (ix2 (tokAt t p) j : S8192x1024.Idx) :=
  ix2_ext _ _ _ (off (tokens_at (pt t)).2.2.1.1 rfl) (off0 (tokens_at (pt t)).2.2.1.2)
theorem emb12 (p : Fin 256) (j : Fin 512) : ((cfg0.win 12).blk (pt t)).view.emb (ix2 p j) = (ix2 (tokAt t p) (Gmlp.loCol j) : S8192x3072.Idx) :=
  ix2_ext _ _ _ (off (tokens_at (pt t)).2.2.2.1.1 rfl) (off0 (tokens_at (pt t)).2.2.2.1.2)
theorem emb13 (p : Fin 256) (j : Fin 512) : ((cfg0.win 13).blk (pt t)).view.emb (ix2 p j) = (ix2 (tokAt t p) (Gmlp.hiCol j) : S8192x3072.Idx) :=
  ix2_ext _ _ _ (off (tokens_at (pt t)).2.2.2.2.1 rfl) (off (tokens_at (pt t)).2.2.2.2.2 rfl)

theorem emb3 (j : Fin 1024) : ((cfg0.win 3).blk (pt t)).view.emb (ix2 (0 : Fin 1) j) = (ix2 (0 : Fin 1) (⟨2048 + j.val, by omega⟩ : Fin 6144) : S1x6144.Idx) :=
  ix2_ext _ _ _ (off0 (rows_at (pt t)).1.1) (off (rows_at (pt t)).1.2 rfl)
theorem emb4 (j : Fin 1024) : ((cfg0.win 4).blk (pt t)).view.emb (ix2 (0 : Fin 1) j) = (ix2 (0 : Fin 1) j : S1x1024.Idx) :=
  ix2_ext _ _ _ (off0 (rows_at (pt t)).2.1.1) (off0 (rows_at (pt t)).2.1.2)
theorem emb5 (j : Fin 1024) : ((cfg0.win 5).blk (pt t)).view.emb (ix2 (0 : Fin 1) j) = (ix2 (0 : Fin 1) (⟨4096 + j.val, by omega⟩ : Fin 6144) : S1x6144.Idx) :=
  ix2_ext _ _ _ (off0 (rows_at (pt t)).2.2.1.1) (off (rows_at (pt t)).2.2.1.2 rfl)
theorem emb6 (j : Fin 1024) : ((cfg0.win 6).blk (pt t)).view.emb (ix2 (0 : Fin 1) j) = (ix2 (0 : Fin 1) (⟨3072 + j.val, by omega⟩ : Fin 6144) : S1x6144.Idx) :=
  ix2_ext _ _ _ (off0 (rows_at (pt t)).2.2.2.1.1) (off (rows_at (pt t)).2.2.2.1.2 rfl)
theorem emb7 (j : Fin 1024) : ((cfg0.win 7).blk (pt t)).view.emb (ix2 (0 : Fin 1) j) = (ix2 (0 : Fin 1) (⟨5120 + j.val, by omega⟩ : Fin 6144) : S1x6144.Idx) :=
  ix2_ext _ _ _ (off0 (rows_at (pt t)).2.2.2.2.1.1) (off (rows_at (pt t)).2.2.2.2.1.2 rfl)
theorem emb8 (j : Fin 1024) : ((cfg0.win 8).blk (pt t)).view.emb (ix2 (0 : Fin 1) j) = (ix2 (0 : Fin 1) j : S1x1024.Idx) :=
  ix2_ext _ _ _ (off0 (rows_at (pt t)).2.2.2.2.2.1) (off0 (rows_at (pt t)).2.2.2.2.2.2)

theorem emb9 (k j : Fin 1024) : ((cfg0.win 9).blk (pt t)).view.emb (ix2 k j) = (ix2 k j : S1024x1024.Idx) :=
  ix2_ext _ _ _ (off0 (whole_at (pt t)).1.1) (off0 (whole_at (pt t)).1.2)
theorem emb10 (k : Fin 1024) (f : Fin 5632) : ((cfg0.win 10).blk (pt t)).view.emb (ix2 k f) = (ix2 k f : S1024x5632.Idx) :=
  ix2_ext _ _ _ (off0 (whole_at (pt t)).2.1.1) (off0 (whole_at (pt t)).2.1.2)
theorem emb11 (f : Fin 2816) (j : Fin 1024) : ((cfg0.win 11).blk (pt t)).view.emb (ix2 f j) = (ix2 f j : S2816x1024.Idx) :=
  ix2_ext _ _ _ (off0 (whole_at (pt t)).2.2.1.1) (off0 (whole_at (pt t)).2.2.1.2)
theorem emb14 (h : Fin 4) (i j : Fin 128) : ((cfg0.win 14).blk (pt t)).view.emb (ix3 h i j) = (ix3 h i j : S4x128x128.Idx) :=
  ix3_ext _ _ _ _ (off0 (whole_at (pt t)).2.2.2.1.1) (off0 (whole_at (pt t)).2.2.2.1.2.1) (off0 (whole_at (pt t)).2.2.2.1.2.2)
theorem emb15 (i : Fin 128) (h : Fin 4) : ((cfg0.win 15).blk (pt t)).view.emb (ix2 i h) = (ix2 i h : S128x4.Idx) :=
  ix2_ext _ _ _ (off0 (whole_at (pt t)).2.2.2.2.1.1) (off0 (whole_at (pt t)).2.2.2.2.1.2)
theorem emb16 (j : Fin 512) : ((cfg0.win 16).blk (pt t)).view.emb (ix2 (0 : Fin 1) j) = (ix2 (0 : Fin 1) j : S1x512.Idx) :=
  ix2_ext _ _ _ (off0 (whole_at (pt t)).2.2.2.2.2.1.1) (off0 (whole_at (pt t)).2.2.2.2.2.1.2)
theorem emb17 (j : Fin 512) : ((cfg0.win 17).blk (pt t)).view.emb (ix2 (0 : Fin 1) j) = (ix2 (0 : Fin 1) j : S1x512.Idx) :=
  ix2_ext _ _ _ (off0 (whole_at (pt t)).2.2.2.2.2.2.1) (off0 (whole_at (pt t)).2.2.2.2.2.2.2)

/-! The blocks at a point. -/

def in0 (t : Fin cfg0.N) : Vec Ideal S256x1024 .f32 := iblk m c 0 t
def in1 (t : Fin cfg0.N) : Vec Ideal S256x512 .bf16 := iblk m c 1 t
def in2 (t : Fin cfg0.N) : Vec Ideal S256x1024 .f32 := iblk m c 2 t
def in3 (t : Fin cfg0.N) : Vec Ideal S1x1024 .f32 := iblk m c 3 t
def in4 (t : Fin cfg0.N) : Vec Ideal S1x1024 .f32 := iblk m c 4 t
def in5 (t : Fin cfg0.N) : Vec Ideal S1x1024 .f32 := iblk m c 5 t
def in6 (t : Fin cfg0.N) : Vec Ideal S1x1024 .f32 := iblk m c 6 t
def in7 (t : Fin cfg0.N) : Vec Ideal S1x1024 .f32 := iblk m c 7 t
def in8 (t : Fin cfg0.N) : Vec Ideal S1x1024 .f32 := iblk m c 8 t
def in9 (t : Fin cfg0.N) : Vec Ideal S1024x1024 .bf16 := iblk m c 9 t
def in10 (t : Fin cfg0.N) : Vec Ideal S1024x5632 .bf16 := iblk m c 10 t
def in11 (t : Fin cfg0.N) : Vec Ideal S2816x1024 .bf16 := iblk m c 11 t
def in12 (t : Fin cfg0.N) : Vec Ideal S256x512 .f32 := iblk m c 12 t
def in13 (t : Fin cfg0.N) : Vec Ideal S256x512 .f32 := iblk m c 13 t
def in14 (t : Fin cfg0.N) : Vec Ideal S4x128x128 .bf16 := iblk m c 14 t
def in15 (t : Fin cfg0.N) : Vec Ideal S128x4 .f32 := iblk m c 15 t
def in16 (t : Fin cfg0.N) : Vec Ideal S1x512 .f32 := iblk m c 16 t
def in17 (t : Fin cfg0.N) : Vec Ideal S1x512 .f32 := iblk m c 17 t

theorem x0_at (p : Fin 256) (j : Fin 1024) : in0 m c (pt t) (ix2 p j) = a0 m c (ix3 0 (tokAt t p) j) :=
  (congrArg (V m c main_v15) (emb0 t p j)).trans (V15_apply m c _ _)
theorem x1_at (p : Fin 256) (j : Fin 512) : in1 m c (pt t) (ix2 p j) = a1 m c (ix3 0 (tokAt t p) j) :=
  (congrArg (V m c main_v14) (emb1 t p j)).trans (V14_apply m c _ _)
theorem x2_at (p : Fin 256) (j : Fin 1024) : in2 m c (pt t) (ix2 p j) = a2 m c (ix3 0 (tokAt t p) j) :=
  (congrArg (V m c main_v16) (emb2 t p j)).trans (V16_apply m c _ _)
theorem x3_at (j : Fin 1024) : in3 m c (pt t) (ix2 0 j) = a3 m c (ix2 0 (⟨2048 + j.val, by omega⟩ : Fin 6144)) :=
  (congrArg (V m c main_arg3) (emb3 t j)).trans (congrFun (V_main_arg3 m c) _)
theorem x4_at (j : Fin 1024) : in4 m c (pt t) (ix2 0 j) = a4 m c (ix2 0 j) :=
  (congrArg (V m c main_arg4) (emb4 t j)).trans (congrFun (V_main_arg4 m c) _)
theorem x5_at (j : Fin 1024) : in5 m c (pt t) (ix2 0 j) = a3 m c (ix2 0 (⟨4096 + j.val, by omega⟩ : Fin 6144)) :=
  (congrArg (V m c main_arg3) (emb5 t j)).trans (congrFun (V_main_arg3 m c) _)
theorem x6_at (j : Fin 1024) : in6 m c (pt t) (ix2 0 j) = a3 m c (ix2 0 (⟨3072 + j.val, by omega⟩ : Fin 6144)) :=
  (congrArg (V m c main_arg3) (emb6 t j)).trans (congrFun (V_main_arg3 m c) _)
theorem x7_at (j : Fin 1024) : in7 m c (pt t) (ix2 0 j) = a3 m c (ix2 0 (⟨5120 + j.val, by omega⟩ : Fin 6144)) :=
  (congrArg (V m c main_arg3) (emb7 t j)).trans (congrFun (V_main_arg3 m c) _)
theorem x8_at (j : Fin 1024) : in8 m c (pt t) (ix2 0 j) = a5 m c (ix1 j) :=
  (congrArg (V m c main_v17) (emb8 t j)).trans (V17_apply m c j)
theorem x9_at (k j : Fin 1024) : in9 m c (pt t) (ix2 k j) = a6 m c (ix3 0 k j) :=
  (congrArg (V m c main_v19) (emb9 t k j)).trans (V19_apply m c k j)
theorem x10_at (k : Fin 1024) (f : Fin 5632) : in10 m c (pt t) (ix2 k f) = a7 m c (ix3 0 k f) :=
  (congrArg (V m c main_v21) (emb10 t k f)).trans (V21_apply m c k f)
theorem x11_at (f : Fin 2816) (j : Fin 1024) : in11 m c (pt t) (ix2 f j) = a8 m c (ix3 0 f j) :=
  (congrArg (V m c main_v23) (emb11 t f j)).trans (V23_apply m c f j)
theorem x12_at (p : Fin 256) (k : Fin 512) : in12 m c (pt t) (ix2 p k) = a9 m c (ix3 0 (tokAt t p) (Gmlp.loCol k)) :=
  (congrArg (V m c main_v24) (emb12 t p k)).trans (V24_apply m c _ _)
theorem x13_at (p : Fin 256) (k : Fin 512) : in13 m c (pt t) (ix2 p k) = a9 m c (ix3 0 (tokAt t p) (Gmlp.hiCol k)) :=
  (congrArg (V m c main_v24) (emb13 t p k)).trans (V24_apply m c _ _)
theorem x14_at (h : Fin 4) (i x : Fin 128) : in14 m c (pt t) (ix3 h i x) = if x.val / 64 ≤ i.val / 64 then a10 m c (ix4 0 h i x) else 0 :=
  (congrArg (V m c main_v8) (emb14 t h i x)).trans (V8_apply m c h i x)
theorem x15_at (i : Fin 128) (h : Fin 4) : in15 m c (pt t) (ix2 i h) = a11 m c (ix3 0 h i) :=
  (congrArg (V m c main_v10) (emb15 t i h)).trans (V10_apply m c i h)
theorem x16_at (k : Fin 512) : in16 m c (pt t) (ix2 0 k) = a12 m c (ix2 0 k) :=
  (congrArg (V m c main_arg12) (emb16 t k)).trans (congrFun (V_main_arg12 m c) _)
theorem x17_at (k : Fin 512) : in17 m c (pt t) (ix2 0 k) = a13 m c (ix2 0 k) :=
  (congrArg (V m c main_arg13) (emb17 t k)).trans (congrFun (V_main_arg13 m c) _)

def blkAt (t : Fin cfg0.N) : Blk :=
  ⟨in0 m c t, in1 m c t, in2 m c t, in3 m c t, in4 m c t, in5 m c t, in6 m c t, in7 m c t, in8 m c t, in9 m c t,
    in10 m c t, in11 m c t, in12 m c t, in13 m c t, in14 m c t, in15 m c t, in16 m c t, in17 m c t⟩

theorem Par.ext_of {P Q : Par} (h1 : P.g1 = Q.g1) (h2 : P.w2 = Q.w2) (h3 : P.sc2 = Q.sc2) (h4 : P.sh2 = Q.sh2) (h5 : P.g2 = Q.g2) (h6 : P.fw = Q.fw)
    (h7 : P.wo = Q.wo) (h8 : P.wi = Q.wi) (h9 : P.wd = Q.wd) : P = Q := by
  cases P; cases Q
  congr

theorem Tok.ext_of {T U : Tok} (h1 : T.x = U.x) (h2 : T.ya = U.ya) (h3 : T.yb = U.yb) (h4 : T.t = U.t) : T = U := by
  cases T; cases U
  congr

/-! From here on the blocks are read only through the lemmas above. -/

attribute [local irreducible] in0 in1 in2 in3 in4 in5 in6 in7 in8 in9 in10 in11 in12 in13 in14 in15 in16 in17

theorem par_at : bPar (blkAt m c (pt t)) = kPar m c :=
  Par.ext_of (funext fun j => x3_at m c t j) (funext fun j => x4_at m c t j) (funext fun j => x5_at m c t j) (funext fun j => x6_at m c t j)
    (funext fun j => x7_at m c t j) (funext fun j => x8_at m c t j) (funext fun k => funext fun j => x9_at m c t k j)
    (funext fun k => funext fun f => x10_at m c t k f) (funext fun f => funext fun j => x11_at m c t f j)

/-- A token's place in its block of 128 positions. -/
theorem tokAt_pos (s : Fin 2) (r x : Fin 128) : Gmlp.rowAt (Reference.block (tokAt t (pos s r))) x = tokAt t (pos s x) :=
  Fin.ext (by
    show 128 * ((256 * t.val + (128 * s.val + r.val)) / 128) + x.val = 256 * t.val + (128 * s.val + x.val)
    omega)
theorem row_pos (s : Fin 2) (r : Fin 128) : Reference.row (tokAt t (pos s r)) = r :=
  Fin.ext (by
    show (256 * t.val + (128 * s.val + r.val)) % 128 = r.val
    omega)

theorem unit_congr {u u' v v' : Fin 128 → Fin 512 → EReal} {ws ws' : Fin 4 → Fin 128 → Fin 128 → EReal} {bs bs' : Fin 4 → Fin 128 → EReal}
    {g g' b b' : Fin 512 → EReal} (hu : ∀ x k, u x k = u' x k) (hv : ∀ x k, v x k = v' x k) (hw : ∀ h i x, ws h i x = ws' h i x)
    (hb : ∀ h i, bs h i = bs' h i) (hg : ∀ k, g k = g' k) (hs : ∀ k, b k = b' k) (r : Fin 128) (j : Fin 512) :
    unit u v ws bs g b r j = unit u' v' ws' bs' g' b' r j := by
  obtain rfl : u = u' := funext fun x => funext (hu x)
  obtain rfl : v = v' := funext fun x => funext (hv x)
  obtain rfl : ws = ws' := funext fun h => funext fun i => funext (hw h i)
  obtain rfl : bs = bs' := funext fun h => funext (hb h)
  obtain rfl : g = g' := funext hg
  obtain rfl : b = b' := funext hs
  rfl

theorem ya_at (p : Fin 256) (j : Fin 512) : yaAll (blkAt m c (pt t)) (ix2 p j) = (kTok m c (tokAt t p)).ya j := by
  obtain ⟨s, r, rfl⟩ : ∃ (s : Fin 2) (r : Fin 128), p = pos s r :=
    ⟨⟨p.val / 128, by omega⟩, ⟨p.val % 128, by omega⟩, Fin.ext (by show p.val = 128 * (p.val / 128) + p.val % 128; omega)⟩
  refine (ya_apply (blkAt m c (pt t)) r j s).trans ?_
  show _ = Reference.ya (a9 m c) (a10 m c) (a11 m c) (a12 m c) (a13 m c) (tokAt t (pos s r)) j
  unfold Reference.ya
  rw [row_pos]
  refine (unit_congr (fun x k => ?_) (fun x k => ?_) (fun h i x => ?_) (fun h i => ?_) (fun k => ?_) (fun k => ?_) r j)
  · exact (x12_at m c t (pos s x) k).trans (congrArg (fun R => a9 m c (ix3 0 R (Gmlp.loCol k))) (tokAt_pos t s r x).symm)
  · exact (x13_at m c t (pos s x) k).trans (congrArg (fun R => a9 m c (ix3 0 R (Gmlp.hiCol k))) (tokAt_pos t s r x).symm)
  · exact x14_at m c t h i x
  · exact x15_at m c t i h
  · exact x16_at m c t k
  · exact x17_at m c t k

theorem tok_at (p : Fin 256) : bTok (blkAt m c (pt t)) p = kTok m c (tokAt t p) :=
  Tok.ext_of (funext fun j => x0_at m c t p j) (funext fun j => ya_at m c t p j) (funext fun j => x1_at m c t p j) (funext fun j => x2_at m c t p j)

end Cert.Proof.Token

end
-- ==== Proof.Token.Frame.lean ====
module

public import proofs.«01_k».proof.Proof.Token.Outputs
public import proofs.«01_k».proof.Proof.Token.Arrays
public import Idealize.ShloMosaic.Lib.Claim

/-! The whole call: it ends, the arguments are unchanged, and each result is what the points leave, block by block. -/

@[expose] public section

set_option maxRecDepth 16384

noncomputable section

namespace Cert.Proof.Token

open Cert.TokenIdeal Cert.TokenIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the point leaves, from its blocks and the accumulated rows before it. -/
def outOf (c : Dev nD) (t : Fin cfg0.N) (prev : Vec Ideal S8x1024 .f32) : Outs :=
  leave (start (grid0.coords t) prev) (blkAt m c t)

theorem outOf_spec (c : Dev nD) (t : Fin cfg0.N) (prev d : Vec Ideal S8x1024 .f32) (h : cond0_0 (grid0.coords t) ∨ d = prev) (E : Set ℕ) (K : PUnit → sProp 𝕄) :
    let o := outOf m c t prev
    iprop(held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (blkAt m c t)
        ∗ (∃ d, owns (c : Thread nD τ) (ms0_18 t) fullShare d) ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ (∃ d, owns (c : Thread nD τ) (ms0_24 t) fullShare d) ∗ owns (c : Thread nD τ) (ms0_25 t) fullShare d ∗ (∃ d, owns (c : Thread nD τ) (ms0_26 t) fullShare d)
        ∗ (iprop(held c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (blkAt m c t)
            ∗ owns (c : Thread nD τ) (ms0_18 t) fullShare o.o18 ∗ owns (c : Thread nD τ) (ms0_19 t) fullShare o.o19 ∗ owns (c : Thread nD τ) (ms0_20 t) fullShare o.o20 ∗ owns (c : Thread nD τ) (ms0_21 t) fullShare o.o21 ∗ owns (c : Thread nD τ) (ms0_22 t) fullShare o.o22 ∗ owns (c : Thread nD τ) (ms0_23 t) fullShare o.o23 ∗ owns (c : Thread nD τ) (ms0_24 t) fullShare o.o24 ∗ owns (c : Thread nD τ) (ms0_25 t) fullShare o.o25 ∗ owns (c : Thread nD τ) (ms0_26 t) fullShare o.o26) -∗ K ⟨⟩))
      ⊢ wp frame (wpE (defs₀ (F := Ideal)) Variants.none c none) E (bodyAt0 t) K :=
  point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (blkAt m c t) prev d h E K

/-- Point after point, the accumulated rows carried. -/
def outsAt (c : Dev nD) : (n : ℕ) → n < cfg0.N → Outs
  | 0, hn => outOf m c ⟨0, hn⟩ (fun _ => 0)
  | n + 1, hn => outOf m c ⟨n + 1, hn⟩ (outsAt c n (Nat.lt_of_succ_lt hn)).o25

/-- The accumulated rows before a point. -/
def prevAt (c : Dev nD) : (n : ℕ) → n < cfg0.N → Vec Ideal S8x1024 .f32
  | 0, _ => fun _ => 0
  | n + 1, hn => (outsAt m c n (Nat.lt_of_succ_lt hn)).o25

theorem outsAt_eq (c : Dev nD) (t : Fin cfg0.N) : outsAt m c t.val t.isLt = outOf m c t (prevAt m c t.val t.isLt) := by
  obtain ⟨n, hn⟩ := t
  cases n <;> rfl

/-- The pipeline's buffers after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).o18
    | ⟨19, _⟩ => (outsAt m c t.val t.isLt).o19
    | ⟨20, _⟩ => (outsAt m c t.val t.isLt).o20
    | ⟨21, _⟩ => (outsAt m c t.val t.isLt).o21
    | ⟨22, _⟩ => (outsAt m c t.val t.isLt).o22
    | ⟨23, _⟩ => (outsAt m c t.val t.isLt).o23
    | ⟨24, _⟩ => (outsAt m c t.val t.isLt).o24
    | ⟨25, _⟩ => (outsAt m c t.val t.isLt).o25
    | ⟨26, _⟩ => (outsAt m c t.val t.isLt).o26
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = (outsAt m c t.val t.isLt).o18 := by dsimp only [dats]
theorem after_19 (c : Dev nD) (t : Fin cfg0.N) : (dats m 0 c).after 19 t = (outsAt m c t.val t.isLt).o19 := by dsimp only [dats]
theorem after_20 (c : Dev nD) (t : Fin cfg0.N) : (dats m 0 c).after 20 t = (outsAt m c t.val t.isLt).o20 := by dsimp only [dats]
theorem after_21 (c : Dev nD) (t : Fin cfg0.N) : (dats m 0 c).after 21 t = (outsAt m c t.val t.isLt).o21 := by dsimp only [dats]
theorem after_22 (c : Dev nD) (t : Fin cfg0.N) : (dats m 0 c).after 22 t = (outsAt m c t.val t.isLt).o22 := by dsimp only [dats]
theorem after_23 (c : Dev nD) (t : Fin cfg0.N) : (dats m 0 c).after 23 t = (outsAt m c t.val t.isLt).o23 := by dsimp only [dats]
theorem after_24 (c : Dev nD) (t : Fin cfg0.N) : (dats m 0 c).after 24 t = (outsAt m c t.val t.isLt).o24 := by dsimp only [dats]
theorem after_25 (c : Dev nD) (t : Fin cfg0.N) : (dats m 0 c).after 25 t = (outsAt m c t.val t.isLt).o25 := by dsimp only [dats]
theorem after_26 (c : Dev nD) (t : Fin cfg0.N) : (dats m 0 c).after 26 t = (outsAt m c t.val t.isLt).o26 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d

/-- The rows' buffer is not written back between points, so a later point finds what the one before left. -/
theorem before_rows (c : Dev nD) (t : Fin cfg0.N) (d) :
    cond0_0 (grid0.coords t) ∨ (dats m 0 c).before 25 t d = prevAt m c t.val t.isLt := by
  have hN : t.val < 32 := lt_of_lt_of_eq t.isLt (show cfg0.N = 32 from N_0)
  by_cases h0 : t.val % 32 = 0
  · exact .inl ((hcond0_0 t).mpr h0)
  · refine .inr ?_
    rw [Dat.before_out_kept _ 25 rfl t (by omega) (Bool.eq_false_iff.mpr fun h => by have := (flush0_25 _).mp h; dsimp only at this; omega)
      (fun _ => rfl) (fun _ _ => rfl)]
    obtain ⟨n, hn⟩ := t
    cases n with
    | zero => exact absurd rfl h0
    | succ n => dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 4800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6, before_7, before_8, before_9, before_10, before_11, before_12, before_13, before_14, before_15, before_16, before_17]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, outsAt_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (outOf_spec m c t (prevAt m c t.val t.isLt) _ (before_rows m c t d25) Set.univ _)
  isplitl [H0 H1 H2 H3 H4 H5 H6 H7 H8 H9 H10 H11 H12 H13 H14 H15 H16 H17]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexact H25
  isplitl [H26]; · iexists _; iexact H26
  unfold held
  iintro ⟨⟨H0, H1, H2, H3, H4, H5, H6, H7, H8, H9, H10, H11, H12, H13, H14, H15, H16, H17⟩, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := Ideal) .tc cfg0.body (cfg0.bodyArgs t (cfg0.slots t)) = bodyAt0 t := by
  unfold defs₀; rw [Defs.onTc_tc]

set_option maxHeartbeats 1600000 in
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

-- the launch's implicit arguments come from its conclusion
set_option backward.isDefEq.respectTransparency.types false in
theorem run_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_quiescent m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_quiescent m ρ))

end Cert.Proof.Token

end
-- ==== Proof.Token.Kernel.lean ====
module

public import proofs.«01_k».proof.Proof.Token.Frame
public import proofs.«01_k».proof.Proof.Common.Tiles

/-! What each result of the kernel holds once the grid has run. -/

@[expose] public section

set_option maxRecDepth 16384

noncomputable section

namespace Cert.Proof.Token

open Cert.TokenIdeal Cert.TokenIdeal.Gen Idealize.ShloMosaic Idealize.ShloMosaic.TcCoe Idealize.SL.Sem Idealize.ShloMosaic.Pointwise
open Cert.Proof.Tiles

variable (m : (ℓ : Loc nD τ sig) → Buf (Elt Ideal) ℓ) (c : Dev nD)

/-! A block's columns in the two results stored in several pieces. -/

section
variable (B : Blk) (p : Fin 256) (f : Fin 2816)

theorem split_half : (∃ q : Fin 1408, f = f0 q) ∨ ∃ q : Fin 1408, f = f1 q := by
  by_cases h : f.val < 1408
  · exact .inl ⟨⟨f.val, h⟩, rfl⟩
  · exact .inr ⟨⟨f.val - 1408, by omega⟩, Fin.ext (by show f.val = 1408 + (f.val - 1408); omega)⟩

theorem piece21_apply : View.canon (piece21 (ld B)) (ix2 p f) = act (bPar B) (bTok B p) f := by
  unfold piece21
  rcases split_half f with ⟨q, rfl⟩ | ⟨q, rfl⟩
  · refine (canon_tile_out (m := 256) (n := 2816) (o := 0) (p := 1408) (k := 256) (l := 1408) _ _ _ _ ?_).trans
      ((canon_tile_in (m := 256) (n := 2816) (o := 0) (p := 0) (k := 256) (l := 1408) _ _ _ _ p q ?_ ?_).trans (bA0_apply B p q))
    · show ¬(0 ≤ p.val ∧ p.val < 0 + 256 ∧ 1408 ≤ q.val ∧ q.val < 1408 + 1408)
      omega
    · show p.val = 0 + p.val
      omega
    · show q.val = 0 + q.val
      omega
  · refine (canon_tile_in (m := 256) (n := 2816) (o := 0) (p := 1408) (k := 256) (l := 1408) _ _ _ _ p q ?_ rfl).trans (bA1_apply B p q)
    show p.val = 0 + p.val
    omega

theorem pay58_apply (q : Fin 1408) : k0_pay58 (bDg1 B) (ix2 p q) = dgate (bPar B) (bTok B p) (f1 q) := by
  rw [← bDg1_apply]
  pointwise [k0_pay58]

theorem piece23_lo : View.canon (piece23 (ld B)) (ix2 p (loCol f)) = dgate (bPar B) (bTok B p) f := by
  unfold piece23
  have hp := p.isLt
  rcases split_half f with ⟨q, rfl⟩ | ⟨q, rfl⟩
  · refine (canon_tile_out (m := 256) (n := 5632) (o := 0) (p := 4224) (k := 256) (l := 1408) _ _ _ _ ?_).trans
      ((canon_tile_out (m := 256) (n := 5632) (o := 0) (p := 1408) (k := 256) (l := 1408) _ _ _ _ ?_).trans
      ((canon_tile_out (m := 256) (n := 5632) (o := 0) (p := 2816) (k := 256) (l := 1408) _ _ _ _ ?_).trans
      ((canon_tile_in (m := 256) (n := 5632) (o := 0) (p := 0) (k := 256) (l := 1408) _ _ _ _ p q ?_ ?_).trans (bDg0_apply B p q))))
    · show ¬(0 ≤ p.val ∧ p.val < 0 + 256 ∧ 4224 ≤ q.val ∧ q.val < 4224 + 1408)
      omega
    · show ¬(0 ≤ p.val ∧ p.val < 0 + 256 ∧ 1408 ≤ q.val ∧ q.val < 1408 + 1408)
      omega
    · show ¬(0 ≤ p.val ∧ p.val < 0 + 256 ∧ 2816 ≤ q.val ∧ q.val < 2816 + 1408)
      omega
    · show p.val = 0 + p.val
      omega
    · show q.val = 0 + q.val
      omega
  · refine (canon_tile_out (m := 256) (n := 5632) (o := 0) (p := 4224) (k := 256) (l := 1408) _ _ _ _ ?_).trans
      ((canon_tile_in (m := 256) (n := 5632) (o := 0) (p := 1408) (k := 256) (l := 1408) _ _ _ _ p q ?_ rfl).trans (pay58_apply B p q))
    · show ¬(0 ≤ p.val ∧ p.val < 0 + 256 ∧ 4224 ≤ 1408 + q.val ∧ 1408 + q.val < 4224 + 1408)
      omega
    · show p.val = 0 + p.val
      omega

theorem piece23_hi : View.canon (piece23 (ld B)) (ix2 p (hiCol f)) = dup (bPar B) (bTok B p) f := by
  unfold piece23
  have hp := p.isLt
  rcases split_half f with ⟨q, rfl⟩ | ⟨q, rfl⟩
  · refine (canon_tile_out (m := 256) (n := 5632) (o := 0) (p := 4224) (k := 256) (l := 1408) _ _ _ _ ?_).trans
      ((canon_tile_out (m := 256) (n := 5632) (o := 0) (p := 1408) (k := 256) (l := 1408) _ _ _ _ ?_).trans
      ((canon_tile_in (m := 256) (n := 5632) (o := 0) (p := 2816) (k := 256) (l := 1408) _ _ _ _ p q ?_ rfl).trans (bDu0_apply B p q)))
    · show ¬(0 ≤ p.val ∧ p.val < 0 + 256 ∧ 4224 ≤ 2816 + q.val ∧ 2816 + q.val < 4224 + 1408)
      omega
    · show ¬(0 ≤ p.val ∧ p.val < 0 + 256 ∧ 1408 ≤ 2816 + q.val ∧ 2816 + q.val < 1408 + 1408)
      omega
    · show p.val = 0 + p.val
      omega
  · refine (canon_tile_in (m := 256) (n := 5632) (o := 0) (p := 4224) (k := 256) (l := 1408) _ _ _ _ p q ?_ ?_).trans (bDu1_apply B p q)
    · show p.val = 0 + p.val
      omega
    · show 2816 + (1408 + q.val) = 4224 + q.val
      omega

end

/-! The blocks of the output windows. -/

theorem outs_at : ∀ t : Fin grid0.N, (win0_18.index t 0 = t.val ∧ win0_18.index t 1 = 0) ∧ (win0_19.index t 0 = t.val ∧ win0_19.index t 1 = 0) ∧ (win0_20.index t 0 = t.val ∧ win0_20.index t 1 = 0) ∧ (win0_21.index t 0 = t.val ∧ win0_21.index t 1 = 0) ∧ (win0_22.index t 0 = t.val ∧ win0_22.index t 1 = 0) ∧ (win0_23.index t 0 = t.val ∧ win0_23.index t 1 = 0) ∧ (win0_24.index t 0 = t.val ∧ win0_24.index t 1 = 0) ∧ (win0_26.index t 0 = t.val ∧ win0_26.index t 1 = 0) ∧ (win0_25.index t 0 = 0 ∧ win0_25.index t 1 = 0) := by decide +kernel

theorem flush_at : ∀ t : Fin cfg0.N, (cfg0.win 18).flush t = true ∧ (cfg0.win 19).flush t = true ∧ (cfg0.win 20).flush t = true ∧ (cfg0.win 21).flush t = true ∧ (cfg0.win 22).flush t = true ∧ (cfg0.win 23).flush t = true ∧ (cfg0.win 24).flush t = true ∧ (cfg0.win 26).flush t = true := by decide +kernel

section
variable (t : Fin 32)

theorem emb18 (p : Fin 256) (j : Fin 1024) : ((cfg0.win 18).blk (pt t)).view.emb (ix2 p j) = (ix2 (tokAt t p) (j) : S8192x1024.Idx) :=
  ix2_ext _ _ _ (off (outs_at (pt t)).1.1 rfl) (off0 (outs_at (pt t)).1.2)
theorem emb19 (p : Fin 256) (j : Fin 1024) : ((cfg0.win 19).blk (pt t)).view.emb (ix2 p j) = (ix2 (tokAt t p) (j) : S8192x1024.Idx) :=
  ix2_ext _ _ _ (off (outs_at (pt t)).2.1.1 rfl) (off0 (outs_at (pt t)).2.1.2)
theorem emb20 (p : Fin 256) (j : Fin 1024) : ((cfg0.win 20).blk (pt t)).view.emb (ix2 p j) = (ix2 (tokAt t p) (j) : S8192x1024.Idx) :=
  ix2_ext _ _ _ (off (outs_at (pt t)).2.2.1.1 rfl) (off0 (outs_at (pt t)).2.2.1.2)
theorem emb21 (p : Fin 256) (j : Fin 2816) : ((cfg0.win 21).blk (pt t)).view.emb (ix2 p j) = (ix2 (tokAt t p) (j) : S8192x2816.Idx) :=
  ix2_ext _ _ _ (off (outs_at (pt t)).2.2.2.1.1 rfl) (off0 (outs_at (pt t)).2.2.2.1.2)
theorem emb22 (p : Fin 256) (j : Fin 1024) : ((cfg0.win 22).blk (pt t)).view.emb (ix2 p j) = (ix2 (tokAt t p) (j) : S8192x1024.Idx) :=
  ix2_ext _ _ _ (off (outs_at (pt t)).2.2.2.2.1.1 rfl) (off0 (outs_at (pt t)).2.2.2.2.1.2)
theorem emb23 (p : Fin 256) (j : Fin 5632) : ((cfg0.win 23).blk (pt t)).view.emb (ix2 p j) = (ix2 (tokAt t p) (j) : S8192x5632.Idx) :=
  ix2_ext _ _ _ (off (outs_at (pt t)).2.2.2.2.2.1.1 rfl) (off0 (outs_at (pt t)).2.2.2.2.2.1.2)
theorem emb24 (p : Fin 256) (j : Fin 1024) : ((cfg0.win 24).blk (pt t)).view.emb (ix2 p j) = (ix2 (tokAt t p) (j) : S8192x1024.Idx) :=
  ix2_ext _ _ _ (off (outs_at (pt t)).2.2.2.2.2.2.1.1 rfl) (off0 (outs_at (pt t)).2.2.2.2.2.2.1.2)
theorem emb26 (p : Fin 256) (j : Fin 512) : ((cfg0.win 26).blk (pt t)).view.emb (ix2 p j) = (ix2 (tokAt t p) (loRow j) : S8192x1024.Idx) :=
  ix2_ext _ _ _ (off (outs_at (pt t)).2.2.2.2.2.2.2.1.1 rfl) (off (q := (loRow j).val) (outs_at (pt t)).2.2.2.2.2.2.2.1.2 (by show j.val = 512 * 0 + j.val; omega))
theorem emb25 (i : Fin 8) (j : Fin 1024) : ((cfg0.win 25).blk (pt t)).view.emb (ix2 i j) = (ix2 i j : S8x1024.Idx) :=
  ix2_ext _ _ _ (off0 (outs_at (pt t)).2.2.2.2.2.2.2.2.1) (off0 (outs_at (pt t)).2.2.2.2.2.2.2.2.2)

end

theorem split_tok (R : Fin 8192) : ∃ (t : Fin 32) (p : Fin 256), R = tokAt t p :=
  ⟨⟨R.val / 256, by omega⟩, ⟨R.val % 256, by omega⟩, Fin.ext (by show R.val = 256 * (R.val / 256) + R.val % 256; omega)⟩

/-- A window whose points write back different blocks: its array holds what each point wrote. -/
theorem final_of (w : Fin cfg0.W) (hk : (cfg0.win w).kind = Pipeline.WinKind.blocked) (inj : ∀ t t' : Fin cfg0.N, (cfg0.win w).index t = (cfg0.win w).index t' → t = t')
    (hf : ∀ t, (cfg0.win w).flush t = true) (t : Fin cfg0.N) :
    ((cfg0.win w).blk t).view.read (Elt Ideal) ((dats m 0 c).arrAt w cfg0.N) = (dats m 0 c).flushed w t :=
  (dats m 0 c).read_blk_arrAt_eq_flushed w (fun t t' _ _ hne => (cfg0.win w).disjoint_blk (hk := hk) fun h => hne (inj t t' h)) cfg0.N t t.isLt (hf t)

section
variable (t : Fin 32)

theorem left : outsAt m c (pt t).val (pt t).isLt = leave (start (grid0.coords (pt t)) (prevAt m c (pt t).val (pt t).isLt)) (blkAt m c (pt t)) := outsAt_eq m c (pt t)

theorem leave_21 (acc : Vec Ideal S8x1024 .f32) (B : Blk) : (leave acc B).o21 = View.canon (piece21 (ld B)) := by
  unfold leave
  dsimp only
theorem leave_23 (acc : Vec Ideal S8x1024 .f32) (B : Blk) : (leave acc B).o23 = View.canon (piece23 (ld B)) := by
  unfold leave
  dsimp only

theorem at_token {α : Type} (p : Fin 256) (f : Par → Tok → α) : f (bPar (blkAt m c (pt t))) (bTok (blkAt m c (pt t)) p) = f (kPar m c) (kTok m c (tokAt t p)) :=
  congrArg₂ f (par_at m c t) (tok_at m c t p)

theorem final18 (x) : (dats m 0 c).arrAt 18 cfg0.N (((cfg0.win 18).blk (pt t)).view.emb x) = (outsAt m c (pt t).val (pt t).isLt).o18 x :=
  (congrFun (final_of m c 18 rfl (fun t t' h => Fin.ext ((outs_at t).1.1.symm.trans ((congrFun h 0).trans (outs_at t').1.1))) (fun t => (flush_at t).1) (pt t)) x).trans
    (congrFun (show (dats m 0 c).flushed 18 (pt t) = _ from congrArg ((cfg0.win 18).cut (grid0.coords (pt t))) (after_18 m c (pt t))) x)
theorem final19 (x) : (dats m 0 c).arrAt 19 cfg0.N (((cfg0.win 19).blk (pt t)).view.emb x) = (outsAt m c (pt t).val (pt t).isLt).o19 x :=
  (congrFun (final_of m c 19 rfl (fun t t' h => Fin.ext ((outs_at t).2.1.1.symm.trans ((congrFun h 0).trans (outs_at t').2.1.1))) (fun t => (flush_at t).2.1) (pt t)) x).trans
    (congrFun (show (dats m 0 c).flushed 19 (pt t) = _ from congrArg ((cfg0.win 19).cut (grid0.coords (pt t))) (after_19 m c (pt t))) x)
theorem final20 (x) : (dats m 0 c).arrAt 20 cfg0.N (((cfg0.win 20).blk (pt t)).view.emb x) = (outsAt m c (pt t).val (pt t).isLt).o20 x :=
  (congrFun (final_of m c 20 rfl (fun t t' h => Fin.ext ((outs_at t).2.2.1.1.symm.trans ((congrFun h 0).trans (outs_at t').2.2.1.1))) (fun t => (flush_at t).2.2.1) (pt t)) x).trans
    (congrFun (show (dats m 0 c).flushed 20 (pt t) = _ from congrArg ((cfg0.win 20).cut (grid0.coords (pt t))) (after_20 m c (pt t))) x)
theorem final21 (x) : (dats m 0 c).arrAt 21 cfg0.N (((cfg0.win 21).blk (pt t)).view.emb x) = (outsAt m c (pt t).val (pt t).isLt).o21 x :=
  (congrFun (final_of m c 21 rfl (fun t t' h => Fin.ext ((outs_at t).2.2.2.1.1.symm.trans ((congrFun h 0).trans (outs_at t').2.2.2.1.1))) (fun t => (flush_at t).2.2.2.1) (pt t)) x).trans
    (congrFun (show (dats m 0 c).flushed 21 (pt t) = _ from congrArg ((cfg0.win 21).cut (grid0.coords (pt t))) (after_21 m c (pt t))) x)
theorem final22 (x) : (dats m 0 c).arrAt 22 cfg0.N (((cfg0.win 22).blk (pt t)).view.emb x) = (outsAt m c (pt t).val (pt t).isLt).o22 x :=
  (congrFun (final_of m c 22 rfl (fun t t' h => Fin.ext ((outs_at t).2.2.2.2.1.1.symm.trans ((congrFun h 0).trans (outs_at t').2.2.2.2.1.1))) (fun t => (flush_at t).2.2.2.2.1) (pt t)) x).trans
    (congrFun (show (dats m 0 c).flushed 22 (pt t) = _ from congrArg ((cfg0.win 22).cut (grid0.coords (pt t))) (after_22 m c (pt t))) x)
theorem final23 (x) : (dats m 0 c).arrAt 23 cfg0.N (((cfg0.win 23).blk (pt t)).view.emb x) = (outsAt m c (pt t).val (pt t).isLt).o23 x :=
  (congrFun (final_of m c 23 rfl (fun t t' h => Fin.ext ((outs_at t).2.2.2.2.2.1.1.symm.trans ((congrFun h 0).trans (outs_at t').2.2.2.2.2.1.1))) (fun t => (flush_at t).2.2.2.2.2.1) (pt t)) x).trans
    (congrFun (show (dats m 0 c).flushed 23 (pt t) = _ from congrArg ((cfg0.win 23).cut (grid0.coords (pt t))) (after_23 m c (pt t))) x)
theorem final24 (x) : (dats m 0 c).arrAt 24 cfg0.N (((cfg0.win 24).blk (pt t)).view.emb x) = (outsAt m c (pt t).val (pt t).isLt).o24 x :=
  (congrFun (final_of m c 24 rfl (fun t t' h => Fin.ext ((outs_at t).2.2.2.2.2.2.1.1.symm.trans ((congrFun h 0).trans (outs_at t').2.2.2.2.2.2.1.1))) (fun t => (flush_at t).2.2.2.2.2.2.1) (pt t)) x).trans
    (congrFun (show (dats m 0 c).flushed 24 (pt t) = _ from congrArg ((cfg0.win 24).cut (grid0.coords (pt t))) (after_24 m c (pt t))) x)
theorem final26 (x) : (dats m 0 c).arrAt 26 cfg0.N (((cfg0.win 26).blk (pt t)).view.emb x) = (outsAt m c (pt t).val (pt t).isLt).o26 x :=
  (congrFun (final_of m c 26 rfl (fun t t' h => Fin.ext ((outs_at t).2.2.2.2.2.2.2.1.1.symm.trans ((congrFun h 0).trans (outs_at t').2.2.2.2.2.2.2.1.1))) (fun t => (flush_at t).2.2.2.2.2.2.2) (pt t)) x).trans
    (congrFun (show (dats m 0 c).flushed 26 (pt t) = _ from congrArg ((cfg0.win 26).cut (grid0.coords (pt t))) (after_26 m c (pt t))) x)

end

theorem dy_final (R : Fin 8192) (j : Fin 1024) : (dats m 0 c).arrAt 18 cfg0.N (ix2 R j) = dyo (kPar m c) (kTok m c R) j := by
  obtain ⟨t, p, rfl⟩ := split_tok R
  refine (congrArg ((dats m 0 c).arrAt 18 cfg0.N) (emb18 t p j)).symm.trans ((final18 m c t (ix2 p j)).trans ?_)
  rw [left]
  exact (bDy_apply (blkAt m c (pt t)) p j).trans (at_token m c t p fun P T => dyo P T j)

theorem dx1_final (R : Fin 8192) (j : Fin 1024) : (dats m 0 c).arrAt 19 cfg0.N (ix2 R j) = dx1 (kPar m c) (kTok m c R) j := by
  obtain ⟨t, p, rfl⟩ := split_tok R
  refine (congrArg ((dats m 0 c).arrAt 19 cfg0.N) (emb19 t p j)).symm.trans ((final19 m c t (ix2 p j)).trans ?_)
  rw [left]
  exact (bDx1_apply (blkAt m c (pt t)) p j).trans (at_token m c t p fun P T => dx1 P T j)

theorem h2_final (R : Fin 8192) (j : Fin 1024) : (dats m 0 c).arrAt 20 cfg0.N (ix2 R j) = h2 (kPar m c) (kTok m c R) j := by
  obtain ⟨t, p, rfl⟩ := split_tok R
  refine (congrArg ((dats m 0 c).arrAt 20 cfg0.N) (emb20 t p j)).symm.trans ((final20 m c t (ix2 p j)).trans ?_)
  rw [left]
  exact (bH2_apply (blkAt m c (pt t)) p j).trans (at_token m c t p fun P T => h2 P T j)

theorem dff_final (R : Fin 8192) (j : Fin 1024) : (dats m 0 c).arrAt 22 cfg0.N (ix2 R j) = dff (kPar m c) (kTok m c R) j := by
  obtain ⟨t, p, rfl⟩ := split_tok R
  refine (congrArg ((dats m 0 c).arrAt 22 cfg0.N) (emb22 t p j)).symm.trans ((final22 m c t (ix2 p j)).trans ?_)
  rw [left]
  exact (bDff_apply (blkAt m c (pt t)) p j).trans (at_token m c t p fun P T => dff P T j)

theorem dmix_final (R : Fin 8192) (j : Fin 1024) : (dats m 0 c).arrAt 24 cfg0.N (ix2 R j) = dmix (kPar m c) (kTok m c R) j := by
  obtain ⟨t, p, rfl⟩ := split_tok R
  refine (congrArg ((dats m 0 c).arrAt 24 cfg0.N) (emb24 t p j)).symm.trans ((final24 m c t (ix2 p j)).trans ?_)
  rw [left]
  exact (bDmix_apply (blkAt m c (pt t)) p j).trans (at_token m c t p fun P T => dmix P T j)

theorem act_final (R : Fin 8192) (f : Fin 2816) : (dats m 0 c).arrAt 21 cfg0.N (ix2 R f) = act (kPar m c) (kTok m c R) f := by
  obtain ⟨t, p, rfl⟩ := split_tok R
  refine (congrArg ((dats m 0 c).arrAt 21 cfg0.N) (emb21 t p f)).symm.trans ((final21 m c t (ix2 p f)).trans ?_)
  rw [left, leave_21]
  exact (piece21_apply (blkAt m c (pt t)) p f).trans (at_token m c t p fun P T => act P T f)

theorem dgate_final (R : Fin 8192) (f : Fin 2816) : (dats m 0 c).arrAt 23 cfg0.N (ix2 R (loCol f)) = dgate (kPar m c) (kTok m c R) f := by
  obtain ⟨t, p, rfl⟩ := split_tok R
  refine (congrArg ((dats m 0 c).arrAt 23 cfg0.N) (emb23 t p (loCol f))).symm.trans ((final23 m c t (ix2 p (loCol f))).trans ?_)
  rw [left, leave_23]
  exact (piece23_lo (blkAt m c (pt t)) p f).trans (at_token m c t p fun P T => dgate P T f)

theorem dup_final (R : Fin 8192) (f : Fin 2816) : (dats m 0 c).arrAt 23 cfg0.N (ix2 R (hiCol f)) = dup (kPar m c) (kTok m c R) f := by
  obtain ⟨t, p, rfl⟩ := split_tok R
  refine (congrArg ((dats m 0 c).arrAt 23 cfg0.N) (emb23 t p (hiCol f))).symm.trans ((final23 m c t (ix2 p (hiCol f))).trans ?_)
  rw [left, leave_23]
  exact (piece23_hi (blkAt m c (pt t)) p f).trans (at_token m c t p fun P T => dup P T f)

theorem ya_final (R : Fin 8192) (j : Fin 512) : (dats m 0 c).arrAt 26 cfg0.N (ix2 R (loRow j)) = (kTok m c R).ya j := by
  obtain ⟨t, p, rfl⟩ := split_tok R
  refine (congrArg ((dats m 0 c).arrAt 26 cfg0.N) (emb26 t p j)).symm.trans ((final26 m c t (ix2 p j)).trans ?_)
  rw [left]
  exact ya_at m c t p j

/-! The accumulated rows. -/

theorem gains_at (t : Fin 32) (i : ℕ) (j : Fin 1024) : gains (blkAt m c (pt t)) i j = ∑ p, gain (kPar m c) (kTok m c (tokAt t p)) i j :=
  Finset.sum_congr rfl fun p _ => at_token m c t p fun P T => gain P T i j

theorem rows_at_point (t : Fin 32) (i : Fin 8) (j : Fin 1024) : (outsAt m c (pt t).val (pt t).isLt).o25 (ix2 i j)
    = start (grid0.coords (pt t)) (prevAt m c (pt t).val (pt t).isLt) (ix2 i j) + ∑ p, gain (kPar m c) (kTok m c (tokAt t p)) i.val j := by
  rw [left]
  exact congrArg (_ + ·) (gains_at m c t i.val j)

theorem rows_sum (i : Fin 8) (j : Fin 1024) : ∀ (n : ℕ) (h : n < 32),
    (outsAt m c n (pt ⟨n, h⟩).isLt).o25 (ix2 i j) = ∑ t : Fin (n + 1), ∑ p, gain (kPar m c) (kTok m c (tokAt ⟨t.val, by omega⟩ p)) i.val j
  | 0, h => by
    rw [Fin.sum_univ_one]
    refine (rows_at_point m c ⟨0, h⟩ i j).trans ?_
    rw [start, if_pos ((hcond0_0 (pt ⟨0, h⟩)).mpr rfl)]
    exact zero_add _
  | n + 1, h => by
    rw [Fin.sum_univ_castSucc]
    refine (rows_at_point m c ⟨n + 1, h⟩ i j).trans ?_
    rw [start, if_neg fun hc => absurd ((hcond0_0 (pt ⟨n + 1, h⟩)).mp hc) (by show ¬(n + 1) % 32 = 0; omega)]
    exact congrArg (· + _) (rows_sum i j n (by omega))

theorem sum_tokens (f : Fin 8192 → EReal) : ∑ t : Fin 32, ∑ p : Fin 256, f (tokAt t p) = ∑ R, f R := by
  rw [← Finset.sum_product', ← (finProdFinEquiv (m := 32) (n := 256)).sum_comp f]
  exact Finset.sum_congr rfl fun p _ => congrArg f (Fin.ext ((add_comm _ _).trans (finProdFinEquiv_apply_val p).symm))

/-- Their array: the last point's contents, written back whole. -/
theorem rows_final (i : Fin 8) (j : Fin 1024) : (dats m 0 c).arrAt 25 cfg0.N (ix2 i j) = ∑ R, gain (kPar m c) (kTok m c R) i.val j := by
  have h := (dats m 0 c).arrAt_eq_of_cover 25 (fun y => (outsAt m c 31 (pt 31).isLt).o25 (ix2 (y 0 : Fin 8) (y 1 : Fin 1024))) (fun t hf => by
    have h7 : t = pt 31 := Fin.ext (by
      have := (flush0_25 t).mp hf
      have h8 : t.val < 32 := t.isLt
      show t.val = 31
      omega)
    subst h7
    refine (show (dats m 0 c).flushed 25 (pt 31) = _ from congrArg ((cfg0.win 25).cut (grid0.coords (pt 31))) (after_25 m c (pt 31))).trans ?_
    funext y
    obtain ⟨a, b, rfl⟩ : ∃ (a : Fin 8) (b : Fin 1024), y = ix2 a b := ⟨y 0, y 1, eq_ix2 y⟩
    refine Eq.symm ?_
    have e := emb25 31 a b
    refine Eq.trans ?_ ((congrArg (fun z : S8x1024.Idx => (outsAt m c 31 (pt 31).isLt).o25 (ix2 (z 0) (z 1))) e).trans ?_)
    · rfl
    · rfl) (fun y => ⟨pt 31, (flush0_25 _).mpr rfl, by
    obtain ⟨a, b, rfl⟩ : ∃ (a : Fin 8) (b : Fin 1024), y = ix2 a b := ⟨y 0, y 1, eq_ix2 y⟩
    rw [← emb25 31 a b]
    exact View.emb_mem_set _ _⟩)
  rw [h, ← sum_tokens fun R => gain (kPar m c) (kTok m c R) i.val j]
  exact rows_sum m c i j 31 (by decide)

end Cert.Proof.Token

end
-- ==== Proof.Token.Claims.lean ====
module

public import proofs.«01_k».proof.Defs
public import proofs.«01_k».proof.Proof.Gen.TokenRefIdeal.Run
public import proofs.«01_k».proof.Proof.Token.Reference
public import proofs.«01_k».proof.Proof.Token.Kernel
public import proofs.«01_k».proof.Proof.Gmlp.Claims

/-! The value claim at finite arguments, the constant's claim and the reference's frame. -/

@[expose] public section

set_option maxRecDepth 16384

noncomputable section

namespace Cert.Proof.Token

open Idealize.ShloMosaic Idealize.ShloMosaic.TcCoe Idealize.SL.Sem Idealize.ShloMosaic.Pointwise Cert.TokenRefIdeal.Read
open Gmlp (IsReal isReal_of_lt)

instance pre_facts : Cert.Pre_finite3.Facts := by constructor <;> decide
instance on_facts : Cert.On_written3.Facts := by constructor <;> decide

section
variable {m : (ℓ : Loc Cert.TokenIdeal.nD Cert.TokenIdeal.τ Cert.TokenIdeal.sig) → Buf (Elt Ideal) ℓ} {c : Dev Cert.TokenIdeal.nD}

theorem finite_of_pre (hp : Cert.Pre_TokenIdeal_finite3 m) (c : Dev Cert.TokenIdeal.nD) :
    Reference.Finite (a2 m c) (a3 m c) (a4 m c) (a5 m c) (a6 m c) (a7 m c) (a8 m c) := by
  obtain ⟨h0, h1, h2, h3, h4, h5⟩ := hp c
  have ada : ∀ k : Fin 6144, IsReal (a3 m c (ix2 0 k)) := fun k => isReal_of_lt (congrFun h1 (ix2 0 k))
  exact
    { par :=
        { g1 := fun j => ada _
          w2 := fun j => isReal_of_lt (congrFun h2 (ix2 0 j))
          sc2 := fun j => ada _
          sh2 := fun j => ada _
          g2 := fun j => ada _
          fw := fun j => isReal_of_lt (congrFun h3 (ix1 j))
          wi := fun k f => isReal_of_lt (congrFun h4 (ix3 0 k f))
          wd := fun f j => isReal_of_lt (congrFun h5 (ix3 0 f j)) }
      target := fun R j => isReal_of_lt (congrFun h0 (ix3 0 R j)) }

/-- The mask selects the columns below 512. -/
theorem col_of_mask {q : Fin 1024} (h : Scalar.cmpi .slt (BitVec.ofNat 32 q.val) 512#32 = 1#1) : q.val < 512 := by
  have hq := q.isLt
  by_contra hlt
  have e : (BitVec.ofNat 32 q.val).toInt = q.val := by
    rw [BitVec.toInt_eq_toNat_of_lt] <;> simp only [BitVec.toNat_ofNat] <;> omega
  revert h
  simp only [Scalar.cmpi, IntOp.cmpi, BitVec.slt, e]
  rw [decide_eq_false (by show ¬(q.val : Int) < 512; omega)]
  decide

theorem split_ffn (q : Fin 5632) : (∃ f, q = loCol f) ∨ ∃ f, q = hiCol f := by
  by_cases h : q.val < 2816
  · exact .inl ⟨⟨q.val, h⟩, rfl⟩
  · exact .inr ⟨⟨q.val - 2816, by omega⟩, Fin.ext (by show q.val = 2816 + (q.val - 2816); omega)⟩

end

theorem frame_reference : Cert.quiescent_TokenRefIdeal (hTokenRefIdeal := Cert.TokenRefIdeal.Gen.facts) := fun m ρ _ =>
  (θ_run Cert.TokenRefIdeal.defs _ _).mono (fun r h => ⟨fun c => (h c).2.2.2.2.2.2.2.2.2, sem_eq_zero_of_no_sems (by decide) r.2⟩)
    (Cert.TokenRefIdeal.Value.run (F := Ideal) m ρ)

theorem constants : Cert.preserves_Token_TokenIdeal :=
  IdealRules.named_const.statement Cert.TokenIdeal.κ "sqrt_half" .f32 0x3F3504F3#32 _ rfl

set_option maxHeartbeats 1600000 in
theorem algebraic : Cert.algebraic_TokenIdeal_TokenRefIdeal_on_written3_pre_finite3 (hTokenIdeal := Cert.TokenIdeal.Gen.facts)
    (hTokenRefIdeal := Cert.TokenRefIdeal.Gen.facts) (hPre_finite3 := pre_facts) (hOn_written3 := on_facts) := by
  intro m g m' g' hp hm
  refine ⟨fun c => val_main_v246 (F := Ideal) (a0 m c) (a1 m c) (a2 m c) (a3 m c) (a4 m c) (a5 m c) (a6 m c) (a7 m c) (a8 m c) (a9 m c) (a10 m c) (a11 m c) (a12 m c) (a13 m c),
    fun c => val_main_v239 (F := Ideal) (a0 m c) (a1 m c) (a2 m c) (a3 m c) (a4 m c) (a5 m c) (a6 m c) (a7 m c) (a8 m c) (a9 m c) (a10 m c) (a11 m c) (a12 m c) (a13 m c),
    fun c => val_main_v257 (F := Ideal) (a0 m c) (a1 m c) (a3 m c) (a4 m c) (a6 m c) (a9 m c) (a10 m c) (a11 m c) (a12 m c) (a13 m c),
    fun c => val_main_v258 (F := Ideal) (a0 m c) (a1 m c) (a3 m c) (a4 m c) (a6 m c) (a7 m c) (a9 m c) (a10 m c) (a11 m c) (a12 m c) (a13 m c),
    fun c => val_main_v259 (F := Ideal) (a0 m c) (a1 m c) (a2 m c) (a3 m c) (a4 m c) (a5 m c) (a6 m c) (a7 m c) (a8 m c) (a9 m c) (a10 m c) (a11 m c) (a12 m c) (a13 m c),
    fun c => val_main_v260 (F := Ideal) (a0 m c) (a1 m c) (a2 m c) (a3 m c) (a4 m c) (a5 m c) (a6 m c) (a7 m c) (a8 m c) (a9 m c) (a10 m c) (a11 m c) (a12 m c) (a13 m c),
    fun c => val_main_v261 (F := Ideal) (a0 m c) (a1 m c) (a2 m c) (a3 m c) (a4 m c) (a5 m c) (a6 m c) (a7 m c) (a8 m c) (a9 m c) (a10 m c) (a11 m c) (a12 m c) (a13 m c),
    fun c => val_main_v256 (F := Ideal) (a0 m c) (a1 m c) (a2 m c) (a3 m c) (a4 m c) (a5 m c) (a6 m c) (a7 m c) (a8 m c) (a9 m c) (a10 m c) (a11 m c) (a12 m c) (a13 m c),
    fun c => val_main_v262 (F := Ideal) (a1 m c) (a9 m c) (a10 m c) (a11 m c) (a12 m c) (a13 m c),
    (θ_run Cert.TokenIdeal.defs _ _).mono (fun _ h c => ⟨fun i _ => ?_, fun i _ => ?_, fun i _ => ?_, fun i _ => ?_, fun i _ => ?_, fun i _ => ?_, fun i _ => ?_, fun i _ => ?_, fun i hi => ?_, h.2.1 c⟩)
      (θ_run_and (run_main m g) (frame m g)),
    (θ_run Cert.TokenRefIdeal.defs _ _).mono (fun _ h c => ⟨fun i _ => congrFun ((h c).1.trans ?_) i, fun i _ => congrFun ((h c).2.1.trans ?_) i,
        fun i _ => congrFun ((h c).2.2.1.trans ?_) i, fun i _ => congrFun ((h c).2.2.2.1.trans ?_) i, fun i _ => congrFun ((h c).2.2.2.2.1.trans ?_) i,
        fun i _ => congrFun ((h c).2.2.2.2.2.1.trans ?_) i, fun i _ => congrFun ((h c).2.2.2.2.2.2.1.trans ?_) i, fun i _ => congrFun ((h c).2.2.2.2.2.2.2.1.trans ?_) i,
        fun i _ => congrFun ((h c).2.2.2.2.2.2.2.2.1.trans ?_) i, (h c).2.2.2.2.2.2.2.2.2⟩)
      (Cert.TokenRefIdeal.Value.run (F := Ideal) m' g')⟩
  · refine (congrFun ((h.1 c).1 18) i).trans ?_
    rw [eq_ix2 i]
    exact (dy_final m c (i 0) (i 1)).trans (Reference.v246_apply _ _ _ _ _ _ _ _ _ _ _ _ _ _ (i 0) (i 1) (finite_of_pre hp c)).symm
  · refine (congrFun ((h.1 c).1 19) i).trans ?_
    rw [eq_ix2 i]
    exact (dx1_final m c (i 0) (i 1)).trans (Reference.v239_apply _ _ _ _ _ _ _ _ _ _ _ _ _ _ (i 0) (i 1) (finite_of_pre hp c)).symm
  · refine (congrFun ((h.1 c).1 20) i).trans ?_
    rw [eq_ix2 i]
    exact (h2_final m c (i 0) (i 1)).trans (Reference.v112_apply (a0 m c) (a1 m c) (a2 m c) (a3 m c) (a4 m c) (a5 m c) (a6 m c) (a7 m c) (a8 m c) (a9 m c) (a10 m c) (a11 m c) (a12 m c) (a13 m c) (i 0) (i 1)).symm
  · refine (congrFun ((h.1 c).1 21) i).trans ?_
    rw [eq_ix2 i]
    exact (act_final m c (i 0) (i 1)).trans (Reference.v128_apply (a0 m c) (a1 m c) (a2 m c) (a3 m c) (a4 m c) (a5 m c) (a6 m c) (a7 m c) (a8 m c) (a9 m c) (a10 m c) (a11 m c) (a12 m c) (a13 m c) (i 0) (i 1)).symm
  · refine (congrFun ((h.1 c).1 22) i).trans ?_
    rw [eq_ix2 i]
    exact (dff_final m c (i 0) (i 1)).trans (Reference.v192_apply (a0 m c) (a1 m c) (a2 m c) (a3 m c) (a4 m c) (a5 m c) (a6 m c) (a7 m c) (a8 m c) (a9 m c) (a10 m c) (a11 m c) (a12 m c) (a13 m c) (i 0) (i 1)).symm
  · refine (congrFun ((h.1 c).1 23) i).trans ?_
    obtain ⟨R, q, rfl⟩ : ∃ (R : Fin 8192) (q : Fin 5632), i = ix2 R q := ⟨i 0, i 1, eq_ix2 i⟩
    rcases split_ffn q with ⟨f, rfl⟩ | ⟨f, rfl⟩
    · exact (dgate_final m c R f).trans (Reference.v207_lo (a0 m c) (a1 m c) (a2 m c) (a3 m c) (a4 m c) (a5 m c) (a6 m c) (a7 m c) (a8 m c) (a9 m c) (a10 m c) (a11 m c) (a12 m c) (a13 m c) R f (finite_of_pre hp c)).symm
    · exact (dup_final m c R f).trans (Reference.v207_hi (a0 m c) (a1 m c) (a2 m c) (a3 m c) (a4 m c) (a5 m c) (a6 m c) (a7 m c) (a8 m c) (a9 m c) (a10 m c) (a11 m c) (a12 m c) (a13 m c) R f (finite_of_pre hp c)).symm
  · refine (congrFun ((h.1 c).1 24) i).trans ?_
    rw [eq_ix2 i]
    exact (dmix_final m c (i 0) (i 1)).trans (Reference.v241_apply (a0 m c) (a1 m c) (a2 m c) (a3 m c) (a4 m c) (a5 m c) (a6 m c) (a7 m c) (a8 m c) (a9 m c) (a10 m c) (a11 m c) (a12 m c) (a13 m c) (i 0) (i 1) (finite_of_pre hp c)).symm
  · refine (congrFun ((h.1 c).1 25) i).trans ?_
    rw [eq_ix2 i]
    exact (rows_final m c (i 0) (i 1)).trans (Reference.v256_apply (a0 m c) (a1 m c) (a2 m c) (a3 m c) (a4 m c) (a5 m c) (a6 m c) (a7 m c) (a8 m c) (a9 m c) (a10 m c) (a11 m c) (a12 m c) (a13 m c) (i 1) (finite_of_pre hp c) (i 0)).symm
  · refine (congrFun ((h.1 c).1 26) i).trans ?_
    obtain ⟨R, q, rfl⟩ : ∃ (R : Fin 8192) (q : Fin 1024), i = ix2 R q := ⟨i 0, i 1, eq_ix2 i⟩
    have hq : q.val < 512 := col_of_mask (q := q) hi
    obtain ⟨k, rfl⟩ : ∃ k : Fin 512, q = loRow k := ⟨⟨q.val, hq⟩, rfl⟩
    exact (ya_final m c R k).trans (Reference.v66_lo (a1 m c) (a9 m c) (a10 m c) (a11 m c) (a12 m c) (a13 m c) R k).symm
  all_goals
    have e0 : StableHlo.launchContents m' c (Proc.tc.devRef Cert.TokenRefIdeal.main_arg0) = a0 m c := (hm c).1
    have e1 : StableHlo.launchContents m' c (Proc.tc.devRef Cert.TokenRefIdeal.main_arg1) = a1 m c := (hm c).2.1
    have e2 : StableHlo.launchContents m' c (Proc.tc.devRef Cert.TokenRefIdeal.main_arg2) = a2 m c := (hm c).2.2.1
    have e3 : StableHlo.launchContents m' c (Proc.tc.devRef Cert.TokenRefIdeal.main_arg3) = a3 m c := (hm c).2.2.2.1
    have e4 : StableHlo.launchContents m' c (Proc.tc.devRef Cert.TokenRefIdeal.main_arg4) = a4 m c := (hm c).2.2.2.2.1
    have e5 : StableHlo.launchContents m' c (Proc.tc.devRef Cert.TokenRefIdeal.main_arg5) = a5 m c := (hm c).2.2.2.2.2.1
    have e6 : StableHlo.launchContents m' c (Proc.tc.devRef Cert.TokenRefIdeal.main_arg6) = a6 m c := (hm c).2.2.2.2.2.2.1
    have e7 : StableHlo.launchContents m' c (Proc.tc.devRef Cert.TokenRefIdeal.main_arg7) = a7 m c := (hm c).2.2.2.2.2.2.2.1
    have e8 : StableHlo.launchContents m' c (Proc.tc.devRef Cert.TokenRefIdeal.main_arg8) = a8 m c := (hm c).2.2.2.2.2.2.2.2.1
    have e9 : StableHlo.launchContents m' c (Proc.tc.devRef Cert.TokenRefIdeal.main_arg9) = a9 m c := (hm c).2.2.2.2.2.2.2.2.2.1
    have e10 : StableHlo.launchContents m' c (Proc.tc.devRef Cert.TokenRefIdeal.main_arg10) = a10 m c := (hm c).2.2.2.2.2.2.2.2.2.2.1
    have e11 : StableHlo.launchContents m' c (Proc.tc.devRef Cert.TokenRefIdeal.main_arg11) = a11 m c := (hm c).2.2.2.2.2.2.2.2.2.2.2.1
    have e12 : StableHlo.launchContents m' c (Proc.tc.devRef Cert.TokenRefIdeal.main_arg12) = a12 m c := (hm c).2.2.2.2.2.2.2.2.2.2.2.2.1
    have e13 : StableHlo.launchContents m' c (Proc.tc.devRef Cert.TokenRefIdeal.main_arg13) = a13 m c := (hm c).2.2.2.2.2.2.2.2.2.2.2.2.2
  · rw [val_main_v246_eq, e0, e1, e2, e3, e4, e5, e6, e7, e8, e9, e10, e11, e12, e13]
  · rw [val_main_v239_eq, e0, e1, e2, e3, e4, e5, e6, e7, e8, e9, e10, e11, e12, e13]
  · rw [val_main_v257_eq, e0, e1, e3, e4, e6, e9, e10, e11, e12, e13]
  · rw [val_main_v258_eq, e0, e1, e3, e4, e6, e7, e9, e10, e11, e12, e13]
  · rw [val_main_v259_eq, e0, e1, e2, e3, e4, e5, e6, e7, e8, e9, e10, e11, e12, e13]
  · rw [val_main_v260_eq, e0, e1, e2, e3, e4, e5, e6, e7, e8, e9, e10, e11, e12, e13]
  · rw [val_main_v261_eq, e0, e1, e2, e3, e4, e5, e6, e7, e8, e9, e10, e11, e12, e13]
  · rw [val_main_v256_eq, e0, e1, e2, e3, e4, e5, e6, e7, e8, e9, e10, e11, e12, e13]
  · rw [val_main_v262_eq, e1, e9, e10, e11, e12, e13]

end Cert.Proof.Token

end
-- ==== Proof.Wgrad.Claims.lean ====
module

public import proofs.«01_k».proof.Defs
public import proofs.«01_k».proof.Proof.Gen.WgradIdeal.Value
public import proofs.«01_k».proof.Proof.Gen.WgradRefIdeal.Run
public import proofs.«01_k».proof.Proof.Gen.WgradRefIdeal.Read
public import Idealize.ShloMosaic.Lib.Pointwise
public import Idealize.ShloMosaic.Lib.Claim

/-! The gradient of a weight: the tokens are summed in four blocks into a resident tile, which is the whole sum. -/

@[expose] public section

noncomputable section

namespace Cert.Proof.Wgrad

open Cert.WgradIdeal Cert.WgradIdeal.Gen Cert.WgradIdeal.Value Idealize.ShloMosaic Idealize.ShloMosaic.TcCoe Idealize.SL.Sem Idealize.ShloMosaic.Pointwise

variable (m : (ℓ : Loc nD τ sig) → Buf (Elt Ideal) ℓ) (c : Dev nD)

/-- Token `r` of block `t`, and column `j` of tile `n`. -/
def row (t : Fin 4) (r : Fin 2048) : Fin 8192 := ⟨2048 * t.val + r.val, by omega⟩
def col (n : Fin 4) (j : Fin 1408) : Fin 5632 := ⟨n.val * 1408 + j.val, by omega⟩

/-- The grid point of tile `n` and block `t`. -/
def pt (n t : Fin 4) : Fin cfg0.N := ⟨4 * n.val + t.val, by rw [show cfg0.N = 16 from N_0]; omega⟩

def argH (R : Fin 8192) (k : Fin 1024) : EReal := m ((c : Thread nD τ).loc main_arg0) (ix3 0 R k)
def argG (R : Fin 8192) (j : Fin 5632) : EReal := m ((c : Thread nD τ).loc main_arg1) (ix3 0 R j)

theorem V1_apply (y : S8192x1024.Idx) : V m c main_v1 y = argH m c (y 0) (y 1) := by
  show StableHlo.after hostOps0 _ (Proc.devRef .tc main_v1) y = _
  after_results
  pointwise []
  rfl

theorem V3_apply (y : S8192x5632.Idx) : V m c main_v3 y = argG m c (y 0) (y 1) := by
  show StableHlo.after hostOps0 _ (Proc.devRef .tc main_v3) y = _
  after_results
  pointwise []
  rfl

theorem index_blocks : ∀ n t : Fin 4, (win0_0.index (pt n t) 0 = t.val ∧ win0_0.index (pt n t) 1 = 0)
    ∧ (win0_1.index (pt n t) 0 = t.val ∧ win0_1.index (pt n t) 1 = n.val) := by decide +kernel

theorem emb0 (n t : Fin 4) (r : Fin 2048) (k : Fin 1024) :
    ((cfg0.win 0).blk (pt n t)).view.emb (ix2 r k) = (ix2 (row t r) k : S8192x1024.Idx) :=
  funext fun a => Fin.ext (by
    match a with
    | ⟨0, _⟩ => show win0_0.index (pt n t) 0 * 2048 + 1 * r.val = 2048 * t.val + r.val; rw [(index_blocks n t).1.1]; omega
    | ⟨1, _⟩ => show win0_0.index (pt n t) 1 * 1024 + 1 * k.val = k.val; rw [(index_blocks n t).1.2]; omega)

theorem emb1 (n t : Fin 4) (r : Fin 2048) (j : Fin 1408) :
    ((cfg0.win 1).blk (pt n t)).view.emb (ix2 r j) = (ix2 (row t r) (col n j) : S8192x5632.Idx) :=
  funext fun a => Fin.ext (by
    match a with
    | ⟨0, _⟩ => show win0_1.index (pt n t) 0 * 2048 + 1 * r.val = 2048 * t.val + r.val; rw [(index_blocks n t).2.1]; omega
    | ⟨1, _⟩ => show win0_1.index (pt n t) 1 * 1408 + 1 * j.val = n.val * 1408 + j.val; rw [(index_blocks n t).2.2]; omega)

theorem blk0 (n t : Fin 4) (r : Fin 2048) (k : Fin 1024) : iblk m c 0 (pt n t) (ix2 r k) = argH m c (row t r) k := by
  rw [show iblk m c 0 (pt n t) (ix2 r k) = V m c main_v1 (((cfg0.win 0).blk (pt n t)).view.emb (ix2 r k)) from rfl, emb0, V1_apply]; rfl
theorem blk1 (n t : Fin 4) (r : Fin 2048) (j : Fin 1408) : iblk m c 1 (pt n t) (ix2 r j) = argG m c (row t r) (col n j) := by
  rw [show iblk m c 1 (pt n t) (ix2 r j) = V m c main_v3 (((cfg0.win 1).blk (pt n t)).view.emb (ix2 r j)) from rfl, emb1, V3_apply]; rfl

theorem pay1_apply (y) : k0_pay1 (F := Ideal) y = 0 := by
  pointwise [k0_pay1]

theorem pay2_apply (a : Vec Ideal S1x1024x1408 .f32) (x : Vec Ideal S2048x1024 .bf16) (y : Vec Ideal S2048x1408 .bf16) (k : Fin 1024) (j : Fin 1408) :
    k0_pay2 (F := Ideal) a x y (ix3 0 k j) = a (ix3 0 k j) + ∑ r : Fin 2048, x (ix2 r k) * y (ix2 r j) := by
  pointwise [k0_pay2]

/-- What block `t` adds. -/
def term (n : Fin 4) (k : Fin 1024) (j : Fin 1408) (t : Fin 4) : EReal := ∑ r : Fin 2048, argH m c (row t r) k * argG m c (row t r) (col n j)

theorem step_blk (a : Vec Ideal S1x1024x1408 .f32) (n t : Fin 4) (k : Fin 1024) (j : Fin 1408) :
    k0_pay2 (F := Ideal) a (iblk m c 0 (pt n t)) (iblk m c 1 (pt n t)) (ix3 0 k j) = a (ix3 0 k j) + term m c n k j t :=
  (pay2_apply a _ _ k j).trans (congrArg _ (Finset.sum_congr rfl fun r _ => congrArg₂ (· * ·) (blk0 m c n t r k) (blk1 m c n t r j)))

/-- The tile after its four blocks. -/
theorem fold_eq (n : Fin 4) (k : Fin 1024) (j : Fin 1408) (h : 4 * n.val + 3 < cfg0.N) :
    Pipeline.accAt (reset2 m c) (step2 m c) (4 * n.val) 3 h (ix3 0 k j) = ∑ t : Fin 4, term m c n k j t := by
  rw [Fin.sum_univ_four, Pipeline.accAt_succ, Pipeline.accAt_succ, Pipeline.accAt_succ, Pipeline.accAt_zero]
  refine (step_blk m c _ n 3 k j).trans (congrArg (· + _) ?_)
  refine (step_blk m c _ n 2 k j).trans (congrArg (· + _) ?_)
  refine (step_blk m c _ n 1 k j).trans (congrArg (· + _) ?_)
  refine (step_blk m c _ n 0 k j).trans ?_
  rw [pay1_apply, zero_add]

theorem G2_apply (n : Fin 4) (k : Fin 1024) (j : Fin 1408) : G2 m c (ix3 n k j) = ∑ t : Fin 4, term m c n k j t := by
  have hr : run2Of (ix3 n k j) = n.val := by
    show 1 * (n.val / 1 - 0) + 1 * (k.val / 1024 - 0) + 1 * (j.val / 1408 - 0) = n.val
    omega
  have hl : loc2Of (ix3 n k j) = ix3 0 k j := funext fun a => Fin.ext (by
    match a with
    | ⟨0, _⟩ => show n.val % 1 = 0; omega
    | ⟨1, _⟩ => show k.val % 1024 = k.val; omega
    | ⟨2, _⟩ => show j.val % 1408 = j.val; omega)
  have hN : 4 * n.val + 3 < cfg0.N := by rw [show cfg0.N = 16 from N_0]; omega
  unfold G2
  rw [dif_pos (by rw [hr]; exact hN), hl]
  refine Eq.trans ?_ (fold_eq m c n k j hN)
  have e : ∀ (q : ℕ) (h : 4 * q + 3 < cfg0.N), q = n.val →
      Pipeline.accAt (reset2 m c) (step2 m c) (4 * q) 3 h (ix3 0 k j) = Pipeline.accAt (reset2 m c) (step2 m c) (4 * n.val) 3 hN (ix3 0 k j) := by
    rintro q h rfl
    rfl
  exact e _ _ hr

/-- Summing over the blocks and over the tokens of a block is summing over the tokens. -/
theorem sum_rows (f : Fin 8192 → EReal) : ∑ t : Fin 4, ∑ r : Fin 2048, f (row t r) = ∑ R, f R := by
  rw [← Finset.sum_product', ← (finProdFinEquiv (m := 4) (n := 2048)).sum_comp f]
  exact Finset.sum_congr rfl fun p _ => congrArg f (Fin.ext ((add_comm _ _).trans (finProdFinEquiv_apply_val p).symm))

theorem sum_term (n : Fin 4) (k : Fin 1024) (j : Fin 1408) : ∑ t : Fin 4, term m c n k j t = ∑ R : Fin 8192, argG m c R (col n j) * argH m c R k := by
  unfold term
  rw [sum_rows fun R => argH m c R k * argG m c R (col n j)]
  exact Finset.sum_congr rfl fun R _ => mul_comm _ _

open Cert.WgradRefIdeal.Read in
theorem reference_apply (x0 : (⟨Cert.WgradRefIdeal.S1x8192x1024, .f32⟩ : BufTy).Contents (Elt Ideal))
    (x1 : (⟨Cert.WgradRefIdeal.S1x8192x5632, .f32⟩ : BufTy).Contents (Elt Ideal)) (n : Fin 4) (k : Fin 1024) (j : Fin 1408) :
    val_main_v7 (F := Ideal) x0 x1 (ix3 n k j) = ∑ R : Fin 8192, (x1 (ix3 0 R (col n j)) : EReal) * x0 (ix3 0 R k) := by
  pointwise [val_main_v7, val_main_v6, val_main_v5, val_main_v4, val_main_v3, val_main_v1]
  exact Finset.sum_congr rfl fun _ _ => rfl

theorem frame_reference : Cert.quiescent_WgradRefIdeal (hWgradRefIdeal := Cert.WgradRefIdeal.Gen.facts) := fun m ρ _ =>
  (θ_run Cert.WgradRefIdeal.defs _ _).mono (fun r h => ⟨fun c => (h c).2, sem_eq_zero_of_no_sems (by decide) r.2⟩)
    (Cert.WgradRefIdeal.Value.run (F := Ideal) m ρ)

theorem algebraic : Cert.algebraic_WgradIdeal_WgradRefIdeal (hWgradIdeal := Cert.WgradIdeal.Gen.facts)
    (hWgradRefIdeal := Cert.WgradRefIdeal.Gen.facts) := by
  intro m g m' g' _ hm
  refine ⟨_, (θ_run Cert.WgradIdeal.defs _ _).mono (fun _ h => h) (Cert.WgradIdeal.Value.run (F := Ideal) m g),
    (θ_run Cert.WgradRefIdeal.defs _ _).mono (fun _ h c => ⟨(h c).1.trans ?_, (h c).2⟩) (Cert.WgradRefIdeal.Value.run (F := Ideal) m' g')⟩
  obtain ⟨h0, h1⟩ := hm c
  rw [Cert.WgradRefIdeal.Read.val_main_v7_eq, h0, h1]
  funext y
  obtain ⟨n, k, j, rfl⟩ : ∃ (n : Fin 4) (k : Fin 1024) (j : Fin 1408), y = ix3 n k j := ⟨y 0, y 1, y 2, eq_ix3 y⟩
  refine (reference_apply _ _ n k j).trans (Eq.symm ((G2_apply m c n k j).trans ?_))
  exact sum_term m c n k j

end Cert.Proof.Wgrad

end
-- ==== Proof.Adam.Blocks.lean ====
module

public import proofs.«01_k».proof.Proof.Gen.AdamIdeal.Frame
public import Idealize.ShloMosaic.Lib.Pointwise
public import Idealize.ShloMosaic.Lib.StableHlo.ReadAt
public import proofs.«01_k».proof.Proof.Common.Tiles

/-! What the four results of a point hold, from the blocks it reads. -/

@[expose] public section

set_option maxRecDepth 16384

noncomputable section

namespace Cert.Proof.Adam

open Cert.AdamIdeal Cert.AdamIdeal.Gen Idealize.ShloMosaic Idealize.ShloMosaic.TcCoe Idealize.SL.Sem Idealize.ShloMosaic.Pointwise

variable (m : (ℓ : Loc nD τ sig) → Buf (Elt Ideal) ℓ) (c : Dev nD)

theorem ok : Ok m := trivial

/-- The core's own half, as the table holds it. -/
def half : BitVec 32 := m ((((0 : Dev nD)) : Thread nD τ).loc main_arg5) (ix1 0)

abbrev points := (cfgM m (ok m)).N

theorem zeros2 : (![0, 0] : Fin 2 → ℕ) = fun _ => 0 := funext fun a => by
  match a with
  | ⟨0, _⟩ => rfl
  | ⟨1, _⟩ => rfl

theorem one_index (x y : S1.Idx) : x = y := funext fun a => Fin.ext (by
  match a with
  | ⟨0, h⟩ =>
    have hx : (x ⟨0, h⟩).val < 1 := (x ⟨0, h⟩).isLt
    have hy : (y ⟨0, h⟩).val < 1 := (y ⟨0, h⟩).isLt
    omega)

section
variable (i : grid0.Coords) {b3 b4 b5 b6 b7 b8 b9 b10 b11 : Memref sig .tc .vmem S256x1408 .f32}
  (h3 : b3.IsWhole) (h4 : b4.IsWhole) (h5 : b5.IsWhole) (h6 : b6.IsWhole) (h7 : b7.IsWhole) (h8 : b8.IsWhole) (h9 : b9.IsWhole) (h10 : b10.IsWhole) (h11 : b11.IsWhole)
  (w a b mo v : Vec Ideal S256x1408 .f32) (k : TbBuf0 (F := Ideal) c tbM0_0)

theorem word_read (h) : View.ld (View.read (Elt Ideal) (View.whole main_arg5) k) (Rect.unit ![0] ![1] inb_S1_S1_0) (Shape.Idx.first h) = k (ix1 0) :=
  congrArg k (one_index _ _)

theorem gradient_left : out0_A_5 c i b3 h3 b4 h4 b5 h5 b6 h6 b7 h7 b8 h8 b9 h9 b10 h10 b11 h11 w a b mo v k = k0_pay2 i (k (ix1 0)) a b := by
  unfold out0_A_5
  rw [View.read_writes_eq_canon _ _ _ (cover0_A_5 c i b3 h3 b4 h4 b5 h5 b6 h6 b7 h7 b8 h8 b9 h9 b10 h10 b11 h11 w a b mo v k)]
  unfold kernelRun0_A
  dsimp only
  try sl_unfold_words
  rw [View.canon_unit_zero zeros2]
  simp only [View.readAt_eq_ld, h3.read_unread, h4.read_unread, h5.read_unread, h6.read_unread, h7.read_unread, View.ld_unit_zero (S := S256x1408) zeros2]
  exact congrArg (fun q => k0_pay2 i q a b) (word_read c k _)

theorem step_left : out0_A_6 c i b3 h3 b4 h4 b5 h5 b6 h6 b7 h7 b8 h8 b9 h9 b10 h10 b11 h11 w a b mo v k = k0_pay1 (k0_pay5 i (k (ix1 0)) a b w mo v) (k0_pay6 (F := Ideal)) := by
  unfold out0_A_6
  rw [View.read_writes_eq_canon _ _ _ (cover0_A_6 c i b3 h3 b4 h4 b5 h5 b6 h6 b7 h7 b8 h8 b9 h9 b10 h10 b11 h11 w a b mo v k)]
  unfold kernelRun0_A
  dsimp only
  try sl_unfold_words
  rw [View.canon_unit_zero zeros2]
  simp only [View.readAt_eq_ld, h3.read_unread, h4.read_unread, h5.read_unread, h6.read_unread, h7.read_unread, View.ld_unit_zero (S := S256x1408) zeros2]
  exact congrArg (fun q => k0_pay1 (k0_pay5 i q a b w mo v) (k0_pay6 (F := Ideal))) (word_read c k _)

theorem mean_left : out0_A_7 c i b3 h3 b4 h4 b5 h5 b6 h6 b7 h7 b8 h8 b9 h9 b10 h10 b11 h11 w a b mo v k = k0_pay3 i (k (ix1 0)) a b mo := by
  unfold out0_A_7
  rw [View.read_writes_eq_canon _ _ _ (cover0_A_7 c i b3 h3 b4 h4 b5 h5 b6 h6 b7 h7 b8 h8 b9 h9 b10 h10 b11 h11 w a b mo v k)]
  unfold kernelRun0_A
  dsimp only
  try sl_unfold_words
  rw [View.canon_unit_zero zeros2]
  simp only [View.readAt_eq_ld, h3.read_unread, h4.read_unread, h5.read_unread, h6.read_unread, h7.read_unread, View.ld_unit_zero (S := S256x1408) zeros2]
  exact congrArg (fun q => k0_pay3 i q a b mo) (word_read c k _)

theorem square_left : out0_A_8 c i b3 h3 b4 h4 b5 h5 b6 h6 b7 h7 b8 h8 b9 h9 b10 h10 b11 h11 w a b mo v k = k0_pay4 i (k (ix1 0)) a b v := by
  unfold out0_A_8
  rw [View.read_writes_eq_canon _ _ _ (cover0_A_8 c i b3 h3 b4 h4 b5 h5 b6 h6 b7 h7 b8 h8 b9 h9 b10 h10 b11 h11 w a b mo v k)]
  unfold kernelRun0_A
  dsimp only
  try sl_unfold_words
  rw [View.canon_unit_zero zeros2]
  simp only [View.readAt_eq_ld, h3.read_unread, h4.read_unread, h5.read_unread, h6.read_unread, h7.read_unread, View.ld_unit_zero (S := S256x1408) zeros2]
  exact congrArg (fun q => k0_pay4 i q a b v) (word_read c k _)

end

/-! The update of one number. -/

def pick (h : ℕ) (k : BitVec 32) (a b : EReal) : EReal := if BitVec.ofNat 32 h = k then a else b
def mean (g x : EReal) : EReal := Ideal.ofBits .f32 0x3F666666#32 * x + Ideal.ofBits .f32 0x3DCCCCCD#32 * g
def square (g v : EReal) : EReal := Ideal.ofBits .f32 0x3F7FBE77#32 * v + Ideal.ofBits .f32 0x3A83126F#32 * (g * g)
def step (g w x v : EReal) : EReal :=
  Ideal.ofBits .f32 0xBA83126F#32 * (FloatOps.divf (F := Ideal) (φ := .f32) (FloatOps.divf (F := Ideal) (φ := .f32) (mean g x) (Ideal.ofBits .f32 0x3F26BD02#32))
    (FloatOps.sqrt (F := Ideal) (φ := .f32) (FloatOps.divf (F := Ideal) (φ := .f32) (square g v) (Ideal.ofBits .f32 0x3C231ACC#32)) + Ideal.ofBits .f32 0x322BCC77#32)
    + Ideal.ofBits .f32 0x3C23D70A#32 * w)

section
variable (i : grid0.Coords) (k : BitVec 32) (w a b mo v : Vec Ideal S256x1408 .f32) (y : S256x1408.Idx)

theorem pay2_apply : k0_pay2 i k a b y = pick (i 0).val k (a y) (b y) := by
  unfold k0_pay2 pick
  dsimp only
  by_cases h : BitVec.ofNat 32 (i 0).val = k
  · rw [if_pos h, h]
    simp [Scalar.select, Scalar.cmpi, IntOp.cmpi]
  · rw [if_neg h]
    have h' : (BitVec.ofNat 32 (i 0).val == k) = false := by simpa using h
    have h1 : ¬BitVec.ofBool false = 1#1 := by decide
    simp [Scalar.select, Scalar.cmpi, IntOp.cmpi, h', h1]

theorem pay3_apply : k0_pay3 i k a b mo y = mean (pick (i 0).val k (a y) (b y)) (mo y) := by
  unfold k0_pay3
  rw [shapeCast_self]
  exact congrArg (fun g => mean g (mo y)) (pay2_apply i k a b y)

theorem pay4_apply : k0_pay4 i k a b v y = square (pick (i 0).val k (a y) (b y)) (v y) := by
  unfold k0_pay4
  rw [shapeCast_self]
  exact congrArg (fun g => square g (v y)) (pay2_apply i k a b y)

theorem pay1_apply : k0_pay1 (k0_pay5 i k a b w mo v) (k0_pay6 (F := Ideal)) y = step (pick (i 0).val k (a y) (b y)) (w y) (mo y) (v y) := by
  unfold k0_pay1 k0_pay5 k0_pay6
  rw [shapeCast_self]
  unfold step
  rw [← pay3_apply, ← pay4_apply]
  rfl

end

/-! Where a point's blocks lie. -/

/-- The grid point of half `h` and block `i`; row `p` of block `i`; row `r` of half `h`. -/
def pt (h i : Fin 2) : Fin (points m) := (⟨2 * h.val + i.val, by rw [show grid0.N = 4 from rfl]; omega⟩ : Fin grid0.N)
def inHalf (i : Fin 2) (p : Fin 256) : Fin 512 := ⟨256 * i.val + p.val, by omega⟩
def inAll (h : Fin 2) (r : Fin 512) : Fin 1024 := ⟨512 * h.val + r.val, by omega⟩

theorem ix2_ext {a b : ℕ} (y : (⟨2, ![a, b]⟩ : Shape).Idx) (r : Fin a) (j : Fin b) (h0 : (y 0).val = r.val) (h1 : (y 1).val = j.val) : y = ix2 r j :=
  funext fun d => Fin.ext (by
    match d with
    | ⟨0, _⟩ => exact h0
    | ⟨1, _⟩ => exact h1)

theorem coord_at : ∀ t : Fin grid0.N, (grid0.coords t 0).val = t.val / 2 := by decide +kernel
theorem all_at : ∀ t : Fin grid0.N, (cc0_transform_0 (grid0.coords t) 0 = t.val ∧ cc0_transform_0 (grid0.coords t) 1 = 0)
    ∧ (cc0_transform_3 (grid0.coords t) 0 = t.val ∧ cc0_transform_3 (grid0.coords t) 1 = 0)
    ∧ (cc0_transform_4 (grid0.coords t) 0 = t.val ∧ cc0_transform_4 (grid0.coords t) 1 = 0)
    ∧ (cc0_transform_5 (grid0.coords t) 0 = t.val ∧ cc0_transform_5 (grid0.coords t) 1 = 0)
    ∧ (cc0_transform_6 (grid0.coords t) 0 = t.val ∧ cc0_transform_6 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0) := by decide +kernel
theorem half_at : ∀ t : Fin grid0.N, (cc0_transform_1 (grid0.coords t) 0 = t.val % 2 ∧ cc0_transform_1 (grid0.coords t) 1 = 0)
    ∧ (cc0_transform_2 (grid0.coords t) 0 = t.val % 2 ∧ cc0_transform_2 (grid0.coords t) 1 = 0) := by decide +kernel

theorem emb_all {q : ℕ} {t : Fin grid0.N} (h i : Fin 2) (p : Fin 256) (ht : t.val = 2 * h.val + i.val) (hq : q = t.val) :
    q * 256 + 1 * p.val = (inAll h (inHalf i p)).val := by
  show _ = 512 * h.val + (256 * i.val + p.val)
  omega
theorem emb_half {q : ℕ} {t : Fin grid0.N} (h i : Fin 2) (p : Fin 256) (ht : t.val = 2 * h.val + i.val) (hq : q = t.val % 2) :
    q * 256 + 1 * p.val = (inHalf i p).val := by
  show _ = 256 * i.val + p.val
  omega
theorem emb_col {q j : ℕ} (hq : q = 0) : q * 1408 + 1 * j = j := by omega

section
variable (h i : Fin 2) (p : Fin 256) (j : Fin 1408)

theorem emb0 : (((cfgM m (ok m)).win 0).blk (pt m h i)).view.emb (ix2 p j) = (ix2 (inAll h (inHalf i p)) j : S1024x1408.Idx) :=
  ix2_ext _ _ _ (emb_all (t := pt m h i) h i p rfl (all_at _).1.1) (emb_col (all_at (pt m h i)).1.2)
theorem emb3 : (((cfgM m (ok m)).win 3).blk (pt m h i)).view.emb (ix2 p j) = (ix2 (inAll h (inHalf i p)) j : S1024x1408.Idx) :=
  ix2_ext _ _ _ (emb_all (t := pt m h i) h i p rfl (all_at _).2.1.1) (emb_col (all_at (pt m h i)).2.1.2)
theorem emb4 : (((cfgM m (ok m)).win 4).blk (pt m h i)).view.emb (ix2 p j) = (ix2 (inAll h (inHalf i p)) j : S1024x1408.Idx) :=
  ix2_ext _ _ _ (emb_all (t := pt m h i) h i p rfl (all_at _).2.2.1.1) (emb_col (all_at (pt m h i)).2.2.1.2)
theorem emb5 : (((cfgM m (ok m)).win 5).blk (pt m h i)).view.emb (ix2 p j) = (ix2 (inAll h (inHalf i p)) j : S1024x1408.Idx) :=
  ix2_ext _ _ _ (emb_all (t := pt m h i) h i p rfl (all_at _).2.2.2.1.1) (emb_col (all_at (pt m h i)).2.2.2.1.2)
theorem emb6 : (((cfgM m (ok m)).win 6).blk (pt m h i)).view.emb (ix2 p j) = (ix2 (inAll h (inHalf i p)) j : S1024x1408.Idx) :=
  ix2_ext _ _ _ (emb_all (t := pt m h i) h i p rfl (all_at _).2.2.2.2.1.1) (emb_col (all_at (pt m h i)).2.2.2.2.1.2)
theorem emb7 : (((cfgM m (ok m)).win 7).blk (pt m h i)).view.emb (ix2 p j) = (ix2 (inAll h (inHalf i p)) j : S1024x1408.Idx) :=
  ix2_ext _ _ _ (emb_all (t := pt m h i) h i p rfl (all_at _).2.2.2.2.2.1.1) (emb_col (all_at (pt m h i)).2.2.2.2.2.1.2)
theorem emb8 : (((cfgM m (ok m)).win 8).blk (pt m h i)).view.emb (ix2 p j) = (ix2 (inAll h (inHalf i p)) j : S1024x1408.Idx) :=
  ix2_ext _ _ _ (emb_all (t := pt m h i) h i p rfl (all_at _).2.2.2.2.2.2.1) (emb_col (all_at (pt m h i)).2.2.2.2.2.2.2)
theorem emb1 : (((cfgM m (ok m)).win 1).blk (pt m h i)).view.emb (ix2 p j) = (ix2 (inHalf i p) j : S512x1408.Idx) :=
  ix2_ext _ _ _ (emb_half (t := pt m h i) h i p rfl (half_at _).1.1) (emb_col (half_at (pt m h i)).1.2)
theorem emb2 : (((cfgM m (ok m)).win 2).blk (pt m h i)).view.emb (ix2 p j) = (ix2 (inHalf i p) j : S512x1408.Idx) :=
  ix2_ext _ _ _ (emb_half (t := pt m h i) h i p rfl (half_at _).2.1) (emb_col (half_at (pt m h i)).2.2)

theorem coord : (grid0.coords (pt m h i) 0).val = h.val := (coord_at (pt m h i)).trans (by
  show (2 * h.val + i.val) / 2 = h.val
  omega)

end

/-! The arguments, and what the input windows hold. -/

def argW (R : Fin 1024) (j : Fin 1408) : EReal := m ((c : Thread nD τ).loc main_arg0) (ix3 0 R j)
def argA (r : Fin 512) (j : Fin 1408) : EReal := m ((c : Thread nD τ).loc main_arg1) (ix2 r j)
def argB (r : Fin 512) (j : Fin 1408) : EReal := m ((c : Thread nD τ).loc main_arg2) (ix2 r j)
def argM (R : Fin 1024) (j : Fin 1408) : EReal := m ((c : Thread nD τ).loc main_arg3) (ix3 0 R j)
def argV (R : Fin 1024) (j : Fin 1408) : EReal := m ((c : Thread nD τ).loc main_arg4) (ix3 0 R j)

theorem V0_apply (R : Fin 1024) (j : Fin 1408) : V m c main_v0 (ix2 R j) = argW m c R j := by
  unfold_abbrev_sides
  after_reads_at
  rfl

theorem V1_apply (R : Fin 1024) (j : Fin 1408) : V m c main_v1 (ix2 R j) = argM m c R j := by
  unfold_abbrev_sides
  after_reads_at
  rfl

theorem V2_apply (R : Fin 1024) (j : Fin 1408) : V m c main_v2 (ix2 R j) = argV m c R j := by
  unfold_abbrev_sides
  after_reads_at
  rfl

section
variable (h i : Fin 2) (p : Fin 256) (j : Fin 1408)

theorem blk0 : iblk m (ok m) c 0 (pt m h i) (ix2 p j) = argW m c (inAll h (inHalf i p)) j :=
  (congrArg (V m c main_v0) (emb0 m h i p j)).trans (V0_apply m c _ _)
theorem blk3 : iblk m (ok m) c 3 (pt m h i) (ix2 p j) = argM m c (inAll h (inHalf i p)) j :=
  (congrArg (V m c main_v1) (emb3 m h i p j)).trans (V1_apply m c _ _)
theorem blk4 : iblk m (ok m) c 4 (pt m h i) (ix2 p j) = argV m c (inAll h (inHalf i p)) j :=
  (congrArg (V m c main_v2) (emb4 m h i p j)).trans (V2_apply m c _ _)
theorem blk1 : iblk m (ok m) c 1 (pt m h i) (ix2 p j) = argA m c (inHalf i p) j :=
  (congrArg (V m c main_arg1) (emb1 m h i p j)).trans (congrFun (V_main_arg1 m c) _)
theorem blk2 : iblk m (ok m) c 2 (pt m h i) (ix2 p j) = argB m c (inHalf i p) j :=
  (congrArg (V m c main_arg2) (emb2 m h i p j)).trans (congrFun (V_main_arg2 m c) _)

end

/-! The results. -/

theorem inj5 (t t' : Fin grid0.N) (e : cc0_transform_5 (grid0.coords t) = cc0_transform_5 (grid0.coords t')) : t = t' :=
  Fin.ext ((all_at t).2.2.2.1.1.symm.trans ((congrFun e 0).trans (all_at t').2.2.2.1.1))
theorem inj6 (t t' : Fin grid0.N) (e : cc0_transform_6 (grid0.coords t) = cc0_transform_6 (grid0.coords t')) : t = t' :=
  Fin.ext ((all_at t).2.2.2.2.1.1.symm.trans ((congrFun e 0).trans (all_at t').2.2.2.2.1.1))
theorem inj7 (t t' : Fin grid0.N) (e : cc0_transform_7 (grid0.coords t) = cc0_transform_7 (grid0.coords t')) : t = t' :=
  Fin.ext ((all_at t).2.2.2.2.2.1.1.symm.trans ((congrFun e 0).trans (all_at t').2.2.2.2.2.1.1))
theorem inj8 (t t' : Fin grid0.N) (e : cc0_transform_8 (grid0.coords t) = cc0_transform_8 (grid0.coords t')) : t = t' :=
  Fin.ext ((all_at t).2.2.2.2.2.2.1.symm.trans ((congrFun e 0).trans (all_at t').2.2.2.2.2.2.1))

/-- The gradient of a row of half `h`: the own part in the core's own half, else the other core's. -/
def grad (h : Fin 2) (r : Fin 512) (j : Fin 1408) : EReal := pick h.val (half m) (argA m c r j) (argB m c r j)

theorem final_of (w : Fin (cfgM m (ok m)).W) (hk : ((cfgM m (ok m)).win w).kind = Pipeline.WinKind.blocked)
    (inj : ∀ t t' : Fin (points m), ((cfgM m (ok m)).win w).index t = ((cfgM m (ok m)).win w).index t' → t = t')
    (hf : ∀ t, ((cfgM m (ok m)).win w).flush t = true) (t : Fin (points m)) :
    (((cfgM m (ok m)).win w).blk t).view.read (Elt Ideal) ((dats m (ok m) 0 c).arrAt w (points m)) = (dats m (ok m) 0 c).flushed w t :=
  (dats m (ok m) 0 c).read_blk_arrAt_eq_flushed w (fun t t' _ _ hne => ((cfgM m (ok m)).win w).disjoint_blk (hk := hk) fun h => hne (inj t t' h)) (points m) t t.isLt (hf t)

section
variable (t : Fin (cfgM m (ok m)).N)

theorem gradient_at : (outsAt0 m (ok m) c t).1 = k0_pay2 (grid0.coords t) (tbl m 0 (ix1 0)) (iblk m (ok m) c 1 t) (iblk m (ok m) c 2 t) := by
  unfold outsAt0
  dsimp only
  exact gradient_left c (grid0.coords t) (hs0_0 m (ok m) t) (hs0_1 m (ok m) t) (hs0_2 m (ok m) t) (hs0_3 m (ok m) t) (hs0_4 m (ok m) t) (hs0_5 m (ok m) t) (hs0_6 m (ok m) t) (hs0_7 m (ok m) t) (hs0_8 m (ok m) t) (iblk m (ok m) c 0 t) (iblk m (ok m) c 1 t) (iblk m (ok m) c 2 t) (iblk m (ok m) c 3 t) (iblk m (ok m) c 4 t) (tbl m 0)
theorem step_at : (outsAt0 m (ok m) c t).2.1 = k0_pay1 (k0_pay5 (grid0.coords t) (tbl m 0 (ix1 0)) (iblk m (ok m) c 1 t) (iblk m (ok m) c 2 t) (iblk m (ok m) c 0 t) (iblk m (ok m) c 3 t) (iblk m (ok m) c 4 t)) (k0_pay6 (F := Ideal)) := by
  unfold outsAt0
  dsimp only
  exact step_left c (grid0.coords t) (hs0_0 m (ok m) t) (hs0_1 m (ok m) t) (hs0_2 m (ok m) t) (hs0_3 m (ok m) t) (hs0_4 m (ok m) t) (hs0_5 m (ok m) t) (hs0_6 m (ok m) t) (hs0_7 m (ok m) t) (hs0_8 m (ok m) t) (iblk m (ok m) c 0 t) (iblk m (ok m) c 1 t) (iblk m (ok m) c 2 t) (iblk m (ok m) c 3 t) (iblk m (ok m) c 4 t) (tbl m 0)
theorem mean_at : (outsAt0 m (ok m) c t).2.2.1 = k0_pay3 (grid0.coords t) (tbl m 0 (ix1 0)) (iblk m (ok m) c 1 t) (iblk m (ok m) c 2 t) (iblk m (ok m) c 3 t) := by
  unfold outsAt0
  dsimp only
  exact mean_left c (grid0.coords t) (hs0_0 m (ok m) t) (hs0_1 m (ok m) t) (hs0_2 m (ok m) t) (hs0_3 m (ok m) t) (hs0_4 m (ok m) t) (hs0_5 m (ok m) t) (hs0_6 m (ok m) t) (hs0_7 m (ok m) t) (hs0_8 m (ok m) t) (iblk m (ok m) c 0 t) (iblk m (ok m) c 1 t) (iblk m (ok m) c 2 t) (iblk m (ok m) c 3 t) (iblk m (ok m) c 4 t) (tbl m 0)
theorem square_at : (outsAt0 m (ok m) c t).2.2.2 = k0_pay4 (grid0.coords t) (tbl m 0 (ix1 0)) (iblk m (ok m) c 1 t) (iblk m (ok m) c 2 t) (iblk m (ok m) c 4 t) := by
  unfold outsAt0
  dsimp only
  exact square_left c (grid0.coords t) (hs0_0 m (ok m) t) (hs0_1 m (ok m) t) (hs0_2 m (ok m) t) (hs0_3 m (ok m) t) (hs0_4 m (ok m) t) (hs0_5 m (ok m) t) (hs0_6 m (ok m) t) (hs0_7 m (ok m) t) (hs0_8 m (ok m) t) (iblk m (ok m) c 0 t) (iblk m (ok m) c 1 t) (iblk m (ok m) c 2 t) (iblk m (ok m) c 3 t) (iblk m (ok m) c 4 t) (tbl m 0)
theorem final5 (X : S256x1408.Idx → EReal) (hX : (outsAt0 m (ok m) c t).1 = X) (x : S256x1408.Idx) :
    (dats m (ok m) 0 c).arrAt 5 (points m) ((((cfgM m (ok m)).win 5).blk t).view.emb x) = X x := by
  have e : (dats m (ok m) 0 c).flushed 5 t = X := congrArg (((cfgM m (ok m)).win 5).cut (grid0.coords t)) ((after0_5 m (ok m) c t).trans hX)
  have h : (((cfgM m (ok m)).win 5).blk t).view.read (Elt Ideal) ((dats m (ok m) 0 c).arrAt 5 (points m)) x = X x :=
    (congrFun (final_of m c 5 rfl (fun t t' e => inj5 t t' e) (flush0_5 _) t) x).trans (congrFun e x)
  generalize (dats m (ok m) 0 c).arrAt 5 (points m) = f at h ⊢
  exact h

theorem final6 (X : S256x1408.Idx → EReal) (hX : (outsAt0 m (ok m) c t).2.1 = X) (x : S256x1408.Idx) :
    (dats m (ok m) 0 c).arrAt 6 (points m) ((((cfgM m (ok m)).win 6).blk t).view.emb x) = X x := by
  have e : (dats m (ok m) 0 c).flushed 6 t = X := congrArg (((cfgM m (ok m)).win 6).cut (grid0.coords t)) ((after0_6 m (ok m) c t).trans hX)
  have h : (((cfgM m (ok m)).win 6).blk t).view.read (Elt Ideal) ((dats m (ok m) 0 c).arrAt 6 (points m)) x = X x :=
    (congrFun (final_of m c 6 rfl (fun t t' e => inj6 t t' e) (flush0_6 _) t) x).trans (congrFun e x)
  generalize (dats m (ok m) 0 c).arrAt 6 (points m) = f at h ⊢
  exact h

theorem final7 (X : S256x1408.Idx → EReal) (hX : (outsAt0 m (ok m) c t).2.2.1 = X) (x : S256x1408.Idx) :
    (dats m (ok m) 0 c).arrAt 7 (points m) ((((cfgM m (ok m)).win 7).blk t).view.emb x) = X x := by
  have e : (dats m (ok m) 0 c).flushed 7 t = X := congrArg (((cfgM m (ok m)).win 7).cut (grid0.coords t)) ((after0_7 m (ok m) c t).trans hX)
  have h : (((cfgM m (ok m)).win 7).blk t).view.read (Elt Ideal) ((dats m (ok m) 0 c).arrAt 7 (points m)) x = X x :=
    (congrFun (final_of m c 7 rfl (fun t t' e => inj7 t t' e) (flush0_7 _) t) x).trans (congrFun e x)
  generalize (dats m (ok m) 0 c).arrAt 7 (points m) = f at h ⊢
  exact h

theorem final8 (X : S256x1408.Idx → EReal) (hX : (outsAt0 m (ok m) c t).2.2.2 = X) (x : S256x1408.Idx) :
    (dats m (ok m) 0 c).arrAt 8 (points m) ((((cfgM m (ok m)).win 8).blk t).view.emb x) = X x := by
  have e : (dats m (ok m) 0 c).flushed 8 t = X := congrArg (((cfgM m (ok m)).win 8).cut (grid0.coords t)) ((after0_8 m (ok m) c t).trans hX)
  have h : (((cfgM m (ok m)).win 8).blk t).view.read (Elt Ideal) ((dats m (ok m) 0 c).arrAt 8 (points m)) x = X x :=
    (congrFun (final_of m c 8 rfl (fun t t' e => inj8 t t' e) (flush0_8 _) t) x).trans (congrFun e x)
  generalize (dats m (ok m) 0 c).arrAt 8 (points m) = f at h ⊢
  exact h

end

theorem split_half (r : Fin 512) : ∃ (i : Fin 2) (p : Fin 256), r = inHalf i p :=
  ⟨⟨r.val / 256, by omega⟩, ⟨r.val % 256, by omega⟩, Fin.ext (by show r.val = 256 * (r.val / 256) + r.val % 256; omega)⟩
theorem split_all (R : Fin 1024) : ∃ (h : Fin 2) (r : Fin 512), R = inAll h r :=
  ⟨⟨R.val / 512, by omega⟩, ⟨R.val % 512, by omega⟩, Fin.ext (by show R.val = 512 * (R.val / 512) + R.val % 512; omega)⟩

theorem grad_at (h i : Fin 2) (p : Fin 256) (j : Fin 1408) :
    pick (grid0.coords (pt m h i) 0).val (tbl m 0 (ix1 0)) (iblk m (ok m) c 1 (pt m h i) (ix2 p j)) (iblk m (ok m) c 2 (pt m h i) (ix2 p j)) = grad m c h (inHalf i p) j := by
  rw [coord, blk1, blk2]
  exact congrArg (fun k => pick h.val k (argA m c (inHalf i p) j) (argB m c (inHalf i p) j)) (congrFun (V_main_arg5 m 0) (ix1 0))

variable (h : Fin 2) (r : Fin 512) (j : Fin 1408)

theorem gradient_final : (dats m (ok m) 0 c).arrAt 5 (points m) (ix2 (inAll h r) j) = grad m c h r j := by
  obtain ⟨i, p, rfl⟩ := split_half r
  rw [← emb5 m h i p j]
  refine (final5 m c (pt m h i) _ (gradient_at m c (pt m h i)) (ix2 p j)).trans ((pay2_apply _ _ _ _ _).trans ?_)
  exact grad_at m c h i p j

theorem mean_final : (dats m (ok m) 0 c).arrAt 7 (points m) (ix2 (inAll h r) j) = mean (grad m c h r j) (argM m c (inAll h r) j) := by
  obtain ⟨i, p, rfl⟩ := split_half r
  rw [← emb7 m h i p j]
  refine (final7 m c (pt m h i) _ (mean_at m c (pt m h i)) (ix2 p j)).trans ((pay3_apply _ _ _ _ _ _).trans ?_)
  exact congrArg₂ mean (grad_at m c h i p j) (blk3 m c h i p j)

theorem square_final : (dats m (ok m) 0 c).arrAt 8 (points m) (ix2 (inAll h r) j) = square (grad m c h r j) (argV m c (inAll h r) j) := by
  obtain ⟨i, p, rfl⟩ := split_half r
  rw [← emb8 m h i p j]
  refine (final8 m c (pt m h i) _ (square_at m c (pt m h i)) (ix2 p j)).trans ((pay4_apply _ _ _ _ _ _).trans ?_)
  exact congrArg₂ square (grad_at m c h i p j) (blk4 m c h i p j)

theorem step_final : (dats m (ok m) 0 c).arrAt 6 (points m) (ix2 (inAll h r) j)
    = step (grad m c h r j) (argW m c (inAll h r) j) (argM m c (inAll h r) j) (argV m c (inAll h r) j) := by
  obtain ⟨i, p, rfl⟩ := split_half r
  rw [← emb6 m h i p j]
  refine (final6 m c (pt m h i) _ (step_at m c (pt m h i)) (ix2 p j)).trans ((pay1_apply _ _ _ _ _ _ _ _).trans ?_)
  rw [grad_at, blk0, blk3, blk4]

end Cert.Proof.Adam

end
-- ==== Proof.Adam.Claims.lean ====
module

public import proofs.«01_k».proof.Defs
public import proofs.«01_k».proof.Proof.Gen.AdamRefIdeal.Run
public import proofs.«01_k».proof.Proof.Gen.AdamRefIdeal.Read
public import proofs.«01_k».proof.Proof.Adam.Blocks
public import Idealize.ShloMosaic.Lib.Claim

/-! The optimiser's step on a weight whose gradient lies in halves on the two cores of a chip. -/

@[expose] public section

set_option maxRecDepth 16384

noncomputable section

namespace Cert.Proof.Adam

open Idealize.ShloMosaic Idealize.ShloMosaic.TcCoe Idealize.SL.Sem Idealize.ShloMosaic.Pointwise

section
open Cert.AdamRefIdeal Cert.AdamRefIdeal.Read

variable (x0 : (⟨S1x1024x1408, .f32⟩ : BufTy).Contents (Elt Ideal)) (x1 x2 : (⟨S512x1408, .f32⟩ : BufTy).Contents (Elt Ideal))
  (x3 x4 : (⟨S1x1024x1408, .f32⟩ : BufTy).Contents (Elt Ideal)) (x5 : (⟨S1, .i32⟩ : BufTy).Contents (Elt Ideal))
  (h : Fin 2) (r : Fin 512) (j : Fin 1408)

theorem select_word (n : ℕ) (k : BitVec 32) (a b : EReal) : (if IntOp.cmpi .eq k (BitVec.ofNat 32 n) = 1#1 then a else b) = pick n k a b := by
  unfold pick
  by_cases e : BitVec.ofNat 32 n = k
  · rw [if_pos e, ← e]
    simp [IntOp.cmpi]
  · have e' : (k == BitVec.ofNat 32 n) = false := by simpa using fun q => e q.symm
    rw [if_neg e]
    simp [IntOp.cmpi, e']

theorem lower : val_main_v2 (F := Ideal) x1 x2 x5 (ix2 r j) = pick 0 (x5 (ix1 0)) (x1 (ix2 r j)) (x2 (ix2 r j)) := by
  refine Eq.trans ?_ (select_word 0 (x5 (ix1 0)) (x1 (ix2 r j)) (x2 (ix2 r j)))
  pointwise [val_main_v2, val_main_v1, val_main_v0, val_main_c]
  rfl

theorem upper : val_main_v5 (F := Ideal) x1 x2 x5 (ix2 r j) = pick 1 (x5 (ix1 0)) (x1 (ix2 r j)) (x2 (ix2 r j)) := by
  refine Eq.trans ?_ (select_word 1 (x5 (ix1 0)) (x1 (ix2 r j)) (x2 (ix2 r j)))
  pointwise [val_main_v5, val_main_v4, val_main_v3, val_main_c_0]
  rfl

def gradR : EReal := pick h.val (x5 (ix1 0)) (x1 (ix2 r j)) (x2 (ix2 r j))

theorem v6_apply : val_main_v6 (F := Ideal) x1 x2 x5 (ix2 (inAll h r) j) = gradR x1 x2 x5 h r j := by
  unfold val_main_v6 gradR
  match h with
  | ⟨0, _⟩ =>
    exact (concatenate_pair_apply_left (t := S1024x1408) (s₁ := S512x1408) (s₂ := S512x1408) 0 _ _ _ (ix2 (inAll ⟨0, _⟩ r) j) rfl (ix2 r j) fun b => by
      match b with
      | ⟨0, _⟩ => show r.val = 512 * 0 + r.val; omega
      | ⟨1, _⟩ => rfl).trans (lower x1 x2 x5 r j)
  | ⟨1, _⟩ =>
    exact (concatenate_pair_apply_right (t := S1024x1408) (s₁ := S512x1408) (s₂ := S512x1408) 0 _ _ _ (ix2 (inAll ⟨1, _⟩ r) j) rfl rfl (ix2 r j) (fun b hb => by
      match b with
      | ⟨0, _⟩ => exact absurd rfl hb
      | ⟨1, _⟩ => rfl) (by show r.val + 512 = 512 * 1 + r.val; omega)).trans (upper x1 x2 x5 r j)

theorem v14_apply : val_main_v14 (F := Ideal) x1 x2 x3 x5 (ix2 (inAll h r) j) = mean (gradR x1 x2 x5 h r j) (x3 (ix3 0 (inAll h r) j)) := by
  rw [← v6_apply]
  unfold mean
  pointwise [val_main_v14, val_main_v13, val_main_v12, val_main_cst_1, val_main_v11, val_main_v10, val_main_cst, val_main_v8]

theorem v20_apply : val_main_v20 (F := Ideal) x1 x2 x4 x5 (ix2 (inAll h r) j) = square (gradR x1 x2 x5 h r j) (x4 (ix3 0 (inAll h r) j)) := by
  rw [← v6_apply]
  unfold square
  pointwise [val_main_v20, val_main_v19, val_main_v18, val_main_cst_3, val_main_v17, val_main_v16, val_main_v15, val_main_cst_2, val_main_v9]

theorem v33_apply : val_main_v33 (F := Ideal) x0 x1 x2 x3 x4 x5 (ix2 (inAll h r) j)
    = step (gradR x1 x2 x5 h r j) (x0 (ix3 0 (inAll h r) j)) (x3 (ix3 0 (inAll h r) j)) (x4 (ix3 0 (inAll h r) j)) := by
  unfold step
  rw [← v14_apply, ← v20_apply]
  pointwise [val_main_v33, val_main_v32, val_main_cst_8, val_main_v31, val_main_v30, val_main_v29, val_main_cst_7, val_main_v28, val_main_v27, val_main_v26,
    val_main_cst_6, val_main_v25, val_main_v24, val_main_v23, val_main_cst_5, val_main_v22, val_main_v21, val_main_cst_4, val_main_v7]

end

theorem frame_reference : Cert.quiescent_AdamRefIdeal (hAdamRefIdeal := Cert.AdamRefIdeal.Gen.facts) := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

section
open Cert.AdamIdeal Cert.AdamIdeal.Gen
variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

theorem ext_halves {f g : S1024x1408.Idx → EReal} (e : ∀ h r j, f (ix2 (inAll h r) j) = g (ix2 (inAll h r) j)) : f = g := by
  funext y
  obtain ⟨h, r, k⟩ := split_all (y 0)
  rw [eq_ix2 y, k]
  exact e h r (y 1)

theorem half_eq : half m = a5 m c (ix1 0) := by
  obtain rfl : c = 0 := Subsingleton.elim _ _
  rfl

theorem grad_eq (h : Fin 2) (r : Fin 512) (j : Fin 1408) : grad m c h r j = gradR (a1 m c) (a2 m c) (a5 m c) h r j := by
  unfold grad gradR
  rw [half_eq m c]
  rfl

end

open Cert.AdamRefIdeal.Read in
theorem algebraic : Cert.algebraic_AdamIdeal_AdamRefIdeal (hAdamIdeal := Cert.AdamIdeal.Gen.facts)
    (hAdamRefIdeal := Cert.AdamRefIdeal.Gen.facts) := by
  intro m g m' g' _ hm
  refine ⟨fun c => val_main_v6 (F := Ideal) (a1 m c) (a2 m c) (a5 m c),
    fun c => val_main_v33 (F := Ideal) (a0 m c) (a1 m c) (a2 m c) (a3 m c) (a4 m c) (a5 m c),
    fun c => val_main_v14 (F := Ideal) (a1 m c) (a2 m c) (a3 m c) (a5 m c),
    fun c => val_main_v20 (F := Ideal) (a1 m c) (a2 m c) (a4 m c) (a5 m c),
    (θ_run Cert.AdamIdeal.defs _ _).mono (fun _ h c => ⟨?_, ?_, ?_, ?_, h.2.1 c⟩)
      (θ_run_and (Cert.AdamIdeal.Gen.run_main m g (ok m)) (Cert.AdamIdeal.Gen.frame m g (ok m))),
    (θ_run Cert.AdamRefIdeal.defs _ _).mono (fun _ h c => ⟨(h c).1.trans ?_, (h c).2.1.trans ?_, (h c).2.2.1.trans ?_, (h c).2.2.2.1.trans ?_, (h c).2.2.2.2⟩)
      (Cert.AdamRefIdeal.Value.run (F := Ideal) m' g')⟩
  · refine ((h.1 c).1 5).trans (ext_halves fun k r j => ?_)
    exact (gradient_final m c k r j).trans ((grad_eq m c k r j).trans (v6_apply _ _ _ k r j).symm)
  · refine ((h.1 c).1 6).trans (ext_halves fun k r j => ?_)
    refine (step_final m c k r j).trans (Eq.trans ?_ (v33_apply _ _ _ _ _ _ k r j).symm)
    rw [grad_eq]
    rfl
  · refine ((h.1 c).1 7).trans (ext_halves fun k r j => ?_)
    refine (mean_final m c k r j).trans (Eq.trans ?_ (v14_apply _ _ _ _ k r j).symm)
    rw [grad_eq]
    rfl
  · refine ((h.1 c).1 8).trans (ext_halves fun k r j => ?_)
    refine (square_final m c k r j).trans (Eq.trans ?_ (v20_apply _ _ _ _ k r j).symm)
    rw [grad_eq]
    rfl
  · rw [val_main_v6_eq, (hm c).2.1, (hm c).2.2.1, (hm c).2.2.2.2.2]
  · rw [val_main_v33_eq, (hm c).1, (hm c).2.1, (hm c).2.2.1, (hm c).2.2.2.1, (hm c).2.2.2.2.1, (hm c).2.2.2.2.2]
  · rw [val_main_v14_eq, (hm c).2.1, (hm c).2.2.1, (hm c).2.2.2.1, (hm c).2.2.2.2.2]
  · rw [val_main_v20_eq, (hm c).2.1, (hm c).2.2.1, (hm c).2.2.2.2.1, (hm c).2.2.2.2.2]

end Cert.Proof.Adam

end
-- ==== Proof.Proj.Body.lean ====
module

public import proofs.«01_k».proof.Proof.Gen.ProjIdeal.Value
public import Idealize.ShloMosaic.Lib.Pointwise

/-! What a point of the forward call stores as the modulated norm and as its product with the weight. -/

@[expose] public section

noncomputable section

namespace Cert.Proof.Proj

open Cert.ProjIdeal Cert.ProjIdeal.Gen Idealize.ShloMosaic Idealize.ShloMosaic.TcCoe Idealize.SL.Sem Idealize.ShloMosaic.Pointwise

theorem hz : (![0, 0] : Fin 2 → Nat) = fun _ => 0 := funext fun a => by fin_cases a <;> rfl

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S2x512 .f32) (harg6 : arg6.IsWhole) (arg7 : Memref sig .tc .vmem S1x128 .f32) (harg7 : arg7.IsWhole) (arg8 : Memref sig .tc .vmem S512x64 .bf16) (harg8 : arg8.IsWhole) (arg9 : Memref sig .tc .vmem S6x64x64 .f32) (harg9 : arg9.IsWhole) (arg10 : Memref sig .tc .vmem S512x1024 .bf16) (harg10 : arg10.IsWhole) (arg11 : Memref sig .tc .vmem S512x3072 .f32) (harg11 : arg11.IsWhole) (arg12 : Memref sig .tc .vmem S512x512 .bf16) (harg12 : arg12.IsWhole) (arg13 : Memref sig .tc .vmem S512x512 .f32) (harg13 : arg13.IsWhole) (arg14 : Memref sig .tc .vmem S8x4x64x64 .f32) (harg14 : arg14.IsWhole) (arg15 : Memref sig .tc .vmem S8x4x128x128 .f32) (harg15 : arg15.IsWhole) (arg16 : Memref sig .tc .vmem S4x128x128 .f32) (harg16 : arg16.IsWhole)
    (x0 : Vec Ideal S512x1024 .f32) (x1 : Vec Ideal S1x1024 .f32) (x2 : Vec Ideal S1x1024 .f32) (x3 : Vec Ideal S1x1024 .f32) (x4 : Vec Ideal S1024x3072 .bf16) (x5 : Vec Ideal S2x512 .f32) (x6 : Vec Ideal S1x128 .f32) (x7 : Vec Ideal S512x64 .bf16) (x8 : Vec Ideal S6x64x64 .f32)

theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay2 x0 x1 x2 x3 := by
  unfold out0_A_9 kernelRun0_A
  dsimp only
  rw [View.read_writes_junk_eq_canon, View.canon_unit_zero (S := S512x1024) hz]
  simp only [View.readAt_eq_ld, harg1.read_unread, harg2.read_unread, harg3.read_unread, harg4.read_unread,
    View.ld_unit_zero (S := S512x1024) hz, View.ld_unit_zero (S := S1x1024) hz]

theorem out_B_9 (hc0 : ¬cond0_0 i) (xs0 : Vec Ideal S4x128x128 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 = k0_pay2 x0 x1 x2 x3 := by
  unfold out0_B_9 kernelRun0_B
  dsimp only
  rw [View.read_writes_junk_eq_canon, View.canon_unit_zero (S := S512x1024) hz]
  simp only [View.readAt_eq_ld, harg1.read_unread, harg2.read_unread, harg3.read_unread, harg4.read_unread,
    View.ld_unit_zero (S := S512x1024) hz, View.ld_unit_zero (S := S1x1024) hz]

theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay3 x0 x1 x2 x3 x4 := by
  unfold out0_A_10 kernelRun0_A
  dsimp only
  sl_unfold_words
  rw [View.read_writes_junk_eq_canon, View.canon_unit_zero (S := S512x3072) hz]
  simp only [View.readAt_eq_ld, harg1.read_unread, harg2.read_unread, harg3.read_unread, harg4.read_unread, harg5.read_unread,
    View.ld_unit_zero (S := S512x1024) hz, View.ld_unit_zero (S := S1x1024) hz, View.ld_unit_zero (S := S1024x3072) hz]

theorem out_B_10 (hc0 : ¬cond0_0 i) (xs0 : Vec Ideal S4x128x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 = k0_pay3 x0 x1 x2 x3 x4 := by
  unfold out0_B_10 kernelRun0_B
  dsimp only
  sl_unfold_words
  rw [View.read_writes_junk_eq_canon, View.canon_unit_zero (S := S512x3072) hz]
  simp only [View.readAt_eq_ld, harg1.read_unread, harg2.read_unread, harg3.read_unread, harg4.read_unread, harg5.read_unread,
    View.ld_unit_zero (S := S512x1024) hz, View.ld_unit_zero (S := S1x1024) hz, View.ld_unit_zero (S := S1024x3072) hz]

end

/-- The root of the mean of squares of a row, and the norm's output with its scale and shift, at an index. -/
def rootR (x : Fin 1024 → EReal) : EReal :=
  Ideal.rsqrt (Ideal.div (∑ k : Fin 1024, x k * x k) (Ideal.ofBits .f32 0x44800000#32) + Ideal.ofBits .f32 0x358637BD#32)
def modR (x w s b : Fin 1024 → EReal) (j : Fin 1024) : EReal := x j * rootR x * w j * (1 + s j) + b j

theorem pay2_apply (x : Vec Ideal S512x1024 .f32) (w s b : Vec Ideal S1x1024 .f32) (r : Fin 512) (j : Fin 1024) :
    k0_pay2 (F := Ideal) x w s b (ix2 r j)
      = modR (fun k => x (ix2 r k)) (fun k => w (ix2 0 k)) (fun k => s (ix2 0 k)) (fun k => b (ix2 0 k)) j := by
  unfold modR rootR
  pointwise [k0_pay2]

theorem pay3_apply (x : Vec Ideal S512x1024 .f32) (w s b : Vec Ideal S1x1024 .f32) (v : Vec Ideal S1024x3072 .bf16) (r : Fin 512) (j : Fin 3072) :
    k0_pay3 (F := Ideal) x w s b v (ix2 r j) = ∑ k : Fin 1024, k0_pay2 (F := Ideal) x w s b (ix2 r k) * v (ix2 k j) := by
  pointwise [k0_pay3]

end Cert.Proof.Proj

end
-- ==== Proof.Proj.Claims.lean ====
module

public import proofs.«01_k».proof.Defs
public import proofs.«01_k».proof.Proof.Gen.ProjRefIdeal.Run
public import proofs.«01_k».proof.Proof.Gen.ProjRefIdeal.Read
public import proofs.«01_k».proof.Proof.Proj.Body
public import Idealize.ShloMosaic.Lib.Claim

/-! The forward call's norm, modulation and input projection. -/

@[expose] public section

noncomputable section

namespace Cert.Proof.Proj

open Idealize.ShloMosaic Idealize.ShloMosaic.TcCoe Idealize.SL.Sem Idealize.ShloMosaic.Pointwise

section
open Cert.ProjIdeal Cert.ProjIdeal.Gen
variable (m : (ℓ : Loc nD τ sig) → Buf (Elt Ideal) ℓ) (c : Dev nD)

/-- Row `r` of block `t`. -/
def row (t : Fin 16) (r : Fin 512) : Fin 8192 := ⟨512 * t.val + r.val, by omega⟩

def pt (t : Fin 16) : Fin cfg0.N := ⟨t.val, t.isLt⟩

/-- The arguments, read as the extended reals they hold. -/
def argX (R : Fin 8192) (k : Fin 1024) : EReal := m ((c : Thread nD τ).loc main_arg0) (ix3 0 R k)
def argNw (k : Fin 1024) : EReal := m ((c : Thread nD τ).loc main_arg1) (ix2 0 k)
def argSc (k : Fin 1024) : EReal := m ((c : Thread nD τ).loc main_arg2) (ix2 0 (⟨1024 + k.val, by omega⟩ : Fin 6144))
def argSh (k : Fin 1024) : EReal := m ((c : Thread nD τ).loc main_arg2) (ix2 0 (⟨k.val, by omega⟩ : Fin 6144))
def argW (k : Fin 1024) (j : Fin 3072) : EReal := m ((c : Thread nD τ).loc main_arg3) (ix3 0 k j)

theorem V0_apply (y : S8192x1024.Idx) : V m c main_v0 y = argX m c (y 0) (y 1) := by
  show StableHlo.after hostOps0 _ (Proc.devRef .tc main_v0) y = _
  after_results
  pointwise []
  rfl

theorem V2_apply (y : S1024x3072.Idx) : V m c main_v2 y = argW m c (y 0) (y 1) := by
  show StableHlo.after hostOps0 _ (Proc.devRef .tc main_v2) y = _
  after_results
  pointwise []
  rfl

theorem index_rows : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 1) ∧ (win0_3.index t 0 = 0 ∧ win0_3.index t 1 = 0)
    ∧ (win0_4.index t 0 = 0 ∧ win0_4.index t 1 = 0)
    ∧ (win0_9.index t 0 = t.val ∧ win0_9.index t 1 = 0) ∧ (win0_10.index t 0 = t.val ∧ win0_10.index t 1 = 0) := by decide +kernel

theorem emb0 (t : Fin 16) (r : Fin 512) (k : Fin 1024) : ((cfg0.win 0).blk (pt t)).view.emb (ix2 r k) = (ix2 (row t r) k : S8192x1024.Idx) :=
  funext fun a => Fin.ext (by
    match a with
    | ⟨0, _⟩ => show win0_0.index (pt t) 0 * 512 + 1 * r.val = 512 * t.val + r.val; rw [(index_rows (pt t)).1.1]; show t.val * 512 + 1 * r.val = _; omega
    | ⟨1, _⟩ => show win0_0.index (pt t) 1 * 1024 + 1 * k.val = k.val; rw [(index_rows (pt t)).1.2]; omega)

theorem emb1 (t : Fin 16) (k : Fin 1024) : ((cfg0.win 1).blk (pt t)).view.emb (ix2 (0 : Fin 1) k) = (ix2 (0 : Fin 1) k : S1x1024.Idx) :=
  funext fun a => Fin.ext (by
    match a with
    | ⟨0, _⟩ => show win0_1.index (pt t) 0 * 1 + 1 * 0 = 0; rw [(index_rows (pt t)).2.1.1]
    | ⟨1, _⟩ => show win0_1.index (pt t) 1 * 1024 + 1 * k.val = k.val; rw [(index_rows (pt t)).2.1.2]; omega)

theorem emb2 (t : Fin 16) (k : Fin 1024) : ((cfg0.win 2).blk (pt t)).view.emb (ix2 (0 : Fin 1) k) = (ix2 (0 : Fin 1) (⟨1024 + k.val, by omega⟩ : Fin 6144) : S1x6144.Idx) :=
  funext fun a => Fin.ext (by
    match a with
    | ⟨0, _⟩ => show win0_2.index (pt t) 0 * 1 + 1 * 0 = 0; rw [(index_rows (pt t)).2.2.1.1]
    | ⟨1, _⟩ => show win0_2.index (pt t) 1 * 1024 + 1 * k.val = 1024 + k.val; rw [(index_rows (pt t)).2.2.1.2]; omega)

theorem emb3 (t : Fin 16) (k : Fin 1024) : ((cfg0.win 3).blk (pt t)).view.emb (ix2 (0 : Fin 1) k) = (ix2 (0 : Fin 1) (⟨k.val, by omega⟩ : Fin 6144) : S1x6144.Idx) :=
  funext fun a => Fin.ext (by
    match a with
    | ⟨0, _⟩ => show win0_3.index (pt t) 0 * 1 + 1 * 0 = 0; rw [(index_rows (pt t)).2.2.2.1.1]
    | ⟨1, _⟩ => show win0_3.index (pt t) 1 * 1024 + 1 * k.val = k.val; rw [(index_rows (pt t)).2.2.2.1.2]; omega)

theorem emb4 (t : Fin 16) (k : Fin 1024) (j : Fin 3072) : ((cfg0.win 4).blk (pt t)).view.emb (ix2 k j) = (ix2 k j : S1024x3072.Idx) :=
  funext fun a => Fin.ext (by
    match a with
    | ⟨0, _⟩ => show win0_4.index (pt t) 0 * 1024 + 1 * k.val = k.val; rw [(index_rows (pt t)).2.2.2.2.1.1]; omega
    | ⟨1, _⟩ => show win0_4.index (pt t) 1 * 3072 + 1 * j.val = j.val; rw [(index_rows (pt t)).2.2.2.2.1.2]; omega)

theorem emb9 (t : Fin 16) (r : Fin 512) (j : Fin 1024) : ((cfg0.win 9).blk (pt t)).view.emb (ix2 r j) = (ix2 (row t r) j : S8192x1024.Idx) :=
  funext fun a => Fin.ext (by
    match a with
    | ⟨0, _⟩ => show win0_9.index (pt t) 0 * 512 + 1 * r.val = 512 * t.val + r.val; rw [(index_rows (pt t)).2.2.2.2.2.1.1]; show t.val * 512 + 1 * r.val = _; omega
    | ⟨1, _⟩ => show win0_9.index (pt t) 1 * 1024 + 1 * j.val = j.val; rw [(index_rows (pt t)).2.2.2.2.2.1.2]; omega)

theorem emb10 (t : Fin 16) (r : Fin 512) (j : Fin 3072) : ((cfg0.win 10).blk (pt t)).view.emb (ix2 r j) = (ix2 (row t r) j : S8192x3072.Idx) :=
  funext fun a => Fin.ext (by
    match a with
    | ⟨0, _⟩ => show win0_10.index (pt t) 0 * 512 + 1 * r.val = 512 * t.val + r.val; rw [(index_rows (pt t)).2.2.2.2.2.2.1]; show t.val * 512 + 1 * r.val = _; omega
    | ⟨1, _⟩ => show win0_10.index (pt t) 1 * 3072 + 1 * j.val = j.val; rw [(index_rows (pt t)).2.2.2.2.2.2.2]; omega)

theorem blk0 (t : Fin 16) (r : Fin 512) (k : Fin 1024) : iblk m c 0 (pt t) (ix2 r k) = argX m c (row t r) k := by
  rw [show iblk m c 0 (pt t) (ix2 r k) = V m c main_v0 (((cfg0.win 0).blk (pt t)).view.emb (ix2 r k)) from rfl, emb0, V0_apply]; rfl
theorem blk1 (t : Fin 16) (k : Fin 1024) : iblk m c 1 (pt t) (ix2 (0 : Fin 1) k) = argNw m c k := by
  rw [show iblk m c 1 (pt t) (ix2 (0 : Fin 1) k) = V m c main_arg1 (((cfg0.win 1).blk (pt t)).view.emb (ix2 (0 : Fin 1) k)) from rfl, emb1, V_main_arg1]; rfl
theorem blk2 (t : Fin 16) (k : Fin 1024) : iblk m c 2 (pt t) (ix2 (0 : Fin 1) k) = argSc m c k := by
  rw [show iblk m c 2 (pt t) (ix2 (0 : Fin 1) k) = V m c main_arg2 (((cfg0.win 2).blk (pt t)).view.emb (ix2 (0 : Fin 1) k)) from rfl, emb2, V_main_arg2]; rfl
theorem blk3 (t : Fin 16) (k : Fin 1024) : iblk m c 3 (pt t) (ix2 (0 : Fin 1) k) = argSh m c k := by
  rw [show iblk m c 3 (pt t) (ix2 (0 : Fin 1) k) = V m c main_arg2 (((cfg0.win 3).blk (pt t)).view.emb (ix2 (0 : Fin 1) k)) from rfl, emb3, V_main_arg2]; rfl
theorem blk4 (t : Fin 16) (k : Fin 1024) (j : Fin 3072) : iblk m c 4 (pt t) (ix2 k j) = argW m c k j := by
  rw [show iblk m c 4 (pt t) (ix2 k j) = V m c main_v2 (((cfg0.win 4).blk (pt t)).view.emb (ix2 k j)) from rfl, emb4, V2_apply]; rfl

/-- The modulated norm and the projection, from the arguments. -/
def H (R : Fin 8192) (j : Fin 1024) : EReal := modR (argX m c R) (argNw m c) (argSc m c) (argSh m c) j
def P (R : Fin 8192) (j : Fin 3072) : EReal := ∑ k : Fin 1024, H m c R k * argW m c k j

theorem h_blk (t : Fin 16) (r : Fin 512) (j : Fin 1024) :
    k0_pay2 (F := Ideal) (iblk m c 0 (pt t)) (iblk m c 1 (pt t)) (iblk m c 2 (pt t)) (iblk m c 3 (pt t)) (ix2 r j) = H m c (row t r) j := by
  refine (pay2_apply _ _ _ _ r j).trans ?_
  unfold H
  rw [funext (blk0 m c t r), funext (blk1 m c t), funext (blk2 m c t), funext (blk3 m c t)]

theorem p_blk (t : Fin 16) (r : Fin 512) (j : Fin 3072) :
    k0_pay3 (F := Ideal) (iblk m c 0 (pt t)) (iblk m c 1 (pt t)) (iblk m c 2 (pt t)) (iblk m c 3 (pt t)) (iblk m c 4 (pt t)) (ix2 r j) = P m c (row t r) j :=
  (pay3_apply _ _ _ _ _ r j).trans (Finset.sum_congr rfl fun k _ => congrArg₂ (· * ·) (h_blk m c t r k) (blk4 m c t k j))

theorem flushed_9 (t : Fin 16) (r : Fin 512) (j : Fin 1024) : (dats m 0 c).flushed 9 (pt t) (ix2 r j) = H m c (row t r) j := by
  by_cases h0 : (pt t).val % 16 = 0
  · rw [Cert.ProjIdeal.Value.flushed9_A m c (pt t) h0, out_A_9]
    exact h_blk m c t r j
  · rw [Cert.ProjIdeal.Value.flushed9_B m c (pt t) h0, out_B_9]
    exact h_blk m c t r j

theorem flushed_10 (t : Fin 16) (r : Fin 512) (j : Fin 3072) : (dats m 0 c).flushed 10 (pt t) (ix2 r j) = P m c (row t r) j := by
  by_cases h0 : (pt t).val % 16 = 0
  · rw [Cert.ProjIdeal.Value.flushed10_A m c (pt t) h0, out_A_10]
    exact p_blk m c t r j
  · rw [Cert.ProjIdeal.Value.flushed10_B m c (pt t) h0, out_B_10]
    exact p_blk m c t r j

theorem flush_9 : ∀ t : Fin cfg0.N, (cfg0.win 9).flush t = true := by decide +kernel
theorem flush_10 : ∀ t : Fin cfg0.N, (cfg0.win 10).flush t = true := by decide +kernel

theorem split_row (R : Fin 8192) : ∃ (t : Fin 16) (r : Fin 512), R = row t r :=
  ⟨⟨R.val / 512, by omega⟩, ⟨R.val % 512, by omega⟩, Fin.ext (by
    show R.val = 512 * (R.val / 512) + R.val % 512
    omega)⟩

theorem final_9 (R : Fin 8192) (j : Fin 1024) : (dats m 0 c).arrAt 9 cfg0.N (ix2 R j) = H m c R j := by
  obtain ⟨t, r, rfl⟩ := split_row R
  have hb := congrFun (Cert.ProjIdeal.Value.blocks9 m c (pt t) (flush_9 _)) (ix2 r j)
  exact (congrArg ((dats m 0 c).arrAt 9 cfg0.N) (emb9 t r j)).symm.trans (hb.trans (flushed_9 m c t r j))

theorem final_10 (R : Fin 8192) (j : Fin 3072) : (dats m 0 c).arrAt 10 cfg0.N (ix2 R j) = P m c R j := by
  obtain ⟨t, r, rfl⟩ := split_row R
  have hb := congrFun (Cert.ProjIdeal.Value.blocks10 m c (pt t) (flush_10 _)) (ix2 r j)
  exact (congrArg ((dats m 0 c).arrAt 10 cfg0.N) (emb10 t r j)).symm.trans (hb.trans (flushed_10 m c t r j))

end

section
open Cert.ProjRefIdeal Cert.ProjRefIdeal.Read
variable (x0 : (⟨S1x8192x1024, .f32⟩ : BufTy).Contents (Elt Ideal)) (x1 : (⟨S1x1024, .f32⟩ : BufTy).Contents (Elt Ideal))
  (x2 : (⟨S1x6144, .f32⟩ : BufTy).Contents (Elt Ideal)) (x3 : (⟨S1x1024x3072, .f32⟩ : BufTy).Contents (Elt Ideal))

theorem v9_apply (R : Fin 8192) : val_main_v9 (F := Ideal) x0 (ix2 R 0) = rootR fun k => x0 (ix3 0 R k) := by
  unfold rootR
  pointwise [val_main_v9, val_main_v8, val_main_v7, val_main_cst_1, val_main_v6, val_main_v5, val_main_cst_0, val_main_v4, val_main_v3, val_main_cst, val_main_v2, val_main_v0]

theorem v26_apply (R : Fin 8192) (j : Fin 1024) : val_main_v26 (F := Ideal) x0 x1 x2 (ix2 R j)
    = modR (fun k => x0 (ix3 0 R k)) (fun k => x1 (ix2 0 k)) (fun k => x2 (ix2 0 (⟨1024 + k.val, by omega⟩ : Fin 6144)))
        (fun k => x2 (ix2 0 (⟨k.val, by omega⟩ : Fin 6144))) j := by
  unfold modR
  rw [← v9_apply]
  pointwise [val_main_v26, val_main_v25, val_main_v24, val_main_v23, val_main_v22, val_main_v21, val_main_v20, val_main_v19, val_main_cst_2, val_main_v18,
    val_main_v17, val_main_v16, val_main_v15, val_main_v14, val_main_v13, val_main_v12, val_main_v11, val_main_v10, val_main_v1, val_main_v0]

theorem v27_apply (R : Fin 8192) (j : Fin 1024) : val_main_v27 (F := Ideal) x0 x1 x2 (ix2 R j) = val_main_v26 (F := Ideal) x0 x1 x2 (ix2 R j) := by
  pointwise [val_main_v27]

theorem v29_apply (R : Fin 8192) (j : Fin 3072) : val_main_v29 (F := Ideal) x0 x1 x2 x3 (ix2 R j)
    = ∑ k : Fin 1024, val_main_v26 (F := Ideal) x0 x1 x2 (ix2 R k) * x3 (ix3 0 k j) := by
  pointwise [val_main_v29, val_main_v28]

end

theorem frame_reference : Cert.quiescent_ProjRefIdeal (hProjRefIdeal := Cert.ProjRefIdeal.Gen.facts) := fun m ρ _ =>
  (θ_run Cert.ProjRefIdeal.defs _ _).mono (fun r h => ⟨fun c => (h c).2.2, sem_eq_zero_of_no_sems (by decide) r.2⟩)
    (Cert.ProjRefIdeal.Value.run (F := Ideal) m ρ)

theorem algebraic : Cert.algebraic_ProjIdeal_ProjRefIdeal (hProjIdeal := Cert.ProjIdeal.Gen.facts)
    (hProjRefIdeal := Cert.ProjRefIdeal.Gen.facts) := by
  intro m g m' g' _ hm
  refine ⟨_, _, (θ_run Cert.ProjIdeal.defs _ _).mono (fun _ h c => ⟨(h c).1, (h c).2.1, (h c).2.2.2.2.2.2⟩) (Cert.ProjIdeal.Value.run_blocks (F := Ideal) m g),
    (θ_run Cert.ProjRefIdeal.defs _ _).mono (fun _ h c => ⟨(h c).1.trans ?_, (h c).2.1.trans ?_, (h c).2.2⟩)
      (Cert.ProjRefIdeal.Value.run (F := Ideal) m' g')⟩
  · obtain ⟨h0, h1, h2, h3, h4, h5⟩ := hm c
    rw [Cert.ProjRefIdeal.Read.val_main_v27_eq, h0, h1, h2]
    funext y
    rw [eq_ix2 y]
    refine Eq.trans ?_ (final_9 m c _ _).symm
    exact (v27_apply _ _ _ _ _).trans (v26_apply _ _ _ _ _)
  · obtain ⟨h0, h1, h2, h3, h4, h5⟩ := hm c
    rw [Cert.ProjRefIdeal.Read.val_main_v29_eq, h0, h1, h2, h3]
    funext y
    rw [eq_ix2 y]
    refine Eq.trans ?_ (final_10 m c _ _).symm
    exact (v29_apply _ _ _ _ _ _).trans (Finset.sum_congr rfl fun k _ => congrArg₂ (· * ·) (v26_apply _ _ _ _ k) rfl)

end Cert.Proof.Proj

end
-- ==== Proof.Ada.Claims.lean ====
module

public import proofs.«01_k».proof.Defs
public import proofs.«01_k».proof.Proof.Gen.AdaIdeal.Value
public import proofs.«01_k».proof.Proof.Gen.AdaRefIdeal.Run
public import proofs.«01_k».proof.Proof.Gen.AdaRefIdeal.Read
public import Idealize.ShloMosaic.Lib.Claim
public import Idealize.ShloMosaic.Lib.Pointwise

/-! The conditioning rows, activated, and their product with a device's columns of the adaLN weight. The kernel takes
every row eight times over and picks one of the eight by a product with a matrix of zeros and ones. -/

@[expose] public section

noncomputable section

namespace Cert.Proof.Ada

open Idealize.ShloMosaic Idealize.ShloMosaic.TcCoe Idealize.SL.Sem Idealize.ShloMosaic.Pointwise

/-- An entry of the picking matrix. -/
def pickE (x : Fin 64) (r : Fin 8) : EReal :=
  (FloatOps.sitofp .f32 (BitVec.setWidth 32 (IntOp.cmpi .eq (BitVec.ofNat 32 x.val) (IntOp.muli (8#32) (BitVec.ofNat 32 r.val)))) : Ideal .f32)

theorem pick_word : ∀ (x : Fin 64) (r : Fin 8),
    BitVec.setWidth 32 (IntOp.cmpi .eq (BitVec.ofNat 32 x.val) (IntOp.muli (8#32) (BitVec.ofNat 32 r.val))) = if x.val = 8 * r.val then 1#32 else 0#32 := by
  decide +kernel

theorem pickE_eq (x : Fin 64) (r : Fin 8) : pickE x r = if x.val = 8 * r.val then 1 else 0 := by
  unfold pickE
  rw [pick_word]
  by_cases h : x.val = 8 * r.val
  · rw [if_pos h, if_pos h]
    show (((1#32 : BitVec 32).toInt : ℝ) : EReal) = 1
    simp
  · rw [if_neg h, if_neg h]
    show (((0#32 : BitVec 32).toInt : ℝ) : EReal) = 0
    simp

/-- The product with the picking matrix is the picked row, whatever the others hold. -/
theorem pick_sum (f : Fin 64 → EReal) (r : Fin 8) : ∑ x : Fin 64, pickE x r * f x = f ⟨8 * r.val, by omega⟩ := by
  rw [Finset.sum_eq_single (⟨8 * r.val, by omega⟩ : Fin 64)]
  · rw [pickE_eq, if_pos rfl, one_mul]
  · intro x _ hx
    rw [pickE_eq, if_neg fun h => hx (Fin.ext h), zero_mul]
  · intro h
    exact absurd (Finset.mem_univ _) h

def act (x : EReal) : EReal := x * Ideal.logistic x

section
open Cert.AdaIdeal Cert.AdaIdeal.Gen

theorem hz : (![0, 0] : Fin 2 → Nat) = fun _ => 0 := funext fun a => by fin_cases a <;> rfl

theorem pay1_apply (x : Vec Ideal S64x1024 .f32) (r : Fin 8) (j : Fin 1024) :
    k0_pay1 (F := Ideal) x (ix2 r j) = act (x (ix2 (⟨8 * r.val, by omega⟩ : Fin 64) j)) := by
  rw [← pick_sum (fun y => x (ix2 y j)) r]
  unfold act pickE
  pointwise [k0_pay1]

theorem pay2_apply (x : Vec Ideal S64x1024 .f32) (w : Vec Ideal S1024x1536 .f32) (r : Fin 8) (j : Fin 1536) :
    k0_pay2 (F := Ideal) x w (ix2 r j) = ∑ k : Fin 1024, k0_pay1 (F := Ideal) x (ix2 r k) * w (ix2 k j) := by
  pointwise [k0_pay2]

theorem out_2 (x : Vec Ideal S64x1024 .f32) (w : Vec Ideal S1024x1536 .f32) : out0_2 x w = k0_pay1 x := by
  unfold out0_2
  rw [View.canon_unit_zero (S := S8x1024) hz, View.ld_unit_zero (S := S64x1024) hz]

theorem out_3 (x : Vec Ideal S64x1024 .f32) (w : Vec Ideal S1024x1536 .f32) : out0_3 x w = k0_pay2 x w := by
  unfold out0_3
  rw [View.canon_unit_zero (S := S8x1536) hz, View.ld_unit_zero (S := S64x1024) hz, View.ld_unit_zero (S := S1024x1536) hz]

variable (m : (ℓ : Loc nD τ sig) → Buf (Elt Ideal) ℓ) (c : Dev nD)

/-- The arguments, read as the extended reals they hold. -/
def argC (r : Fin 8) (k : Fin 1024) : EReal := m ((c : Thread nD τ).loc main_arg0) (ix2 r k)
def argW (k : Fin 1024) (j : Fin 1536) : EReal := m ((c : Thread nD τ).loc main_arg1) (ix3 0 k j)

theorem V2_apply (r : Fin 64) (k : Fin 1024) : V m c main_v2 (ix2 r k) = argC m c ⟨r.val / 8, by omega⟩ k := by
  show StableHlo.after hostOps0 _ (Proc.devRef .tc main_v2) _ = _
  after_results
  unfold argC
  pointwise []

theorem V3_apply (k : Fin 1024) (j : Fin 1536) : V m c main_v3 (ix2 k j) = argW m c k j := by
  show StableHlo.after hostOps0 _ (Proc.devRef .tc main_v3) _ = _
  after_results
  unfold argW
  pointwise []

def p0 : Fin cfg0.N := ⟨0, by decide⟩

theorem index_zero :
    (win0_0.index p0 0 = 0 ∧ win0_0.index p0 1 = 0) ∧ (win0_1.index p0 0 = 0 ∧ win0_1.index p0 1 = 0)
    ∧ (win0_2.index p0 0 = 0 ∧ win0_2.index p0 1 = 0) ∧ (win0_3.index p0 0 = 0 ∧ win0_3.index p0 1 = 0) := by decide +kernel

theorem emb0 (r : Fin 64) (k : Fin 1024) : ((cfg0.win 0).blk p0).view.emb (ix2 r k) = (ix2 r k : S64x1024.Idx) :=
  funext fun a => Fin.ext (by
    match a with
    | ⟨0, _⟩ => show win0_0.index p0 0 * 64 + 1 * r.val = r.val; rw [index_zero.1.1]; omega
    | ⟨1, _⟩ => show win0_0.index p0 1 * 1024 + 1 * k.val = k.val; rw [index_zero.1.2]; omega)

theorem emb1 (r : Fin 1024) (k : Fin 1536) : ((cfg0.win 1).blk p0).view.emb (ix2 r k) = (ix2 r k : S1024x1536.Idx) :=
  funext fun a => Fin.ext (by
    match a with
    | ⟨0, _⟩ => show win0_1.index p0 0 * 1024 + 1 * r.val = r.val; rw [index_zero.2.1.1]; omega
    | ⟨1, _⟩ => show win0_1.index p0 1 * 1536 + 1 * k.val = k.val; rw [index_zero.2.1.2]; omega)

theorem emb2 (r : Fin 8) (k : Fin 1024) : ((cfg0.win 2).blk p0).view.emb (ix2 r k) = (ix2 r k : S8x1024.Idx) :=
  funext fun a => Fin.ext (by
    match a with
    | ⟨0, _⟩ => show win0_2.index p0 0 * 8 + 1 * r.val = r.val; rw [index_zero.2.2.1.1]; omega
    | ⟨1, _⟩ => show win0_2.index p0 1 * 1024 + 1 * k.val = k.val; rw [index_zero.2.2.1.2]; omega)

theorem emb3 (r : Fin 8) (k : Fin 1536) : ((cfg0.win 3).blk p0).view.emb (ix2 r k) = (ix2 r k : S8x1536.Idx) :=
  funext fun a => Fin.ext (by
    match a with
    | ⟨0, _⟩ => show win0_3.index p0 0 * 8 + 1 * r.val = r.val; rw [index_zero.2.2.2.1]; omega
    | ⟨1, _⟩ => show win0_3.index p0 1 * 1536 + 1 * k.val = k.val; rw [index_zero.2.2.2.2]; omega)

theorem blk0 (r : Fin 64) (k : Fin 1024) : iblk m c 0 p0 (ix2 r k) = argC m c ⟨r.val / 8, by omega⟩ k := by
  rw [show iblk m c 0 p0 (ix2 r k) = V m c main_v2 (((cfg0.win 0).blk p0).view.emb (ix2 r k)) from rfl, emb0]
  exact V2_apply m c r k

theorem blk1 (k : Fin 1024) (j : Fin 1536) : iblk m c 1 p0 (ix2 k j) = argW m c k j := by
  rw [show iblk m c 1 p0 (ix2 k j) = V m c main_v3 (((cfg0.win 1).blk p0).view.emb (ix2 k j)) from rfl, emb1]
  exact V3_apply m c k j

def C (r : Fin 8) (j : Fin 1024) : EReal := act (argC m c r j)
def P (r : Fin 8) (j : Fin 1536) : EReal := ∑ k : Fin 1024, C m c r k * argW m c k j

theorem c_blk (r : Fin 8) (j : Fin 1024) : k0_pay1 (F := Ideal) (iblk m c 0 p0) (ix2 r j) = C m c r j := by
  refine (pay1_apply _ r j).trans (congrArg act ?_)
  refine (blk0 m c _ j).trans (congrArg (argC m c · j) (Fin.ext ?_))
  show 8 * r.val / 8 = r.val
  omega

theorem p_blk (r : Fin 8) (j : Fin 1536) : k0_pay2 (F := Ideal) (iblk m c 0 p0) (iblk m c 1 p0) (ix2 r j) = P m c r j :=
  (pay2_apply _ _ r j).trans (Finset.sum_congr rfl fun k _ => congrArg₂ (· * ·) (c_blk m c r k) (blk1 m c k j))

theorem flush_2 : (cfg0.win 2).flush p0 = true := by decide +kernel
theorem flush_3 : (cfg0.win 3).flush p0 = true := by decide +kernel

theorem flushed_2 (r : Fin 8) (j : Fin 1024) : (dats m 0 c).flushed 2 p0 (ix2 r j) = C m c r j := by
  rw [Cert.AdaIdeal.Value.flushed2 m c p0, out_2]
  exact c_blk m c r j

theorem flushed_3 (r : Fin 8) (j : Fin 1536) : (dats m 0 c).flushed 3 p0 (ix2 r j) = P m c r j := by
  rw [Cert.AdaIdeal.Value.flushed3 m c p0, out_3]
  exact p_blk m c r j

theorem final_2 (r : Fin 8) (j : Fin 1024) : (dats m 0 c).arrAt 2 cfg0.N (ix2 r j) = C m c r j := by
  have hb := congrFun (Cert.AdaIdeal.Value.blocks2 m c p0 flush_2) (ix2 r j)
  exact (congrArg ((dats m 0 c).arrAt 2 cfg0.N) (emb2 r j)).symm.trans (hb.trans (flushed_2 m c r j))

theorem final_3 (r : Fin 8) (j : Fin 1536) : (dats m 0 c).arrAt 3 cfg0.N (ix2 r j) = P m c r j := by
  have hb := congrFun (Cert.AdaIdeal.Value.blocks3 m c p0 flush_3) (ix2 r j)
  exact (congrArg ((dats m 0 c).arrAt 3 cfg0.N) (emb3 r j)).symm.trans (hb.trans (flushed_3 m c r j))

end

section
open Cert.AdaRefIdeal Cert.AdaRefIdeal.Read
variable (x0 : (⟨S8x1024, .f32⟩ : BufTy).Contents (Elt Ideal)) (x1 : (⟨S1x1024x1536, .f32⟩ : BufTy).Contents (Elt Ideal))

theorem v0_apply (r : Fin 8) (k : Fin 1024) : val_main_v0 (F := Ideal) x0 (ix2 r k) = act (x0 (ix2 r k)) := by
  unfold act Ideal.logistic
  pointwise [val_main_v0, val_main_call0_v5, val_main_call0_v4, val_main_call0_v3, val_main_call0_v2, val_main_call0_v1, val_main_call0_v0,
    val_main_call0_cst, val_main_call0_cst_0]

theorem v2_apply (r : Fin 8) (j : Fin 1536) : val_main_v2 (F := Ideal) x0 x1 (ix2 r j)
    = ∑ k : Fin 1024, val_main_v0 (F := Ideal) x0 (ix2 r k) * x1 (ix3 0 k j) := by
  pointwise [val_main_v2, val_main_v1]

end

theorem frame_reference : Cert.quiescent_AdaRefIdeal (hAdaRefIdeal := Cert.AdaRefIdeal.Gen.facts) := fun m ρ _ =>
  (θ_run Cert.AdaRefIdeal.defs _ _).mono (fun r h => ⟨fun c => (h c).2.2, sem_eq_zero_of_no_sems (by decide) r.2⟩)
    (Cert.AdaRefIdeal.Value.run (F := Ideal) m ρ)

theorem algebraic : Cert.algebraic_AdaIdeal_AdaRefIdeal (hAdaIdeal := Cert.AdaIdeal.Gen.facts)
    (hAdaRefIdeal := Cert.AdaRefIdeal.Gen.facts) := by
  intro m g m' g' _ hm
  refine ⟨_, _, Cert.AdaIdeal.Value.run_blocks (F := Ideal) m g,
    (θ_run Cert.AdaRefIdeal.defs _ _).mono (fun _ h c => ⟨(h c).1.trans ?_, (h c).2.1.trans ?_, (h c).2.2⟩)
      (Cert.AdaRefIdeal.Value.run (F := Ideal) m' g')⟩
  · obtain ⟨h0, h1⟩ := hm c
    rw [Cert.AdaRefIdeal.Read.val_main_v0_eq, h0]
    funext y
    rw [eq_ix2 y]
    exact (v0_apply _ _ _).trans (final_2 m c _ _).symm
  · obtain ⟨h0, h1⟩ := hm c
    rw [Cert.AdaRefIdeal.Read.val_main_v2_eq, h0, h1]
    funext y
    rw [eq_ix2 y]
    refine Eq.trans ?_ (final_3 m c _ _).symm
    exact (v2_apply _ _ _ _).trans (Finset.sum_congr rfl fun k _ => congrArg₂ (· * ·) (v0_apply _ _ k) rfl)

end Cert.Proof.Ada

end
-- ==== Proof.lean ====
module

public import proofs.«01_k».proof.Defs
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInRefIdeal
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.ProjIn.Claims
public import proofs.«01_k».proof.Proof.Gmlp.Claims
public import proofs.«01_k».proof.Proof.Token.WordsFrame
public import proofs.«01_k».proof.Proof.Token.Claims
public import proofs.«01_k».proof.Proof.Wgrad.Claims
public import proofs.«01_k».proof.Proof.Adam.Claims
public import proofs.«01_k».proof.Proof.Proj.Claims
public import proofs.«01_k».proof.Proof.Ada.Claims
public import proofs.«01_k».proof.Proof.Gen.TokenRefIdeal.Run
public import proofs.«01_k».proof.Proof.Gen.TokenRefIdeal.Read
public import proofs.«01_k».proof.Proof.Gen.Gmlp.Frame
public import proofs.«01_k».proof.Proof.Gen.GmlpIdeal.Value
public import proofs.«01_k».proof.Proof.Gen.GmlpRefIdeal.Run
public import proofs.«01_k».proof.Proof.Gen.GmlpRefIdeal.Read
public import proofs.«01_k».proof.Proof.Gen.Hgrn.Frame
public import proofs.«01_k».proof.Proof.Gen.HgrnIdeal.Frame
public import proofs.«01_k».proof.Proof.Gen.Wgrad.Frame
public import proofs.«01_k».proof.Proof.Gen.WgradIdeal.Value
public import proofs.«01_k».proof.Proof.Gen.WgradRefIdeal.Run
public import proofs.«01_k».proof.Proof.Gen.WgradRefIdeal.Read
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamRefIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import Idealize.ShloMosaic.Adequacy
public import Idealize.ShloMosaic.Init

@[expose] public section

noncomputable section

namespace Cert.Proof

open Idealize.ShloMosaic Idealize.SL.Sem Cert.ProjIn

theorem claim : Cert.Claim := ⟨Cert.ProjIn.Gen.facts, Cert.ProjInIdeal.Gen.facts, Cert.ProjInRefIdeal.Gen.facts,
  Cert.Gmlp.Gen.facts, Cert.GmlpIdeal.Gen.facts, Cert.GmlpRefIdeal.Gen.facts,
  Cert.Token.Gen.facts, Cert.TokenIdeal.Gen.facts, Cert.TokenRefIdeal.Gen.facts,
  Cert.Wgrad.Gen.facts, Cert.WgradIdeal.Gen.facts, Cert.WgradRefIdeal.Gen.facts, Cert.Hgrn.Gen.facts, Cert.HgrnIdeal.Gen.facts,
  Cert.Adam.Gen.facts, Cert.AdamIdeal.Gen.facts, Cert.AdamRefIdeal.Gen.facts,
  Cert.Proj.Gen.facts, Cert.ProjIdeal.Gen.facts, Cert.ProjRefIdeal.Gen.facts,
  Cert.Ada.Gen.facts, Cert.AdaIdeal.Gen.facts, Cert.AdaRefIdeal.Gen.facts,
  Cert.Proof.Gmlp.pre_facts, Cert.Proof.Token.pre_facts, Cert.Proof.Gmlp.on_facts, Cert.Proof.Token.on_facts,
  fun m ρ _ => Cert.ProjIn.Gen.frame m ρ, fun m ρ _ => Cert.ProjInIdeal.Gen.frame m ρ, Cert.Proof.ProjIn.frame_reference,
  fun m ρ _ => Cert.Gmlp.Gen.frame m ρ, fun m ρ _ => Cert.GmlpIdeal.Gen.frame m ρ, fun m ρ _ => Cert.GmlpIdeal.Gen.frame m ρ,
  Cert.Proof.Gmlp.frame_reference, fun m ρ _ => Cert.Proof.Gmlp.frame_reference m ρ trivial,
  fun m ρ _ => Cert.Proof.Token.Words.frame m ρ, fun m ρ _ => Cert.Proof.Token.frame m ρ, fun m ρ _ => Cert.Proof.Token.frame m ρ,
  Cert.Proof.Token.frame_reference, fun m ρ _ => Cert.Proof.Token.frame_reference m ρ trivial,
  fun m ρ _ => Cert.Wgrad.Gen.frame m ρ, fun m ρ _ => Cert.WgradIdeal.Gen.frame m ρ, Cert.Proof.Wgrad.frame_reference,
  fun m ρ _ => Cert.Hgrn.Gen.frame m ρ, fun m ρ _ => Cert.HgrnIdeal.Gen.frame m ρ,
  fun m ρ _ => Cert.Adam.Gen.frame m ρ trivial, fun m ρ _ => Cert.AdamIdeal.Gen.frame m ρ trivial, Cert.Proof.Adam.frame_reference,
  fun m ρ _ => Cert.Proj.Gen.frame m ρ, fun m ρ _ => Cert.ProjIdeal.Gen.frame m ρ, Cert.Proof.Proj.frame_reference,
  fun m ρ _ => Cert.Ada.Gen.frame m ρ, fun m ρ _ => Cert.AdaIdeal.Gen.frame m ρ, Cert.Proof.Ada.frame_reference,
  trivial, Cert.Proof.ProjIn.algebraic, Cert.Proof.Gmlp.constants, Cert.Proof.Gmlp.algebraic,
  Cert.Proof.Token.constants, Cert.Proof.Token.algebraic,
  trivial, Cert.Proof.Wgrad.algebraic, trivial, trivial, Cert.Proof.Adam.algebraic,
  trivial, Cert.Proof.Proj.algebraic, trivial, Cert.Proof.Ada.algebraic⟩

end Cert.Proof

end
